-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4)
      ∧ r.2.mem ((c.tc : Thread Cert.Kernel17.nD Cert.Kernel17.τ).loc Cert.Kernel17.main_arg5) = m ((c.tc : Thread Cert.Kernel17.nD Cert.Kernel17.τ).loc Cert.Kernel17.main_arg5)
      ∧ r.2.mem ((c.tc : Thread Cert.Kernel17.nD Cert.Kernel17.τ).loc Cert.Kernel17.main_arg6) = m ((c.tc : Thread Cert.Kernel17.nD Cert.Kernel17.τ).loc Cert.Kernel17.main_arg6))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
      ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5)
      ∧ r.2.mem ((c.tc : Thread Cert.Kernel17Ideal.nD Cert.Kernel17Ideal.τ).loc Cert.Kernel17Ideal.main_arg6) = m ((c.tc : Thread Cert.Kernel17Ideal.nD Cert.Kernel17Ideal.τ).loc Cert.Kernel17Ideal.main_arg6))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4)
      ∧ r.2.mem ((c.tc : Thread Cert.Reference17Ideal.nD Cert.Reference17Ideal.τ).loc Cert.Reference17Ideal.main_arg5) = m ((c.tc : Thread Cert.Reference17Ideal.nD Cert.Reference17Ideal.τ).loc Cert.Reference17Ideal.main_arg5)
      ∧ r.2.mem ((c.tc : Thread Cert.Reference17Ideal.nD Cert.Reference17Ideal.τ).loc Cert.Reference17Ideal.main_arg6) = m ((c.tc : Thread Cert.Reference17Ideal.nD Cert.Reference17Ideal.τ).loc Cert.Reference17Ideal.main_arg6))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3)
      ∧ r.2.mem ((c.tc : Thread Cert.Kernel24.nD Cert.Kernel24.τ).loc Cert.Kernel24.main_arg4) = m ((c.tc : Thread Cert.Kernel24.nD Cert.Kernel24.τ).loc Cert.Kernel24.main_arg4))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
      ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3)
      ∧ r.2.mem ((c.tc : Thread Cert.Reference24Ideal.nD Cert.Reference24Ideal.τ).loc Cert.Reference24Ideal.main_arg4) = m ((c.tc : Thread Cert.Reference24Ideal.nD Cert.Reference24Ideal.τ).loc Cert.Reference24Ideal.main_arg4))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v113) = v0 c
          ∧ r.2.mem ((c.tc : Thread Cert.ReferenceIdeal.nD Cert.ReferenceIdeal.τ).loc Cert.ReferenceIdeal.main_v114) = v1 c
          ∧ r.2.mem ((c.tc : Thread Cert.ReferenceIdeal.nD Cert.ReferenceIdeal.τ).loc Cert.ReferenceIdeal.main_v115) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v4) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v2) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)) (v2 : (c : Dev Cert.Kernel5Ideal.nD) → Buf (Elt Ideal) ((c.tc : Thread Cert.Kernel5Ideal.nD Cert.Kernel5Ideal.τ).loc Cert.Kernel5Ideal.main_v0_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_v0_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v18) = v0 c
          ∧ r.2.mem ((c.tc : Thread Cert.Reference5Ideal.nD Cert.Reference5Ideal.τ).loc Cert.Reference5Ideal.main_v15) = v1 c
          ∧ r.2.mem ((c.tc : Thread Cert.Reference5Ideal.nD Cert.Reference5Ideal.τ).loc Cert.Reference5Ideal.main_v12) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v14) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_v7) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v2) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v2) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v4) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v2) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v43) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v28) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)
      ∧ m' ((c.tc : Thread Cert.Reference17Ideal.nD Cert.Reference17Ideal.τ).loc Cert.Reference17Ideal.main_arg5) = m ((c.tc : Thread Cert.Kernel17Ideal.nD Cert.Kernel17Ideal.τ).loc Cert.Kernel17Ideal.main_arg5)
      ∧ m' ((c.tc : Thread Cert.Reference17Ideal.nD Cert.Reference17Ideal.τ).loc Cert.Reference17Ideal.main_arg6) = m ((c.tc : Thread Cert.Kernel17Ideal.nD Cert.Kernel17Ideal.τ).loc Cert.Kernel17Ideal.main_arg6)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
          ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5)
          ∧ r.2.mem ((c.tc : Thread Cert.Kernel17Ideal.nD Cert.Kernel17Ideal.τ).loc Cert.Kernel17Ideal.main_arg6) = m ((c.tc : Thread Cert.Kernel17Ideal.nD Cert.Kernel17Ideal.τ).loc Cert.Kernel17Ideal.main_arg6))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v32) = v0 c
          ∧ r.2.mem ((c.tc : Thread Cert.Reference17Ideal.nD Cert.Reference17Ideal.τ).loc Cert.Reference17Ideal.main_v39) = v1 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4)
          ∧ r.2.mem ((c.tc : Thread Cert.Reference17Ideal.nD Cert.Reference17Ideal.τ).loc Cert.Reference17Ideal.main_arg5) = m' ((c.tc : Thread Cert.Reference17Ideal.nD Cert.Reference17Ideal.τ).loc Cert.Reference17Ideal.main_arg5)
          ∧ r.2.mem ((c.tc : Thread Cert.Reference17Ideal.nD Cert.Reference17Ideal.τ).loc Cert.Reference17Ideal.main_arg6) = m' ((c.tc : Thread Cert.Reference17Ideal.nD Cert.Reference17Ideal.τ).loc Cert.Reference17Ideal.main_arg6))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v6) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v40) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)) (v3 : (c : Dev Cert.Kernel20Ideal.nD) → Buf (Elt Ideal) ((c.tc : Thread Cert.Kernel20Ideal.nD Cert.Kernel20Ideal.τ).loc Cert.Kernel20Ideal.main_v0_3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_v0_3) = v3 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_arg1) = v0 c
          ∧ r.2.mem ((c.tc : Thread Cert.Reference20Ideal.nD Cert.Reference20Ideal.τ).loc Cert.Reference20Ideal.main_v23) = v1 c
          ∧ r.2.mem ((c.tc : Thread Cert.Reference20Ideal.nD Cert.Reference20Ideal.τ).loc Cert.Reference20Ideal.main_v4) = v2 c
          ∧ r.2.mem ((c.tc : Thread Cert.Reference20Ideal.nD Cert.Reference20Ideal.τ).loc Cert.Reference20Ideal.main_v10) = v3 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)) (v3 : (c : Dev Cert.Kernel21Ideal.nD) → Buf (Elt Ideal) ((c.tc : Thread Cert.Kernel21Ideal.nD Cert.Kernel21Ideal.τ).loc Cert.Kernel21Ideal.main_v0_3)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_v0_3) = v3 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_arg1) = v0 c
          ∧ r.2.mem ((c.tc : Thread Cert.Reference21Ideal.nD Cert.Reference21Ideal.τ).loc Cert.Reference21Ideal.main_v23) = v1 c
          ∧ r.2.mem ((c.tc : Thread Cert.Reference21Ideal.nD Cert.Reference21Ideal.τ).loc Cert.Reference21Ideal.main_v4) = v2 c
          ∧ r.2.mem ((c.tc : Thread Cert.Reference21Ideal.nD Cert.Reference21Ideal.τ).loc Cert.Reference21Ideal.main_v10) = v3 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)) (v3 : (c : Dev Cert.Kernel22Ideal.nD) → Buf (Elt Ideal) ((c.tc : Thread Cert.Kernel22Ideal.nD Cert.Kernel22Ideal.τ).loc Cert.Kernel22Ideal.main_v0_3)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_v0_3) = v3 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_arg1) = v0 c
          ∧ r.2.mem ((c.tc : Thread Cert.Reference22Ideal.nD Cert.Reference22Ideal.τ).loc Cert.Reference22Ideal.main_v23) = v1 c
          ∧ r.2.mem ((c.tc : Thread Cert.Reference22Ideal.nD Cert.Reference22Ideal.τ).loc Cert.Reference22Ideal.main_v4) = v2 c
          ∧ r.2.mem ((c.tc : Thread Cert.Reference22Ideal.nD Cert.Reference22Ideal.τ).loc Cert.Reference22Ideal.main_v10) = v3 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v0_2)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v0_2) = v2 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v23) = v0 c
          ∧ r.2.mem ((c.tc : Thread Cert.Reference23Ideal.nD Cert.Reference23Ideal.τ).loc Cert.Reference23Ideal.main_v4) = v1 c
          ∧ r.2.mem ((c.tc : Thread Cert.Reference23Ideal.nD Cert.Reference23Ideal.τ).loc Cert.Reference23Ideal.main_v10) = v2 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)
      ∧ m' ((c.tc : Thread Cert.Reference24Ideal.nD Cert.Reference24Ideal.τ).loc Cert.Reference24Ideal.main_arg4) = m ((c.tc : Thread Cert.Kernel24Ideal.nD Cert.Kernel24Ideal.τ).loc Cert.Kernel24Ideal.main_arg4)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)) (v2 : (c : Dev Cert.Kernel24Ideal.nD) → Buf (Elt Ideal) ((c.tc : Thread Cert.Kernel24Ideal.nD Cert.Kernel24Ideal.τ).loc Cert.Kernel24Ideal.main_v0_2)) (v3 : (c : Dev Cert.Kernel24Ideal.nD) → Buf (Elt Ideal) ((c.tc : Thread Cert.Kernel24Ideal.nD Cert.Kernel24Ideal.τ).loc Cert.Kernel24Ideal.main_v0_3)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_v0_2) = v2 c
          ∧ r.2.mem ((c.tc : Thread Cert.Kernel24Ideal.nD Cert.Kernel24Ideal.τ).loc Cert.Kernel24Ideal.main_v0_3) = v3 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
          ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v2) = v0 c
          ∧ r.2.mem ((c.tc : Thread Cert.Reference24Ideal.nD Cert.Reference24Ideal.τ).loc Cert.Reference24Ideal.main_v26) = v1 c
          ∧ r.2.mem ((c.tc : Thread Cert.Reference24Ideal.nD Cert.Reference24Ideal.τ).loc Cert.Reference24Ideal.main_v7) = v2 c
          ∧ r.2.mem ((c.tc : Thread Cert.Reference24Ideal.nD Cert.Reference24Ideal.τ).loc Cert.Reference24Ideal.main_v13) = v3 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3)
          ∧ r.2.mem ((c.tc : Thread Cert.Reference24Ideal.nD Cert.Reference24Ideal.τ).loc Cert.Reference24Ideal.main_arg4) = m' ((c.tc : Thread Cert.Reference24Ideal.nD Cert.Reference24Ideal.τ).loc Cert.Reference24Ideal.main_arg4))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)) →
    ∃ (v0 : (c : Dev Cert.Kernel25Ideal.nD) → Buf (Elt Ideal) ((c.tc : Thread Cert.Kernel25Ideal.nD Cert.Kernel25Ideal.τ).loc Cert.Kernel25Ideal.main_v0)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v0) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)) →
    ∃ (v0 : (c : Dev Cert.Kernel26Ideal.nD) → Buf (Elt Ideal) ((c.tc : Thread Cert.Kernel26Ideal.nD Cert.Kernel26Ideal.τ).loc Cert.Kernel26Ideal.main_v0_0)) (v1 : (c : Dev Cert.Kernel26Ideal.nD) → Buf (Elt Ideal) ((c.tc : Thread Cert.Kernel26Ideal.nD Cert.Kernel26Ideal.τ).loc Cert.Kernel26Ideal.main_v0_1)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0_0) = v0 c
          ∧ r.2.mem ((c.tc : Thread Cert.Kernel26Ideal.nD Cert.Kernel26Ideal.τ).loc Cert.Kernel26Ideal.main_v0_1) = v1 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v17) = v0 c
          ∧ r.2.mem ((c.tc : Thread Cert.Reference26Ideal.nD Cert.Reference26Ideal.τ).loc Cert.Reference26Ideal.main_v18) = v1 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
-- ==== Kernel.lean ====
abbrev S4096x4096 : Shape := ⟨2, ![4096, 4096]⟩
abbrev S4096x12800 : Shape := ⟨2, ![4096, 12800]⟩
abbrev S3x2048 : Shape := ⟨2, ![3, 2048]⟩
abbrev S1x2048 : Shape := ⟨2, ![1, 2048]⟩
abbrev S8x2048 : Shape := ⟨2, ![8, 2048]⟩
abbrev S256x2048 : Shape := ⟨2, ![256, 2048]⟩
abbrev S256x6144 : Shape := ⟨2, ![256, 6144]⟩
abbrev S272x2048 : Shape := ⟨2, ![272, 2048]⟩
abbrev S272x128 : Shape := ⟨2, ![272, 128]⟩
abbrev S272 : Shape := ⟨1, ![272]⟩
abbrev S272x1 : Shape := ⟨2, ![272, 1]⟩
abbrev S2048 : Shape := ⟨1, ![2048]⟩
abbrev S5x2048 : Shape := ⟨2, ![5, 2048]⟩

abbrev nBuf : Space → Nat
  | .hbm => 8
  | .vmem => 30
  | .smem => 0
  | _ => 0

abbrev bufTy : (tb : Table) → Fin (tcTables nBuf tb) → BufTy
  | .hbm, ⟨0, _⟩ => ⟨S4096x4096, .f32⟩
  | .hbm, ⟨1, _⟩ => ⟨S4096x12800, .f32⟩
  | .hbm, ⟨2, _⟩ => ⟨S3x2048, .f32⟩
  | .hbm, ⟨3, _⟩ => ⟨S1x2048, .f32⟩
  | .hbm, ⟨4, _⟩ => ⟨S4096x12800, .bf16⟩
  | .hbm, ⟨5, _⟩ => ⟨S4096x12800, .bf16⟩
  | .hbm, ⟨6, _⟩ => ⟨S8x2048, .f32⟩
  | .hbm, ⟨7, _⟩ => ⟨S1x2048, .f32⟩
  | .local _ .vmem, ⟨0, _⟩ => ⟨S8x2048, .f32⟩
  | .local _ .vmem, ⟨1, _⟩ => ⟨S8x2048, .f32⟩
  | .local _ .vmem, ⟨2, _⟩ => ⟨S256x2048, .f32⟩
  | .local _ .vmem, ⟨3, _⟩ => ⟨S256x2048, .f32⟩
  | .local _ .vmem, ⟨4, _⟩ => ⟨S8x2048, .f32⟩
  | .local _ .vmem, ⟨5, _⟩ => ⟨S8x2048, .f32⟩
  | .local _ .vmem, ⟨6, _⟩ => ⟨S8x2048, .f32⟩
  | .local _ .vmem, ⟨7, _⟩ => ⟨S8x2048, .f32⟩
  | .local _ .vmem, ⟨8, _⟩ => ⟨S256x2048, .f32⟩
  | .local _ .vmem, ⟨9, _⟩ => ⟨S256x2048, .f32⟩
  | .local _ .vmem, ⟨10, _⟩ => ⟨S8x2048, .f32⟩
  | .local _ .vmem, ⟨11, _⟩ => ⟨S8x2048, .f32⟩
  | .local _ .vmem, ⟨12, _⟩ => ⟨S8x2048, .f32⟩
  | .local _ .vmem, ⟨13, _⟩ => ⟨S8x2048, .f32⟩
  | .local _ .vmem, ⟨14, _⟩ => ⟨S256x2048, .f32⟩
  | .local _ .vmem, ⟨15, _⟩ => ⟨S256x2048, .f32⟩
  | .local _ .vmem, ⟨16, _⟩ => ⟨S8x2048, .f32⟩
  | .local _ .vmem, ⟨17, _⟩ => ⟨S8x2048, .f32⟩
  | .local _ .vmem, ⟨18, _⟩ => ⟨S8x2048, .f32⟩
  | .local _ .vmem, ⟨19, _⟩ => ⟨S8x2048, .f32⟩
  | .local _ .vmem, ⟨20, _⟩ => ⟨S256x2048, .f32⟩
  | .local _ .vmem, ⟨21, _⟩ => ⟨S256x2048, .f32⟩
  | .local _ .vmem, ⟨22, _⟩ => ⟨S8x2048, .f32⟩
  | .local _ .vmem, ⟨23, _⟩ => ⟨S8x2048, .f32⟩
  | .local _ .vmem, ⟨24, _⟩ => ⟨S3x2048, .f32⟩
  | .local _ .vmem, ⟨25, _⟩ => ⟨S1x2048, .f32⟩
  | .local _ .vmem, ⟨26, _⟩ => ⟨S256x6144, .bf16⟩
  | .local _ .vmem, ⟨27, _⟩ => ⟨S256x6144, .bf16⟩
  | .local _ .vmem, ⟨28, _⟩ => ⟨S8x2048, .f32⟩
  | .local _ .vmem, ⟨29, _⟩ => ⟨S1x2048, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg13_0 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg16_0 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem13_0 : DmaSem sig := 25
abbrev cc0_sem14_0 : DmaSem sig := 26
abbrev cc0_sem14_1 : DmaSem sig := 27
abbrev cc0_sem15_0 : DmaSem sig := 28
abbrev cc0_sem16_0 : DmaSem sig := 29

abbrev nD : Nat := 1
abbrev τ : Topo := Topo.v7x

variable {F : FTy → Type} [FloatOps F]

abbrev grid0 : Pipeline.Grid := ⟨1, ![16], ![false]⟩

def k0_cond3 (i : grid0.Coords) : BitVec 1 :=
  let arg0 : BitVec 32 := BitVec.ofNat 32 (i 0).val
  let c0_i32_141 : BitVec 32 := 0#32
  let v574 : BitVec 1 := Scalar.cmpi .eq arg0 c0_i32_141
  let v575 : BitVec 32 := Scalar.extui v574
  let c0_i32_142 : BitVec 32 := 0#32
  let v576 : BitVec 1 := Scalar.cmpi .ne v575 c0_i32_142
  v576

def k0_cond4 (i : grid0.Coords) : BitVec 1 :=
  let arg0 : BitVec 32 := BitVec.ofNat 32 (i 0).val
  let c0_i32_141 : BitVec 32 := 0#32
  let v574 : BitVec 1 := Scalar.cmpi .eq arg0 c0_i32_141
  let v_true : BitVec 1 := 1#1
  let v577 : BitVec 1 := Scalar.xori v574 v_true
  let v578 : BitVec 32 := Scalar.extui v577
  let c0_i32_143 : BitVec 32 := 0#32
  let v579 : BitVec 1 := Scalar.cmpi .ne v578 c0_i32_143
  v579

def k0_cond1 (i : grid0.Coords) : BitVec 1 :=
  let arg0 : BitVec 32 := BitVec.ofNat 32 (i 0).val
  let c0_i32_90 : BitVec 32 := 0#32
  let v296 : BitVec 1 := Scalar.cmpi .eq arg0 c0_i32_90
  let v297 : BitVec 32 := Scalar.extui v296
  let c0_i32_91 : BitVec 32 := 0#32
  let v298 : BitVec 1 := Scalar.cmpi .ne v297 c0_i32_91
  v298

def k0_cond2 (i : grid0.Coords) : BitVec 1 :=
  let arg0 : BitVec 32 := BitVec.ofNat 32 (i 0).val
  let c0_i32_92 : BitVec 32 := 0#32
  let v299 : BitVec 1 := Scalar.cmpi .sgt arg0 c0_i32_92
  let v300 : BitVec 32 := Scalar.extui v299
  let c0_i32_93 : BitVec 32 := 0#32
  let v301 : BitVec 1 := Scalar.cmpi .ne v300 c0_i32_93
  v301

def cc0_transform_0 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c511_i32 : BitVec 32 := 511#32
  let v2 : BitVec 32 := Scalar.minsi v1 c511_i32
  let c1_i32_0 : BitVec 32 := 1#32
  let c0_i32 : BitVec 32 := 0#32
  ![v2.toNat, c1_i32_0.toNat]

def cc0_transform_3 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c3_i32 : BitVec 32 := 3#32
  let c0_i32_0 : BitVec 32 := 0#32
  ![v2.toNat, c3_i32.toNat]

def cc0_transform_4 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c511_i32 : BitVec 32 := 511#32
  let v2 : BitVec 32 := Scalar.minsi v1 c511_i32
  let c3_i32 : BitVec 32 := 3#32
  let c0_i32 : BitVec 32 := 0#32
  ![v2.toNat, c3_i32.toNat]

def cc0_transform_6 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let c0_i32_0 : BitVec 32 := 0#32
  ![v2.toNat, c4_i32.toNat]

def cc0_transform_7 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_8 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c511_i32 : BitVec 32 := 511#32
  let v2 : BitVec 32 := Scalar.minsi v1 c511_i32
  let c4_i32 : BitVec 32 := 4#32
  let c0_i32 : BitVec 32 := 0#32
  ![v2.toNat, c4_i32.toNat]

def cc0_transform_9 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c5_i32 : BitVec 32 := 5#32
  let c0_i32_0 : BitVec 32 := 0#32
  ![v2.toNat, c5_i32.toNat]

def cc0_transform_10 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_11 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c511_i32 : BitVec 32 := 511#32
  let v2 : BitVec 32 := Scalar.minsi v1 c511_i32
  let c5_i32 : BitVec 32 := 5#32
  let c0_i32 : BitVec 32 := 0#32
  ![v2.toNat, c5_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S8x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S3x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S256x6144 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S8x2048 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x2048 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== ReferenceIdeal.lean ====
abbrev S4096x4096 : Shape := ⟨2, ![4096, 4096]⟩
abbrev S4096x12800 : Shape := ⟨2, ![4096, 12800]⟩
abbrev S3x2048 : Shape := ⟨2, ![3, 2048]⟩
abbrev S1x2048 : Shape := ⟨2, ![1, 2048]⟩
abbrev S4096x2048 : Shape := ⟨2, ![4096, 2048]⟩
abbrev S2048 : Shape := ⟨1, ![2048]⟩
abbrev S_ : Shape := ⟨0, ![]⟩
abbrev S4098x2048 : Shape := ⟨2, ![4098, 2048]⟩
abbrev S4096x16x128 : Shape := ⟨3, ![4096, 16, 128]⟩
abbrev S4096x16 : Shape := ⟨2, ![4096, 16]⟩
abbrev S4096x16x1 : Shape := ⟨3, ![4096, 16, 1]⟩
abbrev S4096x6144 : Shape := ⟨2, ![4096, 6144]⟩
abbrev S4096x512 : Shape := ⟨2, ![4096, 512]⟩
abbrev S8x2048 : Shape := ⟨2, ![8, 2048]⟩

abbrev nBuf : Space → Nat
  | .hbm => 147
  | .vmem => 0
  | .smem => 0
  | _ => 0

abbrev hbmTy0_0 (i : Nat) : BufTy := match i % 128 with
  | 0 => ⟨S4096x4096, .f32⟩
  | 1 => ⟨S4096x12800, .f32⟩
  | 2 => ⟨S3x2048, .f32⟩
  | 3 => ⟨S1x2048, .f32⟩
  | 4 => ⟨S4096x12800, .bf16⟩
  | 5 => ⟨S4096x2048, .f32⟩
  | 6 => ⟨S4096x2048, .f32⟩
  | 7 => ⟨S4096x2048, .f32⟩
  | 8 => ⟨S2048, .f32⟩
  | 9 => ⟨S4096x2048, .f32⟩
  | 10 => ⟨S_, .f32⟩
  | 11 => ⟨S1x2048, .f32⟩
  | 12 => ⟨S4098x2048, .f32⟩
  | 13 => ⟨S_, .f32⟩
  | 14 => ⟨S1x2048, .f32⟩
  | 15 => ⟨S_, .f32⟩
  | 16 => ⟨S1x2048, .f32⟩
  | 17 => ⟨S4096x2048, .f32⟩
  | 18 => ⟨S1x2048, .f32⟩
  | 19 => ⟨S2048, .f32⟩
  | 20 => ⟨S1x2048, .f32⟩
  | 21 => ⟨S4096x2048, .f32⟩
  | 22 => ⟨S4096x2048, .f32⟩
  | 23 => ⟨S4096x2048, .f32⟩
  | 24 => ⟨S1x2048, .f32⟩
  | 25 => ⟨S2048, .f32⟩
  | 26 => ⟨S1x2048, .f32⟩
  | 27 => ⟨S4096x2048, .f32⟩
  | 28 => ⟨S4096x2048, .f32⟩
  | 29 => ⟨S4096x2048, .f32⟩
  | 30 => ⟨S4096x2048, .f32⟩
  | 31 => ⟨S1x2048, .f32⟩
  | 32 => ⟨S2048, .f32⟩
  | 33 => ⟨S1x2048, .f32⟩
  | 34 => ⟨S4096x2048, .f32⟩
  | 35 => ⟨S4096x2048, .f32⟩
  | 36 => ⟨S4096x2048, .f32⟩
  | 37 => ⟨S4096x2048, .f32⟩
  | 38 => ⟨S4096x16x128, .f32⟩
  | 39 => ⟨S4096x16x128, .f32⟩
  | 40 => ⟨S_, .f32⟩
  | 41 => ⟨S4096x16, .f32⟩
  | 42 => ⟨S4096x16x1, .f32⟩
  | 43 => ⟨S_, .f32⟩
  | 44 => ⟨S4096x16x1, .f32⟩
  | 45 => ⟨S4096x16x1, .f32⟩
  | 46 => ⟨S_, .f32⟩
  | 47 => ⟨S4096x16x1, .f32⟩
  | 48 => ⟨S4096x16x1, .f32⟩
  | 49 => ⟨S4096x16x1, .f32⟩
  | 50 => ⟨S4096x16x1, .f32⟩
  | 51 => ⟨S_, .f32⟩
  | 52 => ⟨S4096x16x1, .f32⟩
  | 53 => ⟨S4096x16x1, .f32⟩
  | 54 => ⟨S4096x16x128, .f32⟩
  | 55 => ⟨S4096x16x128, .f32⟩
  | 56 => ⟨S4096x2048, .f32⟩
  | 57 => ⟨S1x2048, .f32⟩
  | 58 => ⟨S4096x2048, .f32⟩
  | 59 => ⟨S4096x2048, .f32⟩
  | 60 => ⟨S4096x2048, .f32⟩
  | 61 => ⟨S4096x2048, .f32⟩
  | 62 => ⟨S_, .f32⟩
  | 63 => ⟨S2048, .f32⟩
  | 64 => ⟨S1x2048, .f32⟩
  | 65 => ⟨S4096x2048, .f32⟩
  | 66 => ⟨S4096x2048, .f32⟩
  | 67 => ⟨S_, .f32⟩
  | 68 => ⟨S2048, .f32⟩
  | 69 => ⟨S4096x16x128, .f32⟩
  | 70 => ⟨S4096x16x128, .f32⟩
  | 71 => ⟨S_, .f32⟩
  | 72 => ⟨S4096x16, .f32⟩
  | 73 => ⟨S4096x16x1, .f32⟩
  | 74 => ⟨S4096x16x128, .f32⟩
  | 75 => ⟨S4096x16x128, .f32⟩
  | 76 => ⟨S4096x16x1, .f32⟩
  | 77 => ⟨S_, .f32⟩
  | 78 => ⟨S4096x16x1, .f32⟩
  | 79 => ⟨S4096x16x1, .f32⟩
  | 80 => ⟨S_, .f32⟩
  | 81 => ⟨S4096x16, .f32⟩
  | 82 => ⟨S4096x16x128, .f32⟩
  | 83 => ⟨S4096x16x128, .f32⟩
  | 84 => ⟨S4096x16x128, .f32⟩
  | 85 => ⟨S4096x16x128, .f32⟩
  | 86 => ⟨S4096x16x128, .f32⟩
  | 87 => ⟨S4096x2048, .f32⟩
  | 88 => ⟨S4096x2048, .f32⟩
  | 89 => ⟨S4096x2048, .f32⟩
  | 90 => ⟨S4096x2048, .f32⟩
  | 91 => ⟨S_, .f32⟩
  | 92 => ⟨S2048, .f32⟩
  | 93 => ⟨S1x2048, .f32⟩
  | 94 => ⟨S4096x2048, .f32⟩
  | 95 => ⟨S4096x2048, .f32⟩
  | 96 => ⟨S_, .f32⟩
  | 97 => ⟨S2048, .f32⟩
  | 98 => ⟨S1x2048, .f32⟩
  | 99 => ⟨S_, .f32⟩
  | 100 => ⟨S3x2048, .f32⟩
  | 101 => ⟨S_, .f32⟩
  | 102 => ⟨S4098x2048, .f32⟩
  | 103 => ⟨S4096x2048, .f32⟩
  | 104 => ⟨S_, .f32⟩
  | 105 => ⟨S2048, .f32⟩
  | 106 => ⟨S1x2048, .f32⟩
  | 107 => ⟨S4096x2048, .f32⟩
  | 108 => ⟨S4096x2048, .f32⟩
  | 109 => ⟨S_, .f32⟩
  | 110 => ⟨S2048, .f32⟩
  | 111 => ⟨S1x2048, .f32⟩
  | 112 => ⟨S_, .f32⟩
  | 113 => ⟨S3x2048, .f32⟩
  | 114 => ⟨S3x2048, .f32⟩
  | 115 => ⟨S_, .f32⟩
  | 116 => ⟨S4098x2048, .f32⟩
  | 117 => ⟨S4098x2048, .f32⟩
  | 118 => ⟨S4096x2048, .f32⟩
  | 119 => ⟨S_, .f32⟩
  | 120 => ⟨S2048, .f32⟩
  | 121 => ⟨S1x2048, .f32⟩
  | 122 => ⟨S4096x2048, .f32⟩
  | 123 => ⟨S4096x2048, .f32⟩
  | 124 => ⟨S_, .f32⟩
  | 125 => ⟨S2048, .f32⟩
  | 126 => ⟨S1x2048, .f32⟩
  | 127 => ⟨S_, .f32⟩
  | _ => ⟨S4096x4096, .f32⟩

abbrev hbmTy0_1 (i : Nat) : BufTy := match i % 128 with
  | 0 => ⟨S3x2048, .f32⟩
  | 1 => ⟨S3x2048, .f32⟩
  | 2 => ⟨S_, .f32⟩
  | 3 => ⟨S4098x2048, .f32⟩
  | 4 => ⟨S4098x2048, .f32⟩
  | 5 => ⟨S1x2048, .f32⟩
  | 6 => ⟨S4096x2048, .f32⟩
  | 7 => ⟨S1x2048, .f32⟩
  | 8 => ⟨S4096x2048, .f32⟩
  | 9 => ⟨S4096x2048, .f32⟩
  | 10 => ⟨S4096x6144, .f32⟩
  | 11 => ⟨S4096x6144, .bf16⟩
  | 12 => ⟨S4096x6144, .bf16⟩
  | 13 => ⟨S4096x512, .bf16⟩
  | 14 => ⟨S4096x12800, .bf16⟩
  | 15 => ⟨S_, .i32⟩
  | 16 => ⟨S_, .f32⟩
  | 17 => ⟨S8x2048, .f32⟩
  | 18 => ⟨S1x2048, .f32⟩
  | _ => ⟨S4096x4096, .f32⟩

abbrev hbmTy (i : Nat) : BufTy := match i / 128 with
  | 0 => hbmTy0_0 i
  | 1 => hbmTy0_1 i
  | _ => ⟨S4096x4096, .f32⟩

abbrev bufTy : (tb : Table) → Fin (tcTables nBuf tb) → BufTy
  | .hbm, ⟨i, _⟩ => hbmTy i
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_2 : Ref sig .tc := ⟨.hbm, 40, rfl⟩
abbrev main_v32 : Ref sig .tc := ⟨.hbm, 41, rfl⟩
abbrev main_v33 : Ref sig .tc := ⟨.hbm, 42, rfl⟩
abbrev main_cst_3 : Ref sig .tc := ⟨.hbm, 43, rfl⟩
abbrev main_v34 : Ref sig .tc := ⟨.hbm, 44, rfl⟩
abbrev main_v35 : Ref sig .tc := ⟨.hbm, 45, rfl⟩
abbrev main_cst_4 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_5 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_cst_6 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_cst_7 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_cst_8 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_cst_9 : Ref sig .tc := ⟨.hbm, 77, rfl⟩
abbrev main_v62 : Ref sig .tc := ⟨.hbm, 78, rfl⟩
abbrev main_v63 : Ref sig .tc := ⟨.hbm, 79, rfl⟩
abbrev main_cst_10 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_cst_11 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_cst_12 : Ref sig .tc := ⟨.hbm, 96, rfl⟩
abbrev main_v78 : Ref sig .tc := ⟨.hbm, 97, rfl⟩
abbrev main_v79 : Ref sig .tc := ⟨.hbm, 98, rfl⟩
abbrev main_cst_13 : Ref sig .tc := ⟨.hbm, 99, rfl⟩
abbrev main_v80 : Ref sig .tc := ⟨.hbm, 100, rfl⟩
abbrev main_cst_14 : Ref sig .tc := ⟨.hbm, 101, rfl⟩
abbrev main_v81 : Ref sig .tc := ⟨.hbm, 102, rfl⟩
abbrev main_v82 : Ref sig .tc := ⟨.hbm, 103, rfl⟩
abbrev main_cst_15 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_cst_16 : Ref sig .tc := ⟨.hbm, 109, rfl⟩
abbrev main_v87 : Ref sig .tc := ⟨.hbm, 110, rfl⟩
abbrev main_v88 : Ref sig .tc := ⟨.hbm, 111, rfl⟩
abbrev main_cst_17 : Ref sig .tc := ⟨.hbm, 112, rfl⟩
abbrev main_v89 : Ref sig .tc := ⟨.hbm, 113, rfl⟩
abbrev main_v90 : Ref sig .tc := ⟨.hbm, 114, rfl⟩
abbrev main_cst_18 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_cst_19 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_cst_20 : Ref sig .tc := ⟨.hbm, 124, rfl⟩
abbrev main_v98 : Ref sig .tc := ⟨.hbm, 125, rfl⟩
abbrev main_v99 : Ref sig .tc := ⟨.hbm, 126, rfl⟩
abbrev main_cst_21 : Ref sig .tc := ⟨.hbm, 127, rfl⟩
abbrev main_v100 : Ref sig .tc := ⟨.hbm, 128, rfl⟩
abbrev main_v101 : Ref sig .tc := ⟨.hbm, 129, rfl⟩
abbrev main_cst_22 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_c : Ref sig .tc := ⟨.hbm, 143, rfl⟩
abbrev main_call0_v0 : Ref sig .tc := ⟨.hbm, 144, rfl⟩
abbrev main_v114 : Ref sig .tc := ⟨.hbm, 145, rfl⟩
abbrev main_v115 : Ref sig .tc := ⟨.hbm, 146, rfl⟩

abbrev nD : Nat := 1
abbrev τ : Topo := Topo.v7x

variable {F : FTy → Type} [FloatOps F]
-- ==== Kernel2.lean ====
abbrev S4096x16384 : Shape := ⟨2, ![4096, 16384]⟩
abbrev S4096x4096 : Shape := ⟨2, ![4096, 4096]⟩
abbrev S16384x4096 : Shape := ⟨2, ![16384, 4096]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x16384, .bf16⟩
  | .hbm, ⟨1, _⟩ => ⟨S4096x4096, .bf16⟩
  | .hbm, ⟨2, _⟩ => ⟨S16384x4096, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S4096x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S4096x16384 : Shape := ⟨2, ![4096, 16384]⟩
abbrev S4096x4096 : Shape := ⟨2, ![4096, 4096]⟩
abbrev S16384x4096 : Shape := ⟨2, ![16384, 4096]⟩

abbrev nBuf : Space → Nat
  | .hbm => 7
  | .vmem => 0
  | .smem => 0
  | _ => 0

abbrev bufTy : (tb : Table) → Fin (tcTables nBuf tb) → BufTy
  | .hbm, ⟨0, _⟩ => ⟨S4096x16384, .bf16⟩
  | .hbm, ⟨1, _⟩ => ⟨S4096x4096, .bf16⟩
  | .hbm, ⟨2, _⟩ => ⟨S4096x16384, .f32⟩
  | .hbm, ⟨3, _⟩ => ⟨S4096x4096, .f32⟩
  | .hbm, ⟨4, _⟩ => ⟨S4096x16384, .f32⟩
  | .hbm, ⟨5, _⟩ => ⟨S16384x4096, .f32⟩
  | .hbm, ⟨6, _⟩ => ⟨S16384x4096, .bf16⟩
  | _, _ => ⟨S4096x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel3.lean ====
abbrev S4096x4096 : Shape := ⟨2, ![4096, 4096]⟩
abbrev S4096x12800 : Shape := ⟨2, ![4096, 12800]⟩
abbrev S4096x1024 : Shape := ⟨2, ![4096, 1024]⟩
abbrev S4096x1280 : Shape := ⟨2, ![4096, 1280]⟩
abbrev S1024x1280 : Shape := ⟨2, ![1024, 1280]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x12800, .bf16⟩
  | .hbm, ⟨2, _⟩ => ⟨S4096x12800, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1280, .bf16⟩
  | .local _ .vmem, ⟨3, _⟩ => ⟨S4096x1280, .bf16⟩
  | .local _ .vmem, ⟨4, _⟩ => ⟨S1024x1280, .bf16⟩
  | .local _ .vmem, ⟨5, _⟩ => ⟨S1024x1280, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 10, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x4096 : Shape := ⟨2, ![4096, 4096]⟩
abbrev S4096x12800 : Shape := ⟨2, ![4096, 12800]⟩
abbrev S12800x4096 : Shape := ⟨2, ![12800, 4096]⟩

abbrev nBuf : Space → Nat
  | .hbm => 7
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x12800, .bf16⟩
  | .hbm, ⟨2, _⟩ => ⟨S4096x4096, .f32⟩
  | .hbm, ⟨3, _⟩ => ⟨S4096x12800, .f32⟩
  | .hbm, ⟨4, _⟩ => ⟨S12800x4096, .f32⟩
  | .hbm, ⟨5, _⟩ => ⟨S4096x12800, .f32⟩
  | .hbm, ⟨6, _⟩ => ⟨S4096x12800, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel4.lean ====
abbrev S4096x16384 : Shape := ⟨2, ![4096, 16384]⟩
abbrev S16384x4096 : Shape := ⟨2, ![16384, 4096]⟩
abbrev S4096x4096 : Shape := ⟨2, ![4096, 4096]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x16384, .bf16⟩
  | .hbm, ⟨1, _⟩ => ⟨S16384x4096, .bf16⟩
  | .hbm, ⟨2, _⟩ => ⟨S4096x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x16384 : Shape := ⟨2, ![4096, 16384]⟩
abbrev S16384x4096 : Shape := ⟨2, ![16384, 4096]⟩
abbrev S4096x4096 : Shape := ⟨2, ![4096, 4096]⟩

abbrev nBuf : Space → Nat
  | .hbm => 5
  | .vmem => 0
  | .smem => 0
  | _ => 0

abbrev bufTy : (tb : Table) → Fin (tcTables nBuf tb) → BufTy
  | .hbm, ⟨0, _⟩ => ⟨S4096x16384, .bf16⟩
  | .hbm, ⟨1, _⟩ => ⟨S16384x4096, .bf16⟩
  | .hbm, ⟨2, _⟩ => ⟨S4096x16384, .f32⟩
  | .hbm, ⟨3, _⟩ => ⟨S16384x4096, .f32⟩
  | .hbm, ⟨4, _⟩ => ⟨S4096x4096, .f32⟩
  | _, _ => ⟨S4096x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel5.lean ====
abbrev S4096x12800 : Shape := ⟨2, ![4096, 12800]⟩
abbrev S4096x4096 : Shape := ⟨2, ![4096, 4096]⟩
abbrev S1x4096 : Shape := ⟨2, ![1, 4096]⟩
abbrev S512x2560 : Shape := ⟨2, ![512, 2560]⟩
abbrev S1024x2560 : Shape := ⟨2, ![1024, 2560]⟩
abbrev S512x1024 : Shape := ⟨2, ![512, 1024]⟩
abbrev S1x1024 : Shape := ⟨2, ![1, 1024]⟩
abbrev S1024 : Shape := ⟨1, ![1024]⟩

abbrev nBuf : Space → Nat
  | .hbm => 8
  | .vmem => 17
  | .smem => 0
  | _ => 0

abbrev bufTy : (tb : Table) → Fin (tcTables nBuf tb) → BufTy
  | .hbm, ⟨0, _⟩ => ⟨S4096x12800, .bf16⟩
  | .hbm, ⟨1, _⟩ => ⟨S4096x12800, .bf16⟩
  | .hbm, ⟨2, _⟩ => ⟨S4096x4096, .f32⟩
  | .hbm, ⟨3, _⟩ => ⟨S4096x4096, .f32⟩
  | .hbm, ⟨4, _⟩ => ⟨S1x4096, .f32⟩
  | .hbm, ⟨5, _⟩ => ⟨S4096x4096, .f32⟩
  | .hbm, ⟨6, _⟩ => ⟨S1x4096, .f32⟩
  | .hbm, ⟨7, _⟩ => ⟨S1x4096, .f32⟩
  | .local _ .vmem, ⟨0, _⟩ => ⟨S512x2560, .bf16⟩
  | .local _ .vmem, ⟨1, _⟩ => ⟨S512x2560, .bf16⟩
  | .local _ .vmem, ⟨2, _⟩ => ⟨S1024x2560, .bf16⟩
  | .local _ .vmem, ⟨3, _⟩ => ⟨S1024x2560, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | .local _ .vmem, ⟨16, _⟩ => ⟨S512x1024, .f32⟩
  | _, _ => ⟨S4096x12800, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![4, 8, 5], ![false, false, false]⟩

def k0_cond3 (i : grid0.Coords) : BitVec 1 :=
  let arg2 : BitVec 32 := BitVec.ofNat 32 (i 2).val
  let c4_i32_6 : BitVec 32 := 4#32
  let v11 : BitVec 1 := Scalar.cmpi .eq arg2 c4_i32_6
  let v12 : BitVec 32 := Scalar.extui v11
  let c0_i32_7 : BitVec 32 := 0#32
  let v13 : BitVec 1 := Scalar.cmpi .ne v12 c0_i32_7
  v13

def k0_cond4 (i : grid0.Coords) : BitVec 1 :=
  let arg1 : BitVec 32 := BitVec.ofNat 32 (i 1).val
  let c0_i32_21 : BitVec 32 := 0#32
  let v30 : BitVec 1 := Scalar.cmpi .eq arg1 c0_i32_21
  let v31 : BitVec 32 := Scalar.extui v30
  let c0_i32_22 : BitVec 32 := 0#32
  let v32 : BitVec 1 := Scalar.cmpi .ne v31 c0_i32_22
  v32

def k0_cond5 (i : grid0.Coords) : BitVec 1 :=
  let arg1 : BitVec 32 := BitVec.ofNat 32 (i 1).val
  let c0_i32_21 : BitVec 32 := 0#32
  let v30 : BitVec 1 := Scalar.cmpi .eq arg1 c0_i32_21
  let v_true : BitVec 1 := 1#1
  let v33 : BitVec 1 := Scalar.xori v30 v_true
  let v34 : BitVec 32 := Scalar.extui v33
  let c0_i32_23 : BitVec 32 := 0#32
  let v35 : BitVec 1 := Scalar.cmpi .ne v34 c0_i32_23
  v35

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

abbrev stage0_0 : Fin 2 → Memref sig .tc .vmem S512x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x2560 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]
-- ==== Reference5Ideal.lean ====
abbrev S4096x12800 : Shape := ⟨2, ![4096, 12800]⟩
abbrev S4096x4096 : Shape := ⟨2, ![4096, 4096]⟩
abbrev S1x4096 : Shape := ⟨2, ![1, 4096]⟩
abbrev S_ : Shape := ⟨0, ![]⟩
abbrev S4096 : Shape := ⟨1, ![4096]⟩

abbrev nBuf : Space → Nat
  | .hbm => 28
  | .vmem => 0
  | .smem => 0
  | _ => 0

abbrev bufTy : (tb : Table) → Fin (tcTables nBuf tb) → BufTy
  | .hbm, ⟨0, _⟩ => ⟨S4096x12800, .bf16⟩
  | .hbm, ⟨1, _⟩ => ⟨S4096x12800, .bf16⟩
  | .hbm, ⟨2, _⟩ => ⟨S4096x4096, .f32⟩
  | .hbm, ⟨3, _⟩ => ⟨S4096x4096, .f32⟩
  | .hbm, ⟨4, _⟩ => ⟨S1x4096, .f32⟩
  | .hbm, ⟨5, _⟩ => ⟨S_, .f32⟩
  | .hbm, ⟨6, _⟩ => ⟨S1x4096, .f32⟩
  | .hbm, ⟨7, _⟩ => ⟨S_, .f32⟩
  | .hbm, ⟨8, _⟩ => ⟨S1x4096, .f32⟩
  | .hbm, ⟨9, _⟩ => ⟨S1x4096, .f32⟩
  | .hbm, ⟨10, _⟩ => ⟨S4096x4096, .f32⟩
  | .hbm, ⟨11, _⟩ => ⟨S4096x4096, .f32⟩
  | .hbm, ⟨12, _⟩ => ⟨S4096x4096, .f32⟩
  | .hbm, ⟨13, _⟩ => ⟨S4096x4096, .f32⟩
  | .hbm, ⟨14, _⟩ => ⟨S4096x12800, .f32⟩
  | .hbm, ⟨15, _⟩ => ⟨S4096x12800, .f32⟩
  | .hbm, ⟨16, _⟩ => ⟨S4096x12800, .f32⟩
  | .hbm, ⟨17, _⟩ => ⟨S4096x4096, .f32⟩
  | .hbm, ⟨18, _⟩ => ⟨S_, .f32⟩
  | .hbm, ⟨19, _⟩ => ⟨S4096, .f32⟩
  | .hbm, ⟨20, _⟩ => ⟨S1x4096, .f32⟩
  | .hbm, ⟨21, _⟩ => ⟨S4096x4096, .f32⟩
  | .hbm, ⟨22, _⟩ => ⟨S_, .f32⟩
  | .hbm, ⟨23, _⟩ => ⟨S4096, .f32⟩
  | .hbm, ⟨24, _⟩ => ⟨S1x4096, .f32⟩
  | .hbm, ⟨25, _⟩ => ⟨S4096x4096, .f32⟩
  | .hbm, ⟨26, _⟩ => ⟨S4096x4096, .f32⟩
  | .hbm, ⟨27, _⟩ => ⟨S4096x4096, .f32⟩
  | _, _ => ⟨S4096x12800, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩

abbrev nD : Nat := 1
abbrev τ : Topo := Topo.v7x

variable {F : FTy → Type} [FloatOps F]
-- ==== Kernel6.lean ====
abbrev S4096x4096 : Shape := ⟨2, ![4096, 4096]⟩
abbrev S4096x16384 : Shape := ⟨2, ![4096, 16384]⟩
abbrev S4x4096x4096 : Shape := ⟨3, ![4, 4096, 4096]⟩
abbrev S4096x1024 : Shape := ⟨2, ![4096, 1024]⟩
abbrev S1x1024x1024 : Shape := ⟨3, ![1, 1024, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x16384, .bf16⟩
  | .hbm, ⟨2, _⟩ => ⟨S4x4096x4096, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1x1024x1024, .bf16⟩
  | .local _ .vmem, ⟨5, _⟩ => ⟨S1x1024x1024, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4096x4096 : Shape := ⟨2, ![4096, 4096]⟩
abbrev S4096x16384 : Shape := ⟨2, ![4096, 16384]⟩
abbrev S16384x4096 : Shape := ⟨2, ![16384, 4096]⟩
abbrev S4096x4x4096 : Shape := ⟨3, ![4096, 4, 4096]⟩
abbrev S4x4096x4096 : Shape := ⟨3, ![4, 4096, 4096]⟩

abbrev nBuf : Space → Nat
  | .hbm => 9
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x16384, .bf16⟩
  | .hbm, ⟨2, _⟩ => ⟨S4096x4096, .f32⟩
  | .hbm, ⟨3, _⟩ => ⟨S4096x16384, .f32⟩
  | .hbm, ⟨4, _⟩ => ⟨S16384x4096, .f32⟩
  | .hbm, ⟨5, _⟩ => ⟨S4096x16384, .f32⟩
  | .hbm, ⟨6, _⟩ => ⟨S4096x16384, .bf16⟩
  | .hbm, ⟨7, _⟩ => ⟨S4096x4x4096, .bf16⟩
  | .hbm, ⟨8, _⟩ => ⟨S4x4096x4096, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== Kernel7.lean ====
abbrev S4096x4096 : Shape := ⟨2, ![4096, 4096]⟩
abbrev S16384x4096 : Shape := ⟨2, ![16384, 4096]⟩
abbrev S4096x16384 : Shape := ⟨2, ![4096, 16384]⟩
abbrev S1024x4096 : Shape := ⟨2, ![1024, 4096]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x4096, .bf16⟩
  | .hbm, ⟨1, _⟩ => ⟨S16384x4096, .bf16⟩
  | .hbm, ⟨2, _⟩ => ⟨S4096x16384, .f32⟩
  | .hbm, ⟨3, _⟩ => ⟨S4096x16384, .bf16⟩
  | .local _ .vmem, ⟨0, _⟩ => ⟨S1024x4096, .bf16⟩
  | .local _ .vmem, ⟨1, _⟩ => ⟨S1024x4096, .bf16⟩
  | .local _ .vmem, ⟨2, _⟩ => ⟨S1024x4096, .bf16⟩
  | .local _ .vmem, ⟨3, _⟩ => ⟨S1024x4096, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference7Ideal.lean ====
abbrev S4096x4096 : Shape := ⟨2, ![4096, 4096]⟩
abbrev S16384x4096 : Shape := ⟨2, ![16384, 4096]⟩
abbrev S4096x16384 : Shape := ⟨2, ![4096, 16384]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S16384x4096, .bf16⟩
  | .hbm, ⟨2, _⟩ => ⟨S4096x16384, .f32⟩
  | .hbm, ⟨3, _⟩ => ⟨S_, .f32⟩
  | .hbm, ⟨4, _⟩ => ⟨S4096x16384, .f32⟩
  | .hbm, ⟨5, _⟩ => ⟨S4096x16384, .f32⟩
  | .hbm, ⟨6, _⟩ => ⟨S_, .f32⟩
  | .hbm, ⟨7, _⟩ => ⟨S4096x16384, .f32⟩
  | .hbm, ⟨8, _⟩ => ⟨S4096x16384, .i1⟩
  | .hbm, ⟨9, _⟩ => ⟨S_, .f32⟩
  | .hbm, ⟨10, _⟩ => ⟨S4096x16384, .f32⟩
  | .hbm, ⟨11, _⟩ => ⟨S4096x16384, .f32⟩
  | .hbm, ⟨12, _⟩ => ⟨S_, .f32⟩
  | .hbm, ⟨13, _⟩ => ⟨S4096x16384, .f32⟩
  | .hbm, ⟨14, _⟩ => ⟨S4096x16384, .f32⟩
  | .hbm, ⟨15, _⟩ => ⟨S16384x4096, .f32⟩
  | .hbm, ⟨16, _⟩ => ⟨S4096x4096, .f32⟩
  | .hbm, ⟨17, _⟩ => ⟨S4096x4096, .f32⟩
  | .hbm, ⟨18, _⟩ => ⟨S4096x16384, .f32⟩
  | .hbm, ⟨19, _⟩ => ⟨S4096x16384, .f32⟩
  | .hbm, ⟨20, _⟩ => ⟨S_, .f32⟩
  | .hbm, ⟨21, _⟩ => ⟨S4096x16384, .f32⟩
  | .hbm, ⟨22, _⟩ => ⟨S4096x16384, .f32⟩
  | .hbm, ⟨23, _⟩ => ⟨S4096x16384, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]
-- ==== Kernel8.lean ====
abbrev S4096x16384 : Shape := ⟨2, ![4096, 16384]⟩
abbrev S4x4096x4096 : Shape := ⟨3, ![4, 4096, 4096]⟩
abbrev S4096x4096 : Shape := ⟨2, ![4096, 4096]⟩
abbrev S1024x4096 : Shape := ⟨2, ![1024, 4096]⟩
abbrev S1x1024x4096 : Shape := ⟨3, ![1, 1024, 4096]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x16384, .bf16⟩
  | .hbm, ⟨1, _⟩ => ⟨S4x4096x4096, .bf16⟩
  | .hbm, ⟨2, _⟩ => ⟨S4096x4096, .f32⟩
  | .local _ .vmem, ⟨0, _⟩ => ⟨S1024x4096, .bf16⟩
  | .local _ .vmem, ⟨1, _⟩ => ⟨S1024x4096, .bf16⟩
  | .local _ .vmem, ⟨2, _⟩ => ⟨S1x1024x4096, .bf16⟩
  | .local _ .vmem, ⟨3, _⟩ => ⟨S1x1024x4096, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 4], ![false, false, false]⟩

def k0_cond3 (i : grid0.Coords) : BitVec 1 :=
  let arg2 : BitVec 32 := BitVec.ofNat 32 (i 2).val
  let c3_i32_7 : BitVec 32 := 3#32
  let v12 : BitVec 1 := Scalar.cmpi .eq arg2 c3_i32_7
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4096x16384 : Shape := ⟨2, ![4096, 16384]⟩
abbrev S4x4096x4096 : Shape := ⟨3, ![4, 4096, 4096]⟩
abbrev S4096x4x4096 : Shape := ⟨3, ![4096, 4, 4096]⟩
abbrev S4096x4096 : Shape := ⟨2, ![4096, 4096]⟩

abbrev nBuf : Space → Nat
  | .hbm => 7
  | .vmem => 0
  | .smem => 0
  | _ => 0

abbrev bufTy : (tb : Table) → Fin (tcTables nBuf tb) → BufTy
  | .hbm, ⟨0, _⟩ => ⟨S4096x16384, .bf16⟩
  | .hbm, ⟨1, _⟩ => ⟨S4x4096x4096, .bf16⟩
  | .hbm, ⟨2, _⟩ => ⟨S4x4096x4096, .f32⟩
  | .hbm, ⟨3, _⟩ => ⟨S4096x4x4096, .f32⟩
  | .hbm, ⟨4, _⟩ => ⟨S4096x16384, .f32⟩
  | .hbm, ⟨5, _⟩ => ⟨S4096x16384, .f32⟩
  | .hbm, ⟨6, _⟩ => ⟨S4096x4096, .f32⟩
  | _, _ => ⟨S4096x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel9.lean ====
abbrev S4096x4096 : Shape := ⟨2, ![4096, 4096]⟩
abbrev S4x4096x4096 : Shape := ⟨3, ![4, 4096, 4096]⟩
abbrev S4096x16384 : Shape := ⟨2, ![4096, 16384]⟩
abbrev S1024x4096 : Shape := ⟨2, ![1024, 4096]⟩
abbrev S1x4096x1024 : Shape := ⟨3, ![1, 4096, 1024]⟩
abbrev S1024x1024 : Shape := ⟨2, ![1024, 1024]⟩
abbrev S4096x1024 : Shape := ⟨2, ![4096, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x4096, .bf16⟩
  | .hbm, ⟨1, _⟩ => ⟨S4x4096x4096, .bf16⟩
  | .hbm, ⟨2, _⟩ => ⟨S4096x16384, .f32⟩
  | .hbm, ⟨3, _⟩ => ⟨S4096x16384, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference9Ideal.lean ====
abbrev S4096x4096 : Shape := ⟨2, ![4096, 4096]⟩
abbrev S4x4096x4096 : Shape := ⟨3, ![4, 4096, 4096]⟩
abbrev S4096x4x4096 : Shape := ⟨3, ![4096, 4, 4096]⟩
abbrev S4096x16384 : Shape := ⟨2, ![4096, 16384]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4x4096x4096, .bf16⟩
  | .hbm, ⟨2, _⟩ => ⟨S4096x4096, .f32⟩
  | .hbm, ⟨3, _⟩ => ⟨S4x4096x4096, .f32⟩
  | .hbm, ⟨4, _⟩ => ⟨S4096x4x4096, .f32⟩
  | .hbm, ⟨5, _⟩ => ⟨S4096x16384, .f32⟩
  | .hbm, ⟨6, _⟩ => ⟨S4096x16384, .f32⟩
  | .hbm, ⟨7, _⟩ => ⟨S_, .f32⟩
  | .hbm, ⟨8, _⟩ => ⟨S4096x16384, .f32⟩
  | .hbm, ⟨9, _⟩ => ⟨S4096x16384, .f32⟩
  | .hbm, ⟨10, _⟩ => ⟨S4096x16384, .f32⟩
  | .hbm, ⟨11, _⟩ => ⟨S4096x16384, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_cst : Ref sig .tc := ⟨.hbm, 7, rfl⟩
abbrev main_call0_v0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel10.lean ====
abbrev S4096x4096 : Shape := ⟨2, ![4096, 4096]⟩
abbrev S4096x12800 : Shape := ⟨2, ![4096, 12800]⟩
abbrev S512x4096 : Shape := ⟨2, ![512, 4096]⟩
abbrev S4096x1280 : Shape := ⟨2, ![4096, 1280]⟩
abbrev S512x1280 : Shape := ⟨2, ![512, 1280]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x12800, .bf16⟩
  | .hbm, ⟨2, _⟩ => ⟨S4096x12800, .f32⟩
  | .local _ .vmem, ⟨0, _⟩ => ⟨S512x4096, .bf16⟩
  | .local _ .vmem, ⟨1, _⟩ => ⟨S512x4096, .bf16⟩
  | .local _ .vmem, ⟨2, _⟩ => ⟨S4096x1280, .bf16⟩
  | .local _ .vmem, ⟨3, _⟩ => ⟨S4096x1280, .bf16⟩
  | .local _ .vmem, ⟨4, _⟩ => ⟨S512x1280, .f32⟩
  | .local _ .vmem, ⟨5, _⟩ => ⟨S512x1280, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 10, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S4096x4096 : Shape := ⟨2, ![4096, 4096]⟩
abbrev S4096x12800 : Shape := ⟨2, ![4096, 12800]⟩

abbrev nBuf : Space → Nat
  | .hbm => 5
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x12800, .bf16⟩
  | .hbm, ⟨2, _⟩ => ⟨S4096x4096, .f32⟩
  | .hbm, ⟨3, _⟩ => ⟨S4096x12800, .f32⟩
  | .hbm, ⟨4, _⟩ => ⟨S4096x12800, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel11.lean ====
abbrev S4096x4096 : Shape := ⟨2, ![4096, 4096]⟩
abbrev S1024x4096 : Shape := ⟨2, ![1024, 4096]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .f32⟩
  | .local _ .vmem, ⟨0, _⟩ => ⟨S1024x4096, .bf16⟩
  | .local _ .vmem, ⟨1, _⟩ => ⟨S1024x4096, .bf16⟩
  | .local _ .vmem, ⟨2, _⟩ => ⟨S1024x4096, .bf16⟩
  | .local _ .vmem, ⟨3, _⟩ => ⟨S1024x4096, .bf16⟩
  | .local _ .vmem, ⟨4, _⟩ => ⟨S1024x1024, .f32⟩
  | .local _ .vmem, ⟨5, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S4096x4096 : Shape := ⟨2, ![4096, 4096]⟩

abbrev nBuf : Space → Nat
  | .hbm => 5
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .f32⟩
  | .hbm, ⟨3, _⟩ => ⟨S4096x4096, .f32⟩
  | .hbm, ⟨4, _⟩ => ⟨S4096x4096, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel12.lean ====
abbrev S4096x4096 : Shape := ⟨2, ![4096, 4096]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S4096x4096 : Shape := ⟨2, ![4096, 4096]⟩

abbrev nBuf : Space → Nat
  | .hbm => 7
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S4096x4096, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel13.lean ====
abbrev S4096x4096 : Shape := ⟨2, ![4096, 4096]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S4096x4096 : Shape := ⟨2, ![4096, 4096]⟩

abbrev nBuf : Space → Nat
  | .hbm => 5
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .f32⟩
  | .hbm, ⟨3, _⟩ => ⟨S4096x4096, .f32⟩
  | .hbm, ⟨4, _⟩ => ⟨S4096x4096, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel15.lean ====
abbrev S4096x12800 : Shape := ⟨2, ![4096, 12800]⟩
abbrev S3x2048 : Shape := ⟨2, ![3, 2048]⟩
abbrev S1x2048 : Shape := ⟨2, ![1, 2048]⟩
abbrev S4096x2048 : Shape := ⟨2, ![4096, 2048]⟩
abbrev S8x2048 : Shape := ⟨2, ![8, 2048]⟩
abbrev S256x2048 : Shape := ⟨2, ![256, 2048]⟩
abbrev S272x2048 : Shape := ⟨2, ![272, 2048]⟩
abbrev S256x128 : Shape := ⟨2, ![256, 128]⟩
abbrev S256 : Shape := ⟨1, ![256]⟩
abbrev S256x1 : Shape := ⟨2, ![256, 1]⟩

abbrev nBuf : Space → Nat
  | .hbm => 4
  | .vmem => 18
  | .smem => 0
  | _ => 0

abbrev bufTy : (tb : Table) → Fin (tcTables nBuf tb) → BufTy
  | .hbm, ⟨0, _⟩ => ⟨S4096x12800, .f32⟩
  | .hbm, ⟨1, _⟩ => ⟨S3x2048, .f32⟩
  | .hbm, ⟨2, _⟩ => ⟨S1x2048, .f32⟩
  | .hbm, ⟨3, _⟩ => ⟨S4096x2048, .bf16⟩
  | .local _ .vmem, ⟨0, _⟩ => ⟨S8x2048, .f32⟩
  | .local _ .vmem, ⟨1, _⟩ => ⟨S8x2048, .f32⟩
  | .local _ .vmem, ⟨2, _⟩ => ⟨S256x2048, .f32⟩
  | .local _ .vmem, ⟨3, _⟩ => ⟨S256x2048, .f32⟩
  | .local _ .vmem, ⟨4, _⟩ => ⟨S8x2048, .f32⟩
  | .local _ .vmem, ⟨5, _⟩ => ⟨S8x2048, .f32⟩
  | .local _ .vmem, ⟨6, _⟩ => ⟨S256x2048, .f32⟩
  | .local _ .vmem, ⟨7, _⟩ => ⟨S256x2048, .f32⟩
  | .local _ .vmem, ⟨8, _⟩ => ⟨S8x2048, .f32⟩
  | .local _ .vmem, ⟨9, _⟩ => ⟨S8x2048, .f32⟩
  | .local _ .vmem, ⟨10, _⟩ => ⟨S256x2048, .f32⟩
  | .local _ .vmem, ⟨11, _⟩ => ⟨S256x2048, .f32⟩
  | .local _ .vmem, ⟨12, _⟩ => ⟨S8x2048, .f32⟩
  | .local _ .vmem, ⟨13, _⟩ => ⟨S8x2048, .f32⟩
  | .local _ .vmem, ⟨14, _⟩ => ⟨S3x2048, .f32⟩
  | .local _ .vmem, ⟨15, _⟩ => ⟨S1x2048, .f32⟩
  | .local _ .vmem, ⟨16, _⟩ => ⟨S256x2048, .bf16⟩
  | .local _ .vmem, ⟨17, _⟩ => ⟨S256x2048, .bf16⟩
  | _, _ => ⟨S4096x12800, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c3_i32 : BitVec 32 := 3#32
  let c0_i32_0 : BitVec 32 := 0#32
  ![v2.toNat, c3_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c511_i32 : BitVec 32 := 511#32
  let v2 : BitVec 32 := Scalar.minsi v1 c511_i32
  let c3_i32 : BitVec 32 := 3#32
  let c0_i32 : BitVec 32 := 0#32
  ![v2.toNat, c3_i32.toNat]

def cc0_transform_3 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_4 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c5_i32 : BitVec 32 := 5#32
  let c0_i32_0 : BitVec 32 := 0#32
  ![v2.toNat, c5_i32.toNat]

def cc0_transform_5 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_6 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c511_i32 : BitVec 32 := 511#32
  let v2 : BitVec 32 := Scalar.minsi v1 c511_i32
  let c5_i32 : BitVec 32 := 5#32
  let c0_i32 : BitVec 32 := 0#32
  ![v2.toNat, c5_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S3x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference15Ideal.lean ====
abbrev S4096x12800 : Shape := ⟨2, ![4096, 12800]⟩
abbrev S3x2048 : Shape := ⟨2, ![3, 2048]⟩
abbrev S1x2048 : Shape := ⟨2, ![1, 2048]⟩
abbrev S4096x2048 : Shape := ⟨2, ![4096, 2048]⟩
abbrev S2048 : Shape := ⟨1, ![2048]⟩
abbrev S_ : Shape := ⟨0, ![]⟩
abbrev S4098x2048 : Shape := ⟨2, ![4098, 2048]⟩
abbrev S4096x16x128 : Shape := ⟨3, ![4096, 16, 128]⟩
abbrev S4096x16 : Shape := ⟨2, ![4096, 16]⟩
abbrev S4096x16x1 : Shape := ⟨3, ![4096, 16, 1]⟩

abbrev nBuf : Space → Nat
  | .hbm => 51
  | .vmem => 0
  | .smem => 0
  | _ => 0

abbrev bufTy : (tb : Table) → Fin (tcTables nBuf tb) → BufTy
  | .hbm, ⟨0, _⟩ => ⟨S4096x12800, .f32⟩
  | .hbm, ⟨1, _⟩ => ⟨S3x2048, .f32⟩
  | .hbm, ⟨2, _⟩ => ⟨S1x2048, .f32⟩
  | .hbm, ⟨3, _⟩ => ⟨S4096x2048, .f32⟩
  | .hbm, ⟨4, _⟩ => ⟨S4096x2048, .f32⟩
  | .hbm, ⟨5, _⟩ => ⟨S4096x2048, .f32⟩
  | .hbm, ⟨6, _⟩ => ⟨S2048, .f32⟩
  | .hbm, ⟨7, _⟩ => ⟨S4096x2048, .f32⟩
  | .hbm, ⟨8, _⟩ => ⟨S_, .f32⟩
  | .hbm, ⟨9, _⟩ => ⟨S1x2048, .f32⟩
  | .hbm, ⟨10, _⟩ => ⟨S4098x2048, .f32⟩
  | .hbm, ⟨11, _⟩ => ⟨S4096x2048, .f32⟩
  | .hbm, ⟨12, _⟩ => ⟨S1x2048, .f32⟩
  | .hbm, ⟨13, _⟩ => ⟨S2048, .f32⟩
  | .hbm, ⟨14, _⟩ => ⟨S1x2048, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S1x2048, .f32⟩
  | .hbm, ⟨19, _⟩ => ⟨S2048, .f32⟩
  | .hbm, ⟨20, _⟩ => ⟨S1x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S1x2048, .f32⟩
  | .hbm, ⟨26, _⟩ => ⟨S2048, .f32⟩
  | .hbm, ⟨27, _⟩ => ⟨S1x2048, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S4096x16x128, .f32⟩
  | .hbm, ⟨33, _⟩ => ⟨S4096x16x128, .f32⟩
  | .hbm, ⟨34, _⟩ => ⟨S_, .f32⟩
  | .hbm, ⟨35, _⟩ => ⟨S4096x16, .f32⟩
  | .hbm, ⟨36, _⟩ => ⟨S4096x16x1, .f32⟩
  | .hbm, ⟨37, _⟩ => ⟨S_, .f32⟩
  | .hbm, ⟨38, _⟩ => ⟨S4096x16x1, .f32⟩
  | .hbm, ⟨39, _⟩ => ⟨S4096x16x1, .f32⟩
  | .hbm, ⟨40, _⟩ => ⟨S_, .f32⟩
  | .hbm, ⟨41, _⟩ => ⟨S4096x16x1, .f32⟩
  | .hbm, ⟨42, _⟩ => ⟨S4096x16x1, .f32⟩
  | .hbm, ⟨43, _⟩ => ⟨S4096x16x1, .f32⟩
  | .hbm, ⟨44, _⟩ => ⟨S4096x16x128, .f32⟩
  | .hbm, ⟨45, _⟩ => ⟨S4096x16x128, .f32⟩
  | .hbm, ⟨46, _⟩ => ⟨S4096x2048, .f32⟩
  | .hbm, ⟨47, _⟩ => ⟨S1x2048, .f32⟩
  | .hbm, ⟨48, _⟩ => ⟨S4096x2048, .f32⟩
  | .hbm, ⟨49, _⟩ => ⟨S4096x2048, .f32⟩
  | .hbm, ⟨50, _⟩ => ⟨S4096x2048, .bf16⟩
  | _, _ => ⟨S4096x12800, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_cst_0 : Ref sig .tc := ⟨.hbm, 34, rfl⟩
abbrev main_v30 : Ref sig .tc := ⟨.hbm, 35, rfl⟩
abbrev main_v31 : Ref sig .tc := ⟨.hbm, 36, rfl⟩
abbrev main_cst_1 : Ref sig .tc := ⟨.hbm, 37, rfl⟩
abbrev main_v32 : Ref sig .tc := ⟨.hbm, 38, rfl⟩
abbrev main_v33 : Ref sig .tc := ⟨.hbm, 39, rfl⟩
abbrev main_cst_2 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩

abbrev nD : Nat := 1
abbrev τ : Topo := Topo.v7x

variable {F : FTy → Type} [FloatOps F]
-- ==== Kernel16.lean ====
abbrev S2x4096x2048 : Shape := ⟨3, ![2, 4096, 2048]⟩
abbrev S4096x4096 : Shape := ⟨2, ![4096, 4096]⟩
abbrev S4096x12800 : Shape := ⟨2, ![4096, 12800]⟩
abbrev S1x2048 : Shape := ⟨2, ![1, 2048]⟩
abbrev S4096x2048 : Shape := ⟨2, ![4096, 2048]⟩
abbrev S2x256x2048 : Shape := ⟨3, ![2, 256, 2048]⟩
abbrev S256x2048 : Shape := ⟨2, ![256, 2048]⟩
abbrev S1x256x2048 : Shape := ⟨3, ![1, 256, 2048]⟩
abbrev S256x256 : Shape := ⟨2, ![256, 256]⟩
abbrev S256 : Shape := ⟨1, ![256]⟩
abbrev S256x1 : Shape := ⟨2, ![256, 1]⟩

abbrev nBuf : Space → Nat
  | .hbm => 6
  | .vmem => 10
  | .smem => 0
  | _ => 0

abbrev bufTy : (tb : Table) → Fin (tcTables nBuf tb) → BufTy
  | .hbm, ⟨0, _⟩ => ⟨S2x4096x2048, .f32⟩
  | .hbm, ⟨1, _⟩ => ⟨S4096x4096, .f32⟩
  | .hbm, ⟨2, _⟩ => ⟨S4096x12800, .f32⟩
  | .hbm, ⟨3, _⟩ => ⟨S1x2048, .f32⟩
  | .hbm, ⟨4, _⟩ => ⟨S1x2048, .f32⟩
  | .hbm, ⟨5, _⟩ => ⟨S4096x2048, .bf16⟩
  | .local _ .vmem, ⟨0, _⟩ => ⟨S2x256x2048, .f32⟩
  | .local _ .vmem, ⟨1, _⟩ => ⟨S2x256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S1x2048, .f32⟩
  | .local _ .vmem, ⟨8, _⟩ => ⟨S256x2048, .bf16⟩
  | .local _ .vmem, ⟨9, _⟩ => ⟨S256x2048, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference16Ideal.lean ====
abbrev S2x4096x2048 : Shape := ⟨3, ![2, 4096, 2048]⟩
abbrev S4096x4096 : Shape := ⟨2, ![4096, 4096]⟩
abbrev S4096x12800 : Shape := ⟨2, ![4096, 12800]⟩
abbrev S1x2048 : Shape := ⟨2, ![1, 2048]⟩
abbrev S4096x2048 : Shape := ⟨2, ![4096, 2048]⟩
abbrev S1x4096x2048 : Shape := ⟨3, ![1, 4096, 2048]⟩
abbrev S_ : Shape := ⟨0, ![]⟩
abbrev S2048 : Shape := ⟨1, ![2048]⟩
abbrev S4096x8x256 : Shape := ⟨3, ![4096, 8, 256]⟩
abbrev S4096x8 : Shape := ⟨2, ![4096, 8]⟩
abbrev S4096x8x1 : Shape := ⟨3, ![4096, 8, 1]⟩

abbrev nBuf : Space → Nat
  | .hbm => 45
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S4096x4096, .f32⟩
  | .hbm, ⟨2, _⟩ => ⟨S4096x12800, .f32⟩
  | .hbm, ⟨3, _⟩ => ⟨S1x2048, .f32⟩
  | .hbm, ⟨4, _⟩ => ⟨S1x2048, .f32⟩
  | .hbm, ⟨5, _⟩ => ⟨S4096x2048, .f32⟩
  | .hbm, ⟨6, _⟩ => ⟨S4096x2048, .f32⟩
  | .hbm, ⟨7, _⟩ => ⟨S1x4096x2048, .f32⟩
  | .hbm, ⟨8, _⟩ => ⟨S4096x2048, .f32⟩
  | .hbm, ⟨9, _⟩ => ⟨S1x4096x2048, .f32⟩
  | .hbm, ⟨10, _⟩ => ⟨S4096x2048, .f32⟩
  | .hbm, ⟨11, _⟩ => ⟨S4096x2048, .f32⟩
  | .hbm, ⟨12, _⟩ => ⟨S4096x2048, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S_, .f32⟩
  | .hbm, ⟨18, _⟩ => ⟨S4096x2048, .f32⟩
  | .hbm, ⟨19, _⟩ => ⟨S4096x2048, .f32⟩
  | .hbm, ⟨20, _⟩ => ⟨S_, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S2048, .f32⟩
  | .hbm, ⟨26, _⟩ => ⟨S4096x8x256, .f32⟩
  | .hbm, ⟨27, _⟩ => ⟨S4096x8x256, .f32⟩
  | .hbm, ⟨28, _⟩ => ⟨S_, .f32⟩
  | .hbm, ⟨29, _⟩ => ⟨S4096x8, .f32⟩
  | .hbm, ⟨30, _⟩ => ⟨S4096x8x1, .f32⟩
  | .hbm, ⟨31, _⟩ => ⟨S_, .f32⟩
  | .hbm, ⟨32, _⟩ => ⟨S4096x8x1, .f32⟩
  | .hbm, ⟨33, _⟩ => ⟨S4096x8x1, .f32⟩
  | .hbm, ⟨34, _⟩ => ⟨S_, .f32⟩
  | .hbm, ⟨35, _⟩ => ⟨S4096x8x1, .f32⟩
  | .hbm, ⟨36, _⟩ => ⟨S4096x8x1, .f32⟩
  | .hbm, ⟨37, _⟩ => ⟨S4096x8x1, .f32⟩
  | .hbm, ⟨38, _⟩ => ⟨S4096x8x256, .f32⟩
  | .hbm, ⟨39, _⟩ => ⟨S4096x8x256, .f32⟩
  | .hbm, ⟨40, _⟩ => ⟨S4096x2048, .f32⟩
  | .hbm, ⟨41, _⟩ => ⟨S1x2048, .f32⟩
  | .hbm, ⟨42, _⟩ => ⟨S4096x2048, .f32⟩
  | .hbm, ⟨43, _⟩ => ⟨S4096x2048, .f32⟩
  | .hbm, ⟨44, _⟩ => ⟨S4096x2048, .bf16⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_call0_v0 : Ref sig .tc := ⟨.hbm, 15, rfl⟩
abbrev main_call0_v1 : Ref sig .tc := ⟨.hbm, 16, rfl⟩
abbrev main_call0_cst : Ref sig .tc := ⟨.hbm, 17, rfl⟩
abbrev main_call0_v2 : Ref sig .tc := ⟨.hbm, 18, rfl⟩
abbrev main_call0_v3 : Ref sig .tc := ⟨.hbm, 19, rfl⟩
abbrev main_call0_cst_0 : Ref sig .tc := ⟨.hbm, 20, rfl⟩
abbrev main_call0_v4 : Ref sig .tc := ⟨.hbm, 21, rfl⟩
abbrev main_call0_v5 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst : Ref sig .tc := ⟨.hbm, 28, rfl⟩
abbrev main_v15 : Ref sig .tc := ⟨.hbm, 29, rfl⟩
abbrev main_v16 : Ref sig .tc := ⟨.hbm, 30, rfl⟩
abbrev main_cst_0 : Ref sig .tc := ⟨.hbm, 31, rfl⟩
abbrev main_v17 : Ref sig .tc := ⟨.hbm, 32, rfl⟩
abbrev main_v18 : Ref sig .tc := ⟨.hbm, 33, rfl⟩
abbrev main_cst_1 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]
-- ==== Kernel17.lean ====
abbrev S4096x4096 : Shape := ⟨2, ![4096, 4096]⟩
abbrev S1x4096 : Shape := ⟨2, ![1, 4096]⟩
abbrev S128x4096 : Shape := ⟨2, ![128, 4096]⟩
abbrev S128 : Shape := ⟨1, ![128]⟩
abbrev S128x1 : Shape := ⟨2, ![128, 1]⟩

abbrev nBuf : Space → Nat
  | .hbm => 9
  | .vmem => 13
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S1x4096, .f32⟩
  | .hbm, ⟨3, _⟩ => ⟨S1x4096, .f32⟩
  | .hbm, ⟨4, _⟩ => ⟨S1x4096, .f32⟩
  | .hbm, ⟨5, _⟩ => ⟨S1x4096, .f32⟩
  | .hbm, ⟨6, _⟩ => ⟨S1x4096, .f32⟩
  | .hbm, ⟨7, _⟩ => ⟨S4096x4096, .f32⟩
  | .hbm, ⟨8, _⟩ => ⟨S4096x4096, .bf16⟩
  | .local _ .vmem, ⟨0, _⟩ => ⟨S128x4096, .f32⟩
  | .local _ .vmem, ⟨1, _⟩ => ⟨S128x4096, .f32⟩
  | .local _ .vmem, ⟨2, _⟩ => ⟨S128x4096, .f32⟩
  | .local _ .vmem, ⟨3, _⟩ => ⟨S128x4096, .f32⟩
  | .local _ .vmem, ⟨4, _⟩ => ⟨S1x4096, .f32⟩
  | .local _ .vmem, ⟨5, _⟩ => ⟨S1x4096, .f32⟩
  | .local _ .vmem, ⟨6, _⟩ => ⟨S1x4096, .f32⟩
  | .local _ .vmem, ⟨7, _⟩ => ⟨S1x4096, .f32⟩
  | .local _ .vmem, ⟨8, _⟩ => ⟨S1x4096, .f32⟩
  | .local _ .vmem, ⟨9, _⟩ => ⟨S128x4096, .f32⟩
  | .local _ .vmem, ⟨10, _⟩ => ⟨S128x4096, .f32⟩
  | .local _ .vmem, ⟨11, _⟩ => ⟨S128x4096, .bf16⟩
  | .local _ .vmem, ⟨12, _⟩ => ⟨S128x4096, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference17Ideal.lean ====
abbrev S4096x4096 : Shape := ⟨2, ![4096, 4096]⟩
abbrev S1x4096 : Shape := ⟨2, ![1, 4096]⟩
abbrev S_ : Shape := ⟨0, ![]⟩
abbrev S4096 : Shape := ⟨1, ![4096]⟩
abbrev S4096x1 : Shape := ⟨2, ![4096, 1]⟩

abbrev nBuf : Space → Nat
  | .hbm => 55
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S1x4096, .f32⟩
  | .hbm, ⟨3, _⟩ => ⟨S1x4096, .f32⟩
  | .hbm, ⟨4, _⟩ => ⟨S1x4096, .f32⟩
  | .hbm, ⟨5, _⟩ => ⟨S1x4096, .f32⟩
  | .hbm, ⟨6, _⟩ => ⟨S1x4096, .f32⟩
  | .hbm, ⟨7, _⟩ => ⟨S_, .f32⟩
  | .hbm, ⟨8, _⟩ => ⟨S4096x4096, .f32⟩
  | .hbm, ⟨9, _⟩ => ⟨S4096x4096, .f32⟩
  | .hbm, ⟨10, _⟩ => ⟨S_, .f32⟩
  | .hbm, ⟨11, _⟩ => ⟨S1x4096, .f32⟩
  | .hbm, ⟨12, _⟩ => ⟨S1x4096, .f32⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S4096, .f32⟩
  | .hbm, ⟨17, _⟩ => ⟨S4096, .f32⟩
  | .hbm, ⟨18, _⟩ => ⟨S_, .f32⟩
  | .hbm, ⟨19, _⟩ => ⟨S4096, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x4096, .f32⟩
  | .hbm, ⟨25, _⟩ => ⟨S4096x4096, .f32⟩
  | .hbm, ⟨26, _⟩ => ⟨S4096x4096, .f32⟩
  | .hbm, ⟨27, _⟩ => ⟨S_, .f32⟩
  | .hbm, ⟨28, _⟩ => ⟨S4096, .f32⟩
  | .hbm, ⟨29, _⟩ => ⟨S4096x1, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S4096x4096, .f32⟩
  | .hbm, ⟨34, _⟩ => ⟨S4096x4096, .f32⟩
  | .hbm, ⟨35, _⟩ => ⟨S_, .f32⟩
  | .hbm, ⟨36, _⟩ => ⟨S4096x1, .f32⟩
  | .hbm, ⟨37, _⟩ => ⟨S4096x1, .f32⟩
  | .hbm, ⟨38, _⟩ => ⟨S4096x1, .f32⟩
  | .hbm, ⟨39, _⟩ => ⟨S4096x4096, .f32⟩
  | .hbm, ⟨40, _⟩ => ⟨S4096x4096, .f32⟩
  | .hbm, ⟨41, _⟩ => ⟨S1x4096, .f32⟩
  | .hbm, ⟨42, _⟩ => ⟨S4096x4096, .f32⟩
  | .hbm, ⟨43, _⟩ => ⟨S4096x4096, .f32⟩
  | .hbm, ⟨44, _⟩ => ⟨S1x4096, .f32⟩
  | .hbm, ⟨45, _⟩ => ⟨S4096x4096, .f32⟩
  | .hbm, ⟨46, _⟩ => ⟨S4096x4096, .f32⟩
  | .hbm, ⟨47, _⟩ => ⟨S_, .f32⟩
  | .hbm, ⟨48, _⟩ => ⟨S1x4096, .f32⟩
  | .hbm, ⟨49, _⟩ => ⟨S1x4096, .f32⟩
  | .hbm, ⟨50, _⟩ => ⟨S4096x4096, .f32⟩
  | .hbm, ⟨51, _⟩ => ⟨S4096x4096, .f32⟩
  | .hbm, ⟨52, _⟩ => ⟨S4096x4096, .f32⟩
  | .hbm, ⟨53, _⟩ => ⟨S4096x4096, .f32⟩
  | .hbm, ⟨54, _⟩ => ⟨S4096x4096, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_6 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩

abbrev nD : Nat := 1
abbrev τ : Topo := Topo.v7x

variable {F : FTy → Type} [FloatOps F]
-- ==== Kernel18.lean ====
abbrev S4096x4096 : Shape := ⟨2, ![4096, 4096]⟩
abbrev S1x4096 : Shape := ⟨2, ![1, 4096]⟩
abbrev S128x4096 : Shape := ⟨2, ![128, 4096]⟩

abbrev nBuf : Space → Nat
  | .hbm => 4
  | .vmem => 6
  | .smem => 0
  | _ => 0

abbrev bufTy : (tb : Table) → Fin (tcTables nBuf tb) → BufTy
  | .hbm, ⟨0, _⟩ => ⟨S4096x4096, .f32⟩
  | .hbm, ⟨1, _⟩ => ⟨S1x4096, .f32⟩
  | .hbm, ⟨2, _⟩ => ⟨S1x4096, .f32⟩
  | .hbm, ⟨3, _⟩ => ⟨S4096x4096, .bf16⟩
  | .local _ .vmem, ⟨0, _⟩ => ⟨S128x4096, .f32⟩
  | .local _ .vmem, ⟨1, _⟩ => ⟨S128x4096, .f32⟩
  | .local _ .vmem, ⟨2, _⟩ => ⟨S1x4096, .f32⟩
  | .local _ .vmem, ⟨3, _⟩ => ⟨S1x4096, .f32⟩
  | .local _ .vmem, ⟨4, _⟩ => ⟨S128x4096, .bf16⟩
  | .local _ .vmem, ⟨5, _⟩ => ⟨S128x4096, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference18Ideal.lean ====
abbrev S4096x4096 : Shape := ⟨2, ![4096, 4096]⟩
abbrev S1x4096 : Shape := ⟨2, ![1, 4096]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S1x4096, .f32⟩
  | .hbm, ⟨2, _⟩ => ⟨S1x4096, .f32⟩
  | .hbm, ⟨3, _⟩ => ⟨S_, .f32⟩
  | .hbm, ⟨4, _⟩ => ⟨S1x4096, .f32⟩
  | .hbm, ⟨5, _⟩ => ⟨S1x4096, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S4096x4096, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel19.lean ====
abbrev S4096x12800 : Shape := ⟨2, ![4096, 12800]⟩
abbrev S5x4096 : Shape := ⟨2, ![5, 4096]⟩
abbrev S1x4096 : Shape := ⟨2, ![1, 4096]⟩
abbrev S4096x4096 : Shape := ⟨2, ![4096, 4096]⟩
abbrev S8x2048 : Shape := ⟨2, ![8, 2048]⟩
abbrev S256x2048 : Shape := ⟨2, ![256, 2048]⟩
abbrev S256x4096 : Shape := ⟨2, ![256, 4096]⟩
abbrev S272x2048 : Shape := ⟨2, ![272, 2048]⟩
abbrev S5x2048 : Shape := ⟨2, ![5, 2048]⟩
abbrev S1x2048 : Shape := ⟨2, ![1, 2048]⟩

abbrev nBuf : Space → Nat
  | .hbm => 4
  | .vmem => 16
  | .smem => 0
  | _ => 0

abbrev bufTy : (tb : Table) → Fin (tcTables nBuf tb) → BufTy
  | .hbm, ⟨0, _⟩ => ⟨S4096x12800, .f32⟩
  | .hbm, ⟨1, _⟩ => ⟨S5x4096, .f32⟩
  | .hbm, ⟨2, _⟩ => ⟨S1x4096, .f32⟩
  | .hbm, ⟨3, _⟩ => ⟨S4096x4096, .f32⟩
  | .local _ .vmem, ⟨0, _⟩ => ⟨S8x2048, .f32⟩
  | .local _ .vmem, ⟨1, _⟩ => ⟨S8x2048, .f32⟩
  | .local _ .vmem, ⟨2, _⟩ => ⟨S256x2048, .f32⟩
  | .local _ .vmem, ⟨3, _⟩ => ⟨S256x2048, .f32⟩
  | .local _ .vmem, ⟨4, _⟩ => ⟨S8x2048, .f32⟩
  | .local _ .vmem, ⟨5, _⟩ => ⟨S8x2048, .f32⟩
  | .local _ .vmem, ⟨6, _⟩ => ⟨S8x2048, .f32⟩
  | .local _ .vmem, ⟨7, _⟩ => ⟨S8x2048, .f32⟩
  | .local _ .vmem, ⟨8, _⟩ => ⟨S256x2048, .f32⟩
  | .local _ .vmem, ⟨9, _⟩ => ⟨S256x2048, .f32⟩
  | .local _ .vmem, ⟨10, _⟩ => ⟨S8x2048, .f32⟩
  | .local _ .vmem, ⟨11, _⟩ => ⟨S8x2048, .f32⟩
  | .local _ .vmem, ⟨12, _⟩ => ⟨S5x4096, .f32⟩
  | .local _ .vmem, ⟨13, _⟩ => ⟨S1x4096, .f32⟩
  | .local _ .vmem, ⟨14, _⟩ => ⟨S256x4096, .f32⟩
  | .local _ .vmem, ⟨15, _⟩ => ⟨S256x4096, .f32⟩
  | _, _ => ⟨S4096x12800, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_4 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c511_i32 : BitVec 32 := 511#32
  let v2 : BitVec 32 := Scalar.minsi v1 c511_i32
  let c1_i32_0 : BitVec 32 := 1#32
  let c0_i32 : BitVec 32 := 0#32
  ![v2.toNat, c1_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S5x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x4096 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference19Ideal.lean ====
abbrev S4096x12800 : Shape := ⟨2, ![4096, 12800]⟩
abbrev S5x4096 : Shape := ⟨2, ![5, 4096]⟩
abbrev S1x4096 : Shape := ⟨2, ![1, 4096]⟩
abbrev S_ : Shape := ⟨0, ![]⟩
abbrev S2x4096 : Shape := ⟨2, ![2, 4096]⟩
abbrev S4096x4096 : Shape := ⟨2, ![4096, 4096]⟩
abbrev S4100x4096 : Shape := ⟨2, ![4100, 4096]⟩
abbrev S4096 : Shape := ⟨1, ![4096]⟩

abbrev nBuf : Space → Nat
  | .hbm => 54
  | .vmem => 0
  | .smem => 0
  | _ => 0

abbrev bufTy : (tb : Table) → Fin (tcTables nBuf tb) → BufTy
  | .hbm, ⟨0, _⟩ => ⟨S4096x12800, .f32⟩
  | .hbm, ⟨1, _⟩ => ⟨S5x4096, .f32⟩
  | .hbm, ⟨2, _⟩ => ⟨S1x4096, .f32⟩
  | .hbm, ⟨3, _⟩ => ⟨S_, .f32⟩
  | .hbm, ⟨4, _⟩ => ⟨S2x4096, .f32⟩
  | .hbm, ⟨5, _⟩ => ⟨S4096x4096, .f32⟩
  | .hbm, ⟨6, _⟩ => ⟨S_, .f32⟩
  | .hbm, ⟨7, _⟩ => ⟨S2x4096, .f32⟩
  | .hbm, ⟨8, _⟩ => ⟨S4100x4096, .f32⟩
  | .hbm, ⟨9, _⟩ => ⟨S4096x4096, .f32⟩
  | .hbm, ⟨10, _⟩ => ⟨S1x4096, .f32⟩
  | .hbm, ⟨11, _⟩ => ⟨S4096, .f32⟩
  | .hbm, ⟨12, _⟩ => ⟨S1x4096, .f32⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S1x4096, .f32⟩
  | .hbm, ⟨17, _⟩ => ⟨S4096, .f32⟩
  | .hbm, ⟨18, _⟩ => ⟨S1x4096, .f32⟩
  | .hbm, ⟨19, _⟩ => ⟨S4096x4096, .f32⟩
  | .hbm, ⟨20, _⟩ => ⟨S4096x4096, .f32⟩
  | .hbm, ⟨21, _⟩ => ⟨S4096x4096, .f32⟩
  | .hbm, ⟨22, _⟩ => ⟨S4096x4096, .f32⟩
  | .hbm, ⟨23, _⟩ => ⟨S1x4096, .f32⟩
  | .hbm, ⟨24, _⟩ => ⟨S4096, .f32⟩
  | .hbm, ⟨25, _⟩ => ⟨S1x4096, .f32⟩
  | .hbm, ⟨26, _⟩ => ⟨S4096x4096, .f32⟩
  | .hbm, ⟨27, _⟩ => ⟨S4096x4096, .f32⟩
  | .hbm, ⟨28, _⟩ => ⟨S4096x4096, .f32⟩
  | .hbm, ⟨29, _⟩ => ⟨S4096x4096, .f32⟩
  | .hbm, ⟨30, _⟩ => ⟨S1x4096, .f32⟩
  | .hbm, ⟨31, _⟩ => ⟨S4096, .f32⟩
  | .hbm, ⟨32, _⟩ => ⟨S1x4096, .f32⟩
  | .hbm, ⟨33, _⟩ => ⟨S4096x4096, .f32⟩
  | .hbm, ⟨34, _⟩ => ⟨S4096x4096, .f32⟩
  | .hbm, ⟨35, _⟩ => ⟨S4096x4096, .f32⟩
  | .hbm, ⟨36, _⟩ => ⟨S4096x4096, .f32⟩
  | .hbm, ⟨37, _⟩ => ⟨S1x4096, .f32⟩
  | .hbm, ⟨38, _⟩ => ⟨S4096, .f32⟩
  | .hbm, ⟨39, _⟩ => ⟨S1x4096, .f32⟩
  | .hbm, ⟨40, _⟩ => ⟨S4096x4096, .f32⟩
  | .hbm, ⟨41, _⟩ => ⟨S4096x4096, .f32⟩
  | .hbm, ⟨42, _⟩ => ⟨S4096x4096, .f32⟩
  | .hbm, ⟨43, _⟩ => ⟨S4096x4096, .f32⟩
  | .hbm, ⟨44, _⟩ => ⟨S4096x4096, .f32⟩
  | .hbm, ⟨45, _⟩ => ⟨S4096x4096, .f32⟩
  | .hbm, ⟨46, _⟩ => ⟨S4096x4096, .f32⟩
  | .hbm, ⟨47, _⟩ => ⟨S_, .f32⟩
  | .hbm, ⟨48, _⟩ => ⟨S4096x4096, .f32⟩
  | .hbm, ⟨49, _⟩ => ⟨S4096x4096, .f32⟩
  | .hbm, ⟨50, _⟩ => ⟨S_, .f32⟩
  | .hbm, ⟨51, _⟩ => ⟨S4096x4096, .f32⟩
  | .hbm, ⟨52, _⟩ => ⟨S4096x4096, .f32⟩
  | .hbm, ⟨53, _⟩ => ⟨S4096x4096, .f32⟩
  | _, _ => ⟨S4096x12800, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_call0_v0 : Ref sig .tc := ⟨.hbm, 45, rfl⟩
abbrev main_call0_v1 : Ref sig .tc := ⟨.hbm, 46, rfl⟩
abbrev main_call0_cst : Ref sig .tc := ⟨.hbm, 47, rfl⟩
abbrev main_call0_v2 : Ref sig .tc := ⟨.hbm, 48, rfl⟩
abbrev main_call0_v3 : Ref sig .tc := ⟨.hbm, 49, rfl⟩
abbrev main_call0_cst_0 : Ref sig .tc := ⟨.hbm, 50, rfl⟩
abbrev main_call0_v4 : Ref sig .tc := ⟨.hbm, 51, rfl⟩
abbrev main_call0_v5 : Ref sig .tc := ⟨.hbm, 52, rfl⟩
abbrev main_v40 : Ref sig .tc := ⟨.hbm, 53, rfl⟩

abbrev nD : Nat := 1
abbrev τ : Topo := Topo.v7x

variable {F : FTy → Type} [FloatOps F]
-- ==== Kernel20.lean ====
abbrev S4096x3088 : Shape := ⟨2, ![4096, 3088]⟩
abbrev S64x3088 : Shape := ⟨2, ![64, 3088]⟩

abbrev nBuf : Space → Nat
  | .hbm => 8
  | .vmem => 16
  | .smem => 0
  | _ => 0

abbrev bufTy : (tb : Table) → Fin (tcTables nBuf tb) → BufTy
  | .hbm, ⟨0, _⟩ => ⟨S4096x3088, .f32⟩
  | .hbm, ⟨1, _⟩ => ⟨S4096x3088, .f32⟩
  | .hbm, ⟨2, _⟩ => ⟨S4096x3088, .f32⟩
  | .hbm, ⟨3, _⟩ => ⟨S4096x3088, .f32⟩
  | .hbm, ⟨4, _⟩ => ⟨S4096x3088, .f32⟩
  | .hbm, ⟨5, _⟩ => ⟨S4096x3088, .f32⟩
  | .hbm, ⟨6, _⟩ => ⟨S4096x3088, .f32⟩
  | .hbm, ⟨7, _⟩ => ⟨S4096x3088, .f32⟩
  | .local _ .vmem, ⟨0, _⟩ => ⟨S64x3088, .f32⟩
  | .local _ .vmem, ⟨1, _⟩ => ⟨S64x3088, .f32⟩
  | .local _ .vmem, ⟨2, _⟩ => ⟨S64x3088, .f32⟩
  | .local _ .vmem, ⟨3, _⟩ => ⟨S64x3088, .f32⟩
  | .local _ .vmem, ⟨4, _⟩ => ⟨S64x3088, .f32⟩
  | .local _ .vmem, ⟨5, _⟩ => ⟨S64x3088, .f32⟩
  | .local _ .vmem, ⟨6, _⟩ => ⟨S64x3088, .f32⟩
  | .local _ .vmem, ⟨7, _⟩ => ⟨S64x3088, .f32⟩
  | .local _ .vmem, ⟨8, _⟩ => ⟨S64x3088, .f32⟩
  | .local _ .vmem, ⟨9, _⟩ => ⟨S64x3088, .f32⟩
  | .local _ .vmem, ⟨10, _⟩ => ⟨S64x3088, .f32⟩
  | .local _ .vmem, ⟨11, _⟩ => ⟨S64x3088, .f32⟩
  | .local _ .vmem, ⟨12, _⟩ => ⟨S64x3088, .f32⟩
  | .local _ .vmem, ⟨13, _⟩ => ⟨S64x3088, .f32⟩
  | .local _ .vmem, ⟨14, _⟩ => ⟨S64x3088, .f32⟩
  | .local _ .vmem, ⟨15, _⟩ => ⟨S64x3088, .f32⟩
  | _, _ => ⟨S4096x3088, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x3088 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x3088 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x3088 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x3088 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x3088 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x3088 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x3088 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x3088 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel20Ideal.lean ====
abbrev S4096x3088 : Shape := ⟨2, ![4096, 3088]⟩
abbrev S64x3088 : Shape := ⟨2, ![64, 3088]⟩

abbrev nBuf : Space → Nat
  | .hbm => 8
  | .vmem => 16
  | .smem => 0
  | _ => 0

abbrev bufTy : (tb : Table) → Fin (tcTables nBuf tb) → BufTy
  | .hbm, ⟨0, _⟩ => ⟨S4096x3088, .f32⟩
  | .hbm, ⟨1, _⟩ => ⟨S4096x3088, .f32⟩
  | .hbm, ⟨2, _⟩ => ⟨S4096x3088, .f32⟩
  | .hbm, ⟨3, _⟩ => ⟨S4096x3088, .f32⟩
  | .hbm, ⟨4, _⟩ => ⟨S4096x3088, .f32⟩
  | .hbm, ⟨5, _⟩ => ⟨S4096x3088, .f32⟩
  | .hbm, ⟨6, _⟩ => ⟨S4096x3088, .f32⟩
  | .hbm, ⟨7, _⟩ => ⟨S4096x3088, .f32⟩
  | .local _ .vmem, ⟨0, _⟩ => ⟨S64x3088, .f32⟩
  | .local _ .vmem, ⟨1, _⟩ => ⟨S64x3088, .f32⟩
  | .local _ .vmem, ⟨2, _⟩ => ⟨S64x3088, .f32⟩
  | .local _ .vmem, ⟨3, _⟩ => ⟨S64x3088, .f32⟩
  | .local _ .vmem, ⟨4, _⟩ => ⟨S64x3088, .f32⟩
  | .local _ .vmem, ⟨5, _⟩ => ⟨S64x3088, .f32⟩
  | .local _ .vmem, ⟨6, _⟩ => ⟨S64x3088, .f32⟩
  | .local _ .vmem, ⟨7, _⟩ => ⟨S64x3088, .f32⟩
  | .local _ .vmem, ⟨8, _⟩ => ⟨S64x3088, .f32⟩
  | .local _ .vmem, ⟨9, _⟩ => ⟨S64x3088, .f32⟩
  | .local _ .vmem, ⟨10, _⟩ => ⟨S64x3088, .f32⟩
  | .local _ .vmem, ⟨11, _⟩ => ⟨S64x3088, .f32⟩
  | .local _ .vmem, ⟨12, _⟩ => ⟨S64x3088, .f32⟩
  | .local _ .vmem, ⟨13, _⟩ => ⟨S64x3088, .f32⟩
  | .local _ .vmem, ⟨14, _⟩ => ⟨S64x3088, .f32⟩
  | .local _ .vmem, ⟨15, _⟩ => ⟨S64x3088, .f32⟩
  | _, _ => ⟨S4096x3088, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x3088 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x3088 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x3088 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x3088 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x3088 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x3088 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x3088 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x3088 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference20Ideal.lean ====
abbrev S4096x3088 : Shape := ⟨2, ![4096, 3088]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x3088, .f32⟩
  | .hbm, ⟨1, _⟩ => ⟨S4096x3088, .f32⟩
  | .hbm, ⟨2, _⟩ => ⟨S4096x3088, .f32⟩
  | .hbm, ⟨3, _⟩ => ⟨S4096x3088, .f32⟩
  | .hbm, ⟨4, _⟩ => ⟨S_, .f32⟩
  | .hbm, ⟨5, _⟩ => ⟨S4096x3088, .f32⟩
  | .hbm, ⟨6, _⟩ => ⟨S4096x3088, .f32⟩
  | .hbm, ⟨7, _⟩ => ⟨S_, .f32⟩
  | .hbm, ⟨8, _⟩ => ⟨S4096x3088, .f32⟩
  | .hbm, ⟨9, _⟩ => ⟨S4096x3088, .f32⟩
  | .hbm, ⟨10, _⟩ => ⟨S4096x3088, .f32⟩
  | .hbm, ⟨11, _⟩ => ⟨S_, .f32⟩
  | .hbm, ⟨12, _⟩ => ⟨S4096x3088, .f32⟩
  | .hbm, ⟨13, _⟩ => ⟨S4096x3088, .f32⟩
  | .hbm, ⟨14, _⟩ => ⟨S4096x3088, .f32⟩
  | .hbm, ⟨15, _⟩ => ⟨S_, .f32⟩
  | .hbm, ⟨16, _⟩ => ⟨S4096x3088, .f32⟩
  | .hbm, ⟨17, _⟩ => ⟨S4096x3088, .f32⟩
  | .hbm, ⟨18, _⟩ => ⟨S4096x3088, .f32⟩
  | .hbm, ⟨19, _⟩ => ⟨S_, .f32⟩
  | .hbm, ⟨20, _⟩ => ⟨S4096x3088, .f32⟩
  | .hbm, ⟨21, _⟩ => ⟨S4096x3088, .f32⟩
  | .hbm, ⟨22, _⟩ => ⟨S_, .f32⟩
  | .hbm, ⟨23, _⟩ => ⟨S4096x3088, .f32⟩
  | .hbm, ⟨24, _⟩ => ⟨S4096x3088, .f32⟩
  | .hbm, ⟨25, _⟩ => ⟨S4096x3088, .f32⟩
  | .hbm, ⟨26, _⟩ => ⟨S_, .f32⟩
  | .hbm, ⟨27, _⟩ => ⟨S4096x3088, .f32⟩
  | .hbm, ⟨28, _⟩ => ⟨S4096x3088, .f32⟩
  | .hbm, ⟨29, _⟩ => ⟨S4096x3088, .f32⟩
  | .hbm, ⟨30, _⟩ => ⟨S_, .f32⟩
  | .hbm, ⟨31, _⟩ => ⟨S4096x3088, .f32⟩
  | .hbm, ⟨32, _⟩ => ⟨S4096x3088, .f32⟩
  | .hbm, ⟨33, _⟩ => ⟨S4096x3088, .f32⟩
  | .hbm, ⟨34, _⟩ => ⟨S_, .f32⟩
  | .hbm, ⟨35, _⟩ => ⟨S4096x3088, .f32⟩
  | .hbm, ⟨36, _⟩ => ⟨S4096x3088, .f32⟩
  | _, _ => ⟨S4096x3088, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel21.lean ====
abbrev S1024x4096 : Shape := ⟨2, ![1024, 4096]⟩
abbrev S64x4096 : Shape := ⟨2, ![64, 4096]⟩

abbrev nBuf : Space → Nat
  | .hbm => 8
  | .vmem => 16
  | .smem => 0
  | _ => 0

abbrev bufTy : (tb : Table) → Fin (tcTables nBuf tb) → BufTy
  | .hbm, ⟨0, _⟩ => ⟨S1024x4096, .f32⟩
  | .hbm, ⟨1, _⟩ => ⟨S1024x4096, .f32⟩
  | .hbm, ⟨2, _⟩ => ⟨S1024x4096, .f32⟩
  | .hbm, ⟨3, _⟩ => ⟨S1024x4096, .f32⟩
  | .hbm, ⟨4, _⟩ => ⟨S1024x4096, .f32⟩
  | .hbm, ⟨5, _⟩ => ⟨S1024x4096, .f32⟩
  | .hbm, ⟨6, _⟩ => ⟨S1024x4096, .f32⟩
  | .hbm, ⟨7, _⟩ => ⟨S1024x4096, .f32⟩
  | .local _ .vmem, ⟨0, _⟩ => ⟨S64x4096, .f32⟩
  | .local _ .vmem, ⟨1, _⟩ => ⟨S64x4096, .f32⟩
  | .local _ .vmem, ⟨2, _⟩ => ⟨S64x4096, .f32⟩
  | .local _ .vmem, ⟨3, _⟩ => ⟨S64x4096, .f32⟩
  | .local _ .vmem, ⟨4, _⟩ => ⟨S64x4096, .f32⟩
  | .local _ .vmem, ⟨5, _⟩ => ⟨S64x4096, .f32⟩
  | .local _ .vmem, ⟨6, _⟩ => ⟨S64x4096, .f32⟩
  | .local _ .vmem, ⟨7, _⟩ => ⟨S64x4096, .f32⟩
  | .local _ .vmem, ⟨8, _⟩ => ⟨S64x4096, .f32⟩
  | .local _ .vmem, ⟨9, _⟩ => ⟨S64x4096, .f32⟩
  | .local _ .vmem, ⟨10, _⟩ => ⟨S64x4096, .f32⟩
  | .local _ .vmem, ⟨11, _⟩ => ⟨S64x4096, .f32⟩
  | .local _ .vmem, ⟨12, _⟩ => ⟨S64x4096, .f32⟩
  | .local _ .vmem, ⟨13, _⟩ => ⟨S64x4096, .f32⟩
  | .local _ .vmem, ⟨14, _⟩ => ⟨S64x4096, .f32⟩
  | .local _ .vmem, ⟨15, _⟩ => ⟨S64x4096, .f32⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel21Ideal.lean ====
abbrev S1024x4096 : Shape := ⟨2, ![1024, 4096]⟩
abbrev S64x4096 : Shape := ⟨2, ![64, 4096]⟩

abbrev nBuf : Space → Nat
  | .hbm => 8
  | .vmem => 16
  | .smem => 0
  | _ => 0

abbrev bufTy : (tb : Table) → Fin (tcTables nBuf tb) → BufTy
  | .hbm, ⟨0, _⟩ => ⟨S1024x4096, .f32⟩
  | .hbm, ⟨1, _⟩ => ⟨S1024x4096, .f32⟩
  | .hbm, ⟨2, _⟩ => ⟨S1024x4096, .f32⟩
  | .hbm, ⟨3, _⟩ => ⟨S1024x4096, .f32⟩
  | .hbm, ⟨4, _⟩ => ⟨S1024x4096, .f32⟩
  | .hbm, ⟨5, _⟩ => ⟨S1024x4096, .f32⟩
  | .hbm, ⟨6, _⟩ => ⟨S1024x4096, .f32⟩
  | .hbm, ⟨7, _⟩ => ⟨S1024x4096, .f32⟩
  | .local _ .vmem, ⟨0, _⟩ => ⟨S64x4096, .f32⟩
  | .local _ .vmem, ⟨1, _⟩ => ⟨S64x4096, .f32⟩
  | .local _ .vmem, ⟨2, _⟩ => ⟨S64x4096, .f32⟩
  | .local _ .vmem, ⟨3, _⟩ => ⟨S64x4096, .f32⟩
  | .local _ .vmem, ⟨4, _⟩ => ⟨S64x4096, .f32⟩
  | .local _ .vmem, ⟨5, _⟩ => ⟨S64x4096, .f32⟩
  | .local _ .vmem, ⟨6, _⟩ => ⟨S64x4096, .f32⟩
  | .local _ .vmem, ⟨7, _⟩ => ⟨S64x4096, .f32⟩
  | .local _ .vmem, ⟨8, _⟩ => ⟨S64x4096, .f32⟩
  | .local _ .vmem, ⟨9, _⟩ => ⟨S64x4096, .f32⟩
  | .local _ .vmem, ⟨10, _⟩ => ⟨S64x4096, .f32⟩
  | .local _ .vmem, ⟨11, _⟩ => ⟨S64x4096, .f32⟩
  | .local _ .vmem, ⟨12, _⟩ => ⟨S64x4096, .f32⟩
  | .local _ .vmem, ⟨13, _⟩ => ⟨S64x4096, .f32⟩
  | .local _ .vmem, ⟨14, _⟩ => ⟨S64x4096, .f32⟩
  | .local _ .vmem, ⟨15, _⟩ => ⟨S64x4096, .f32⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference21Ideal.lean ====
abbrev S1024x4096 : Shape := ⟨2, ![1024, 4096]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x4096, .f32⟩
  | .hbm, ⟨1, _⟩ => ⟨S1024x4096, .f32⟩
  | .hbm, ⟨2, _⟩ => ⟨S1024x4096, .f32⟩
  | .hbm, ⟨3, _⟩ => ⟨S1024x4096, .f32⟩
  | .hbm, ⟨4, _⟩ => ⟨S_, .f32⟩
  | .hbm, ⟨5, _⟩ => ⟨S1024x4096, .f32⟩
  | .hbm, ⟨6, _⟩ => ⟨S1024x4096, .f32⟩
  | .hbm, ⟨7, _⟩ => ⟨S_, .f32⟩
  | .hbm, ⟨8, _⟩ => ⟨S1024x4096, .f32⟩
  | .hbm, ⟨9, _⟩ => ⟨S1024x4096, .f32⟩
  | .hbm, ⟨10, _⟩ => ⟨S1024x4096, .f32⟩
  | .hbm, ⟨11, _⟩ => ⟨S_, .f32⟩
  | .hbm, ⟨12, _⟩ => ⟨S1024x4096, .f32⟩
  | .hbm, ⟨13, _⟩ => ⟨S1024x4096, .f32⟩
  | .hbm, ⟨14, _⟩ => ⟨S1024x4096, .f32⟩
  | .hbm, ⟨15, _⟩ => ⟨S_, .f32⟩
  | .hbm, ⟨16, _⟩ => ⟨S1024x4096, .f32⟩
  | .hbm, ⟨17, _⟩ => ⟨S1024x4096, .f32⟩
  | .hbm, ⟨18, _⟩ => ⟨S1024x4096, .f32⟩
  | .hbm, ⟨19, _⟩ => ⟨S_, .f32⟩
  | .hbm, ⟨20, _⟩ => ⟨S1024x4096, .f32⟩
  | .hbm, ⟨21, _⟩ => ⟨S1024x4096, .f32⟩
  | .hbm, ⟨22, _⟩ => ⟨S_, .f32⟩
  | .hbm, ⟨23, _⟩ => ⟨S1024x4096, .f32⟩
  | .hbm, ⟨24, _⟩ => ⟨S1024x4096, .f32⟩
  | .hbm, ⟨25, _⟩ => ⟨S1024x4096, .f32⟩
  | .hbm, ⟨26, _⟩ => ⟨S_, .f32⟩
  | .hbm, ⟨27, _⟩ => ⟨S1024x4096, .f32⟩
  | .hbm, ⟨28, _⟩ => ⟨S1024x4096, .f32⟩
  | .hbm, ⟨29, _⟩ => ⟨S1024x4096, .f32⟩
  | .hbm, ⟨30, _⟩ => ⟨S_, .f32⟩
  | .hbm, ⟨31, _⟩ => ⟨S1024x4096, .f32⟩
  | .hbm, ⟨32, _⟩ => ⟨S1024x4096, .f32⟩
  | .hbm, ⟨33, _⟩ => ⟨S1024x4096, .f32⟩
  | .hbm, ⟨34, _⟩ => ⟨S_, .f32⟩
  | .hbm, ⟨35, _⟩ => ⟨S1024x4096, .f32⟩
  | .hbm, ⟨36, _⟩ => ⟨S1024x4096, .f32⟩
  | _, _ => ⟨S1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel22.lean ====
abbrev S4096x4096 : Shape := ⟨2, ![4096, 4096]⟩
abbrev S64x4096 : Shape := ⟨2, ![64, 4096]⟩

abbrev nBuf : Space → Nat
  | .hbm => 8
  | .vmem => 16
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x4096, .f32⟩
  | .local _ .vmem, ⟨0, _⟩ => ⟨S64x4096, .f32⟩
  | .local _ .vmem, ⟨1, _⟩ => ⟨S64x4096, .f32⟩
  | .local _ .vmem, ⟨2, _⟩ => ⟨S64x4096, .f32⟩
  | .local _ .vmem, ⟨3, _⟩ => ⟨S64x4096, .f32⟩
  | .local _ .vmem, ⟨4, _⟩ => ⟨S64x4096, .f32⟩
  | .local _ .vmem, ⟨5, _⟩ => ⟨S64x4096, .f32⟩
  | .local _ .vmem, ⟨6, _⟩ => ⟨S64x4096, .f32⟩
  | .local _ .vmem, ⟨7, _⟩ => ⟨S64x4096, .f32⟩
  | .local _ .vmem, ⟨8, _⟩ => ⟨S64x4096, .f32⟩
  | .local _ .vmem, ⟨9, _⟩ => ⟨S64x4096, .f32⟩
  | .local _ .vmem, ⟨10, _⟩ => ⟨S64x4096, .f32⟩
  | .local _ .vmem, ⟨11, _⟩ => ⟨S64x4096, .f32⟩
  | .local _ .vmem, ⟨12, _⟩ => ⟨S64x4096, .f32⟩
  | .local _ .vmem, ⟨13, _⟩ => ⟨S64x4096, .f32⟩
  | .local _ .vmem, ⟨14, _⟩ => ⟨S64x4096, .f32⟩
  | .local _ .vmem, ⟨15, _⟩ => ⟨S64x4096, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference22Ideal.lean ====
abbrev S4096x4096 : Shape := ⟨2, ![4096, 4096]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S_, .f32⟩
  | .hbm, ⟨5, _⟩ => ⟨S4096x4096, .f32⟩
  | .hbm, ⟨6, _⟩ => ⟨S4096x4096, .f32⟩
  | .hbm, ⟨7, _⟩ => ⟨S_, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S_, .f32⟩
  | .hbm, ⟨12, _⟩ => ⟨S4096x4096, .f32⟩
  | .hbm, ⟨13, _⟩ => ⟨S4096x4096, .f32⟩
  | .hbm, ⟨14, _⟩ => ⟨S4096x4096, .f32⟩
  | .hbm, ⟨15, _⟩ => ⟨S_, .f32⟩
  | .hbm, ⟨16, _⟩ => ⟨S4096x4096, .f32⟩
  | .hbm, ⟨17, _⟩ => ⟨S4096x4096, .f32⟩
  | .hbm, ⟨18, _⟩ => ⟨S4096x4096, .f32⟩
  | .hbm, ⟨19, _⟩ => ⟨S_, .f32⟩
  | .hbm, ⟨20, _⟩ => ⟨S4096x4096, .f32⟩
  | .hbm, ⟨21, _⟩ => ⟨S4096x4096, .f32⟩
  | .hbm, ⟨22, _⟩ => ⟨S_, .f32⟩
  | .hbm, ⟨23, _⟩ => ⟨S4096x4096, .f32⟩
  | .hbm, ⟨24, _⟩ => ⟨S4096x4096, .f32⟩
  | .hbm, ⟨25, _⟩ => ⟨S4096x4096, .f32⟩
  | .hbm, ⟨26, _⟩ => ⟨S_, .f32⟩
  | .hbm, ⟨27, _⟩ => ⟨S4096x4096, .f32⟩
  | .hbm, ⟨28, _⟩ => ⟨S4096x4096, .f32⟩
  | .hbm, ⟨29, _⟩ => ⟨S4096x4096, .f32⟩
  | .hbm, ⟨30, _⟩ => ⟨S_, .f32⟩
  | .hbm, ⟨31, _⟩ => ⟨S4096x4096, .f32⟩
  | .hbm, ⟨32, _⟩ => ⟨S4096x4096, .f32⟩
  | .hbm, ⟨33, _⟩ => ⟨S4096x4096, .f32⟩
  | .hbm, ⟨34, _⟩ => ⟨S_, .f32⟩
  | .hbm, ⟨35, _⟩ => ⟨S4096x4096, .f32⟩
  | .hbm, ⟨36, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel23.lean ====
abbrev S448x128 : Shape := ⟨2, ![448, 128]⟩

abbrev nBuf : Space → Nat
  | .hbm => 7
  | .vmem => 7
  | .smem => 0
  | _ => 0

abbrev bufTy : (tb : Table) → Fin (tcTables nBuf tb) → BufTy
  | .hbm, ⟨0, _⟩ => ⟨S448x128, .f32⟩
  | .hbm, ⟨1, _⟩ => ⟨S448x128, .f32⟩
  | .hbm, ⟨2, _⟩ => ⟨S448x128, .f32⟩
  | .hbm, ⟨3, _⟩ => ⟨S448x128, .f32⟩
  | .hbm, ⟨4, _⟩ => ⟨S448x128, .f32⟩
  | .hbm, ⟨5, _⟩ => ⟨S448x128, .f32⟩
  | .hbm, ⟨6, _⟩ => ⟨S448x128, .f32⟩
  | .local _ .vmem, ⟨0, _⟩ => ⟨S448x128, .f32⟩
  | .local _ .vmem, ⟨1, _⟩ => ⟨S448x128, .f32⟩
  | .local _ .vmem, ⟨2, _⟩ => ⟨S448x128, .f32⟩
  | .local _ .vmem, ⟨3, _⟩ => ⟨S448x128, .f32⟩
  | .local _ .vmem, ⟨4, _⟩ => ⟨S448x128, .f32⟩
  | .local _ .vmem, ⟨5, _⟩ => ⟨S448x128, .f32⟩
  | .local _ .vmem, ⟨6, _⟩ => ⟨S448x128, .f32⟩
  | _, _ => ⟨S448x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S448x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S448x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S448x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S448x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S448x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S448x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S448x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference23Ideal.lean ====
abbrev S448x128 : Shape := ⟨2, ![448, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S448x128, .f32⟩
  | .hbm, ⟨1, _⟩ => ⟨S448x128, .f32⟩
  | .hbm, ⟨2, _⟩ => ⟨S448x128, .f32⟩
  | .hbm, ⟨3, _⟩ => ⟨S448x128, .f32⟩
  | .hbm, ⟨4, _⟩ => ⟨S_, .f32⟩
  | .hbm, ⟨5, _⟩ => ⟨S448x128, .f32⟩
  | .hbm, ⟨6, _⟩ => ⟨S448x128, .f32⟩
  | .hbm, ⟨7, _⟩ => ⟨S_, .f32⟩
  | .hbm, ⟨8, _⟩ => ⟨S448x128, .f32⟩
  | .hbm, ⟨9, _⟩ => ⟨S448x128, .f32⟩
  | .hbm, ⟨10, _⟩ => ⟨S448x128, .f32⟩
  | .hbm, ⟨11, _⟩ => ⟨S_, .f32⟩
  | .hbm, ⟨12, _⟩ => ⟨S448x128, .f32⟩
  | .hbm, ⟨13, _⟩ => ⟨S448x128, .f32⟩
  | .hbm, ⟨14, _⟩ => ⟨S448x128, .f32⟩
  | .hbm, ⟨15, _⟩ => ⟨S_, .f32⟩
  | .hbm, ⟨16, _⟩ => ⟨S448x128, .f32⟩
  | .hbm, ⟨17, _⟩ => ⟨S448x128, .f32⟩
  | .hbm, ⟨18, _⟩ => ⟨S448x128, .f32⟩
  | .hbm, ⟨19, _⟩ => ⟨S_, .f32⟩
  | .hbm, ⟨20, _⟩ => ⟨S448x128, .f32⟩
  | .hbm, ⟨21, _⟩ => ⟨S448x128, .f32⟩
  | .hbm, ⟨22, _⟩ => ⟨S_, .f32⟩
  | .hbm, ⟨23, _⟩ => ⟨S448x128, .f32⟩
  | .hbm, ⟨24, _⟩ => ⟨S448x128, .f32⟩
  | .hbm, ⟨25, _⟩ => ⟨S448x128, .f32⟩
  | .hbm, ⟨26, _⟩ => ⟨S_, .f32⟩
  | .hbm, ⟨27, _⟩ => ⟨S448x128, .f32⟩
  | .hbm, ⟨28, _⟩ => ⟨S448x128, .f32⟩
  | .hbm, ⟨29, _⟩ => ⟨S448x128, .f32⟩
  | .hbm, ⟨30, _⟩ => ⟨S_, .f32⟩
  | .hbm, ⟨31, _⟩ => ⟨S448x128, .f32⟩
  | .hbm, ⟨32, _⟩ => ⟨S448x128, .f32⟩
  | .hbm, ⟨33, _⟩ => ⟨S448x128, .f32⟩
  | .hbm, ⟨34, _⟩ => ⟨S_, .f32⟩
  | .hbm, ⟨35, _⟩ => ⟨S448x128, .f32⟩
  | .hbm, ⟨36, _⟩ => ⟨S448x128, .f32⟩
  | _, _ => ⟨S448x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel24.lean ====
abbrev S4096x6144 : Shape := ⟨2, ![4096, 6144]⟩
abbrev S4096x16 : Shape := ⟨2, ![4096, 16]⟩
abbrev S16x6144 : Shape := ⟨2, ![16, 6144]⟩
abbrev S32x6144 : Shape := ⟨2, ![32, 6144]⟩
abbrev S32x16 : Shape := ⟨2, ![32, 16]⟩

abbrev nBuf : Space → Nat
  | .hbm => 9
  | .vmem => 17
  | .smem => 0
  | _ => 0

abbrev bufTy : (tb : Table) → Fin (tcTables nBuf tb) → BufTy
  | .hbm, ⟨0, _⟩ => ⟨S4096x6144, .f32⟩
  | .hbm, ⟨1, _⟩ => ⟨S4096x16, .f32⟩
  | .hbm, ⟨2, _⟩ => ⟨S16x6144, .f32⟩
  | .hbm, ⟨3, _⟩ => ⟨S4096x6144, .f32⟩
  | .hbm, ⟨4, _⟩ => ⟨S4096x6144, .f32⟩
  | .hbm, ⟨5, _⟩ => ⟨S4096x6144, .f32⟩
  | .hbm, ⟨6, _⟩ => ⟨S4096x6144, .f32⟩
  | .hbm, ⟨7, _⟩ => ⟨S4096x6144, .f32⟩
  | .hbm, ⟨8, _⟩ => ⟨S4096x6144, .f32⟩
  | .local _ .vmem, ⟨0, _⟩ => ⟨S32x6144, .f32⟩
  | .local _ .vmem, ⟨1, _⟩ => ⟨S32x6144, .f32⟩
  | .local _ .vmem, ⟨2, _⟩ => ⟨S32x16, .f32⟩
  | .local _ .vmem, ⟨3, _⟩ => ⟨S32x16, .f32⟩
  | .local _ .vmem, ⟨4, _⟩ => ⟨S16x6144, .f32⟩
  | .local _ .vmem, ⟨5, _⟩ => ⟨S32x6144, .f32⟩
  | .local _ .vmem, ⟨6, _⟩ => ⟨S32x6144, .f32⟩
  | .local _ .vmem, ⟨7, _⟩ => ⟨S32x6144, .f32⟩
  | .local _ .vmem, ⟨8, _⟩ => ⟨S32x6144, .f32⟩
  | .local _ .vmem, ⟨9, _⟩ => ⟨S32x6144, .f32⟩
  | .local _ .vmem, ⟨10, _⟩ => ⟨S32x6144, .f32⟩
  | .local _ .vmem, ⟨11, _⟩ => ⟨S32x6144, .f32⟩
  | .local _ .vmem, ⟨12, _⟩ => ⟨S32x6144, .f32⟩
  | .local _ .vmem, ⟨13, _⟩ => ⟨S32x6144, .f32⟩
  | .local _ .vmem, ⟨14, _⟩ => ⟨S32x6144, .f32⟩
  | .local _ .vmem, ⟨15, _⟩ => ⟨S32x6144, .f32⟩
  | .local _ .vmem, ⟨16, _⟩ => ⟨S32x6144, .f32⟩
  | _, _ => ⟨S4096x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x6144 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S32x6144 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x6144 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x6144 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x6144 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x6144 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S32x6144 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference24Ideal.lean ====
abbrev S4096x6144 : Shape := ⟨2, ![4096, 6144]⟩
abbrev S4096x16 : Shape := ⟨2, ![4096, 16]⟩
abbrev S16x6144 : Shape := ⟨2, ![16, 6144]⟩
abbrev S16x4096 : Shape := ⟨2, ![16, 4096]⟩
abbrev S6144x4096 : Shape := ⟨2, ![6144, 4096]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S4096x6144, .f32⟩
  | .hbm, ⟨1, _⟩ => ⟨S4096x16, .f32⟩
  | .hbm, ⟨2, _⟩ => ⟨S16x6144, .f32⟩
  | .hbm, ⟨3, _⟩ => ⟨S4096x6144, .f32⟩
  | .hbm, ⟨4, _⟩ => ⟨S4096x6144, .f32⟩
  | .hbm, ⟨5, _⟩ => ⟨S16x4096, .f32⟩
  | .hbm, ⟨6, _⟩ => ⟨S6144x4096, .f32⟩
  | .hbm, ⟨7, _⟩ => ⟨S4096x6144, .f32⟩
  | .hbm, ⟨8, _⟩ => ⟨S_, .f32⟩
  | .hbm, ⟨9, _⟩ => ⟨S4096x6144, .f32⟩
  | .hbm, ⟨10, _⟩ => ⟨S4096x6144, .f32⟩
  | .hbm, ⟨11, _⟩ => ⟨S_, .f32⟩
  | .hbm, ⟨12, _⟩ => ⟨S4096x6144, .f32⟩
  | .hbm, ⟨13, _⟩ => ⟨S4096x6144, .f32⟩
  | .hbm, ⟨14, _⟩ => ⟨S4096x6144, .f32⟩
  | .hbm, ⟨15, _⟩ => ⟨S_, .f32⟩
  | .hbm, ⟨16, _⟩ => ⟨S4096x6144, .f32⟩
  | .hbm, ⟨17, _⟩ => ⟨S4096x6144, .f32⟩
  | .hbm, ⟨18, _⟩ => ⟨S4096x6144, .f32⟩
  | .hbm, ⟨19, _⟩ => ⟨S_, .f32⟩
  | .hbm, ⟨20, _⟩ => ⟨S4096x6144, .f32⟩
  | .hbm, ⟨21, _⟩ => ⟨S4096x6144, .f32⟩
  | .hbm, ⟨22, _⟩ => ⟨S4096x6144, .f32⟩
  | .hbm, ⟨23, _⟩ => ⟨S_, .f32⟩
  | .hbm, ⟨24, _⟩ => ⟨S4096x6144, .f32⟩
  | .hbm, ⟨25, _⟩ => ⟨S4096x6144, .f32⟩
  | .hbm, ⟨26, _⟩ => ⟨S_, .f32⟩
  | .hbm, ⟨27, _⟩ => ⟨S4096x6144, .f32⟩
  | .hbm, ⟨28, _⟩ => ⟨S4096x6144, .f32⟩
  | .hbm, ⟨29, _⟩ => ⟨S4096x6144, .f32⟩
  | .hbm, ⟨30, _⟩ => ⟨S_, .f32⟩
  | .hbm, ⟨31, _⟩ => ⟨S4096x6144, .f32⟩
  | .hbm, ⟨32, _⟩ => ⟨S4096x6144, .f32⟩
  | .hbm, ⟨33, _⟩ => ⟨S4096x6144, .f32⟩
  | .hbm, ⟨34, _⟩ => ⟨S_, .f32⟩
  | .hbm, ⟨35, _⟩ => ⟨S4096x6144, .f32⟩
  | .hbm, ⟨36, _⟩ => ⟨S4096x6144, .f32⟩
  | .hbm, ⟨37, _⟩ => ⟨S4096x6144, .f32⟩
  | .hbm, ⟨38, _⟩ => ⟨S_, .f32⟩
  | .hbm, ⟨39, _⟩ => ⟨S4096x6144, .f32⟩
  | .hbm, ⟨40, _⟩ => ⟨S4096x6144, .f32⟩
  | _, _ => ⟨S4096x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel25.lean ====
abbrev S16x4096 : Shape := ⟨2, ![16, 4096]⟩
abbrev S4096x6144 : Shape := ⟨2, ![4096, 6144]⟩
abbrev S16x6144 : Shape := ⟨2, ![16, 6144]⟩
abbrev S4096x1024 : Shape := ⟨2, ![4096, 1024]⟩
abbrev S16x1024 : Shape := ⟨2, ![16, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16x4096, .f32⟩
  | .hbm, ⟨1, _⟩ => ⟨S4096x6144, .f32⟩
  | .hbm, ⟨2, _⟩ => ⟨S16x6144, .f32⟩
  | .local _ .vmem, ⟨0, _⟩ => ⟨S16x4096, .f32⟩
  | .local _ .vmem, ⟨1, _⟩ => ⟨S4096x1024, .f32⟩
  | .local _ .vmem, ⟨2, _⟩ => ⟨S4096x1024, .f32⟩
  | .local _ .vmem, ⟨3, _⟩ => ⟨S16x1024, .f32⟩
  | .local _ .vmem, ⟨4, _⟩ => ⟨S16x1024, .f32⟩
  | _, _ => ⟨S16x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S16x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference25Ideal.lean ====
abbrev S16x4096 : Shape := ⟨2, ![16, 4096]⟩
abbrev S4096x6144 : Shape := ⟨2, ![4096, 6144]⟩
abbrev S16x6144 : Shape := ⟨2, ![16, 6144]⟩

abbrev nBuf : Space → Nat
  | .hbm => 3
  | .vmem => 0
  | .smem => 0
  | _ => 0

abbrev bufTy : (tb : Table) → Fin (tcTables nBuf tb) → BufTy
  | .hbm, ⟨0, _⟩ => ⟨S16x4096, .f32⟩
  | .hbm, ⟨1, _⟩ => ⟨S4096x6144, .f32⟩
  | .hbm, ⟨2, _⟩ => ⟨S16x6144, .f32⟩
  | _, _ => ⟨S16x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel26.lean ====
abbrev S4096x128 : Shape := ⟨2, ![4096, 128]⟩
abbrev S4096x12800 : Shape := ⟨2, ![4096, 12800]⟩
abbrev S1x128 : Shape := ⟨2, ![1, 128]⟩
abbrev S1024x128 : Shape := ⟨2, ![1024, 128]⟩
abbrev S1024x512 : Shape := ⟨2, ![1024, 512]⟩
abbrev S1024x384 : Shape := ⟨2, ![1024, 384]⟩
abbrev S128 : Shape := ⟨1, ![128]⟩

abbrev nBuf : Space → Nat
  | .hbm => 6
  | .vmem => 8
  | .smem => 0
  | _ => 0

abbrev bufTy : (tb : Table) → Fin (tcTables nBuf tb) → BufTy
  | .hbm, ⟨0, _⟩ => ⟨S4096x128, .f32⟩
  | .hbm, ⟨1, _⟩ => ⟨S4096x12800, .f32⟩
  | .hbm, ⟨2, _⟩ => ⟨S1x128, .f32⟩
  | .hbm, ⟨3, _⟩ => ⟨S4096x12800, .bf16⟩
  | .hbm, ⟨4, _⟩ => ⟨S4096x12800, .bf16⟩
  | .hbm, ⟨5, _⟩ => ⟨S1x128, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1x128, .f32⟩
  | .local _ .vmem, ⟨5, _⟩ => ⟨S1024x512, .bf16⟩
  | .local _ .vmem, ⟨6, _⟩ => ⟨S1024x512, .bf16⟩
  | .local _ .vmem, ⟨7, _⟩ => ⟨S1x128, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v24 : BitVec 1 := Scalar.cmpi .eq arg0 c0_i32
  let v25 : BitVec 32 := Scalar.extui v24
  let c0_i32_13 : BitVec 32 := 0#32
  let v26 : BitVec 1 := Scalar.cmpi .ne v25 c0_i32_13
  v26

def k0_cond2 (i : grid0.Coords) : BitVec 1 :=
  let arg0 : BitVec 32 := BitVec.ofNat 32 (i 0).val
  let c0_i32_14 : BitVec 32 := 0#32
  let v27 : BitVec 1 := Scalar.cmpi .sgt arg0 c0_i32_14
  let v28 : BitVec 32 := Scalar.extui v27
  let c0_i32_15 : BitVec 32 := 0#32
  let v29 : BitVec 1 := Scalar.cmpi .ne v28 c0_i32_15
  v29

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c96_i32 : BitVec 32 := 96#32
  let c0_i32 : BitVec 32 := 0#32
  ![arg0.toNat, c96_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c24_i32 : BitVec 32 := 24#32
  let c0_i32 : BitVec 32 := 0#32
  ![arg0.toNat, c24_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference26Ideal.lean ====
abbrev S4096x128 : Shape := ⟨2, ![4096, 128]⟩
abbrev S4096x12800 : Shape := ⟨2, ![4096, 12800]⟩
abbrev S1x128 : Shape := ⟨2, ![1, 128]⟩
abbrev S4096x64 : Shape := ⟨2, ![4096, 64]⟩
abbrev S1x64 : Shape := ⟨2, ![1, 64]⟩
abbrev S_ : Shape := ⟨0, ![]⟩
abbrev S64 : Shape := ⟨1, ![64]⟩
abbrev S4096x12288 : Shape := ⟨2, ![4096, 12288]⟩
abbrev S4096x448 : Shape := ⟨2, ![4096, 448]⟩

abbrev nBuf : Space → Nat
  | .hbm => 29
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S4096x12800, .f32⟩
  | .hbm, ⟨2, _⟩ => ⟨S1x128, .f32⟩
  | .hbm, ⟨3, _⟩ => ⟨S4096x12800, .bf16⟩
  | .hbm, ⟨4, _⟩ => ⟨S4096x64, .f32⟩
  | .hbm, ⟨5, _⟩ => ⟨S1x64, .f32⟩
  | .hbm, ⟨6, _⟩ => ⟨S4096x64, .f32⟩
  | .hbm, ⟨7, _⟩ => ⟨S4096x64, .f32⟩
  | .hbm, ⟨8, _⟩ => ⟨S4096x64, .f32⟩
  | .hbm, ⟨9, _⟩ => ⟨S4096x64, .f32⟩
  | .hbm, ⟨10, _⟩ => ⟨S4096x64, .f32⟩
  | .hbm, ⟨11, _⟩ => ⟨S_, .f32⟩
  | .hbm, ⟨12, _⟩ => ⟨S4096x64, .f32⟩
  | .hbm, ⟨13, _⟩ => ⟨S4096x64, .f32⟩
  | .hbm, ⟨14, _⟩ => ⟨S_, .f32⟩
  | .hbm, ⟨15, _⟩ => ⟨S4096x64, .f32⟩
  | .hbm, ⟨16, _⟩ => ⟨S4096x64, .f32⟩
  | .hbm, ⟨17, _⟩ => ⟨S4096x64, .f32⟩
  | .hbm, ⟨18, _⟩ => ⟨S_, .f32⟩
  | .hbm, ⟨19, _⟩ => ⟨S64, .f32⟩
  | .hbm, ⟨20, _⟩ => ⟨S1x64, .f32⟩
  | .hbm, ⟨21, _⟩ => ⟨S4096x12288, .bf16⟩
  | .hbm, ⟨22, _⟩ => ⟨S4096x64, .bf16⟩
  | .hbm, ⟨23, _⟩ => ⟨S_, .bf16⟩
  | .hbm, ⟨24, _⟩ => ⟨S4096x448, .bf16⟩
  | .hbm, ⟨25, _⟩ => ⟨S4096x12800, .bf16⟩
  | .hbm, ⟨26, _⟩ => ⟨S_, .i32⟩
  | .hbm, ⟨27, _⟩ => ⟨S_, .f32⟩
  | .hbm, ⟨28, _⟩ => ⟨S1x128, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_c : Ref sig .tc := ⟨.hbm, 26, rfl⟩
abbrev main_call0_v0 : Ref sig .tc := ⟨.hbm, 27, rfl⟩
abbrev main_v18 : Ref sig .tc := ⟨.hbm, 28, rfl⟩

abbrev nD : Nat := 1
abbrev τ : Topo := Topo.v7x

variable {F : FTy → Type} [FloatOps F]
-- ==== Proof.Body.lean ====
module

public import proofs.«01_k».proof.Proof.Gen.KernelIdeal.Value
public import Idealize.ShloMosaic.Lib.Pipeline.ValueKit

/-! The block that one grid point computes, in plain definitions: each named value is one line of the kernel's body. -/

@[expose] public section

set_option maxRecDepth 16384

noncomputable section

namespace Cert.SC

open Cert.KernelIdeal Cert.KernelIdeal.Gen Idealize.ShloMosaic Idealize.ShloMosaic.TcCoe

variable {F : FTy → Type} [FloatOps F]

theorem slices_group (k : Fin 16) : S272x2048.Slices ![0, 128 * k.val] S272x128 := by
  revert k; decide

/-- Lanes `128 k … 128 k + 127`. -/
def part (v : FVec F S272x2048 .f32) (k : Fin 16) : FVec F S272x128 .f32 :=
  extractStridedSlice S272x128 ![0, 128 * k.val] v (slices_group k)

/-- Sixteen groups side by side. -/
def glue (g : Fin 16 → FVec F S272x128 .f32) : FVec F S272x2048 .f32 :=
  concatenate S272x2048 1 [⟨S272x128, g 0⟩, ⟨S272x128, g 1⟩, ⟨S272x128, g 2⟩, ⟨S272x128, g 3⟩, ⟨S272x128, g 4⟩, ⟨S272x128, g 5⟩, ⟨S272x128, g 6⟩, ⟨S272x128, g 7⟩, ⟨S272x128, g 8⟩, ⟨S272x128, g 9⟩, ⟨S272x128, g 10⟩, ⟨S272x128, g 11⟩, ⟨S272x128, g 12⟩, ⟨S272x128, g 13⟩, ⟨S272x128, g 14⟩, ⟨S272x128, g 15⟩] concatenates_S272x128_S272x128_S272x128_S272x128_S272x128_S272x128_S272x128_S272x128_S272x128_S272x128_S272x128_S272x128_S272x128_S272x128_S272x128_S272x128_S272x2048_d1

/-- The mean of each row of a group. -/
def rowMean (v : FVec F S272x128 .f32) : FVec F S272x1 .f32 :=
  divf (shapeCast S272x1 (multiReduction .add [1] S272 v 0x00000000#32 reduces_S272x128_S272 (.inl rfl) rfl) shapeCasts_S272_S272x1)
    (broadcast S272x1 (Scalar.ofBits .f32 0x43000000#32))

/-- The reciprocal root mean square of each row of a group. -/
def recipRms (v : FVec F S272x128 .f32) : FVec F S272x1 .f32 :=
  rsqrt (addf (rowMean (mulf v v)) (broadcast S272x1 (Scalar.ofBits .f32 0x3727C5AC#32)))

def normed (y : FVec F S272x2048 .f32) : FVec F S272x2048 .f32 :=
  glue fun k => mulf (part y k) (broadcastTo S272x128 (recipRms (part y k)) broadcasts_S272x1_S272x128)

def factors (y : FVec F S272x2048 .f32) : FVec F S272x2048 .f32 :=
  glue fun k => broadcastTo S272x128 (shapeCast S272x1 (recipRms (part y k)) shapeCasts_S272x1_S272x1) broadcasts_S272x1_S272x128

/-- The gradient before the normalisation, from the one after it, `dn`. -/
def normGrad (dn n f : FVec F S272x2048 .f32) : FVec F S272x2048 .f32 :=
  glue fun k => mulf (part f k) (subf (part dn k)
    (mulf (part n k) (broadcastTo S272x128 (rowMean (mulf (part dn k) (part n k))) broadcasts_S272x1_S272x128)))

/-- A tap of the convolution's weight, for every row. -/
def tap0 (w : Vec F S3x2048 .f32) : FVec F S272x2048 .f32 :=
  broadcastTo S272x2048 (extractStridedSlice S1x2048 ![0, 0] w slices_S3x2048_o0_0_S1x2048) broadcasts_S1x2048_S272x2048
def tap1 (w : Vec F S3x2048 .f32) : FVec F S272x2048 .f32 :=
  broadcastTo S272x2048 (extractStridedSlice S1x2048 ![1, 0] w slices_S3x2048_o1_0_S1x2048) broadcasts_S1x2048_S272x2048
def tap2 (w : Vec F S3x2048 .f32) : FVec F S272x2048 .f32 :=
  broadcastTo S272x2048 (extractStridedSlice S1x2048 ![2, 0] w slices_S3x2048_o2_0_S1x2048) broadcasts_S1x2048_S272x2048

/-- Each row reads the row above it. -/
def down (v : FVec F S272x2048 .f32) : FVec F S272x2048 .f32 := dynamicRotate 0 1#32 none v rotates_S272x2048_d0
/-- Each row reads the row below it. -/
def up (v : FVec F S272x2048 .f32) : FVec F S272x2048 .f32 := dynamicRotate 0 271#32 none v rotates_S272x2048_d0

def zeros : FVec F S272x2048 .f32 := broadcast S272x2048 (Scalar.ofBits .f32 0x00000000#32)

def conv (t : FVec F S272x2048 .f32) (w : Vec F S3x2048 .f32) : FVec F S272x2048 .f32 :=
  addf (addf (addf zeros (mulf (down t) (tap0 w))) (mulf t (tap1 w))) (mulf (up t) (tap2 w))

def convGrad (dv : FVec F S272x2048 .f32) (w : Vec F S3x2048 .f32) : FVec F S272x2048 .f32 :=
  addf (addf (addf zeros (mulf (up dv) (tap0 w))) (mulf dv (tap1 w))) (mulf (down dv) (tap2 w))

/-- The tile's own rows, without the halo. -/
def own (v : FVec F S272x2048 .f32) : FVec F S256x2048 .f32 :=
  extractStridedSlice S256x2048 ![8, 0] v slices_S272x2048_o8_0_S256x2048

def colSum (v : FVec F S272x2048 .f32) : FVec F S1x2048 .f32 :=
  shapeCast S1x2048 (multiReduction .add [0] S2048 (own v) 0x00000000#32 reduces_S256x2048_S2048 (.inl rfl) rfl) shapeCasts_S2048_S1x2048

/-- The tile with its halo rows, those outside the sequence being zero. -/
def ext (i : BitVec 32) (a : Vec F S8x2048 .f32) (b : Vec F S256x2048 .f32) (c : Vec F S8x2048 .f32) : FVec F S272x2048 .f32 :=
  k0_pay6 i a b c

/-- What one grid point works from. -/
structure Blk (F : FTy → Type) where
  (d h b c : FVec F S272x2048 .f32)
  (w : Vec F S3x2048 .f32)
  (nw : Vec F S1x2048 .f32)

namespace Blk
variable (K : Blk F)
def t : FVec F S272x2048 .f32 := mulf K.h K.c
def acc : FVec F S272x2048 .f32 := conv K.t K.w
def y : FVec F S272x2048 .f32 := mulf K.b K.acc
def n : FVec F S272x2048 .f32 := normed K.y
def f : FVec F S272x2048 .f32 := factors K.y
def dn : FVec F S272x2048 .f32 := mulf K.d (broadcastTo S272x2048 K.nw broadcasts_S1x2048_S272x2048)
def dy : FVec F S272x2048 .f32 := normGrad K.dn K.n K.f
def dv : FVec F S272x2048 .f32 := mulf K.dy K.b
def dt : FVec F S272x2048 .f32 := convGrad K.dv K.w
def dw : FVec F S1x2048 .f32 := colSum (mulf K.d K.n)
def dcw : FVec F S8x2048 .f32 :=
  concatenate S8x2048 0 [⟨S1x2048, colSum (mulf (down K.t) K.dv)⟩, ⟨S1x2048, colSum (mulf K.t K.dv)⟩, ⟨S1x2048, colSum (mulf (up K.t) K.dv)⟩, ⟨S5x2048, broadcast S5x2048 (Scalar.ofBits .f32 0x00000000#32)⟩] concatenates_S1x2048_S1x2048_S1x2048_S5x2048_S8x2048_d0
def dh : FVec F S256x2048 .bf16 := truncf .bf16 (own (mulf K.dt K.c)) bitsLt_bf16_f32
def db : FVec F S256x2048 .bf16 := truncf .bf16 (own (mulf K.dy K.acc)) bitsLt_bf16_f32
def dc : FVec F S256x2048 .bf16 := truncf .bf16 (own (mulf K.dt K.h)) bitsLt_bf16_f32
/-- The three gradients side by side, as the point stores them. -/
def big : FVec F S256x6144 .bf16 :=
  View.canon (Val := Elt F) (s := S256x6144) (e := .bf16) [⟨Rect.unit (s := S256x6144) ![0, 4096] S256x2048.size inb_S256x6144_S256x2048_0_4096, K.dc⟩,
    ⟨Rect.unit (s := S256x6144) ![0, 0] S256x2048.size inb_S256x6144_S256x2048_0_0, K.dh⟩,
    ⟨Rect.unit (s := S256x6144) ![0, 2048] S256x2048.size inb_S256x6144_S256x2048_0_2048, K.db⟩]
end Blk

variable (m : (ℓ : Loc nD τ sig) → Buf (Elt F) ℓ)

def blk (c : Dev nD) (t : Fin cfg0.N) : Blk F where
  d := ext (BitVec.ofNat 32 (grid0.coords t 0).val) (iblk m c 0 t) (iblk m c 1 t) (iblk m c 2 t)
  h := ext (BitVec.ofNat 32 (grid0.coords t 0).val) (X0_3 m c t) (X0_4 m c t) (X0_5 m c t)
  b := ext (BitVec.ofNat 32 (grid0.coords t 0).val) (X0_6 m c t) (X0_7 m c t) (X0_8 m c t)
  c := ext (BitVec.ofNat 32 (grid0.coords t 0).val) (X0_9 m c t) (X0_10 m c t) (X0_11 m c t)
  w := iblk m c 12 t
  nw := iblk m c 13 t

end Cert.SC
-- ==== Proof.Points.lean ====
module

public import proofs.«01_k».proof.Proof.Body

/-! What each grid point leaves in the three output blocks. -/

@[expose] public section

set_option maxRecDepth 16384

noncomputable section

namespace Cert.SC

open Cert.KernelIdeal Cert.KernelIdeal.Gen Idealize.ShloMosaic Idealize.ShloMosaic.TcCoe

variable {F : FTy → Type} [FloatOps F]
variable (m : (ℓ : Loc nD τ sig) → Buf (Elt F) ℓ) (c : Dev nD) (t : Fin cfg0.N)

abbrev before : t.val - 1 < cfg0.N := Nat.lt_of_le_of_lt (Nat.sub_le _ _) t.isLt

theorem first_or (t : Fin cfg0.N) : (t.val % 16 = 0 ∧ ¬1 ≤ t.val) ∨ (¬t.val % 16 = 0 ∧ 1 ≤ t.val) := by
  have : t.val < 16 := t.isLt
  omega

set_option maxHeartbeats 1600000 in
theorem big_eq : (outsAt0 m c t.val t.isLt).1 = (blk m c t).big := by
  rcases first_or t with ⟨h0, h1⟩ | ⟨h0, h1⟩
  · rw [outsAt0_A m c t h0 h1 h0 h1]
    dsimp only
    frame_out
    rfl
  · rw [outsAt0_B m c t h0 h1 h0 h1]
    dsimp only
    frame_out
    rfl

theorem dw_A (h0 : t.val % 16 = 0) (h1 : ¬1 ≤ t.val) : (outsAt0 m c t.val t.isLt).2.2 = (blk m c t).dw := by
  rw [outsAt0_A m c t h0 h1 h0 h1]
  dsimp only
  frame_out
  rfl

theorem dcw_A (h0 : t.val % 16 = 0) (h1 : ¬1 ≤ t.val) : (outsAt0 m c t.val t.isLt).2.1 = (blk m c t).dcw := by
  rw [outsAt0_A m c t h0 h1 h0 h1]
  dsimp only
  frame_out
  rfl

theorem dw_B (h0 : ¬t.val % 16 = 0) (h1 : 1 ≤ t.val) :
    (outsAt0 m c t.val t.isLt).2.2
      = addf (shapeCast S1x2048 (outsAt0 m c (t.val - 1) (before t)).2.2 shapeCasts_S1x2048_S1x2048) (blk m c t).dw := by
  rw [outsAt0_B m c t h0 h1 h0 h1]
  dsimp only
  frame_out
  rfl

theorem dcw_B (h0 : ¬t.val % 16 = 0) (h1 : 1 ≤ t.val) :
    (outsAt0 m c t.val t.isLt).2.1
      = addf (shapeCast S8x2048 (outsAt0 m c (t.val - 1) (before t)).2.1 shapeCasts_S8x2048_S8x2048) (blk m c t).dcw := by
  rw [outsAt0_B m c t h0 h1 h0 h1]
  dsimp only
  frame_out
  rfl

end Cert.SC
-- ==== Proof.Spec.lean ====
module

public import Idealize.ShloMosaic.PureOps.Ideal
public import Idealize.ShloMosaic.Lib.Pointwise.Index

/-! The gradient of the short-convolution mixer as formulas over the extended reals, a row being any integer (the rows
outside the sequence hold zero). -/

@[expose] public section

noncomputable section

namespace Cert.SC

open Idealize.ShloMosaic

def c128 : EReal := Ideal.ofBits .f32 0x43000000#32
def eps : EReal := Ideal.ofBits .f32 0x3727C5AC#32

def lane (g : Fin 16) (l : Fin 128) : Fin 2048 := ⟨128 * g.val + l.val, by omega⟩
def grp (j : Fin 2048) : Fin 16 := ⟨j.val / 128, by omega⟩
def off (j : Fin 2048) : Fin 128 := ⟨j.val % 128, by omega⟩

theorem lane_grp_off (j : Fin 2048) : lane (grp j) (off j) = j := Fin.ext (by simp only [lane, grp, off]; omega)
theorem grp_lane (g : Fin 16) (l : Fin 128) : grp (lane g l) = g := Fin.ext (by simp only [lane, grp]; omega)
theorem off_lane (g : Fin 16) (l : Fin 128) : off (lane g l) = l := Fin.ext (by simp only [lane, off]; omega)

/-- The reciprocal root mean square of 128 values. -/
def rms (y : Fin 128 → EReal) : EReal := Ideal.rsqrt (Ideal.div (∑ l, y l * y l) c128 + eps)

/-- The arguments: the output's gradient, the three gates, the convolution's weight, the normalisation's weight. -/
structure In where
  (d h b c : ℤ → Fin 2048 → EReal)
  w : Fin 3 → Fin 2048 → EReal
  nw : Fin 2048 → EReal

namespace In
variable (X : In) (r : ℤ) (j : Fin 2048)
def t : EReal := X.h r j * X.c r j
def acc : EReal := X.t (r - 1) j * X.w 0 j + X.t r j * X.w 1 j + X.t (r + 1) j * X.w 2 j
def y : EReal := X.b r j * X.acc r j
def f (g : Fin 16) : EReal := rms fun l => X.y r (lane g l)
def n : EReal := X.y r j * X.f r (grp j)
def dn : EReal := X.d r j * X.nw j
def mu (g : Fin 16) : EReal := Ideal.div (∑ l, X.dn r (lane g l) * X.n r (lane g l)) c128
def dy : EReal := X.f r (grp j) * (X.dn r j - X.n r j * X.mu r (grp j))
def dv : EReal := X.dy r j * X.b r j
def dt : EReal := X.dv (r + 1) j * X.w 0 j + X.dv r j * X.w 1 j + X.dv (r - 1) j * X.w 2 j
/-- The gradients of the three gates, side by side. -/
def gates (k : Fin 6144) : EReal :=
  if h : k.val < 2048 then X.dt r ⟨k.val, h⟩ * X.c r ⟨k.val, h⟩
  else if h' : k.val < 4096 then X.dy r ⟨k.val - 2048, by omega⟩ * X.acc r ⟨k.val - 2048, by omega⟩
  else X.dt r ⟨k.val - 4096, by omega⟩ * X.h r ⟨k.val - 4096, by omega⟩

/-- The three results: the gates' gradients in their columns of the projection's gradient, the convolution weight's
gradient (rows 3 to 7 zero), the normalisation weight's gradient. -/
def res0 (A4 : (⟨2, ![4096, 12800]⟩ : Shape).Idx → EReal) (i : (⟨2, ![4096, 12800]⟩ : Shape).Idx) : EReal :=
  if h : 6144 ≤ (i 1).val ∧ (i 1).val < 12288 then X.gates ((i 0).val : ℤ) ⟨(i 1).val - 6144, by omega⟩ else A4 i
def res1 (k : Fin 8) (j : Fin 2048) : EReal :=
  if k.val < 3 then ∑ r : Fin 4096, X.t (r.val + k.val - 1) j * X.dv r.val j else 0
def res2 (j : Fin 2048) : EReal := ∑ r : Fin 4096, X.n r.val j * X.d r.val j
end In

/-- Columns `o … o + 2047` of an array of 4096 rows, zero outside the rows. -/
def rowed {n : ℕ} (A : (⟨2, ![4096, n]⟩ : Shape).Idx → EReal) (o : ℕ) (h : o + 2048 ≤ n) (r : ℤ) (j : Fin 2048) : EReal :=
  if hr : 0 ≤ r ∧ r < 4096 then A (ix2 ⟨r.toNat, by omega⟩ ⟨o + j.val, by omega⟩) else 0

theorem rowed_cast {n : ℕ} (A : (⟨2, ![4096, n]⟩ : Shape).Idx → EReal) (o : ℕ) (h : o + 2048 ≤ n) (r : Fin 4096) (j : Fin 2048) :
    rowed A o h (r.val : ℤ) j = A (ix2 r ⟨o + j.val, by omega⟩) := dif_pos ⟨by omega, by omega⟩

theorem rowed_out {n : ℕ} (A : (⟨2, ![4096, n]⟩ : Shape).Idx → EReal) (o : ℕ) (h : o + 2048 ≤ n) (r : ℤ) (j : Fin 2048)
    (hr : ¬(0 ≤ r ∧ r < 4096)) : rowed A o h r j = 0 := dif_neg hr

/-- The arguments' columns that the mixer reads. -/
def inOf (A0 : (⟨2, ![4096, 4096]⟩ : Shape).Idx → EReal) (A1 : (⟨2, ![4096, 12800]⟩ : Shape).Idx → EReal)
    (A2 : (⟨2, ![3, 2048]⟩ : Shape).Idx → EReal) (A3 : (⟨2, ![1, 2048]⟩ : Shape).Idx → EReal) : In where
  d := rowed A0 2048 (by omega)
  h := rowed A1 6144 (by omega)
  b := rowed A1 8192 (by omega)
  c := rowed A1 10240 (by omega)
  w k j := A2 (ix2 k j)
  nw j := A3 (ix2 0 j)

end Cert.SC
-- ==== Proof.At.lean ====
module

public import proofs.«01_k».proof.Proof.Body
public import proofs.«01_k».proof.Proof.Spec
public import Idealize.ShloMosaic.Lib.Pointwise

/-! Each named value of the body at an index. -/

@[expose] public section

set_option maxRecDepth 16384

noncomputable section

namespace Cert.SC

open Cert.KernelIdeal Cert.KernelIdeal.Gen Idealize.ShloMosaic Idealize.ShloMosaic.TcCoe

abbrev Wide := FVec Ideal S272x2048 .f32

theorem down_at (v : Wide) (q : Fin 272) (j : Fin 2048) (h : 1 ≤ q.val) : down v (ix2 q j) = v (ix2 ⟨q.val - 1, by omega⟩ j) := by
  pointwise [down]
  congr 2
  apply Fin.ext
  simp only
  omega

theorem up_at (v : Wide) (q : Fin 272) (j : Fin 2048) (h : q.val < 271) : up v (ix2 q j) = v (ix2 ⟨q.val + 1, by omega⟩ j) := by
  pointwise [up]
  congr 2
  apply Fin.ext
  simp only
  omega

theorem tap0_at (w : Vec Ideal S3x2048 .f32) (q : Fin 272) (j : Fin 2048) : tap0 w (ix2 q j) = w (ix2 0 j) := by pointwise [tap0]
theorem tap1_at (w : Vec Ideal S3x2048 .f32) (q : Fin 272) (j : Fin 2048) : tap1 w (ix2 q j) = w (ix2 1 j) := by pointwise [tap1]
theorem tap2_at (w : Vec Ideal S3x2048 .f32) (q : Fin 272) (j : Fin 2048) : tap2 w (ix2 q j) = w (ix2 2 j) := by pointwise [tap2]

theorem part_at (v : Wide) (k : Fin 16) (q : Fin 272) (l : Fin 128) : part v k (ix2 q l) = v (ix2 q (lane k l)) := by
  pointwise [part]
  rfl

theorem glue_at (g : Fin 16 → FVec Ideal S272x128 .f32) (q : Fin 272) (j : Fin 2048) : glue g (ix2 q j) = g (grp j) (ix2 q (off j)) := by
  refine concatenate_ofFn_apply (t := S272x2048) (s₁ := S272x128) 1 g _ rfl 128 rfl (ix2 q j) (grp j) rfl (ix2 q (off j)) rfl fun b hb => ?_
  match b, hb with
  | ⟨0, _⟩, _ => rfl
  | ⟨1, _⟩, hb => exact absurd rfl hb

theorem rowMean_at (v : FVec Ideal S272x128 .f32) (q : Fin 272) : rowMean v (ix2 q 0) = Ideal.div (∑ l, v (ix2 q l)) c128 := by
  pointwise [rowMean]
  rfl

theorem recipRms_at (v : FVec Ideal S272x128 .f32) (q : Fin 272) : recipRms v (ix2 q 0) = rms fun l => v (ix2 q l) := by
  pointwise [recipRms, rowMean_at]
  rfl

theorem normed_at (y : Wide) (q : Fin 272) (j : Fin 2048) :
    normed y (ix2 q j) = y (ix2 q j) * rms fun l => y (ix2 q (lane (grp j) l)) := by
  rw [normed, glue_at]
  pointwise [recipRms_at, part_at, lane_grp_off]

theorem factors_at (y : Wide) (q : Fin 272) (j : Fin 2048) :
    factors y (ix2 q j) = rms fun l => y (ix2 q (lane (grp j) l)) := by
  rw [factors, glue_at]
  pointwise [recipRms_at, part_at]

theorem normGrad_at (dn n f : Wide) (q : Fin 272) (j : Fin 2048) :
    normGrad dn n f (ix2 q j) = f (ix2 q j) * (dn (ix2 q j)
      - n (ix2 q j) * Ideal.div (∑ l, dn (ix2 q (lane (grp j) l)) * n (ix2 q (lane (grp j) l))) c128) := by
  rw [normGrad, glue_at]
  pointwise [rowMean_at, part_at, lane_grp_off]

theorem conv_at (t : Wide) (w : Vec Ideal S3x2048 .f32) (q : Fin 272) (j : Fin 2048) (h : 1 ≤ q.val) (h' : q.val < 271) :
    conv t w (ix2 q j) = t (ix2 ⟨q.val - 1, by omega⟩ j) * w (ix2 0 j) + t (ix2 q j) * w (ix2 1 j) + t (ix2 ⟨q.val + 1, by omega⟩ j) * w (ix2 2 j) := by
  pointwise [conv, zeros, tap0_at, tap1_at, tap2_at]
  rw [down_at t q j h, up_at t q j h']

theorem convGrad_at (t : Wide) (w : Vec Ideal S3x2048 .f32) (q : Fin 272) (j : Fin 2048) (h : 1 ≤ q.val) (h' : q.val < 271) :
    convGrad t w (ix2 q j) = t (ix2 ⟨q.val + 1, by omega⟩ j) * w (ix2 0 j) + t (ix2 q j) * w (ix2 1 j) + t (ix2 ⟨q.val - 1, by omega⟩ j) * w (ix2 2 j) := by
  pointwise [convGrad, zeros, tap0_at, tap1_at, tap2_at]
  rw [down_at t q j h, up_at t q j h']

theorem own_at (v : Wide) (q : Fin 256) (j : Fin 2048) : own v (ix2 q j) = v (ix2 ⟨q.val + 8, by omega⟩ j) := by
  pointwise [own]
  congr 2
  apply Fin.ext
  simp only
  omega

theorem colSum_at (v : Wide) (j : Fin 2048) : colSum v (ix2 0 j) = ∑ q : Fin 256, v (ix2 ⟨q.val + 8, by omega⟩ j) := by
  pointwise [colSum, own_at]

theorem mask_bit : ∀ (i : Fin 16) (q : Fin 272),
    IntOp.andi
        (IntOp.cmpi CmpIPredicate.sge
          (IntOp.addi (Scalar.subi (Scalar.muli (BitVec.ofNat 32 i.val) 256#32) 8#32) (BitVec.ofNat 32 q.val)) 0#32)
        (IntOp.cmpi CmpIPredicate.slt
          (IntOp.addi (Scalar.subi (Scalar.muli (BitVec.ofNat 32 i.val) 256#32) 8#32) (BitVec.ofNat 32 q.val)) 4096#32)
      = BitVec.ofBool (decide (8 ≤ 256 * i.val + q.val ∧ 256 * i.val + q.val < 4104)) := by
  decide +kernel

theorem select_mask (p p' : Prop) [Decidable p] [Decidable p'] (x x' : EReal) (hp : p ↔ p') (hx : x = x') :
    Scalar.select (BitVec.ofBool (decide p)) x 0 = if p' then x' else 0 := by
  subst hx
  by_cases h : p
  · rw [if_pos (hp.mp h), decide_eq_true h]; rfl
  · rw [if_neg (fun h' => h (hp.mpr h')), decide_eq_false h]; rfl

theorem ext_at (i : Fin 16) (a : Vec Ideal S8x2048 .f32) (b : Vec Ideal S256x2048 .f32) (c : Vec Ideal S8x2048 .f32) (q : Fin 272) (j : Fin 2048) :
    ext (BitVec.ofNat 32 i.val) a b c (ix2 q j) =
      if 0 ≤ 256 * (i.val : ℤ) - 8 + q.val ∧ 256 * (i.val : ℤ) - 8 + q.val < 4096 then
        (if h : q.val < 8 then a (ix2 ⟨q.val, h⟩ j) else if h' : q.val < 264 then b (ix2 ⟨q.val - 8, by omega⟩ j) else c (ix2 ⟨q.val - 264, by omega⟩ j))
      else 0 := by
  pointwise [ext, k0_pay6]
  rw [mask_bit]
  refine select_mask _ _ _ _ (by omega) ?_
  by_cases h1 : q.val < 8
  · rw [dif_pos h1, dif_pos h1]
  · rw [dif_neg h1, dif_neg h1]
    by_cases h2 : q.val < 264
    · rw [dif_pos h2, dif_pos (show q.val - 8 < 256 by omega)]
    · rw [dif_neg h2, dif_neg (show ¬q.val - 8 < 256 by omega)]
      rfl

end Cert.SC
-- ==== Proof.Reads.lean ====
module

public import proofs.«01_k».proof.Proof.At

/-! The blocks a grid point reads, at an index: rows and columns of the arguments. -/

@[expose] public section

set_option maxRecDepth 16384

noncomputable section

namespace Cert.SC

open Cert.KernelIdeal Cert.KernelIdeal.Gen Idealize.ShloMosaic Idealize.ShloMosaic.TcCoe

variable (m : (ℓ : Loc nD τ sig) → Buf (Elt Ideal) ℓ) (c : Dev nD) (t : Fin cfg0.N)

def A0 : S4096x4096.Idx → EReal := m ((c.tc : Thread nD τ).loc main_arg0)
def A1 : S4096x12800.Idx → EReal := m ((c.tc : Thread nD τ).loc main_arg1)
def A2 : S3x2048.Idx → EReal := m ((c.tc : Thread nD τ).loc main_arg2)
def A3 : S1x2048.Idx → EReal := m ((c.tc : Thread nD τ).loc main_arg3)
def X : In := inOf (A0 m c) (A1 m c) (A2 m c) (A3 m c)

theorem coords_eq : ∀ t : Fin cfg0.N, (grid0.coords t 0).val = t.val := (by decide +kernel : ∀ t : Fin grid0.N, (grid0.coords t 0).val = t.val)

theorem ix_prev : ∀ t : Fin cfg0.N, win0_0.index t = ![t.val * 32 - 1, 1] ∧ win0_3.index t = ![t.val * 32 - 1, 3]
    ∧ win0_6.index t = ![t.val * 32 - 1, 4] ∧ win0_9.index t = ![t.val * 32 - 1, 5] :=
  (by decide +kernel : ∀ t : Fin grid0.N, win0_0.index t = ![t.val * 32 - 1, 1] ∧ win0_3.index t = ![t.val * 32 - 1, 3]
    ∧ win0_6.index t = ![t.val * 32 - 1, 4] ∧ win0_9.index t = ![t.val * 32 - 1, 5])
theorem ix_cur : ∀ t : Fin cfg0.N, win0_1.index t = ![t.val, 1] ∧ win0_4.index t = ![t.val, 3]
    ∧ win0_7.index t = ![t.val, 4] ∧ win0_10.index t = ![t.val, 5] :=
  (by decide +kernel : ∀ t : Fin grid0.N, win0_1.index t = ![t.val, 1] ∧ win0_4.index t = ![t.val, 3]
    ∧ win0_7.index t = ![t.val, 4] ∧ win0_10.index t = ![t.val, 5])
theorem ix_next : ∀ t : Fin cfg0.N, win0_2.index t = ![min (t.val * 32 + 32) 511, 1] ∧ win0_5.index t = ![min (t.val * 32 + 32) 511, 3]
    ∧ win0_8.index t = ![min (t.val * 32 + 32) 511, 4] ∧ win0_11.index t = ![min (t.val * 32 + 32) 511, 5] :=
  (by decide +kernel : ∀ t : Fin grid0.N, win0_2.index t = ![min (t.val * 32 + 32) 511, 1] ∧ win0_5.index t = ![min (t.val * 32 + 32) 511, 3]
    ∧ win0_8.index t = ![min (t.val * 32 + 32) 511, 4] ∧ win0_11.index t = ![min (t.val * 32 + 32) 511, 5])
theorem ix_whole : ∀ t : Fin cfg0.N, win0_12.index t = ![0, 0] ∧ win0_13.index t = ![0, 0] :=
  (by decide +kernel : ∀ t : Fin grid0.N, win0_12.index t = ![0, 0] ∧ win0_13.index t = ![0, 0])

theorem t_lt (t : Fin cfg0.N) : t.val < 16 := t.isLt

theorem d_prev (q : Fin 8) (j : Fin 2048) : (iblk m c 0 t : S8x2048.Idx → EReal) (ix2 q j)
    = A0 m c (ix2 ⟨(t.val * 32 - 1) * 8 + q.val, by have := t_lt t; omega⟩ ⟨2048 + j.val, by omega⟩) := by
  blk_ext [iblk, V, (ix_prev t).1, A0]

theorem d_cur (q : Fin 256) (j : Fin 2048) : (iblk m c 1 t : S256x2048.Idx → EReal) (ix2 q j)
    = A0 m c (ix2 ⟨t.val * 256 + q.val, by have := t_lt t; omega⟩ ⟨2048 + j.val, by omega⟩) := by
  blk_ext [iblk, V, (ix_cur t).1, A0]

theorem d_next (q : Fin 8) (j : Fin 2048) : (iblk m c 2 t : S8x2048.Idx → EReal) (ix2 q j)
    = A0 m c (ix2 ⟨min (t.val * 32 + 32) 511 * 8 + q.val, by have := t_lt t; omega⟩ ⟨2048 + j.val, by omega⟩) := by
  blk_ext [iblk, V, (ix_next t).1, A0]

theorem h_prev (q : Fin 8) (j : Fin 2048) : (X0_3 m c t : S8x2048.Idx → EReal) (ix2 q j)
    = A1 m c (ix2 ⟨(t.val * 32 - 1) * 8 + q.val, by have := t_lt t; omega⟩ ⟨6144 + j.val, by omega⟩) := by
  unfold X0_3 Pipeline.Window.fill
  rw [dif_pos (moved0_3 t _)]
  blk_ext [iblk, V, (ix_prev t).2.1, A1]

theorem h_cur (q : Fin 256) (j : Fin 2048) : (X0_4 m c t : S256x2048.Idx → EReal) (ix2 q j)
    = A1 m c (ix2 ⟨t.val * 256 + q.val, by have := t_lt t; omega⟩ ⟨6144 + j.val, by omega⟩) := by
  unfold X0_4 Pipeline.Window.fill
  rw [dif_pos (moved0_4 t _)]
  blk_ext [iblk, V, (ix_cur t).2.1, A1]

theorem h_next (q : Fin 8) (j : Fin 2048) : (X0_5 m c t : S8x2048.Idx → EReal) (ix2 q j)
    = A1 m c (ix2 ⟨min (t.val * 32 + 32) 511 * 8 + q.val, by have := t_lt t; omega⟩ ⟨6144 + j.val, by omega⟩) := by
  unfold X0_5 Pipeline.Window.fill
  rw [dif_pos (moved0_5 t _)]
  blk_ext [iblk, V, (ix_next t).2.1, A1]

theorem b_prev (q : Fin 8) (j : Fin 2048) : (X0_6 m c t : S8x2048.Idx → EReal) (ix2 q j)
    = A1 m c (ix2 ⟨(t.val * 32 - 1) * 8 + q.val, by have := t_lt t; omega⟩ ⟨8192 + j.val, by omega⟩) := by
  unfold X0_6 Pipeline.Window.fill
  rw [dif_pos (moved0_6 t _)]
  blk_ext [iblk, V, (ix_prev t).2.2.1, A1]

theorem b_cur (q : Fin 256) (j : Fin 2048) : (X0_7 m c t : S256x2048.Idx → EReal) (ix2 q j)
    = A1 m c (ix2 ⟨t.val * 256 + q.val, by have := t_lt t; omega⟩ ⟨8192 + j.val, by omega⟩) := by
  unfold X0_7 Pipeline.Window.fill
  rw [dif_pos (moved0_7 t _)]
  blk_ext [iblk, V, (ix_cur t).2.2.1, A1]

theorem b_next (q : Fin 8) (j : Fin 2048) : (X0_8 m c t : S8x2048.Idx → EReal) (ix2 q j)
    = A1 m c (ix2 ⟨min (t.val * 32 + 32) 511 * 8 + q.val, by have := t_lt t; omega⟩ ⟨8192 + j.val, by omega⟩) := by
  unfold X0_8 Pipeline.Window.fill
  rw [dif_pos (moved0_8 t _)]
  blk_ext [iblk, V, (ix_next t).2.2.1, A1]

theorem c_prev (q : Fin 8) (j : Fin 2048) : (X0_9 m c t : S8x2048.Idx → EReal) (ix2 q j)
    = A1 m c (ix2 ⟨(t.val * 32 - 1) * 8 + q.val, by have := t_lt t; omega⟩ ⟨10240 + j.val, by omega⟩) := by
  unfold X0_9 Pipeline.Window.fill
  rw [dif_pos (moved0_9 t _)]
  blk_ext [iblk, V, (ix_prev t).2.2.2, A1]

theorem c_cur (q : Fin 256) (j : Fin 2048) : (X0_10 m c t : S256x2048.Idx → EReal) (ix2 q j)
    = A1 m c (ix2 ⟨t.val * 256 + q.val, by have := t_lt t; omega⟩ ⟨10240 + j.val, by omega⟩) := by
  unfold X0_10 Pipeline.Window.fill
  rw [dif_pos (moved0_10 t _)]
  blk_ext [iblk, V, (ix_cur t).2.2.2, A1]

theorem c_next (q : Fin 8) (j : Fin 2048) : (X0_11 m c t : S8x2048.Idx → EReal) (ix2 q j)
    = A1 m c (ix2 ⟨min (t.val * 32 + 32) 511 * 8 + q.val, by have := t_lt t; omega⟩ ⟨10240 + j.val, by omega⟩) := by
  unfold X0_11 Pipeline.Window.fill
  rw [dif_pos (moved0_11 t _)]
  blk_ext [iblk, V, (ix_next t).2.2.2, A1]

theorem w_at (k : Fin 3) (j : Fin 2048) : (iblk m c 12 t : S3x2048.Idx → EReal) (ix2 k j) = A2 m c (ix2 k j) := by
  blk_ext [iblk, V, (ix_whole t).1, A2]

theorem nw_at (j : Fin 2048) : (iblk m c 13 t : S1x2048.Idx → EReal) (ix2 0 j) = A3 m c (ix2 0 j) := by
  blk_ext [iblk, V, (ix_whole t).2, A3]

/-- A tile with its halo rows is the array's rows from 8 before the tile on, zero outside the array. -/
theorem ext_rowed (i : Fin 16) {n : ℕ} (A : (⟨2, ![4096, n]⟩ : Shape).Idx → EReal) (o : ℕ) (ho : o + 2048 ≤ n)
    (a : Vec Ideal S8x2048 .f32) (b : Vec Ideal S256x2048 .f32) (c : Vec Ideal S8x2048 .f32)
    (ha : ∀ (q : Fin 8) (j : Fin 2048), a (ix2 q j) = A (ix2 ⟨(i.val * 32 - 1) * 8 + q.val, by omega⟩ ⟨o + j.val, by omega⟩))
    (hb : ∀ (q : Fin 256) (j : Fin 2048), b (ix2 q j) = A (ix2 ⟨i.val * 256 + q.val, by omega⟩ ⟨o + j.val, by omega⟩))
    (hc : ∀ (q : Fin 8) (j : Fin 2048), c (ix2 q j) = A (ix2 ⟨min (i.val * 32 + 32) 511 * 8 + q.val, by omega⟩ ⟨o + j.val, by omega⟩))
    (q : Fin 272) (j : Fin 2048) : ext (BitVec.ofNat 32 i.val) a b c (ix2 q j) = rowed A o ho (256 * (i.val : ℤ) - 8 + q.val) j := by
  rw [ext_at]
  by_cases hm : 0 ≤ 256 * (i.val : ℤ) - 8 + q.val ∧ 256 * (i.val : ℤ) - 8 + q.val < 4096
  · rw [if_pos hm, rowed, dif_pos hm]
    by_cases h1 : q.val < 8
    · rw [dif_pos h1, ha]
      congr 2
      apply Fin.ext
      simp only
      omega
    · rw [dif_neg h1]
      by_cases h2 : q.val < 264
      · rw [dif_pos h2, hb]
        congr 2
        apply Fin.ext
        simp only
        omega
      · rw [dif_neg h2, hc]
        congr 2
        apply Fin.ext
        simp only
        omega
  · rw [if_neg hm, rowed, dif_neg hm]

/-- The vectors of one grid point hold the rows from `o` on. -/
structure Holds (K : Blk Ideal) (X : In) (o : ℤ) : Prop where
  d : ∀ (q : Fin 272) (j : Fin 2048), K.d (ix2 q j) = X.d (o + q.val) j
  h : ∀ (q : Fin 272) (j : Fin 2048), K.h (ix2 q j) = X.h (o + q.val) j
  b : ∀ (q : Fin 272) (j : Fin 2048), K.b (ix2 q j) = X.b (o + q.val) j
  c : ∀ (q : Fin 272) (j : Fin 2048), K.c (ix2 q j) = X.c (o + q.val) j
  w : ∀ (k : Fin 3) (j : Fin 2048), (K.w : S3x2048.Idx → EReal) (ix2 k j) = X.w k j
  nw : ∀ j : Fin 2048, (K.nw : S1x2048.Idx → EReal) (ix2 0 j) = X.nw j

theorem blk_holds : Holds (blk m c t) (X m c) (256 * (t.val : ℤ) - 8) where
  d := fun q j => by
    dsimp only [blk]
    rw [coords_eq t]
    exact ext_rowed ⟨t.val, t_lt t⟩ (A0 m c) 2048 (by omega) _ _ _ (d_prev m c t) (d_cur m c t) (d_next m c t) q j
  h := fun q j => by
    dsimp only [blk]
    rw [coords_eq t]
    exact ext_rowed ⟨t.val, t_lt t⟩ (A1 m c) 6144 (by omega) _ _ _ (h_prev m c t) (h_cur m c t) (h_next m c t) q j
  b := fun q j => by
    dsimp only [blk]
    rw [coords_eq t]
    exact ext_rowed ⟨t.val, t_lt t⟩ (A1 m c) 8192 (by omega) _ _ _ (b_prev m c t) (b_cur m c t) (b_next m c t) q j
  c := fun q j => by
    dsimp only [blk]
    rw [coords_eq t]
    exact ext_rowed ⟨t.val, t_lt t⟩ (A1 m c) 10240 (by omega) _ _ _ (c_prev m c t) (c_cur m c t) (c_next m c t) q j
  w := w_at m c t
  nw := nw_at m c t

namespace Holds
variable {K : Blk Ideal} {X : In} {o : ℤ} (H : Holds K X o) (q : Fin 272) (j : Fin 2048)
include H

theorem tt : K.t (ix2 q j) = X.t (o + q.val) j := by
  unfold Blk.t In.t; pointwise; rw [H.h, H.c]

theorem acc (h1 : 1 ≤ q.val) (h2 : q.val < 271) : K.acc (ix2 q j) = X.acc (o + q.val) j := by
  unfold Blk.acc In.acc
  have e1 : o + q.val - 1 = o + ((q.val - 1 : ℕ) : ℤ) := by omega
  have e2 : o + q.val + 1 = o + ((q.val + 1 : ℕ) : ℤ) := by omega
  rw [conv_at _ _ q j h1 h2, H.tt, H.tt, H.tt, H.w, H.w, H.w, e1, e2]

theorem y (h1 : 1 ≤ q.val) (h2 : q.val < 271) : K.y (ix2 q j) = X.y (o + q.val) j := by
  unfold Blk.y In.y; pointwise; rw [H.b, H.acc q j h1 h2]

theorem f (h1 : 1 ≤ q.val) (h2 : q.val < 271) : K.f (ix2 q j) = X.f (o + q.val) (grp j) := by
  unfold Blk.f In.f
  rw [factors_at]
  congr 1; funext l
  rw [H.y q _ h1 h2]

theorem n (h1 : 1 ≤ q.val) (h2 : q.val < 271) : K.n (ix2 q j) = X.n (o + q.val) j := by
  unfold Blk.n In.n In.f
  rw [normed_at, H.y q j h1 h2]
  congr 2; funext l
  rw [H.y q _ h1 h2]

theorem dn : K.dn (ix2 q j) = X.dn (o + q.val) j := by
  unfold Blk.dn In.dn; pointwise; rw [H.d, H.nw]

theorem dy (h1 : 1 ≤ q.val) (h2 : q.val < 271) : K.dy (ix2 q j) = X.dy (o + q.val) j := by
  unfold Blk.dy In.dy In.mu
  rw [normGrad_at, H.f q j h1 h2, H.dn, H.n q j h1 h2]
  congr 4
  refine Finset.sum_congr rfl fun l _ => ?_
  rw [H.dn, H.n q _ h1 h2]

theorem dv (h1 : 1 ≤ q.val) (h2 : q.val < 271) : K.dv (ix2 q j) = X.dv (o + q.val) j := by
  unfold Blk.dv In.dv; pointwise; rw [H.dy q j h1 h2, H.b]

theorem dt (h1 : 2 ≤ q.val) (h2 : q.val < 270) : K.dt (ix2 q j) = X.dt (o + q.val) j := by
  unfold Blk.dt In.dt
  have e1 : o + q.val - 1 = o + ((q.val - 1 : ℕ) : ℤ) := by omega
  have e2 : o + q.val + 1 = o + ((q.val + 1 : ℕ) : ℤ) := by omega
  rw [convGrad_at _ _ q j (by omega) (by omega), H.dv _ j (by simp only; omega) (by simp only; omega),
    H.dv _ j (by omega) (by omega), H.dv _ j (by simp only; omega) (by simp only; omega), H.w, H.w, H.w, e1, e2]

theorem dh (q : Fin 256) : (K.dh : S256x2048.Idx → EReal) (ix2 q j) = X.dt (o + 8 + q.val) j * X.c (o + 8 + q.val) j := by
  have e : o + 8 + (q.val : ℤ) = o + ((q.val + 8 : ℕ) : ℤ) := by push_cast; ring
  unfold Blk.dh; pointwise [own_at]
  rw [H.dt _ j (by simp only; omega) (by simp only; omega), H.c, e]

theorem db (q : Fin 256) : (K.db : S256x2048.Idx → EReal) (ix2 q j) = X.dy (o + 8 + q.val) j * X.acc (o + 8 + q.val) j := by
  have e : o + 8 + (q.val : ℤ) = o + ((q.val + 8 : ℕ) : ℤ) := by push_cast; ring
  unfold Blk.db; pointwise [own_at]
  rw [H.dy _ j (by simp only; omega) (by simp only; omega), H.acc _ j (by simp only; omega) (by simp only; omega), e]

theorem dc (q : Fin 256) : (K.dc : S256x2048.Idx → EReal) (ix2 q j) = X.dt (o + 8 + q.val) j * X.h (o + 8 + q.val) j := by
  have e : o + 8 + (q.val : ℤ) = o + ((q.val + 8 : ℕ) : ℤ) := by push_cast; ring
  unfold Blk.dc; pointwise [own_at]
  rw [H.dt _ j (by simp only; omega) (by simp only; omega), H.h, e]

theorem dw : (K.dw : S1x2048.Idx → EReal) (ix2 0 j) = ∑ q : Fin 256, X.n (o + 8 + q.val) j * X.d (o + 8 + q.val) j := by
  unfold Blk.dw
  rw [colSum_at]
  refine Finset.sum_congr rfl fun q _ => ?_
  have e : o + 8 + (q.val : ℤ) = o + ((q.val + 8 : ℕ) : ℤ) := by push_cast; ring
  pointwise
  rw [H.d, H.n _ j (by simp only; omega) (by simp only; omega), e, mul_comm]

/-- Row `k` of the convolution weight's gradient over the tile; the rows past the third are zero. -/
theorem dcw (k : Fin 8) : (K.dcw : S8x2048.Idx → EReal) (ix2 k j)
    = if k.val < 3 then ∑ q : Fin 256, X.t (o + 8 + q.val + k.val - 1) j * X.dv (o + 8 + q.val) j else 0 := by
  unfold Blk.dcw
  pointwise [colSum_at]
  fin_vals k with hk
  all_goals simp only [hk, Nat.reduceSub, Nat.reduceLT, ↓reduceDIte, ↓reduceIte]
  · refine (colSum_at _ j).trans (Finset.sum_congr rfl fun q _ => ?_)
    have e : o + 8 + (q.val : ℤ) = o + ((q.val + 8 : ℕ) : ℤ) := by push_cast; ring
    have e1 : o + ((q.val + 8 : ℕ) : ℤ) + ((0 : ℕ) : ℤ) - 1 = o + ((q.val + 8 - 1 : ℕ) : ℤ) := by omega
    pointwise
    rw [down_at _ _ j (by simp only; omega), H.tt, H.dv _ j (by simp only; omega) (by simp only; omega), e, e1]
  · refine (colSum_at _ j).trans (Finset.sum_congr rfl fun q _ => ?_)
    have e : o + 8 + (q.val : ℤ) = o + ((q.val + 8 : ℕ) : ℤ) := by push_cast; ring
    have e1 : o + ((q.val + 8 : ℕ) : ℤ) + ((1 : ℕ) : ℤ) - 1 = o + ((q.val + 8 : ℕ) : ℤ) := by omega
    pointwise
    rw [H.tt, H.dv _ j (by simp only; omega) (by simp only; omega), e, e1]
  · refine (colSum_at _ j).trans (Finset.sum_congr rfl fun q _ => ?_)
    have e : o + 8 + (q.val : ℤ) = o + ((q.val + 8 : ℕ) : ℤ) := by push_cast; ring
    have e1 : o + ((q.val + 8 : ℕ) : ℤ) + ((2 : ℕ) : ℤ) - 1 = o + ((q.val + 8 + 1 : ℕ) : ℤ) := by omega
    pointwise
    rw [up_at _ _ j (by simp only; omega), H.tt, H.dv _ j (by simp only; omega) (by simp only; omega), e, e1]

end Holds

end Cert.SC
-- ==== Proof.Arrays.lean ====
module

public import proofs.«01_k».proof.Proof.Points
public import proofs.«01_k».proof.Proof.Reads

/-! The three result arrays after the run. -/

@[expose] public section

set_option maxRecDepth 16384

noncomputable section

namespace Cert.SC

open Cert.KernelIdeal Cert.KernelIdeal.Gen Idealize.ShloMosaic Idealize.ShloMosaic.TcCoe

variable (m : (ℓ : Loc nD τ sig) → Buf (Elt Ideal) ℓ) (c : Dev nD)

def A4 : S4096x12800.Idx → EReal := m ((c.tc : Thread nD τ).loc main_arg4)

theorem ix_out : ∀ t : Fin cfg0.N, win0_14.index t = ![t.val, 1] ∧ win0_15.index t = ![0, 0] ∧ win0_16.index t = ![0, 0] :=
  (by decide +kernel : ∀ t : Fin grid0.N, win0_14.index t = ![t.val, 1] ∧ win0_15.index t = ![0, 0] ∧ win0_16.index t = ![0, 0])

theorem big_at {K : Blk Ideal} {X : In} {o : ℤ} (H : Holds K X o) (q : Fin 256) (k : Fin 6144) :
    (K.big : S256x6144.Idx → EReal) (ix2 q k) = X.gates (o + 8 + q.val) k := by
  have col : ∀ (x : S256x2048.Idx) (j : Fin 2048), q.val = (x 0).val → (x 1).val = j.val → x = ix2 q j := fun x j e e' => by
    rw [eq_ix2 x]
    congr 1
    · exact Fin.ext e.symm
    · exact Fin.ext e'
  unfold Blk.big In.gates
  canon_tiles x h
  · have hk : k.val = 4096 + (x 1).val := h1
    rw [dif_neg (by omega), dif_neg (by omega), ← H.dc _ q]
    exact congrArg K.dc (col x _ h0 (by show (x 1).val = k.val - 4096; omega))
  · have hk : k.val = (x 1).val := h1
    rw [dif_pos (by omega), ← H.dh _ q]
    exact congrArg K.dh (col x _ h0 hk.symm)
  · have hk : k.val = 2048 + (x 1).val := h1
    rw [dif_neg (by omega), dif_pos (by omega), ← H.db _ q]
    exact congrArg K.db (col x _ h0 (by show (x 1).val = k.val - 2048; omega))

theorem emb14 (t : Fin cfg0.N) (y : (win0_14.xblock (grid0.coords t)).Idx) (a : Fin 256) (b : Fin 6144) (ha : (y 0).val = a.val) (hb : (y 1).val = b.val) :
    (win0_14.blk t).view.emb y
      = (ix2 ⟨t.val * 256 + a.val, by have := t_lt t; omega⟩ ⟨6144 + b.val, by omega⟩ : S4096x12800.Idx) := by
  blk_ext [(ix_out t).1]

theorem point14 (t : Fin cfg0.N) (q : Fin 256) (k : Fin 6144) :
    ((blk m c t).big : S256x6144.Idx → EReal) (ix2 q k)
      = (X m c).res0 (A4 m c) (ix2 ⟨t.val * 256 + q.val, by have := t_lt t; omega⟩ ⟨6144 + k.val, by omega⟩) := by
  rw [big_at (blk_holds m c t) q k]
  unfold In.res0
  rw [dif_pos ⟨by show 6144 ≤ 6144 + k.val; omega, by show 6144 + k.val < 12288; omega⟩]
  have e : 256 * (t.val : ℤ) - 8 + 8 + (q.val : ℤ) = ((t.val * 256 + q.val : ℕ) : ℤ) := by push_cast; ring
  have e' : k = ⟨6144 + k.val - 6144, by omega⟩ := Fin.ext (by show k.val = 6144 + k.val - 6144; omega)
  exact congrArg₂ (X m c).gates e e'

theorem arr14 : (dats m 0 c).arrAt 14 cfg0.N = (X m c).res0 (A4 m c) := by
  have key : (dats m 0 c).arrAt 14 cfg0.N
      = fun i : S4096x12800.Idx => if 6144 ≤ (i 1).val ∧ (i 1).val < 12288 then (X m c).res0 (A4 m c) i else (dats m 0 c).A 14 i := by
    refine (dats m 0 c).arrAt_eq_of_coversWhere 14 ((X m c).res0 (A4 m c)) (fun β => β (1 : Fin 2) = 1) (by decide +kernel) (fun t hf y => ?_)
      (fun j => ?_)
    · blk_simp
      rw [after0_14, big_eq]
      rw [emb14 t y ((cfg0.win 14).xinj (cfg0.grid.coords t) y 0) ((cfg0.win 14).xinj (cfg0.grid.coords t) y 1) rfl rfl]
      exact (congrArg (blk m c t).big (eq_ix2 _)).trans (point14 m c t _ _)
    · blk_simp [Pipeline.Window.cell_apply]
      generalize (j 1).val = z
      omega
  rw [key]
  funext i
  unfold In.res0
  split_ifs with h
  · rfl
  · rw [A_eq]
    rfl

theorem at16 (t : Fin cfg0.N) (j : Fin 2048) (ht : t.val + 1 = cfg0.N) :
    ((outsAt0 m c t.val t.isLt).2.2 : S1x2048.Idx → EReal) (ix2 0 j) = (X m c).res2 j := by
  have := Pipeline.eq_sum_fin_of_reset_step_apply_last
    (fun n h (j : Fin 2048) => ((outsAt0 m c n h).2.2 : S1x2048.Idx → EReal) (ix2 0 j)) 16 (fun _ => 0)
    (fun t j => (blk m c t).dw (ix2 0 j))
    (fun t h0 j => by
      rw [zero_add, dw_A m c t h0 (by have : t.val < 16 := t.isLt; omega)])
    (fun t h0 j => by
      show ((outsAt0 m c t.val t.isLt).2.2 : S1x2048.Idx → EReal) (ix2 0 j) = _
      rw [dw_B m c t h0 (by omega)]
      pointwise) (by decide) t ht j
  rw [this, zero_add]
  refine (Finset.sum_congr rfl fun p _ => (blk_holds m c p).dw j).trans ?_
  refine Fin.sum_mul_add_congr (S := 16) (n := 256) fun s k hl => ?_
  have e : 256 * (s.val : ℤ) - 8 + 8 + (k.val : ℤ) = ((s.val * 256 + k.val : ℕ) : ℤ) := by push_cast; ring
  rw [e]

theorem at15 (t : Fin cfg0.N) (k : Fin 8) (j : Fin 2048) (ht : t.val + 1 = cfg0.N) :
    ((outsAt0 m c t.val t.isLt).2.1 : S8x2048.Idx → EReal) (ix2 k j) = (X m c).res1 k j := by
  have := Pipeline.eq_sum_fin_of_reset_step_apply_last
    (fun n h (j : Fin 2048) => ((outsAt0 m c n h).2.1 : S8x2048.Idx → EReal) (ix2 k j)) 16 (fun _ => 0)
    (fun t j => (blk m c t).dcw (ix2 k j))
    (fun t h0 j => by
      rw [zero_add, dcw_A m c t h0 (by have : t.val < 16 := t.isLt; omega)])
    (fun t h0 j => by
      show ((outsAt0 m c t.val t.isLt).2.1 : S8x2048.Idx → EReal) (ix2 k j) = _
      rw [dcw_B m c t h0 (by omega)]
      pointwise) (by decide) t ht j
  rw [this, zero_add]
  refine (Finset.sum_congr rfl fun p _ => (blk_holds m c p).dcw j k).trans ?_
  unfold In.res1
  split_ifs with hk
  · refine Fin.sum_mul_add_congr (S := 16) (n := 256) fun s q hl => ?_
    have e : 256 * (s.val : ℤ) - 8 + 8 + (q.val : ℤ) = ((s.val * 256 + q.val : ℕ) : ℤ) := by push_cast; ring
    rw [e]
  · exact Finset.sum_const_zero

theorem arr16 : (dats m 0 c).arrAt 16 cfg0.N = fun i : S1x2048.Idx => (X m c).res2 (i 1) := by
  refine (dats m 0 c).arrAt_eq_of_after_last 16 t0_15 (by decide +kernel) (fun i : S1x2048.Idx => (X m c).res2 (i 1)) fun i => ?_
  blk_simp
  rw [after0_16]
  have ei : i = ix2 (0 : Fin 1) (i 1) := (eq_ix2 i).trans (congrArg (fun z => ix2 z (i 1)) (Subsingleton.elim (α := Fin 1) (i 0) 0))
  exact (congrArg _ ei).trans (at16 m c t0_15 (i 1) (by decide))

theorem arr15 : (dats m 0 c).arrAt 15 cfg0.N = fun i : S8x2048.Idx => (X m c).res1 (i 0) (i 1) := by
  refine (dats m 0 c).arrAt_eq_of_after_last 15 t0_15 (by decide +kernel) (fun i : S8x2048.Idx => (X m c).res1 (i 0) (i 1)) fun i => ?_
  blk_simp
  rw [after0_15]
  exact (congrArg _ (eq_ix2 i)).trans (at15 m c t0_15 (i 0) (i 1) (by decide))

end Cert.SC
-- ==== Proof.Alg.lean ====
module

public import proofs.«01_k».proof.Proof.Spec
public import Idealize.ShloMosaic.PureOps.Ideal.Laws
public import Mathlib.Data.EReal.Operations

/-! The one law that the two programs' normalisation gradients differ by: the kernel multiplies the finished row by the
reciprocal root mean square, the reference differentiates it and adds the two halves. It holds at every extended real,
since the factor is never negative and never infinite. -/

@[expose] public section

noncomputable section

namespace Cert.SC

open Idealize.ShloMosaic

theorem c128_eq : c128 = ((128 : ℝ) : EReal) := by
  have : c128 = (((2 ^ 23 + 0 : ℕ) * (2 : ℝ) ^ ((134 : ℤ) - 127 - 23) : ℝ) : EReal) := by
    simp [c128, Ideal.ofBits, Ideal.ieee]
  rw [this]
  norm_num

theorem half_eq : Ideal.ofBits .f32 0xBF000000#32 = ((-(1 / 2) : ℝ) : EReal) := by
  simp [Ideal.ofBits, Ideal.ieee]
  norm_num
  rw [← EReal.coe_mul]
  norm_num

theorem eps_eq : ∃ e : ℝ, 0 < e ∧ eps = (e : EReal) := by
  refine ⟨((2 ^ 23 + 2606508 : ℕ) * (2 : ℝ) ^ ((110 : ℤ) - 127 - 23) : ℝ), by positivity, ?_⟩
  simp [eps, Ideal.ofBits, Ideal.ieee]

theorem mul_self_nonneg' (x : EReal) : 0 ≤ x * x := by
  induction x with
  | bot => simp
  | top => simp
  | coe r => rw [← EReal.coe_mul]; exact EReal.coe_nonneg.mpr (mul_self_nonneg r)

/-- The mean square plus the constant is infinite or a positive real. -/
theorem meanSq_cases (y : Fin 128 → EReal) :
    Ideal.div (∑ l, y l * y l) c128 + eps = ⊤ ∨ ∃ v : ℝ, 0 < v ∧ Ideal.div (∑ l, y l * y l) c128 + eps = (v : EReal) := by
  obtain ⟨e, he, hE⟩ := eps_eq
  have hs : 0 ≤ ∑ l, y l * y l := Finset.sum_nonneg fun l _ => mul_self_nonneg' (y l)
  rw [c128_eq, Ideal.div_coe (by norm_num), hE]
  generalize (∑ l, y l * y l) = s at hs
  induction s with
  | bot => simp at hs
  | top =>
    left
    rw [EReal.top_mul_coe_of_pos (by norm_num), EReal.top_add_coe]
  | coe r =>
    right
    have hr : 0 ≤ r := EReal.coe_nonneg.mp hs
    exact ⟨r * (1 / 128) + e, by positivity, by push_cast; rfl⟩

theorem twice (z : EReal) (p : ℝ) (hp : 0 < p) : z * ((-p : ℝ) : EReal) + z * ((-p : ℝ) : EReal) = -(z * ((2 * p : ℝ) : EReal)) := by
  induction z with
  | bot => rw [EReal.bot_mul_coe_of_neg (by linarith), EReal.bot_mul_coe_of_pos (by linarith)]; rfl
  | top => rw [EReal.top_mul_coe_of_neg (by linarith), EReal.top_mul_coe_of_pos (by linarith)]; rfl
  | coe r =>
    rw [← EReal.coe_mul, ← EReal.coe_mul, ← EReal.coe_add, ← EReal.coe_neg]
    congr 1
    ring

theorem sum_mul_coe {ι : Type} (s : Finset ι) (g : ι → EReal) (f : ℝ) (hf : 0 ≤ f) : (∑ i ∈ s, g i * (f : EReal)) = (∑ i ∈ s, g i) * (f : EReal) := by
  classical
  induction s using Finset.induction_on with
  | empty => simp
  | insert a s ha ih =>
    rw [Finset.sum_insert ha, Finset.sum_insert ha, ih,
      EReal.right_distrib_of_nonneg_of_ne_top (EReal.coe_nonneg.mpr hf) (EReal.coe_ne_top f)]

/-- The gradient of a group's normalisation, as the reference differentiates it and as the kernel computes it. -/
theorem norm_grad (y dn : Fin 128 → EReal) (l : Fin 128) :
    dn l * rms y
      + y l * Ideal.div ((∑ k, y k * dn k) * (Ideal.ofBits .f32 0xBF000000#32 * Ideal.div (rms y) (Ideal.div (∑ k, y k * y k) c128 + eps))) c128
      + Ideal.div ((∑ k, y k * dn k) * (Ideal.ofBits .f32 0xBF000000#32 * Ideal.div (rms y) (Ideal.div (∑ k, y k * y k) c128 + eps))) c128 * y l
      = rms y * (dn l - y l * rms y * Ideal.div (∑ k, dn k * (y k * rms y)) c128) := by
  rcases meanSq_cases y with hv | ⟨v, hv0, hv⟩
  · have h0 : rms y = 0 := by rw [rms, hv]; rfl
    rw [h0, hv]
    simp [Ideal.div, c128_eq]
  · have hf : rms y = (((Real.sqrt v)⁻¹ : ℝ) : EReal) := by
      rw [rms, hv, Ideal.rsqrt_coe, if_neg (by linarith), if_neg (by linarith)]
    rw [hf, hv, half_eq, Ideal.div_coe hv0.ne', c128_eq, Ideal.div_coe (by norm_num), Ideal.div_coe (by norm_num)]
    have hp : 0 < (Real.sqrt v)⁻¹ := inv_pos.mpr (Real.sqrt_pos.mpr hv0)
    have hvv : 1 / v = (Real.sqrt v)⁻¹ * (Real.sqrt v)⁻¹ := by
      rw [← mul_inv, Real.mul_self_sqrt hv0.le, one_div]
    rw [hvv]
    generalize (Real.sqrt v)⁻¹ = f at hp
    have hs : (∑ k, dn k * (y k * (f : EReal))) = (∑ k, y k * dn k) * (f : EReal) := by
      rw [← sum_mul_coe _ _ _ hp.le]
      exact Finset.sum_congr rfl fun k _ => by rw [← mul_assoc, mul_comm (dn k)]
    rw [hs, sub_eq_add_neg, EReal.left_distrib_of_nonneg_of_ne_top (EReal.coe_nonneg.mpr hp.le) (EReal.coe_ne_top f), add_assoc,
      mul_comm (dn l)]
    congr 1
    generalize (∑ k, y k * dn k) = s
    have e1 : y l * (s * ((-(1 / 2) : ℝ) * ((f : EReal) * ((f * f : ℝ) : EReal))) * ((1 / 128 : ℝ) : EReal))
        = (y l * s) * ((-(1 / 256 * (f * f * f)) : ℝ) : EReal) := by
      have : ((-(1 / 256 * (f * f * f)) : ℝ) : EReal) = ((-(1 / 2) : ℝ) * ((f : EReal) * ((f * f : ℝ) : EReal))) * ((1 / 128 : ℝ) : EReal) := by
        rw [← EReal.coe_mul, ← EReal.coe_mul, ← EReal.coe_mul]
        congr 1
        ring
      rw [this]
      simp only [mul_assoc]
    rw [mul_comm _ (y l), e1, twice _ _ (by positivity), mul_neg]
    congr 1
    have : ((2 * (1 / 256 * (f * f * f)) : ℝ) : EReal) = (f : EReal) * (f : EReal) * (f : EReal) * ((1 / 128 : ℝ) : EReal) := by
      rw [← EReal.coe_mul, ← EReal.coe_mul, ← EReal.coe_mul]
      congr 1
      ring
    rw [this]
    ac_rfl

end Cert.SC
-- ==== Proof.Ref.lean ====
module

public import proofs.«01_k».proof.Proof.Gen.ReferenceIdeal.Run
public import proofs.«01_k».proof.Proof.Alg
public import Idealize.ShloMosaic.Lib.Pointwise
public import Idealize.ShloMosaic.Lib.Tactic.CleanTypes

/-! The reference's values at an index, as the formulas of `Spec`. -/

@[expose] public section

set_option maxRecDepth 16384

noncomputable section

namespace Cert.SC.Ref

open Cert.ReferenceIdeal Cert.ReferenceIdeal.Gen Cert.ReferenceIdeal.Value Idealize.ShloMosaic Idealize.ShloMosaic.TcCoe Idealize.SL.Sem

variable (V : Valuation τ sig (Elt Ideal))

abbrev A0 : S4096x4096.Idx → EReal := V (Proc.devRef .tc main_arg0)
abbrev A1 : S4096x12800.Idx → EReal := V (Proc.devRef .tc main_arg1)
abbrev A2 : S3x2048.Idx → EReal := V (Proc.devRef .tc main_arg2)
abbrev A3 : S1x2048.Idx → EReal := V (Proc.devRef .tc main_arg3)
abbrev A4 : S4096x12800.Idx → EReal := V (Proc.devRef .tc main_arg4)
def X : In := inOf (A0 V) (A1 V) (A2 V) (A3 V)

variable (r : Fin 4096) (j : Fin 2048)

theorem X_h : (X V).h = rowed (n := 12800) (A1 V) 6144 (by omega) := rfl

theorem X_b : (X V).b = rowed (n := 12800) (A1 V) 8192 (by omega) := rfl

theorem X_c : (X V).c = rowed (n := 12800) (A1 V) 10240 (by omega) := rfl

theorem X_d : (X V).d = rowed (n := 4096) (A0 V) 2048 (by omega) := rfl

theorem v0_at : (res_main_v0 V : S4096x2048.Idx → EReal) (ix2 r j) = (X V).h r.val j := by
  rw [X_h, rowed_cast]
  show extractStridedSlice S4096x2048 ![0, 6144] (A1 V) slices_S4096x12800_S4096x2048_0_6144 (ix2 r j) = _
  pointwise

theorem v1_at : (res_main_v1 V : S4096x2048.Idx → EReal) (ix2 r j) = (X V).b r.val j := by
  rw [X_b, rowed_cast]
  show extractStridedSlice S4096x2048 ![0, 8192] (A1 V) slices_S4096x12800_S4096x2048_0_8192 (ix2 r j) = _
  pointwise

theorem v2_at : (res_main_v2 V : S4096x2048.Idx → EReal) (ix2 r j) = (X V).c r.val j := by
  rw [X_c, rowed_cast]
  show extractStridedSlice S4096x2048 ![0, 10240] (A1 V) slices_S4096x12800_S4096x2048_0_10240 (ix2 r j) = _
  pointwise

theorem v48_at : (res_main_v48 V : S4096x2048.Idx → EReal) (ix2 r j) = (X V).d r.val j := by
  rw [X_d, rowed_cast]
  show extractStridedSlice S4096x2048 ![0, 2048] (A0 V) slices_S4096x4096_S4096x2048_0_2048 (ix2 r j) = _
  pointwise

theorem t_out (z : ℤ) (hz : ¬(0 ≤ z ∧ z < 4096)) : (X V).t z j = 0 := by
  rw [In.t, show (X V).h z j = 0 from rowed_out _ _ (by omega) _ _ hz, zero_mul]

theorem v6_at (q : Fin 4098) : (res_main_v6 V : S4098x2048.Idx → EReal) (ix2 q j) = (X V).t (q.val - 1) j := by
  unfold res_main_v6 res_main_v5; clean_types; pointwise
  by_cases h0 : q.val < 1
  · rw [dif_pos h0, t_out V j _ (by omega)]
  · rw [dif_neg h0]
    by_cases h1 : q.val - 1 < 4096
    · rw [dif_pos h1]
      have e : ((q.val : ℤ) - 1) = ((⟨q.val - 1, h1⟩ : Fin 4096).val : ℤ) := by simp only; omega
      rw [e, In.t, ← v0_at, ← v2_at, mul_comm]
    · rw [dif_neg h1, t_out V j _ (by omega)]

theorem v9_at : (res_main_v9 V : S4096x2048.Idx → EReal) (ix2 r j) = (X V).t (r.val - 1) j := by
  unfold res_main_v9; clean_types; pointwise [v6_at]

theorem v15_at : (res_main_v15 V : S4096x2048.Idx → EReal) (ix2 r j) = (X V).t r.val j := by
  unfold res_main_v15; clean_types; pointwise [v6_at]
  congr 1; push_cast; omega

theorem v22_at : (res_main_v22 V : S4096x2048.Idx → EReal) (ix2 r j) = (X V).t (r.val + 1) j := by
  unfold res_main_v22; clean_types; pointwise [v6_at]
  congr 1; push_cast; omega

theorem v12_at : (res_main_v12 V : S1x2048.Idx → EReal) (ix2 0 j) = (X V).w 0 j := by
  unfold res_main_v12; clean_types; pointwise; rfl
theorem v18_at : (res_main_v18 V : S1x2048.Idx → EReal) (ix2 0 j) = (X V).w 1 j := by
  unfold res_main_v18; clean_types; pointwise; rfl
theorem v25_at : (res_main_v25 V : S1x2048.Idx → EReal) (ix2 0 j) = (X V).w 2 j := by
  unfold res_main_v25; clean_types; pointwise; rfl
theorem v45_at : (res_main_v45 V : S1x2048.Idx → EReal) (ix2 0 j) = (X V).nw j := by
  unfold res_main_v45; clean_types; pointwise; rfl

theorem v28_at : (res_main_v28 V : S4096x2048.Idx → EReal) (ix2 r j) = (X V).acc r.val j := by
  unfold res_main_v28; clean_types; pointwise [v9_at, v15_at, v22_at, v12_at, v18_at, v25_at]; rfl

variable (g : Fin 16) (l : Fin 128)

theorem v30_at : (res_main_v30 V : S4096x16x128.Idx → EReal) (ix3 r g l) = (X V).y r.val (lane g l) := by
  have e : (⟨g.val * 128 + l.val, by omega⟩ : Fin 2048) = lane g l := Fin.ext (by simp only [lane]; omega)
  unfold res_main_v30; clean_types; pointwise [v1_at, v28_at]
  rw [e]; rfl

theorem v55_at : (res_main_v55 V : S4096x16x128.Idx → EReal) (ix3 r g l) = (X V).dn r.val (lane g l) := by
  have e : (⟨g.val * 128 + l.val, by omega⟩ : Fin 2048) = lane g l := Fin.ext (by simp only [lane]; omega)
  unfold res_main_v55; clean_types; pointwise [v48_at, v45_at]
  rw [e]; rfl

theorem v37_at : (res_main_v37 V : S4096x16x1.Idx → EReal) (ix3 r g 0)
    = Ideal.div (∑ l, (X V).y r.val (lane g l) * (X V).y r.val (lane g l)) c128 + eps := by
  unfold res_main_v37; clean_types; pointwise [v30_at]; rfl

theorem v38_at : (res_main_v38 V : S4096x16x1.Idx → EReal) (ix3 r g 0) = (X V).f r.val g := by
  unfold res_main_v38; clean_types; pointwise [v37_at]; rfl

theorem v44_at : (res_main_v44 V : S4096x2048.Idx → EReal) (ix2 r j) = (X V).n r.val j := by
  unfold res_main_v44; clean_types; pointwise [v30_at, v38_at]
  show (X V).y r.val (lane (grp j) (off j)) * (X V).f r.val (grp j) = _
  rw [lane_grp_off]; rfl

theorem v65_at : (res_main_v65 V : S4096x16x128.Idx → EReal) (ix3 r g l)
    = Ideal.div ((∑ k, (X V).y r.val (lane g k) * (X V).dn r.val (lane g k)) * (Ideal.ofBits .f32 0xBF000000#32
        * Ideal.div ((X V).f r.val g) (Ideal.div (∑ k, (X V).y r.val (lane g k) * (X V).y r.val (lane g k)) c128 + eps))) c128 := by
  unfold res_main_v65; clean_types; pointwise [v30_at, v55_at, v37_at, v38_at]
  rw [Fin.sum_univ_one, v38_at, v37_at]; rfl

theorem v70_at : (res_main_v70 V : S4096x2048.Idx → EReal) (ix2 r j) = (X V).dy r.val j := by
  unfold res_main_v70; clean_types; pointwise [v30_at, v38_at, v55_at, v65_at]
  refine (norm_grad (fun l => (X V).y r.val (lane (grp j) l)) (fun l => (X V).dn r.val (lane (grp j) l)) (off j)).trans ?_
  simp only [lane_grp_off, In.dy, In.mu, In.n, grp_lane]
  rfl

theorem v71_at : (res_main_v71 V : S4096x2048.Idx → EReal) (ix2 r j) = (X V).dv r.val j := by
  unfold res_main_v71; clean_types; pointwise [v1_at, v70_at]
  rw [In.dv, mul_comm]

theorem dv_out (z : ℤ) (hz : ¬(0 ≤ z ∧ z < 4096)) : (X V).dv z j = 0 := by
  rw [In.dv, show (X V).b z j = 0 from rowed_out _ _ (by omega) _ _ hz, mul_zero]

theorem v105_at : (res_main_v105 V : S4096x2048.Idx → EReal) (ix2 r j) = (X V).dt r.val j := by
  unfold res_main_v105 res_main_v103; clean_types; pointwise [v71_at, v12_at, v18_at, v25_at]
  rw [In.dt, add_comm, add_comm (dite (2 ≤ 1 + r.val ∧ _) _ _), ← add_assoc]
  congr 1
  · congr 1
    by_cases h : 1 + r.val < 4096
    · rw [dif_pos h]; congr 2; push_cast; ring
    · rw [dif_neg h, dv_out V j _ (by omega), zero_mul]
  · by_cases h : 2 ≤ 1 + r.val ∧ 1 + r.val - 2 < 4096
    · rw [dif_pos h]; congr 2; omega
    · rw [dif_neg h, dv_out V j _ (by omega), zero_mul]

/-! The three results at an index. -/

theorem dcw_at (k : Fin 3) : ∀ u : S4096x2048.Idx → EReal, (∀ (r : Fin 4096) (j : Fin 2048), u (ix2 r j) = (X V).t (r.val + k.val - 1) j) →
    (Host.reduceAdd (F := Ideal) (φ := .f32) (mulf u (res_main_v71 V)) (constant S_ .f32 0x00000000#32) reducesTo_S4096x2048_S2048_d0 h_S_) (ix1 j)
      = ∑ r : Fin 4096, (X V).t (r.val + k.val - 1) j * (X V).dv r.val j := by
  intro u hu
  clean_types; pointwise [hu, v71_at]

end Cert.SC.Ref
-- ==== Proof.Results.lean ====
module

public import proofs.«01_k».proof.Proof.Ref

/-! The reference's three results at an index. -/

@[expose] public section

set_option maxRecDepth 16384

noncomputable section

namespace Cert.SC.Ref

open Cert.ReferenceIdeal Cert.ReferenceIdeal.Gen Cert.ReferenceIdeal.Value Idealize.ShloMosaic Idealize.ShloMosaic.TcCoe

variable {F : FTy → Type} [FloatOps F]

/-- The results as the reference computes them from the contents of the buffers. -/
def out0 (V : Valuation τ sig (Elt F)) : (⟨S4096x12800, .bf16⟩ : BufTy).Contents (Elt F) := (concatenate S4096x12800 1 [⟨S4096x6144, ((extractStridedSlice S4096x6144 ![0, 0] (V (Proc.devRef .tc main_arg4)) slices_S4096x12800_S4096x6144_0_0) : (⟨S4096x6144, .bf16⟩ : BufTy).Contents (Elt F))⟩, ⟨S4096x6144, ((truncf .bf16 ((concatenate S4096x6144 1 [⟨S4096x2048, ((mulf (res_main_v2 V) (res_main_v105 V)) : (⟨S4096x2048, .f32⟩ : BufTy).Contents (Elt F))⟩, ⟨S4096x2048, ((mulf (res_main_v70 V) (res_main_v28 V)) : (⟨S4096x2048, .f32⟩ : BufTy).Contents (Elt F))⟩, ⟨S4096x2048, ((mulf (res_main_v105 V) (res_main_v0 V)) : (⟨S4096x2048, .f32⟩ : BufTy).Contents (Elt F))⟩] concatenates_S4096x2048_S4096x2048_S4096x2048_S4096x6144_d1 : (⟨S4096x6144, .f32⟩ : BufTy).Contents (Elt F))) bitsLt_bf16_f32) : (⟨S4096x6144, .bf16⟩ : BufTy).Contents (Elt F))⟩, ⟨S4096x512, ((extractStridedSlice S4096x512 ![0, 12288] (V (Proc.devRef .tc main_arg4)) slices_S4096x12800_S4096x512_0_12288) : (⟨S4096x512, .bf16⟩ : BufTy).Contents (Elt F))⟩] concatenates_S4096x6144_S4096x6144_S4096x512_S4096x12800_d1 : (⟨S4096x12800, .bf16⟩ : BufTy).Contents (Elt F))

def out1 (V : Valuation τ sig (Elt F)) : (⟨S8x2048, .f32⟩ : BufTy).Contents (Elt F) := pad S8x2048 ![0, 0] ![5, 0] ![0, 0] (addf (addf (pad S3x2048 ![2, 0] ![0, 0] ![0, 0] (broadcastInDim S1x2048 ![1] bcast_S2048_S1x2048_1 (Host.reduceAdd (shapeCast _ (Host.reduceAdd (mulf (res_main_v22 V) (res_main_v71 V)) (constant S_ .f32 0x00000000#32) reducesTo_S4096x2048_S2048_d0 h_S_) shapeCasts_S2048_S1x2048) (constant S_ .f32 0x00000000#32) reducesTo_S1x2048_S2048_d0 h_S_)) (constant S_ .f32 0x00000000#32) pads_S1x2048_S3x2048_200_000 h_S_) (pad S3x2048 ![1, 0] ![1, 0] ![0, 0] (broadcastInDim S1x2048 ![1] bcast_S2048_S1x2048_1 (Host.reduceAdd (shapeCast _ (Host.reduceAdd (mulf (res_main_v15 V) (res_main_v71 V)) (constant S_ .f32 0x00000000#32) reducesTo_S4096x2048_S2048_d0 h_S_) shapeCasts_S2048_S1x2048) (constant S_ .f32 0x00000000#32) reducesTo_S1x2048_S2048_d0 h_S_)) (constant S_ .f32 0x00000000#32) pads_S1x2048_S3x2048_110_000 h_S_)) (pad S3x2048 ![0, 0] ![2, 0] ![0, 0] (broadcastInDim S1x2048 ![1] bcast_S2048_S1x2048_1 (Host.reduceAdd (shapeCast _ (Host.reduceAdd (mulf (res_main_v9 V) (res_main_v71 V)) (constant S_ .f32 0x00000000#32) reducesTo_S4096x2048_S2048_d0 h_S_) shapeCasts_S2048_S1x2048) (constant S_ .f32 0x00000000#32) reducesTo_S1x2048_S2048_d0 h_S_)) (constant S_ .f32 0x00000000#32) pads_S1x2048_S3x2048_020_000 h_S_)) (sitofp .f32 (constantI S_ 32 0#32)) pads_S3x2048_S8x2048_050_000 h_S_

def out2 (V : Valuation τ sig (Elt F)) : (⟨S1x2048, .f32⟩ : BufTy).Contents (Elt F) := broadcastInDim S1x2048 ![1] bcast_S2048_S1x2048_1 (Host.reduceAdd (shapeCast _ (Host.reduceAdd (mulf (res_main_v44 V) (res_main_v48 V)) (constant S_ .f32 0x00000000#32) reducesTo_S4096x2048_S2048_d0 h_S_) shapeCasts_S2048_S1x2048) (constant S_ .f32 0x00000000#32) reducesTo_S1x2048_S2048_d0 h_S_)

variable (V : Valuation τ sig (Elt Ideal))

theorem out2_at (j : Fin 2048) : (out2 V : S1x2048.Idx → EReal) (ix2 0 j) = (X V).res2 j := by
  unfold out2 In.res2
  clean_types; pointwise [v44_at, v48_at]
  simp only [Finset.univ_unique, Finset.sum_singleton]

theorem out1_at (k : Fin 8) (j : Fin 2048) : (out1 V : S8x2048.Idx → EReal) (ix2 k j) = (X V).res1 k j := by
  have z : (FloatOps.sitofp FTy.f32 0#32 : Ideal FTy.f32) = (0 : EReal) := by
    show (((0#32).toInt : ℝ) : EReal) = 0
    norm_num
  unfold out1 In.res1
  clean_types; pointwise [v9_at, v15_at, v22_at, v71_at]
  simp only [Finset.univ_unique, Finset.sum_singleton]
  rw [z]
  by_cases h : k.val < 3
  · rw [dif_pos h, if_pos h]
    rcases (by omega : k.val = 0 ∨ k.val = 1 ∨ k.val = 2) with hk | hk | hk
    · rw [dif_neg (by omega), dif_neg (by omega), dif_pos (by omega), add_zero, zero_add, hk]
      exact Finset.sum_congr rfl fun r _ => by rw [Nat.cast_zero, add_zero]
    · rw [dif_neg (by omega), dif_pos (by omega), dif_neg (by omega), add_zero, zero_add, hk]
      exact Finset.sum_congr rfl fun r _ => by rw [Nat.cast_one, add_sub_cancel_right]
    · rw [dif_pos (by omega), dif_neg (by omega), dif_neg (by omega), add_zero, add_zero, hk]
      exact Finset.sum_congr rfl fun r _ => by rw [show (r.val : ℤ) + ((2 : ℕ) : ℤ) - 1 = r.val + 1 from by push_cast; ring]
  · rw [dif_neg h, if_neg h]

theorem out0_at (r : Fin 4096) (j : Fin 12800) : (out0 V : S4096x12800.Idx → EReal) (ix2 r j) = (X V).res0 (A4 V) (ix2 r j) := by
  unfold out0 In.res0 In.gates
  clean_types; pointwise
  by_cases h0 : j.val < 6144
  · rw [dif_pos h0, dif_neg (by omega)]
  · rw [dif_neg h0]
    by_cases h1 : j.val < 12288
    · rw [dif_pos (show j.val - 6144 < 6144 by omega), dif_pos (show 6144 ≤ j.val ∧ j.val < 12288 by omega)]
      by_cases h2 : j.val - 6144 < 2048
      · rw [dif_pos h2, dif_pos h2, v2_at, v105_at, mul_comm]
      · rw [dif_neg h2, dif_neg h2]
        by_cases h3 : j.val - 6144 < 4096
        · rw [dif_pos (by omega), dif_pos h3, v70_at, v28_at]
        · rw [dif_neg (by omega), dif_neg h3, v105_at, v0_at]
          simp only [Nat.sub_sub]
    · rw [dif_neg (by omega), dif_neg (by omega)]
      have e : (⟨12288 + (j.val - 6144 - 6144), by omega⟩ : Fin 12800) = j := Fin.ext (by show 12288 + (j.val - 6144 - 6144) = j.val; omega)
      rw [e]

end Cert.SC.Ref
-- ==== Proof.Agree.lean ====
module

public import proofs.«01_k».proof.Defs
public import proofs.«01_k».proof.Proof.Arrays
public import proofs.«01_k».proof.Proof.Results

/-! Kernel and reference leave the same results. -/

@[expose] public section

set_option maxRecDepth 16384

noncomputable section

namespace Cert.SC

open Idealize.ShloMosaic Idealize.ShloMosaic.TcCoe Idealize.ShloMosaic.StableHlo Idealize.SL.Sem

namespace Ref

variable (V : Valuation Cert.ReferenceIdeal.τ Cert.ReferenceIdeal.sig (Elt Ideal))

theorem out0_eq : out0 V = (X V).res0 (A4 V) := funext fun i =>
  (congrArg (out0 V) (eq_ix2 i)).trans ((out0_at V _ _).trans (congrArg ((X V).res0 (A4 V)) (eq_ix2 i).symm))

theorem out1_eq : out1 V = fun i => (X V).res1 (i 0) (i 1) := funext fun i =>
  (congrArg (out1 V) (eq_ix2 i)).trans (out1_at V _ _)

theorem out2_eq : out2 V = fun i => (X V).res2 (i 1) := funext fun i =>
  (congrArg (out2 V) ((eq_ix2 i).trans (congrArg (fun z => ix2 z (i 1)) (Subsingleton.elim (α := Fin 1) (i 0) 0)))).trans (out2_at V _)

end Ref

theorem agree : Cert.algebraic_KernelIdeal_ReferenceIdeal := by
  intro m ρ m' ρ' _ hag
  have hX : ∀ c, Ref.X (launchContents m' c) = X m c := fun c => by
    obtain ⟨h0, h1, h2, h3, h4⟩ := hag c
    exact (congr (congr (congr (congrArg inOf h0) h1) h2) h3)
  have hA : ∀ c, Ref.A4 (launchContents m' c) = A4 m c := fun c => (hag c).2.2.2.2
  refine ⟨fun c => (X m c).res0 (A4 m c), fun c => fun i => (X m c).res1 (i 0) (i 1), fun c => fun i => (X m c).res2 (i 1), ?_, ?_⟩
  · refine (θ_run _ _ _).mono (fun _ h c => ?_) (Cert.KernelIdeal.Value.run_blocks m ρ)
    obtain ⟨h0, h1, h2, h⟩ := h c
    exact ⟨h0.trans (arr14 m c), h1.trans (arr15 m c), h2.trans (arr16 m c), h⟩
  · refine (θ_run _ _ _).mono (fun _ h c => ?_) (Cert.ReferenceIdeal.Value.run m' ρ')
    obtain ⟨h0, h1, h2, h⟩ := h c
    refine ⟨h0.trans ((Ref.out0_eq _).trans ?_), h1.trans ((Ref.out1_eq _).trans ?_), h2.trans ((Ref.out2_eq _).trans ?_), h⟩
    · exact congrArg₂ In.res0 (hX c) (hA c)
    · exact congrArg (fun Y : In => fun i : Cert.KernelIdeal.S8x2048.Idx => Y.res1 (i 0) (i 1)) (hX c)
    · exact congrArg (fun Y : In => fun i : Cert.KernelIdeal.S1x2048.Idx => Y.res2 (i 1)) (hX c)

theorem frame_ref : Cert.quiescent_ReferenceIdeal := fun m ρ _ =>
  (θ_run _ _ _).mono (fun r h => ⟨fun c => (h c).2.2.2, sem_eq_zero_of_no_sems rfl r.2⟩) (Cert.ReferenceIdeal.Value.run m ρ)

end Cert.SC
-- ==== Proof.Down.lean ====
module

public import proofs.«01_k».proof.Defs
public import proofs.«01_k».proof.Proof.Gen.Kernel2Ideal.Value
public import proofs.«01_k».proof.Proof.Gen.Reference2Ideal.Run
public import Idealize.ShloMosaic.Lib.Pipeline.ValueKit
public import Idealize.ShloMosaic.Lib.Pointwise
public import Idealize.ShloMosaic.Lib.Tactic.CleanTypes

/-! The gradient of the channel mixer's second weight: the kernel's tiled product is the whole product. -/

@[expose] public section

set_option maxRecDepth 16384

noncomputable section

namespace Cert.Down

open Idealize.ShloMosaic Idealize.ShloMosaic.TcCoe Idealize.ShloMosaic.StableHlo Idealize.SL.Sem

/-- The product of the first array's transpose and the second array. -/
def prodT (A : (⟨2, ![4096, 16384]⟩ : Shape).Idx → EReal) (B : (⟨2, ![4096, 4096]⟩ : Shape).Idx → EReal)
    (i : (⟨2, ![16384, 4096]⟩ : Shape).Idx) : EReal :=
  ∑ k : Fin 4096, A (ix2 k (i 0)) * B (ix2 k (i 1))

section Kernel
open Cert.Kernel2Ideal Cert.Kernel2Ideal.Gen

variable (m : (ℓ : Loc nD τ sig) → Buf (Elt Ideal) ℓ) (c : Dev nD)

def A : S4096x16384.Idx → EReal := m ((c.tc : Thread nD τ).loc main_arg0)
def B : S4096x4096.Idx → EReal := m ((c.tc : Thread nD τ).loc main_arg1)

/-- What a grid point stores: its columns of the first array against its columns of the second. -/
theorem point_at (x : Vec Ideal S4096x1024 .bf16) (y : Vec Ideal S4096x1024 .bf16) (p : Fin 1024) (q : Fin 1024) :
    (out0_2 x y : S1024x1024.Idx → EReal) (ix2 p q)
      = ∑ k : Fin 4096, (x : S4096x1024.Idx → EReal) (ix2 k p) * (y : S4096x1024.Idx → EReal) (ix2 k q) := by
  unfold out0_2
  frame_out
  unfold k0_pay1
  clean_types; pointwise

theorem ix : ∀ t : Fin cfg0.N, win0_0.index t = ![0, win0_2.index t 0] ∧ win0_1.index t = ![0, win0_2.index t 1]
    ∧ win0_2.index t 0 < 16384 / 1024 ∧ win0_2.index t 1 < 4096 / 1024 :=
  (by decide +kernel : ∀ t : Fin grid0.N, win0_0.index t = ![0, win0_2.index t 0] ∧ win0_1.index t = ![0, win0_2.index t 1]
    ∧ win0_2.index t 0 < 16384 / 1024 ∧ win0_2.index t 1 < 4096 / 1024)

theorem left_at (t : Fin cfg0.N) (k : Fin 4096) (p : Fin 1024) : (iblk m c 0 t : S4096x1024.Idx → EReal) (ix2 k p)
    = A m c (ix2 k ⟨win0_2.index t 0 * 1024 + p.val, by have := ix t; omega⟩) := by
  blk_ext [iblk, V, (ix t).1, A]

theorem right_at (t : Fin cfg0.N) (k : Fin 4096) (q : Fin 1024) : (iblk m c 1 t : S4096x1024.Idx → EReal) (ix2 k q)
    = B m c (ix2 k ⟨win0_2.index t 1 * 1024 + q.val, by have := ix t; omega⟩) := by
  blk_ext [iblk, V, (ix t).2.1, B]

theorem emb_at (t : Fin cfg0.N) (y : (win0_2.xblock (grid0.coords t)).Idx) (p : Fin 1024) (q : Fin 1024) (hp : (y 0).val = p.val) (hq : (y 1).val = q.val) :
    (win0_2.blk t).view.emb y
      = (ix2 ⟨win0_2.index t 0 * 1024 + p.val, by have := ix t; omega⟩ ⟨win0_2.index t 1 * 1024 + q.val, by have := ix t; omega⟩ : S16384x4096.Idx) := by
  blk_ext

theorem arr : (dats m 0 c).arrAt 2 cfg0.N = prodT (A m c) (B m c) := by
  refine (dats m 0 c).arrAt_eq_of_covers 2 (prodT (A m c) (B m c)) (by decide +kernel) fun t hf y => ?_
  blk_simp
  rw [after0_2]
  rw [emb_at t y ((cfg0.win 2).xinj (cfg0.grid.coords t) y 0) ((cfg0.win 2).xinj (cfg0.grid.coords t) y 1) rfl rfl]
  refine (congrArg (out0_2 (iblk m c 0 t) (iblk m c 1 t)) (eq_ix2 _)).trans ((point_at _ _ _ _).trans ?_)
  exact Finset.sum_congr rfl fun k _ => congrArg₂ (· * ·) (left_at m c t k _) (right_at m c t k _)

end Kernel

section Reference
open Cert.Reference2Ideal Cert.Reference2Ideal.Gen

/-- The reference's result, from the two arrays. -/
def out {F : FTy → Type} [FloatOps F] (a : (⟨S4096x16384, .bf16⟩ : BufTy).Contents (Elt F)) (b : (⟨S4096x4096, .bf16⟩ : BufTy).Contents (Elt F)) :
    (⟨S16384x4096, .bf16⟩ : BufTy).Contents (Elt F) :=
  truncf .bf16 (transpose S16384x4096 [1, 0] (Host.dotGeneral dot_S4096x4096_S4096x16384_S4096x16384_0_0_1_1_n_n none (extf .f32 b bitsLt_bf16_f32) (extf .f32 a bitsLt_bf16_f32)) transposes_S4096x16384_S16384x4096_1_0) bitsLt_bf16_f32

theorem out_at (a : (⟨S4096x16384, .bf16⟩ : BufTy).Contents (Elt Ideal)) (b : (⟨S4096x4096, .bf16⟩ : BufTy).Contents (Elt Ideal))
    (p : Fin 16384) (q : Fin 4096) : (out a b : S16384x4096.Idx → EReal) (ix2 p q) = prodT a b (ix2 p q) := by
  unfold out prodT
  clean_types; pointwise
  exact Finset.sum_congr rfl fun k _ => mul_comm _ _

theorem out_eq (a : (⟨S4096x16384, .bf16⟩ : BufTy).Contents (Elt Ideal)) (b : (⟨S4096x4096, .bf16⟩ : BufTy).Contents (Elt Ideal)) :
    out a b = prodT a b := funext fun i =>
  (congrArg (out a b) (eq_ix2 i)).trans ((out_at a b _ _).trans (congrArg (prodT a b) (eq_ix2 i).symm))

end Reference

theorem agree : Cert.algebraic_Kernel2Ideal_Reference2Ideal := by
  intro m ρ m' ρ' _ hag
  refine ⟨fun c => prodT (A m c) (B m c), ?_, ?_⟩
  · refine (θ_run _ _ _).mono (fun _ h c => ?_) (Cert.Kernel2Ideal.Value.run_blocks m ρ)
    exact ⟨(h c).1.trans (arr m c), (h c).2⟩
  · refine (θ_run _ _ _).mono (fun _ h c => ?_) (Cert.Reference2Ideal.Value.run m' ρ')
    exact ⟨(h c).1.trans ((out_eq _ _).trans (congrArg₂ prodT (hag c).1 (hag c).2)), (h c).2⟩

theorem frame_ref : Cert.quiescent_Reference2Ideal := fun m ρ _ =>
  (θ_run _ _ _).mono (fun r h => ⟨fun c => (h c).2, sem_eq_zero_of_no_sems rfl r.2⟩) (Cert.Reference2Ideal.Value.run m ρ)

end Cert.Down
-- ==== Proof.InProj.lean ====
module

public import proofs.«01_k».proof.Defs
public import proofs.«01_k».proof.Proof.Gen.Kernel3Ideal.Value
public import proofs.«01_k».proof.Proof.Gen.Reference3Ideal.Run
public import Idealize.ShloMosaic.Lib.Pipeline.ValueKit
public import Idealize.ShloMosaic.Lib.Pointwise
public import Idealize.ShloMosaic.Lib.Tactic.CleanTypes

/-! The gradient of the input projection's weight: the kernel's tiled product is the whole product. -/

@[expose] public section

set_option maxRecDepth 16384

noncomputable section

namespace Cert.InProj

open Idealize.ShloMosaic Idealize.ShloMosaic.TcCoe Idealize.ShloMosaic.StableHlo Idealize.SL.Sem

/-- The product of the first array's transpose and the second array. -/
def prodT (A : (⟨2, ![4096, 4096]⟩ : Shape).Idx → EReal) (B : (⟨2, ![4096, 12800]⟩ : Shape).Idx → EReal)
    (i : (⟨2, ![4096, 12800]⟩ : Shape).Idx) : EReal :=
  ∑ k : Fin 4096, A (ix2 k (i 0)) * B (ix2 k (i 1))

section Kernel
open Cert.Kernel3Ideal Cert.Kernel3Ideal.Gen

variable (m : (ℓ : Loc nD τ sig) → Buf (Elt Ideal) ℓ) (c : Dev nD)

def A : S4096x4096.Idx → EReal := m ((c.tc : Thread nD τ).loc main_arg0)
def B : S4096x12800.Idx → EReal := m ((c.tc : Thread nD τ).loc main_arg1)

/-- What a grid point stores: its columns of the first array against its columns of the second. -/
theorem point_at (x : Vec Ideal S4096x1024 .bf16) (y : Vec Ideal S4096x1280 .bf16) (p : Fin 1024) (q : Fin 1280) :
    (out0_2 x y : S1024x1280.Idx → EReal) (ix2 p q)
      = ∑ k : Fin 4096, (x : S4096x1024.Idx → EReal) (ix2 k p) * (y : S4096x1280.Idx → EReal) (ix2 k q) := by
  unfold out0_2
  frame_out
  unfold k0_pay1
  clean_types; pointwise

theorem ix : ∀ t : Fin cfg0.N, win0_0.index t = ![0, win0_2.index t 0] ∧ win0_1.index t = ![0, win0_2.index t 1]
    ∧ win0_2.index t 0 < 4096 / 1024 ∧ win0_2.index t 1 < 12800 / 1280 :=
  (by decide +kernel : ∀ t : Fin grid0.N, win0_0.index t = ![0, win0_2.index t 0] ∧ win0_1.index t = ![0, win0_2.index t 1]
    ∧ win0_2.index t 0 < 4096 / 1024 ∧ win0_2.index t 1 < 12800 / 1280)

theorem left_at (t : Fin cfg0.N) (k : Fin 4096) (p : Fin 1024) : (iblk m c 0 t : S4096x1024.Idx → EReal) (ix2 k p)
    = A m c (ix2 k ⟨win0_2.index t 0 * 1024 + p.val, by have := ix t; omega⟩) := by
  blk_ext [iblk, V, (ix t).1, A]

theorem right_at (t : Fin cfg0.N) (k : Fin 4096) (q : Fin 1280) : (iblk m c 1 t : S4096x1280.Idx → EReal) (ix2 k q)
    = B m c (ix2 k ⟨win0_2.index t 1 * 1280 + q.val, by have := ix t; omega⟩) := by
  blk_ext [iblk, V, (ix t).2.1, B]

theorem emb_at (t : Fin cfg0.N) (y : (win0_2.xblock (grid0.coords t)).Idx) (p : Fin 1024) (q : Fin 1280) (hp : (y 0).val = p.val) (hq : (y 1).val = q.val) :
    (win0_2.blk t).view.emb y
      = (ix2 ⟨win0_2.index t 0 * 1024 + p.val, by have := ix t; omega⟩ ⟨win0_2.index t 1 * 1280 + q.val, by have := ix t; omega⟩ : S4096x12800.Idx) := by
  blk_ext

theorem arr : (dats m 0 c).arrAt 2 cfg0.N = prodT (A m c) (B m c) := by
  refine (dats m 0 c).arrAt_eq_of_covers 2 (prodT (A m c) (B m c)) (by decide +kernel) fun t hf y => ?_
  blk_simp
  rw [after0_2]
  rw [emb_at t y ((cfg0.win 2).xinj (cfg0.grid.coords t) y 0) ((cfg0.win 2).xinj (cfg0.grid.coords t) y 1) rfl rfl]
  refine (congrArg (out0_2 (iblk m c 0 t) (iblk m c 1 t)) (eq_ix2 _)).trans ((point_at _ _ _ _).trans ?_)
  exact Finset.sum_congr rfl fun k _ => congrArg₂ (· * ·) (left_at m c t k _) (right_at m c t k _)

end Kernel

section Reference
open Cert.Reference3Ideal Cert.Reference3Ideal.Gen

/-- The reference's result, from the two arrays. -/
def out {F : FTy → Type} [FloatOps F] (a : (⟨S4096x4096, .bf16⟩ : BufTy).Contents (Elt F)) (b : (⟨S4096x12800, .bf16⟩ : BufTy).Contents (Elt F)) :
    (⟨S4096x12800, .bf16⟩ : BufTy).Contents (Elt F) :=
  truncf .bf16 (transpose S4096x12800 [1, 0] (Host.dotGeneral dot_S4096x12800_S4096x4096_S12800x4096_0_0_1_1_n_n none (extf .f32 b bitsLt_bf16_f32) (extf .f32 a bitsLt_bf16_f32)) transposes_S12800x4096_S4096x12800_1_0) bitsLt_bf16_f32

theorem out_at (a : (⟨S4096x4096, .bf16⟩ : BufTy).Contents (Elt Ideal)) (b : (⟨S4096x12800, .bf16⟩ : BufTy).Contents (Elt Ideal))
    (p : Fin 4096) (q : Fin 12800) : (out a b : S4096x12800.Idx → EReal) (ix2 p q) = prodT a b (ix2 p q) := by
  unfold out prodT
  clean_types; pointwise
  exact Finset.sum_congr rfl fun k _ => mul_comm _ _

theorem out_eq (a : (⟨S4096x4096, .bf16⟩ : BufTy).Contents (Elt Ideal)) (b : (⟨S4096x12800, .bf16⟩ : BufTy).Contents (Elt Ideal)) :
    out a b = prodT a b := funext fun i =>
  (congrArg (out a b) (eq_ix2 i)).trans ((out_at a b _ _).trans (congrArg (prodT a b) (eq_ix2 i).symm))

end Reference

theorem agree : Cert.algebraic_Kernel3Ideal_Reference3Ideal := by
  intro m ρ m' ρ' _ hag
  refine ⟨fun c => prodT (A m c) (B m c), ?_, ?_⟩
  · refine (θ_run _ _ _).mono (fun _ h c => ?_) (Cert.Kernel3Ideal.Value.run_blocks m ρ)
    exact ⟨(h c).1.trans (arr m c), (h c).2⟩
  · refine (θ_run _ _ _).mono (fun _ h c => ?_) (Cert.Reference3Ideal.Value.run m' ρ')
    exact ⟨(h c).1.trans ((out_eq _ _).trans (congrArg₂ prodT (hag c).1 (hag c).2)), (h c).2⟩

theorem frame_ref : Cert.quiescent_Reference3Ideal := fun m ρ _ =>
  (θ_run _ _ _).mono (fun r h => ⟨fun c => (h c).2, sem_eq_zero_of_no_sems rfl r.2⟩) (Cert.Reference3Ideal.Value.run m ρ)

end Cert.InProj
-- ==== Proof.Ff.lean ====
module

public import proofs.«01_k».proof.Defs
public import proofs.«01_k».proof.Proof.Gen.Kernel4Ideal.Value
public import proofs.«01_k».proof.Proof.Gen.Reference4Ideal.Run
public import Idealize.ShloMosaic.Lib.Pipeline.ValueKit
public import Idealize.ShloMosaic.Lib.Pipeline.ReadBack
public import Idealize.ShloMosaic.Lib.Pointwise
public import Idealize.ShloMosaic.Lib.Tactic.CleanTypes

/-! The channel mixer's second product: four partial products of 4096 columns each, added up in a buffer, are the whole
product. -/

@[expose] public section

set_option maxRecDepth 16384

noncomputable section

namespace Cert.Ff

open Idealize.ShloMosaic Idealize.ShloMosaic.TcCoe Idealize.ShloMosaic.StableHlo Idealize.SL.Sem

def prod (A : (⟨2, ![4096, 16384]⟩ : Shape).Idx → EReal) (B : (⟨2, ![16384, 4096]⟩ : Shape).Idx → EReal)
    (i : (⟨2, ![4096, 4096]⟩ : Shape).Idx) : EReal :=
  ∑ k : Fin 16384, A (ix2 (i 0) k) * B (ix2 k (i 1))

section Kernel
open Cert.Kernel4Ideal Cert.Kernel4Ideal.Gen

/-- One partial product. -/
def part {F : FTy → Type} [FloatOps F] (x : Vec F S1024x4096 .bf16) (y : Vec F S4096x1024 .bf16) : FVec F S1024x1024 .f32 :=
  matmul dot_S1024x4096_S4096x1024_S1024x1024_1_0_0_1_n_n none x y (constant S1024x1024 .f32 0x00000000#32)

section Steps
variable {F : FTy → Type} [FloatOps F]
variable (m : (ℓ : Loc nD τ sig) → Buf (Elt F) ℓ) (c : Dev nD) (t : Fin cfg0.N)

abbrev before : t.val - 1 < cfg0.N := Nat.lt_of_le_of_lt (Nat.sub_le _ _) t.isLt

theorem first (h : t.val % 4 = 0) : (outsAt0 m c t.val t.isLt).2 = part (iblk m c 0 t) (iblk m c 1 t) := by
  rw [outsAt0_A m c t h (by omega) (by omega)]
  dsimp only
  frame_out
  unfold k0_pay2
  rw [shapeCast_self]
  rfl

theorem middle (h : 1 ≤ t.val % 4 ∧ t.val % 4 ≤ 2) :
    (outsAt0 m c t.val t.isLt).2 = addf (outsAt0 m c (t.val - 1) (before t)).2 (part (iblk m c 0 t) (iblk m c 1 t)) := by
  rw [outsAt0_B m c t (by omega) h (by omega)]
  dsimp only
  frame_out
  unfold k0_pay3
  dsimp only
  rw [shapeCast_self, read_unread_whole]
  rfl

theorem last (h : t.val % 4 = 3) :
    (outsAt0 m c t.val t.isLt).1 = addf (outsAt0 m c (t.val - 1) (before t)).2 (part (iblk m c 0 t) (iblk m c 1 t)) := by
  rw [outsAt0_C m c t (by omega) (by omega) h]
  dsimp only
  frame_out
  rw [read_unread_whole]
  rfl
end Steps

variable (m : (ℓ : Loc nD τ sig) → Buf (Elt Ideal) ℓ) (c : Dev nD)

def A : S4096x16384.Idx → EReal := m ((c.tc : Thread nD τ).loc main_arg0)
def B : S16384x4096.Idx → EReal := m ((c.tc : Thread nD τ).loc main_arg1)

theorem part_at (x : Vec Ideal S1024x4096 .bf16) (y : Vec Ideal S4096x1024 .bf16) (p q : Fin 1024) :
    (part x y : S1024x1024.Idx → EReal) (ix2 p q)
      = ∑ k : Fin 4096, (x : S1024x4096.Idx → EReal) (ix2 p k) * (y : S4096x1024.Idx → EReal) (ix2 k q) := by
  unfold part
  clean_types; pointwise

theorem ix : ∀ t : Fin cfg0.N, win0_0.index t = ![win0_2.index t 0, t.val % 4] ∧ win0_1.index t = ![t.val % 4, win0_2.index t 1]
    ∧ win0_2.index t 0 < 4 ∧ win0_2.index t 1 < 4 :=
  (by decide +kernel : ∀ t : Fin grid0.N, win0_0.index t = ![win0_2.index t 0, t.val % 4] ∧ win0_1.index t = ![t.val % 4, win0_2.index t 1]
    ∧ win0_2.index t 0 < 4 ∧ win0_2.index t 1 < 4)

theorem left_at (t : Fin cfg0.N) (k : Fin 4096) (p : Fin 1024) : (iblk m c 0 t : S1024x4096.Idx → EReal) (ix2 p k)
    = A m c (ix2 ⟨win0_2.index t 0 * 1024 + p.val, by have := ix t; omega⟩ ⟨t.val % 4 * 4096 + k.val, by omega⟩) := by
  blk_ext [iblk, V, (ix t).1, A]

theorem right_at (t : Fin cfg0.N) (k : Fin 4096) (q : Fin 1024) : (iblk m c 1 t : S4096x1024.Idx → EReal) (ix2 k q)
    = B m c (ix2 ⟨t.val % 4 * 4096 + k.val, by omega⟩ ⟨win0_2.index t 1 * 1024 + q.val, by have := ix t; omega⟩) := by
  blk_ext [iblk, V, (ix t).2.1, B]

theorem emb_at (t : Fin cfg0.N) (y : (win0_2.xblock (grid0.coords t)).Idx) (p q : Fin 1024) (hp : (y 0).val = p.val) (hq : (y 1).val = q.val) :
    (win0_2.blk t).view.emb y
      = (ix2 ⟨win0_2.index t 0 * 1024 + p.val, by have := ix t; omega⟩ ⟨win0_2.index t 1 * 1024 + q.val, by have := ix t; omega⟩ : S4096x4096.Idx) := by
  blk_ext

/-- The products of columns `4096 s … 4096 s + 4095`. -/
def slab (r j : Fin 4096) (s : ℕ) : EReal :=
  if h : s < 4 then ∑ k : Fin 4096, A m c (ix2 r ⟨s * 4096 + k.val, by omega⟩) * B m c (ix2 ⟨s * 4096 + k.val, by omega⟩ j) else 0

theorem part_slab (t : Fin cfg0.N) (p q : Fin 1024) : (part (iblk m c 0 t) (iblk m c 1 t) : S1024x1024.Idx → EReal) (ix2 p q)
    = slab m c ⟨win0_2.index t 0 * 1024 + p.val, by have := ix t; omega⟩ ⟨win0_2.index t 1 * 1024 + q.val, by have := ix t; omega⟩ (t.val % 4) := by
  unfold slab
  rw [part_at, dif_pos (by omega)]
  exact Finset.sum_congr rfl fun k _ => congrArg₂ (· * ·) (left_at m c t k p) (right_at m c t k q)

theorem same_block : ∀ t : Fin cfg0.N, t.val % 4 ≠ 0 → ∀ t' : Fin cfg0.N, t'.val = t.val - 1 → win0_2.index t' = win0_2.index t :=
  (by decide +kernel : ∀ t : Fin grid0.N, t.val % 4 ≠ 0 → ∀ t' : Fin grid0.N, t'.val = t.val - 1 → win0_2.index t' = win0_2.index t)

/-- The buffer after a point that is not a block's last: the slabs so far. -/
theorem held (p q : Fin 1024) : ∀ (s : ℕ) (t : Fin cfg0.N), t.val % 4 = s → s < 3 →
    ((outsAt0 m c t.val t.isLt).2 : S1024x1024.Idx → EReal) (ix2 p q)
      = ∑ k ∈ Finset.range (s + 1), slab m c ⟨win0_2.index t 0 * 1024 + p.val, by have := ix t; omega⟩ ⟨win0_2.index t 1 * 1024 + q.val, by have := ix t; omega⟩ k := by
  intro s
  induction s with
  | zero =>
    intro t h _
    rw [first m c t h, part_slab, h, Finset.sum_range_one]
  | succ s ih =>
    intro t h hs
    have hb := same_block t (by omega) ⟨t.val - 1, before t⟩ rfl
    rw [middle m c t (by omega), Finset.sum_range_succ]
    have i := ih ⟨t.val - 1, before t⟩ (by show (t.val - 1) % 4 = s; omega) (by omega)
    have e := part_slab m c t p q
    simp only [hb] at i
    rw [h] at e
    exact congrArg₂ (· + ·) i e

theorem whole (r j : Fin 4096) : ∑ k ∈ Finset.range 4, slab m c r j k = prod (A m c) (B m c) (ix2 r j) := by
  rw [Finset.sum_range]
  unfold slab prod
  simp only [Fin.is_lt, dif_pos]
  exact Fin.sum_mul_add_congr (S := 4) (n := 4096) fun s k hl => rfl

theorem done (t : Fin cfg0.N) (h : t.val % 4 = 3) (p q : Fin 1024) : ((outsAt0 m c t.val t.isLt).1 : S1024x1024.Idx → EReal) (ix2 p q)
    = prod (A m c) (B m c) (ix2 ⟨win0_2.index t 0 * 1024 + p.val, by have := ix t; omega⟩ ⟨win0_2.index t 1 * 1024 + q.val, by have := ix t; omega⟩) := by
  have hb := same_block t (by omega) ⟨t.val - 1, before t⟩ rfl
  rw [last m c t h, ← whole, Finset.sum_range_succ]
  have i := held m c p q 2 ⟨t.val - 1, before t⟩ (by show (t.val - 1) % 4 = 2; omega) (by omega)
  have e := part_slab m c t p q
  simp only [hb] at i
  rw [h] at e
  exact congrArg₂ (· + ·) i e

theorem flushes : ∀ t : Fin cfg0.N, (cfg0.win 2).flush t = true → t.val % 4 = 3 := fun t h => (flush0_2 t).mp h

theorem arr : (dats m 0 c).arrAt 2 cfg0.N = prod (A m c) (B m c) := by
  refine (dats m 0 c).arrAt_eq_of_covers 2 (prod (A m c) (B m c)) (by decide +kernel) fun t hf y => ?_
  blk_simp
  rw [after0_2]
  rw [emb_at t y ((cfg0.win 2).xinj (cfg0.grid.coords t) y 0) ((cfg0.win 2).xinj (cfg0.grid.coords t) y 1) rfl rfl]
  exact (congrArg (outsAt0 m c t.val t.isLt).1 (eq_ix2 _)).trans (done m c t (flushes t hf) _ _)

end Kernel

section Reference
open Cert.Reference4Ideal Cert.Reference4Ideal.Gen

/-- The reference's result, from the two arrays. -/
def out {F : FTy → Type} [FloatOps F] (a : (⟨S4096x16384, .bf16⟩ : BufTy).Contents (Elt F)) (b : (⟨S16384x4096, .bf16⟩ : BufTy).Contents (Elt F)) :
    (⟨S4096x4096, .f32⟩ : BufTy).Contents (Elt F) :=
  Host.dotGeneral dot_S4096x16384_S16384x4096_S4096x4096_1_0_0_1_n_n none (extf .f32 a bitsLt_bf16_f32) (extf .f32 b bitsLt_bf16_f32)

theorem out_at (a : (⟨S4096x16384, .bf16⟩ : BufTy).Contents (Elt Ideal)) (b : (⟨S16384x4096, .bf16⟩ : BufTy).Contents (Elt Ideal))
    (p q : Fin 4096) : (out a b : S4096x4096.Idx → EReal) (ix2 p q) = prod a b (ix2 p q) := by
  unfold out prod
  clean_types; pointwise

theorem out_eq (a : (⟨S4096x16384, .bf16⟩ : BufTy).Contents (Elt Ideal)) (b : (⟨S16384x4096, .bf16⟩ : BufTy).Contents (Elt Ideal)) :
    out a b = prod a b := funext fun i =>
  (congrArg (out a b) (eq_ix2 i)).trans ((out_at a b _ _).trans (congrArg (prod a b) (eq_ix2 i).symm))

end Reference

theorem agree : Cert.algebraic_Kernel4Ideal_Reference4Ideal := by
  intro m ρ m' ρ' _ hag
  refine ⟨fun c => prod (A m c) (B m c), ?_, ?_⟩
  · refine (θ_run _ _ _).mono (fun _ h c => ?_) (Cert.Kernel4Ideal.Value.run_blocks m ρ)
    exact ⟨(h c).1.trans (arr m c), (h c).2⟩
  · refine (θ_run _ _ _).mono (fun _ h c => ?_) (Cert.Reference4Ideal.Value.run m' ρ')
    exact ⟨(h c).1.trans ((out_eq _ _).trans (congrArg₂ prod (hag c).1 (hag c).2)), (h c).2⟩

theorem frame_ref : Cert.quiescent_Reference4Ideal := fun m ρ _ =>
  (θ_run _ _ _).mono (fun r h => ⟨fun c => (h c).2, sem_eq_zero_of_no_sems rfl r.2⟩) (Cert.Reference4Ideal.Value.run m ρ)

end Cert.Ff
-- ==== Proof.Products.lean ====
module

public import Idealize.ShloMosaic.Lib.Pointwise

/-! The whole products the products' calls are compared with, and the matrix the channel mixer's first weight is. -/

@[expose] public section

noncomputable section

namespace Cert.Products

open Idealize.ShloMosaic

/-- The product of two matrices. -/
def nn {m k n : ℕ} (A : (⟨2, ![m, k]⟩ : Shape).Idx → EReal) (B : (⟨2, ![k, n]⟩ : Shape).Idx → EReal) :
    (⟨2, ![m, n]⟩ : Shape).Idx → EReal := fun i => ∑ j : Fin k, A (ix2 (i 0) j) * B (ix2 j (i 1))

/-- The product of a matrix and another's transpose. -/
def nt {m k n : ℕ} (A : (⟨2, ![m, k]⟩ : Shape).Idx → EReal) (B : (⟨2, ![n, k]⟩ : Shape).Idx → EReal) :
    (⟨2, ![m, n]⟩ : Shape).Idx → EReal := fun i => ∑ j : Fin k, A (ix2 (i 0) j) * B (ix2 (i 1) j)

/-- The product of a matrix's transpose and another. -/
def tn {m k n : ℕ} (A : (⟨2, ![k, m]⟩ : Shape).Idx → EReal) (B : (⟨2, ![k, n]⟩ : Shape).Idx → EReal) :
    (⟨2, ![m, n]⟩ : Shape).Idx → EReal := fun i => ∑ j : Fin k, A (ix2 j (i 0)) * B (ix2 j (i 1))

/-- Four blocks of 4096 columns side by side. -/
def glued (W : (⟨3, ![4, 4096, 4096]⟩ : Shape).Idx → EReal) : (⟨2, ![4096, 16384]⟩ : Shape).Idx → EReal := fun i =>
  W (ix3 ⟨(i 1).val / 4096, by have : (i 1).val < 16384 := (i 1).isLt; omega⟩ (i 0) ⟨(i 1).val % 4096, by omega⟩)

theorem glued_at (W : (⟨3, ![4, 4096, 4096]⟩ : Shape).Idx → EReal) (k : Fin 4096) (j : Fin 16384) (b : Fin 4) (r : Fin 4096)
    (h : b.val * 4096 + r.val = j.val) : glued W (ix2 k j) = W (ix3 b k r) :=
  congrArg W (congrArg₂ (fun x y => ix3 x k y) (Fin.ext (show j.val / 4096 = b.val by omega)) (Fin.ext (show j.val % 4096 = r.val by omega)))

end Cert.Products
-- ==== Proof.Dh1.lean ====
module

public import proofs.«01_k».proof.Defs
public import proofs.«01_k».proof.Proof.Gen.Kernel5Ideal.Value
public import proofs.«01_k».proof.Proof.Gen.Reference5Ideal.Run
public import proofs.«01_k».proof.Proof.Products
public import Idealize.ShloMosaic.Lib.Pipeline.ValueKit
public import Idealize.ShloMosaic.Lib.Pipeline.ReadBack
public import Idealize.ShloMosaic.Lib.Pointwise
public import Idealize.ShloMosaic.Lib.Tactic.CleanTypes

/-! The gradient of the sequence mixer's input, through the first normalization's scale and shift: five partial products
added up in a buffer are the whole product; the scale's and the shift's gradients are its column sums, added up over
eight tiles of rows. -/

@[expose] public section

set_option maxRecDepth 16384

noncomputable section

namespace Cert.Dh1

open Idealize.ShloMosaic Idealize.ShloMosaic.TcCoe Idealize.ShloMosaic.StableHlo Idealize.SL.Sem Cert.Products

/-! The three results, from the product and the other operands. -/

/-- The input's gradient. -/
def res0 (P D : (⟨2, ![4096, 4096]⟩ : Shape).Idx → EReal) (g : (⟨2, ![1, 4096]⟩ : Shape).Idx → EReal) : (⟨2, ![4096, 4096]⟩ : Shape).Idx → EReal :=
  fun i => D i + P i * (Ideal.ofBits FTy.f32 0x3F800000#32 + g (ix2 0 (i 1)))

/-- The scale's gradient. -/
def res1 (P X : (⟨2, ![4096, 4096]⟩ : Shape).Idx → EReal) : (⟨2, ![1, 4096]⟩ : Shape).Idx → EReal :=
  fun i => ∑ r : Fin 4096, P (ix2 r (i 1)) * X (ix2 r (i 1))

/-- The shift's gradient. -/
def res2 (P : (⟨2, ![4096, 4096]⟩ : Shape).Idx → EReal) : (⟨2, ![1, 4096]⟩ : Shape).Idx → EReal :=
  fun i => ∑ r : Fin 4096, P (ix2 r (i 1))

section Kernel
open Cert.Kernel5Ideal Cert.Kernel5Ideal.Gen

/-- One partial product. -/
def part {F : FTy → Type} [FloatOps F] (x : Vec F S512x2560 .bf16) (y : Vec F S1024x2560 .bf16) : FVec F S512x1024 .f32 :=
  matmul dot_S512x2560_S1024x2560_S512x1024_1_1_0_0_n_n none x y (constant S512x1024 .f32 0x00000000#32)

section Steps
variable {F : FTy → Type} [FloatOps F]
variable (m : (ℓ : Loc nD τ sig) → Buf (Elt F) ℓ) (c : Dev nD) (t : Fin cfg0.N)

abbrev before : t.val - 1 < cfg0.N := Nat.lt_of_le_of_lt (Nat.sub_le _ _) t.isLt

theorem first (h : t.val % 5 = 0) : (outsAt0 m c t.val t.isLt).2.2.2 = part (iblk m c 0 t) (iblk m c 1 t) := by
  rw [outsAt0_A m c t h (by omega) (by omega)]
  dsimp only
  frame_out
  unfold k0_pay2
  rw [shapeCast_self]
  rfl

theorem middle (h : 1 ≤ t.val % 5 ∧ t.val % 5 ≤ 3) :
    (outsAt0 m c t.val t.isLt).2.2.2 = addf (outsAt0 m c (t.val - 1) (before t)).2.2.2 (part (iblk m c 0 t) (iblk m c 1 t)) := by
  rw [outsAt0_B m c t (by omega) h (by omega)]
  dsimp only
  frame_out
  unfold k0_pay3
  dsimp only
  rw [shapeCast_self, read_unread_whole]
  rfl

theorem last0 (h : t.val % 5 = 4) : (outsAt0 m c t.val t.isLt).1
    = k0_pay5 (iblk m c 0 t) (iblk m c 1 t) (outsAt0 m c (t.val - 1) (before t)).2.2.2 (iblk m c 2 t) (iblk m c 4 t) := by
  by_cases h3 : t.val / 5 % 8 = 0
  · rw [outsAt0_C m c t (by omega) (by omega) h h3 (by omega)]
    dsimp only
    frame_out
    rw [read_unread_whole]
  · rw [outsAt0_D m c t (by omega) (by omega) h h3 (by omega)]
    dsimp only
    frame_out
    rw [read_unread_whole]

theorem start1 (h : t.val % 5 = 4) (h3 : t.val / 5 % 8 = 0) : (outsAt0 m c t.val t.isLt).2.1
    = k0_pay6 (iblk m c 0 t) (iblk m c 1 t) (outsAt0 m c (t.val - 1) (before t)).2.2.2 (iblk m c 3 t) := by
  rw [outsAt0_C m c t (by omega) (by omega) h h3 (by omega)]
  dsimp only
  frame_out
  rw [read_unread_whole]

theorem next1 (h : t.val % 5 = 4) (h3 : 1 ≤ t.val / 5 % 8) : (outsAt0 m c t.val t.isLt).2.1
    = k0_pay8 (iblk m c 0 t) (iblk m c 1 t) (outsAt0 m c (t.val - 1) (before t)).2.2.2 (iblk m c 3 t) (outsAt0 m c (t.val - 1) (before t)).2.1 := by
  rw [outsAt0_D m c t (by omega) (by omega) h (by omega) h3]
  dsimp only
  frame_out
  rw [read_unread_whole]

theorem keep1 (h : t.val % 5 ≠ 4) : (outsAt0 m c t.val t.isLt).2.1 = (outsAt0 m c (t.val - 1) (before t)).2.1 := by
  by_cases h0 : t.val % 5 = 0
  · rw [outsAt0_A m c t h0 (by omega) h]; rfl
  · rw [outsAt0_B m c t h0 (by omega) h]; rfl

theorem start2 (h : t.val % 5 = 4) (h3 : t.val / 5 % 8 = 0) : (outsAt0 m c t.val t.isLt).2.2.1
    = k0_pay7 (iblk m c 0 t) (iblk m c 1 t) (outsAt0 m c (t.val - 1) (before t)).2.2.2 := by
  rw [outsAt0_C m c t (by omega) (by omega) h h3 (by omega)]
  dsimp only
  frame_out
  rw [read_unread_whole]

theorem next2 (h : t.val % 5 = 4) (h3 : 1 ≤ t.val / 5 % 8) : (outsAt0 m c t.val t.isLt).2.2.1
    = k0_pay9 (iblk m c 0 t) (iblk m c 1 t) (outsAt0 m c (t.val - 1) (before t)).2.2.2 (outsAt0 m c (t.val - 1) (before t)).2.2.1 := by
  rw [outsAt0_D m c t (by omega) (by omega) h (by omega) h3]
  dsimp only
  frame_out
  rw [read_unread_whole]

theorem keep2 (h : t.val % 5 ≠ 4) : (outsAt0 m c t.val t.isLt).2.2.1 = (outsAt0 m c (t.val - 1) (before t)).2.2.1 := by
  by_cases h0 : t.val % 5 = 0
  · rw [outsAt0_A m c t h0 (by omega) h]; rfl
  · rw [outsAt0_B m c t h0 (by omega) h]; rfl

end Steps

variable (m : (ℓ : Loc nD τ sig) → Buf (Elt Ideal) ℓ) (c : Dev nD)

def A : S4096x12800.Idx → EReal := m ((c.tc : Thread nD τ).loc main_arg0)
def B : S4096x12800.Idx → EReal := m ((c.tc : Thread nD τ).loc main_arg1)
def D : S4096x4096.Idx → EReal := m ((c.tc : Thread nD τ).loc main_arg2)
def X : S4096x4096.Idx → EReal := m ((c.tc : Thread nD τ).loc main_arg3)
def g : S1x4096.Idx → EReal := m ((c.tc : Thread nD τ).loc main_arg4)

/-- The product. -/
def P : S4096x4096.Idx → EReal := nt (A m c) (B m c)

/-! The payloads at an index. -/

theorem part_at (x : Vec Ideal S512x2560 .bf16) (y : Vec Ideal S1024x2560 .bf16) (p : Fin 512) (q : Fin 1024) :
    (part x y : S512x1024.Idx → EReal) (ix2 p q)
      = ∑ k : Fin 2560, (x : S512x2560.Idx → EReal) (ix2 p k) * (y : S1024x2560.Idx → EReal) (ix2 q k) := by
  unfold part
  clean_types; pointwise

/-- The buffer with the last partial product added. -/
def tot (x : Vec Ideal S512x2560 .bf16) (y : Vec Ideal S1024x2560 .bf16) (b : Vec Ideal S512x1024 .f32) : S512x1024.Idx → EReal :=
  fun i => (b : S512x1024.Idx → EReal) i + (part x y : S512x1024.Idx → EReal) i

theorem pay4_at (x : Vec Ideal S512x2560 .bf16) (y : Vec Ideal S1024x2560 .bf16) (b : Vec Ideal S512x1024 .f32) (i : S512x1024.Idx) :
    (k0_pay4 x y b : S512x1024.Idx → EReal) i = tot x y b i := rfl

theorem pay5_at (x : Vec Ideal S512x2560 .bf16) (y : Vec Ideal S1024x2560 .bf16) (b d : Vec Ideal S512x1024 .f32) (s : Vec Ideal S1x1024 .f32) (p : Fin 512) (q : Fin 1024) :
    (k0_pay5 x y b d s : S512x1024.Idx → EReal) (ix2 p q)
      = (d : S512x1024.Idx → EReal) (ix2 p q) + tot x y b (ix2 p q) * (Ideal.ofBits FTy.f32 0x3F800000#32 + (s : S1x1024.Idx → EReal) (ix2 0 q)) := by
  unfold k0_pay5
  clean_types; pointwise [pay4_at]

theorem pay6_at (x : Vec Ideal S512x2560 .bf16) (y : Vec Ideal S1024x2560 .bf16) (b w : Vec Ideal S512x1024 .f32) (q : Fin 1024) :
    (k0_pay6 x y b w : S1x1024.Idx → EReal) (ix2 0 q) = ∑ p : Fin 512, tot x y b (ix2 p q) * (w : S512x1024.Idx → EReal) (ix2 p q) := by
  unfold k0_pay6
  clean_types; pointwise [pay4_at]

theorem pay7_at (x : Vec Ideal S512x2560 .bf16) (y : Vec Ideal S1024x2560 .bf16) (b : Vec Ideal S512x1024 .f32) (q : Fin 1024) :
    (k0_pay7 x y b : S1x1024.Idx → EReal) (ix2 0 q) = ∑ p : Fin 512, tot x y b (ix2 p q) := by
  unfold k0_pay7
  clean_types; pointwise [pay4_at]

theorem pay8_at (x : Vec Ideal S512x2560 .bf16) (y : Vec Ideal S1024x2560 .bf16) (b w : Vec Ideal S512x1024 .f32) (o : Vec Ideal S1x1024 .f32) (q : Fin 1024) :
    (k0_pay8 x y b w o : S1x1024.Idx → EReal) (ix2 0 q) = (o : S1x1024.Idx → EReal) (ix2 0 q) + (k0_pay6 x y b w : S1x1024.Idx → EReal) (ix2 0 q) := by
  unfold k0_pay8
  rw [shapeCast_self]
  rfl

theorem pay9_at (x : Vec Ideal S512x2560 .bf16) (y : Vec Ideal S1024x2560 .bf16) (b : Vec Ideal S512x1024 .f32) (o : Vec Ideal S1x1024 .f32) (q : Fin 1024) :
    (k0_pay9 x y b o : S1x1024.Idx → EReal) (ix2 0 q) = (o : S1x1024.Idx → EReal) (ix2 0 q) + (k0_pay7 x y b : S1x1024.Idx → EReal) (ix2 0 q) := by
  unfold k0_pay9
  rw [shapeCast_self]
  rfl

/-! The blocks. -/

theorem ix : ∀ t : Fin cfg0.N, win0_0.index t = ![t.val / 5 % 8, t.val % 5] ∧ win0_1.index t = ![t.val / 40, t.val % 5]
    ∧ win0_2.index t = ![t.val / 5 % 8, t.val / 40] ∧ win0_3.index t = ![t.val / 5 % 8, t.val / 40] ∧ win0_4.index t = ![0, t.val / 40]
    ∧ win0_5.index t = ![t.val / 5 % 8, t.val / 40] ∧ win0_6.index t = ![0, t.val / 40] ∧ win0_7.index t = ![0, t.val / 40] :=
  (by decide +kernel : ∀ t : Fin grid0.N, win0_0.index t = ![t.val / 5 % 8, t.val % 5] ∧ win0_1.index t = ![t.val / 40, t.val % 5]
    ∧ win0_2.index t = ![t.val / 5 % 8, t.val / 40] ∧ win0_3.index t = ![t.val / 5 % 8, t.val / 40] ∧ win0_4.index t = ![0, t.val / 40]
    ∧ win0_5.index t = ![t.val / 5 % 8, t.val / 40] ∧ win0_6.index t = ![0, t.val / 40] ∧ win0_7.index t = ![0, t.val / 40])

theorem lt (t : Fin cfg0.N) : t.val < 160 := lt_of_lt_of_eq t.isLt (show cfg0.N = 160 from N_0)

/-- The array's row, of row `p` of the point's tile. -/
def R (n : ℕ) (p : Fin 512) : Fin 4096 := ⟨n / 5 % 8 * 512 + p.val, by omega⟩

/-- The array's column, of column `q` of the point's tile. -/
def C (n : ℕ) (h : n < 160) (q : Fin 1024) : Fin 4096 := ⟨n / 40 * 1024 + q.val, by omega⟩

theorem left_at (t : Fin cfg0.N) (k : Fin 2560) (p : Fin 512) : (iblk m c 0 t : S512x2560.Idx → EReal) (ix2 p k)
    = A m c (ix2 (R t.val p) ⟨t.val % 5 * 2560 + k.val, by omega⟩) := by
  unfold R; blk_ext [iblk, V, (ix t).1, A]

theorem right_at (t : Fin cfg0.N) (k : Fin 2560) (q : Fin 1024) : (iblk m c 1 t : S1024x2560.Idx → EReal) (ix2 q k)
    = B m c (ix2 (C t.val (lt t) q) ⟨t.val % 5 * 2560 + k.val, by omega⟩) := by
  unfold C; blk_ext [iblk, V, (ix t).2.1, B]

theorem d_at (t : Fin cfg0.N) (p : Fin 512) (q : Fin 1024) : (iblk m c 2 t : S512x1024.Idx → EReal) (ix2 p q)
    = D m c (ix2 (R t.val p) (C t.val (lt t) q)) := by
  unfold R C; blk_ext [iblk, V, (ix t).2.2.1, D]

theorem x_at (t : Fin cfg0.N) (p : Fin 512) (q : Fin 1024) : (iblk m c 3 t : S512x1024.Idx → EReal) (ix2 p q)
    = X m c (ix2 (R t.val p) (C t.val (lt t) q)) := by
  unfold R C; blk_ext [iblk, V, (ix t).2.2.2.1, X]

theorem g_at (t : Fin cfg0.N) (q : Fin 1024) : (iblk m c 4 t : S1x1024.Idx → EReal) (ix2 0 q)
    = g m c (ix2 0 (C t.val (lt t) q)) := by
  unfold C; blk_ext [iblk, V, (ix t).2.2.2.2.1, g]

theorem emb0 (t : Fin cfg0.N) (y : (win0_5.xblock (grid0.coords t)).Idx) (p : Fin 512) (q : Fin 1024) (hp : (y 0).val = p.val) (hq : (y 1).val = q.val) :
    (win0_5.blk t).view.emb y = (ix2 (R t.val p) (C t.val (lt t) q) : S4096x4096.Idx) := by
  unfold R C; blk_ext [(ix t).2.2.2.2.2.1]

theorem emb1 (t : Fin cfg0.N) (y : (win0_6.xblock (grid0.coords t)).Idx) (q : Fin 1024) (hq : (y 1).val = q.val) :
    (win0_6.blk t).view.emb y = (ix2 0 (C t.val (lt t) q) : S1x4096.Idx) := by
  unfold C; blk_ext [(ix t).2.2.2.2.2.2.1]

theorem emb2 (t : Fin cfg0.N) (y : (win0_7.xblock (grid0.coords t)).Idx) (q : Fin 1024) (hq : (y 1).val = q.val) :
    (win0_7.blk t).view.emb y = (ix2 0 (C t.val (lt t) q) : S1x4096.Idx) := by
  unfold C; blk_ext [(ix t).2.2.2.2.2.2.2]

/-! The product, by slabs. -/

/-- The products of columns `2560 s … 2560 s + 2559`. -/
def slab (r j : Fin 4096) (s : ℕ) : EReal :=
  if h : s < 5 then ∑ k : Fin 2560, A m c (ix2 r ⟨s * 2560 + k.val, by omega⟩) * B m c (ix2 j ⟨s * 2560 + k.val, by omega⟩) else 0

theorem part_slab (t : Fin cfg0.N) (p : Fin 512) (q : Fin 1024) : (part (iblk m c 0 t) (iblk m c 1 t) : S512x1024.Idx → EReal) (ix2 p q)
    = slab m c (R t.val p) (C t.val (lt t) q) (t.val % 5) := by
  unfold slab
  rw [part_at, dif_pos (by omega)]
  exact Finset.sum_congr rfl fun k _ => congrArg₂ (· * ·) (left_at m c t k p) (right_at m c t k q)

theorem same_row (t : Fin cfg0.N) (h : t.val % 5 ≠ 0) (p : Fin 512) : R (t.val - 1) p = R t.val p := by
  unfold R; simp only [show (t.val - 1) / 5 % 8 = t.val / 5 % 8 by omega]

theorem same_col (t : Fin cfg0.N) (h : t.val % 5 ≠ 0) (q : Fin 1024) (h' : t.val - 1 < 160) : C (t.val - 1) h' q = C t.val (lt t) q := by
  unfold C; simp only [show (t.val - 1) / 40 = t.val / 40 by omega]

/-- The buffer after a point that is not a block's last: the slabs so far. -/
theorem held (p : Fin 512) (q : Fin 1024) : ∀ (s : ℕ) (t : Fin cfg0.N), t.val % 5 = s → s < 4 →
    ((outsAt0 m c t.val t.isLt).2.2.2 : S512x1024.Idx → EReal) (ix2 p q) = ∑ k ∈ Finset.range (s + 1), slab m c (R t.val p) (C t.val (lt t) q) k := by
  intro s
  induction s with
  | zero =>
    intro t h _
    rw [first m c t h, part_slab, h, Finset.sum_range_one]
  | succ s ih =>
    intro t h hs
    rw [middle m c t (by omega), Finset.sum_range_succ]
    have i := ih ⟨t.val - 1, before t⟩ (by show (t.val - 1) % 5 = s; omega) (by omega)
    have e := part_slab m c t p q
    simp only [same_row t (by omega), same_col t (by omega)] at i
    rw [h] at e
    exact congrArg₂ (· + ·) i e

theorem whole (r j : Fin 4096) : ∑ k ∈ Finset.range 5, slab m c r j k = P m c (ix2 r j) := by
  rw [Finset.sum_range]
  unfold slab P nt
  simp only [Fin.is_lt, dif_pos]
  exact Fin.sum_mul_add_congr (S := 5) (n := 2560) fun s k hl => rfl

theorem tot_eq (t : Fin cfg0.N) (h : t.val % 5 = 4) (p : Fin 512) (q : Fin 1024) :
    tot (iblk m c 0 t) (iblk m c 1 t) (outsAt0 m c (t.val - 1) (before t)).2.2.2 (ix2 p q) = P m c (ix2 (R t.val p) (C t.val (lt t) q)) := by
  rw [← whole, Finset.sum_range_succ]
  have i := held m c p q 3 ⟨t.val - 1, before t⟩ (by show (t.val - 1) % 5 = 3; omega) (by omega)
  have e := part_slab m c t p q
  simp only [same_row t (by omega), same_col t (by omega)] at i
  rw [h] at e
  exact congrArg₂ (· + ·) i e

/-! The column sums, by tiles. -/

/-- The row of the array, of row `p` of tile `i`. -/
def row (i : ℕ) (p : Fin 512) : Fin 4096 := ⟨i % 8 * 512 + p.val, by omega⟩

/-- The sum of a column over tile `i`. -/
def tile (w : Fin 4096 → EReal) (i : ℕ) : EReal := ∑ p : Fin 512, w (row i p)

theorem tiles (w : Fin 4096 → EReal) : ∑ i ∈ Finset.range 8, tile w i = ∑ r : Fin 4096, w r := by
  rw [Finset.sum_range]
  unfold tile
  exact Fin.sum_mul_add_congr (S := 8) (n := 512) fun s k hl => congrArg w (Fin.ext (by show s.val % 8 * 512 + k.val = s.val * 512 + k.val; omega))

/-- What is kept but for a block's last point, set there at the first tile and added to at the others, is the sum over
the tiles so far. -/
theorem sums (o : (n : ℕ) → n < cfg0.N → EReal) (w : Fin cfg0.N → Fin 4096 → EReal) (same : ∀ t t' : Fin cfg0.N, t.val / 40 = t'.val / 40 → w t = w t')
    (keep : ∀ t : Fin cfg0.N, t.val % 5 ≠ 4 → o t.val t.isLt = o (t.val - 1) (before t))
    (start : ∀ t : Fin cfg0.N, t.val % 5 = 4 → t.val / 5 % 8 = 0 → o t.val t.isLt = tile (w t) (t.val / 5 % 8))
    (next : ∀ t : Fin cfg0.N, t.val % 5 = 4 → 1 ≤ t.val / 5 % 8 → o t.val t.isLt = o (t.val - 1) (before t) + tile (w t) (t.val / 5 % 8)) :
    ∀ (i : ℕ) (t : Fin cfg0.N), t.val % 5 = 4 → t.val / 5 % 8 = i → o t.val t.isLt = ∑ k ∈ Finset.range (i + 1), tile (w t) k := by
  intro i
  induction i with
  | zero =>
    intro t h h3
    rw [start t h h3, h3, Finset.sum_range_one]
  | succ i ih =>
    intro t h h3
    have hb (n : ℕ) (hn : n ≤ t.val) : n < cfg0.N := lt_of_le_of_lt hn t.isLt
    have e5 := ih ⟨t.val - 1 - 1 - 1 - 1 - 1, hb _ (by omega)⟩ (by dsimp only; omega) (by dsimp only; omega)
    have e1 := keep ⟨t.val - 1, hb _ (by omega)⟩ (by dsimp only; omega)
    have e2 := keep ⟨t.val - 1 - 1, hb _ (by omega)⟩ (by dsimp only; omega)
    have e3 := keep ⟨t.val - 1 - 1 - 1, hb _ (by omega)⟩ (by dsimp only; omega)
    have e4 := keep ⟨t.val - 1 - 1 - 1 - 1, hb _ (by omega)⟩ (by dsimp only; omega)
    rw [same _ t (by dsimp only; omega)] at e5
    rw [next t h (by omega), h3, Finset.sum_range_succ]
    exact congrArg (· + _) (e1.trans (e2.trans (e3.trans (e4.trans e5))))

/-! The three arrays after the run. -/

theorem arr0 : (dats m 0 c).arrAt 5 cfg0.N = res0 (P m c) (D m c) (g m c) := by
  refine (dats m 0 c).arrAt_eq_of_covers 5 (res0 (P m c) (D m c) (g m c)) (by decide +kernel) fun t hf y => ?_
  have h : t.val % 5 = 4 := (flush0_5 t).mp hf
  blk_simp
  rw [after0_5, last0 m c t h]
  rw [emb0 t y ((cfg0.win 5).xinj (cfg0.grid.coords t) y 0) ((cfg0.win 5).xinj (cfg0.grid.coords t) y 1) rfl rfl]
  refine (congrArg _ (eq_ix2 _)).trans ((pay5_at _ _ _ _ _ _ _).trans ?_)
  exact congrArg₂ (fun a b : EReal => a + b) (d_at m c t _ _) (congrArg₂ (fun a b : EReal => a * b) (tot_eq m c t h _ _)
    (congrArg (fun a : EReal => Ideal.ofBits FTy.f32 0x3F800000#32 + a) (g_at m c t _)))

theorem row_eq (n : ℕ) (p : Fin 512) : row (n / 5 % 8) p = R n p := Fin.ext (by show n / 5 % 8 % 8 * 512 + p.val = n / 5 % 8 * 512 + p.val; omega)

theorem col_eq (q : Fin 1024) (t t' : Fin cfg0.N) (h : t.val / 40 = t'.val / 40) : C t.val (lt t) q = C t'.val (lt t') q := by
  unfold C; simp only [h]

theorem sum1 (q : Fin 1024) (t : Fin cfg0.N) (h : t.val % 5 = 4) (h7 : t.val / 5 % 8 = 7) :
    ((outsAt0 m c t.val t.isLt).2.1 : S1x1024.Idx → EReal) (ix2 0 q) = res1 (P m c) (X m c) (ix2 0 (C t.val (lt t) q)) := by
  have step (t : Fin cfg0.N) (h : t.val % 5 = 4) :
      (k0_pay6 (iblk m c 0 t) (iblk m c 1 t) (outsAt0 m c (t.val - 1) (before t)).2.2.2 (iblk m c 3 t) : S1x1024.Idx → EReal) (ix2 0 q)
        = tile (fun r => P m c (ix2 r (C t.val (lt t) q)) * X m c (ix2 r (C t.val (lt t) q))) (t.val / 5 % 8) := by
    refine (pay6_at _ _ _ _ _).trans (Finset.sum_congr rfl fun p _ => ?_)
    simp only [row_eq]
    exact congrArg₂ (fun a b : EReal => a * b) (tot_eq m c t h p q) (x_at m c t p q)
  refine (sums (fun n hn => ((outsAt0 m c n hn).2.1 : S1x1024.Idx → EReal) (ix2 0 q))
    (fun t r => P m c (ix2 r (C t.val (lt t) q)) * X m c (ix2 r (C t.val (lt t) q))) (fun t t' e => by simp only [col_eq q t t' e])
    (fun t h => congrFun (keep1 m c t h) _)
    (fun t h h3 => (congrFun (start1 m c t h h3) _).trans (step t h))
    (fun t h h3 => (congrFun (next1 m c t h h3) _).trans ((pay8_at _ _ _ _ _ _).trans (congrArg (fun a : EReal => _ + a) (step t h)))) 7 t h h7).trans ?_
  exact tiles _

theorem sum2 (q : Fin 1024) (t : Fin cfg0.N) (h : t.val % 5 = 4) (h7 : t.val / 5 % 8 = 7) :
    ((outsAt0 m c t.val t.isLt).2.2.1 : S1x1024.Idx → EReal) (ix2 0 q) = res2 (P m c) (ix2 0 (C t.val (lt t) q)) := by
  have step (t : Fin cfg0.N) (h : t.val % 5 = 4) :
      (k0_pay7 (iblk m c 0 t) (iblk m c 1 t) (outsAt0 m c (t.val - 1) (before t)).2.2.2 : S1x1024.Idx → EReal) (ix2 0 q)
        = tile (fun r => P m c (ix2 r (C t.val (lt t) q))) (t.val / 5 % 8) := by
    refine (pay7_at _ _ _ _).trans (Finset.sum_congr rfl fun p _ => ?_)
    simp only [row_eq]
    exact tot_eq m c t h p q
  refine (sums (fun n hn => ((outsAt0 m c n hn).2.2.1 : S1x1024.Idx → EReal) (ix2 0 q))
    (fun t r => P m c (ix2 r (C t.val (lt t) q))) (fun t t' e => by simp only [col_eq q t t' e])
    (fun t h => congrFun (keep2 m c t h) _)
    (fun t h h3 => (congrFun (start2 m c t h h3) _).trans (step t h))
    (fun t h h3 => (congrFun (next2 m c t h h3) _).trans ((pay9_at _ _ _ _ _).trans (congrArg (fun a : EReal => _ + a) (step t h)))) 7 t h h7).trans ?_
  exact tiles _

theorem one_row (y : S1x1024.Idx) : y = ix2 0 (y 1) := (eq_ix2 y).trans (congrArg (fun a => ix2 a (y 1)) (Subsingleton.elim _ _))

theorem arr1 : (dats m 0 c).arrAt 6 cfg0.N = res1 (P m c) (X m c) := by
  refine (dats m 0 c).arrAt_eq_of_covers 6 (res1 (P m c) (X m c)) (by decide +kernel) fun t hf y => ?_
  have h : t.val % 40 = 39 := (flush0_6 t).mp hf
  blk_simp
  rw [after0_6]
  rw [emb1 t y ((cfg0.win 6).xinj (cfg0.grid.coords t) y 1) rfl]
  exact (congrArg (outsAt0 m c t.val t.isLt).2.1 (one_row _)).trans (sum1 m c _ t (by omega) (by omega))

theorem arr2 : (dats m 0 c).arrAt 7 cfg0.N = res2 (P m c) := by
  refine (dats m 0 c).arrAt_eq_of_covers 7 (res2 (P m c)) (by decide +kernel) fun t hf y => ?_
  have h : t.val % 40 = 39 := (flush0_7 t).mp hf
  blk_simp
  rw [after0_7]
  rw [emb2 t y ((cfg0.win 7).xinj (cfg0.grid.coords t) y 1) rfl]
  exact (congrArg (outsAt0 m c t.val t.isLt).2.2.1 (one_row _)).trans (sum2 m c _ t (by omega) (by omega))

end Kernel

section Reference
open Cert.Reference5Ideal Cert.Reference5Ideal.Gen

/-- The reference's product, from the two arrays. -/
def prod {F : FTy → Type} [FloatOps F] (a b : (⟨S4096x12800, .bf16⟩ : BufTy).Contents (Elt F)) : (⟨S4096x4096, .f32⟩ : BufTy).Contents (Elt F) :=
  Host.dotGeneral dot_S4096x12800_S4096x12800_S4096x4096_1_1_0_0_n_n none (extf .f32 a bitsLt_bf16_f32) (extf .f32 b bitsLt_bf16_f32)

theorem prod_at (a b : (⟨S4096x12800, .bf16⟩ : BufTy).Contents (Elt Ideal)) (p q : Fin 4096) :
    (prod a b : S4096x4096.Idx → EReal) (ix2 p q) = nt a b (ix2 p q) := by
  unfold prod nt
  clean_types; pointwise

def out0 {F : FTy → Type} [FloatOps F] (a b : (⟨S4096x12800, .bf16⟩ : BufTy).Contents (Elt F)) (d : (⟨S4096x4096, .f32⟩ : BufTy).Contents (Elt F))
    (s : (⟨S1x4096, .f32⟩ : BufTy).Contents (Elt F)) : (⟨S4096x4096, .f32⟩ : BufTy).Contents (Elt F) :=
  addf d (mulf (prod a b) (broadcastInDim S4096x4096 ![0, 1] bcast_S1x4096_S4096x4096_0_1 (addf (broadcastInDim S1x4096 ![] bcast_S_S1x4096 (constant S_ .f32 0x3F800000#32)) s)))

def out1 {F : FTy → Type} [FloatOps F] (a b : (⟨S4096x12800, .bf16⟩ : BufTy).Contents (Elt F)) (x : (⟨S4096x4096, .f32⟩ : BufTy).Contents (Elt F)) : (⟨S1x4096, .f32⟩ : BufTy).Contents (Elt F) :=
  shapeCast _ (Host.reduceAdd (mulf x (prod a b)) (constant S_ .f32 0x00000000#32) reducesTo_S4096x4096_S4096_d0 h_S_) shapeCasts_S4096_S1x4096

def out2 {F : FTy → Type} [FloatOps F] (a b : (⟨S4096x12800, .bf16⟩ : BufTy).Contents (Elt F)) : (⟨S1x4096, .f32⟩ : BufTy).Contents (Elt F) :=
  shapeCast _ (Host.reduceAdd (prod a b) (constant S_ .f32 0x00000000#32) reducesTo_S4096x4096_S4096_d0 h_S_) shapeCasts_S4096_S1x4096

variable (a b : (⟨S4096x12800, .bf16⟩ : BufTy).Contents (Elt Ideal)) (d x : (⟨S4096x4096, .f32⟩ : BufTy).Contents (Elt Ideal)) (s : (⟨S1x4096, .f32⟩ : BufTy).Contents (Elt Ideal))

theorem out0_eq : out0 a b d s = res0 (nt a b) d s := by
  refine funext fun i => (congrArg (out0 a b d s) (eq_ix2 i)).trans (Eq.trans ?_ (congrArg (res0 (nt a b) d s) (eq_ix2 i).symm))
  generalize i 0 = p, i 1 = q
  unfold out0 res0
  clean_types; pointwise [prod_at]

theorem wide_row (i : S1x4096.Idx) : i = ix2 0 (i 1) := (eq_ix2 i).trans (congrArg (fun z => ix2 z (i 1)) (Subsingleton.elim _ _))

theorem out1_eq : out1 a b x = res1 (nt a b) x := by
  refine funext fun i => (congrArg (out1 a b x) (wide_row i)).trans (Eq.trans ?_ (congrArg (res1 (nt a b) x) (wide_row i).symm))
  generalize i 1 = q
  unfold out1 res1
  clean_types; pointwise [prod_at]
  exact Finset.sum_congr rfl fun r _ => mul_comm _ _

theorem out2_eq : out2 a b = res2 (nt a b) := by
  refine funext fun i => (congrArg (out2 a b) (wide_row i)).trans (Eq.trans ?_ (congrArg (res2 (nt a b)) (wide_row i).symm))
  generalize i 1 = q
  unfold out2 res2
  clean_types; pointwise [prod_at]

end Reference

theorem agree : Cert.algebraic_Kernel5Ideal_Reference5Ideal := by
  intro m ρ m' ρ' _ hag
  refine ⟨fun c => res0 (P m c) (D m c) (g m c), fun c => res1 (P m c) (X m c), fun c => res2 (P m c), ?_, ?_⟩
  · refine (θ_run _ _ _).mono (fun _ h c => ?_) (Cert.Kernel5Ideal.Value.run_blocks m ρ)
    exact ⟨(h c).1.trans (arr0 m c), (h c).2.1.trans (arr1 m c), (h c).2.2.1.trans (arr2 m c), (h c).2.2.2⟩
  · refine (θ_run _ _ _).mono (fun _ h c => ?_) (Cert.Reference5Ideal.Value.run m' ρ')
    obtain ⟨ea, eb, ed, ex, eg⟩ := hag c
    refine ⟨(h c).1.trans ((out0_eq _ _ _ _).trans ?_), (h c).2.1.trans ((out1_eq _ _ _).trans ?_), (h c).2.2.1.trans ((out2_eq _ _).trans ?_), (h c).2.2.2⟩
    · rw [ea, eb, ed, eg]; rfl
    · rw [ea, eb, ex]; rfl
    · rw [ea, eb]; rfl

theorem frame_ref : Cert.quiescent_Reference5Ideal := fun m ρ _ =>
  (θ_run _ _ _).mono (fun r h => ⟨fun c => (h c).2.2.2, sem_eq_zero_of_no_sems rfl r.2⟩) (Cert.Reference5Ideal.Value.run m ρ)

end Cert.Dh1
-- ==== Proof.GwUp.lean ====
module

public import proofs.«01_k».proof.Defs
public import proofs.«01_k».proof.Proof.Gen.Kernel6Ideal.Value
public import proofs.«01_k».proof.Proof.Gen.Reference6Ideal.Run
public import proofs.«01_k».proof.Proof.Products
public import Idealize.ShloMosaic.Lib.Pipeline.ValueKit
public import Idealize.ShloMosaic.Lib.Pointwise
public import Idealize.ShloMosaic.Lib.Tactic.CleanTypes

/-! The gradient of the channel mixer's first weight, written as four blocks of columns: the kernel's tiled product is the
whole product, cut. -/

@[expose] public section

set_option maxRecDepth 16384

noncomputable section

namespace Cert.GwUp

open Idealize.ShloMosaic Idealize.ShloMosaic.TcCoe Idealize.ShloMosaic.StableHlo Idealize.SL.Sem Cert.Products

/-- The product, its columns in four blocks. -/
def cut (A : (⟨2, ![4096, 4096]⟩ : Shape).Idx → EReal) (B : (⟨2, ![4096, 16384]⟩ : Shape).Idx → EReal) :
    (⟨3, ![4, 4096, 4096]⟩ : Shape).Idx → EReal := fun i =>
  tn A B (ix2 (i 1) ⟨(i 0).val * 4096 + (i 2).val, by have h : (i 0).val < 4 := (i 0).isLt; have h' : (i 2).val < 4096 := (i 2).isLt; omega⟩)

section Kernel
open Cert.Kernel6Ideal Cert.Kernel6Ideal.Gen

variable (m : (ℓ : Loc nD τ sig) → Buf (Elt Ideal) ℓ) (c : Dev nD)

def A : S4096x4096.Idx → EReal := m ((c.tc : Thread nD τ).loc main_arg0)
def B : S4096x16384.Idx → EReal := m ((c.tc : Thread nD τ).loc main_arg1)

theorem point_at (x : Vec Ideal S4096x1024 .bf16) (y : Vec Ideal S4096x1024 .bf16) (o : Fin 1) (p q : Fin 1024) :
    (out0_2 x y : S1x1024x1024.Idx → EReal) (ix3 o p q)
      = ∑ k : Fin 4096, (x : S4096x1024.Idx → EReal) (ix2 k p) * (y : S4096x1024.Idx → EReal) (ix2 k q) := by
  unfold out0_2
  frame_out
  unfold k0_pay1
  clean_types; pointwise

theorem ix : ∀ t : Fin cfg0.N, win0_0.index t = ![0, win0_2.index t 1] ∧ win0_1.index t = ![0, win0_2.index t 0 * 4 + win0_2.index t 2]
    ∧ win0_2.index t 0 < 4 ∧ win0_2.index t 1 < 4 ∧ win0_2.index t 2 < 4 :=
  (by decide +kernel : ∀ t : Fin grid0.N, win0_0.index t = ![0, win0_2.index t 1] ∧ win0_1.index t = ![0, win0_2.index t 0 * 4 + win0_2.index t 2]
    ∧ win0_2.index t 0 < 4 ∧ win0_2.index t 1 < 4 ∧ win0_2.index t 2 < 4)

theorem left_at (t : Fin cfg0.N) (k : Fin 4096) (p : Fin 1024) : (iblk m c 0 t : S4096x1024.Idx → EReal) (ix2 k p)
    = A m c (ix2 k ⟨win0_2.index t 1 * 1024 + p.val, by have := ix t; omega⟩) := by
  blk_ext [iblk, V, (ix t).1, A]

theorem right_at (t : Fin cfg0.N) (k : Fin 4096) (q : Fin 1024) : (iblk m c 1 t : S4096x1024.Idx → EReal) (ix2 k q)
    = B m c (ix2 k ⟨(win0_2.index t 0 * 4 + win0_2.index t 2) * 1024 + q.val, by have := ix t; omega⟩) := by
  blk_ext [iblk, V, (ix t).2.1, B]

theorem emb_at (t : Fin cfg0.N) (y : (win0_2.xblock (grid0.coords t)).Idx) (o : Fin 1) (p q : Fin 1024) (ho : (y 0).val = o.val) (hp : (y 1).val = p.val) (hq : (y 2).val = q.val) :
    (win0_2.blk t).view.emb y
      = (ix3 ⟨win0_2.index t 0, by have := ix t; omega⟩ ⟨win0_2.index t 1 * 1024 + p.val, by have := ix t; omega⟩ ⟨win0_2.index t 2 * 1024 + q.val, by have := ix t; omega⟩ : S4x4096x4096.Idx) := by
  blk_ext

theorem arr : (dats m 0 c).arrAt 2 cfg0.N = cut (A m c) (B m c) := by
  refine (dats m 0 c).arrAt_eq_of_covers 2 (cut (A m c) (B m c)) (by decide +kernel) fun t hf y => ?_
  blk_simp
  rw [after0_2]
  rw [emb_at t y ((cfg0.win 2).xinj (cfg0.grid.coords t) y 0) ((cfg0.win 2).xinj (cfg0.grid.coords t) y 1) ((cfg0.win 2).xinj (cfg0.grid.coords t) y 2) rfl rfl rfl]
  refine (congrArg (out0_2 (iblk m c 0 t) (iblk m c 1 t)) (eq_ix3 _)).trans ((point_at _ _ _ _ _).trans ?_)
  refine Finset.sum_congr rfl fun k _ => congrArg₂ (fun a b : EReal => a * b) (left_at m c t k _) ((right_at m c t k _).trans (congrArg (B m c) (congrArg (ix2 k) (Fin.ext ?_))))
  exact (fun w => by omega : ∀ w, (win0_2.index t 0 * 4 + win0_2.index t 2) * 1024 + w = win0_2.index t 0 * 4096 + (win0_2.index t 2 * 1024 + w)) _

end Kernel

section Reference
open Cert.Reference6Ideal Cert.Reference6Ideal.Gen

/-- The reference's result, from the two arrays. -/
def out {F : FTy → Type} [FloatOps F] (a : (⟨S4096x4096, .bf16⟩ : BufTy).Contents (Elt F)) (b : (⟨S4096x16384, .bf16⟩ : BufTy).Contents (Elt F)) : (⟨S4x4096x4096, .bf16⟩ : BufTy).Contents (Elt F) :=
  transpose S4x4096x4096 [1, 0, 2] (shapeCast _ (truncf .bf16 (transpose S4096x16384 [1, 0] (Host.dotGeneral dot_S4096x16384_S4096x4096_S16384x4096_0_0_1_1_n_n none (extf .f32 b bitsLt_bf16_f32) (extf .f32 a bitsLt_bf16_f32)) transposes_S16384x4096_S4096x16384_1_0) bitsLt_bf16_f32) shapeCasts_S4096x16384_S4096x4x4096) transposes_S4096x4x4096_S4x4096x4096_1_0_2

theorem out_eq (a : (⟨S4096x4096, .bf16⟩ : BufTy).Contents (Elt Ideal)) (b : (⟨S4096x16384, .bf16⟩ : BufTy).Contents (Elt Ideal)) : out a b = cut a b := by
  refine funext fun i => (congrArg (out a b) (eq_ix3 i)).trans (Eq.trans ?_ (congrArg (cut a b) (eq_ix3 i).symm))
  generalize i 0 = s, i 1 = p, i 2 = q
  unfold out cut tn
  clean_types; pointwise
  exact Finset.sum_congr rfl fun k _ => mul_comm _ _

end Reference

theorem agree : Cert.algebraic_Kernel6Ideal_Reference6Ideal := by
  intro m ρ m' ρ' _ hag
  refine ⟨fun c => cut (A m c) (B m c), ?_, ?_⟩
  · refine (θ_run _ _ _).mono (fun _ h c => ?_) (Cert.Kernel6Ideal.Value.run_blocks m ρ)
    exact ⟨(h c).1.trans (arr m c), (h c).2⟩
  · refine (θ_run _ _ _).mono (fun _ h c => ?_) (Cert.Reference6Ideal.Value.run m' ρ')
    exact ⟨(h c).1.trans ((out_eq _ _).trans (congrArg₂ cut (hag c).1 (hag c).2)), (h c).2⟩

theorem frame_ref : Cert.quiescent_Reference6Ideal := fun m ρ _ =>
  (θ_run _ _ _).mono (fun r h => ⟨fun c => (h c).2, sem_eq_zero_of_no_sems rfl r.2⟩) (Cert.Reference6Ideal.Value.run m ρ)

end Cert.GwUp
-- ==== Proof.Dff.lean ====
module

public import proofs.«01_k».proof.Defs
public import proofs.«01_k».proof.Proof.Gen.Kernel7Ideal.Value
public import proofs.«01_k».proof.Proof.Gen.Reference7Ideal.Run
public import proofs.«01_k».proof.Proof.Products
public import Idealize.ShloMosaic.Lib.Pipeline.ValueKit
public import Idealize.ShloMosaic.Lib.Pointwise
public import Idealize.ShloMosaic.Lib.Tactic.CleanTypes

/-! The gradient through the channel mixer's squared rectifier: the kernel multiplies its tiled product by twice the
rectified value; the reference multiplies and then selects where the value is positive. -/

@[expose] public section

set_option maxRecDepth 16384

noncomputable section

namespace Cert.Dff

open Idealize.ShloMosaic Idealize.ShloMosaic.TcCoe Idealize.ShloMosaic.StableHlo Idealize.SL.Sem Cert.Products

/-- The literal two. -/
def two : EReal := Ideal.ofBits .f32 0x40000000#32

/-- The product with the second weight's transpose, times twice the rectified value. -/
def grad (A : (⟨2, ![4096, 4096]⟩ : Shape).Idx → EReal) (B : (⟨2, ![16384, 4096]⟩ : Shape).Idx → EReal) (U : (⟨2, ![4096, 16384]⟩ : Shape).Idx → EReal) :
    (⟨2, ![4096, 16384]⟩ : Shape).Idx → EReal := fun i => nt A B i * two * max (U i) 0

section Kernel
open Cert.Kernel7Ideal Cert.Kernel7Ideal.Gen

variable (m : (ℓ : Loc nD τ sig) → Buf (Elt Ideal) ℓ) (c : Dev nD)

def A : S4096x4096.Idx → EReal := m ((c.tc : Thread nD τ).loc main_arg0)
def B : S16384x4096.Idx → EReal := m ((c.tc : Thread nD τ).loc main_arg1)
def U : S4096x16384.Idx → EReal := m ((c.tc : Thread nD τ).loc main_arg2)

theorem point_at (x : Vec Ideal S1024x4096 .bf16) (y : Vec Ideal S1024x4096 .bf16) (u : Vec Ideal S1024x1024 .f32) (p q : Fin 1024) :
    (out0_3 x y u : S1024x1024.Idx → EReal) (ix2 p q)
      = (∑ k : Fin 4096, (x : S1024x4096.Idx → EReal) (ix2 p k) * (y : S1024x4096.Idx → EReal) (ix2 q k)) * two * max ((u : S1024x1024.Idx → EReal) (ix2 p q)) 0 := by
  unfold out0_3
  frame_out
  unfold k0_pay1 two
  clean_types; pointwise

theorem ix : ∀ t : Fin cfg0.N, win0_0.index t = ![win0_3.index t 0, 0] ∧ win0_1.index t = ![win0_3.index t 1, 0] ∧ win0_2.index t = ![win0_3.index t 0, win0_3.index t 1]
    ∧ win0_3.index t 0 < 4 ∧ win0_3.index t 1 < 16 :=
  (by decide +kernel : ∀ t : Fin grid0.N, win0_0.index t = ![win0_3.index t 0, 0] ∧ win0_1.index t = ![win0_3.index t 1, 0] ∧ win0_2.index t = ![win0_3.index t 0, win0_3.index t 1]
    ∧ win0_3.index t 0 < 4 ∧ win0_3.index t 1 < 16)

theorem left_at (t : Fin cfg0.N) (k : Fin 4096) (p : Fin 1024) : (iblk m c 0 t : S1024x4096.Idx → EReal) (ix2 p k)
    = A m c (ix2 ⟨win0_3.index t 0 * 1024 + p.val, by have := ix t; omega⟩ k) := by
  blk_ext [iblk, V, (ix t).1, A]

theorem right_at (t : Fin cfg0.N) (k : Fin 4096) (q : Fin 1024) : (iblk m c 1 t : S1024x4096.Idx → EReal) (ix2 q k)
    = B m c (ix2 ⟨win0_3.index t 1 * 1024 + q.val, by have := ix t; omega⟩ k) := by
  blk_ext [iblk, V, (ix t).2.1, B]

theorem up_at (t : Fin cfg0.N) (p q : Fin 1024) : (iblk m c 2 t : S1024x1024.Idx → EReal) (ix2 p q)
    = U m c (ix2 ⟨win0_3.index t 0 * 1024 + p.val, by have := ix t; omega⟩ ⟨win0_3.index t 1 * 1024 + q.val, by have := ix t; omega⟩) := by
  blk_ext [iblk, V, (ix t).2.2.1, U]

theorem emb_at (t : Fin cfg0.N) (y : (win0_3.xblock (grid0.coords t)).Idx) (p q : Fin 1024) (hp : (y 0).val = p.val) (hq : (y 1).val = q.val) :
    (win0_3.blk t).view.emb y
      = (ix2 ⟨win0_3.index t 0 * 1024 + p.val, by have := ix t; omega⟩ ⟨win0_3.index t 1 * 1024 + q.val, by have := ix t; omega⟩ : S4096x16384.Idx) := by
  blk_ext

theorem arr : (dats m 0 c).arrAt 3 cfg0.N = grad (A m c) (B m c) (U m c) := by
  refine (dats m 0 c).arrAt_eq_of_covers 3 (grad (A m c) (B m c) (U m c)) (by decide +kernel) fun t hf y => ?_
  blk_simp
  rw [after0_3]
  rw [emb_at t y ((cfg0.win 3).xinj (cfg0.grid.coords t) y 0) ((cfg0.win 3).xinj (cfg0.grid.coords t) y 1) rfl rfl]
  refine (congrArg (out0_3 (iblk m c 0 t) (iblk m c 1 t) (iblk m c 2 t)) (eq_ix2 _)).trans ((point_at _ _ _ _ _).trans ?_)
  exact congrArg₂ (fun s u => s * two * max u 0)
    (Finset.sum_congr rfl fun k _ => congrArg₂ (· * ·) (left_at m c t k _) (right_at m c t k _)) (up_at m c t _ _)

end Kernel

section Reference
open Cert.Reference7Ideal Cert.Reference7Ideal.Gen

/-- The reference's result, from the three arrays. -/
def out {F : FTy → Type} [FloatOps F] (a : (⟨S4096x4096, .bf16⟩ : BufTy).Contents (Elt F)) (b : (⟨S16384x4096, .bf16⟩ : BufTy).Contents (Elt F)) (u : (⟨S4096x16384, .f32⟩ : BufTy).Contents (Elt F)) : (⟨S4096x16384, .bf16⟩ : BufTy).Contents (Elt F) :=
  truncf .bf16 (select (cmpf .ogt u (broadcastInDim S4096x16384 ![] bcast_S_S4096x16384 (constant S_ .f32 0x00000000#32))) (mulf (Host.dotGeneral dot_S4096x4096_S16384x4096_S4096x16384_1_1_0_0_n_n none (extf .f32 a bitsLt_bf16_f32) (extf .f32 b bitsLt_bf16_f32)) (mulf (broadcastInDim S4096x16384 ![] bcast_S_S4096x16384 (constant S_ .f32 0x40000000#32)) (maximumf u (broadcastInDim S4096x16384 ![] bcast_S_S4096x16384 (constant S_ .f32 0x00000000#32))))) (broadcastInDim S4096x16384 ![] bcast_S_S4096x16384 (constant S_ .f32 0x00000000#32))) bitsLt_bf16_f32

/-- Where the value is not positive its rectified value is zero, so that the selection changes nothing. -/
theorem selected (s u : EReal) : (if 0 < u then s * (two * max u 0) else 0) = s * two * max u 0 := by
  split_ifs with h
  · exact (mul_assoc _ _ _).symm
  · rw [max_eq_right (not_lt.mp h), mul_zero]

theorem out_eq (a : (⟨S4096x4096, .bf16⟩ : BufTy).Contents (Elt Ideal)) (b : (⟨S16384x4096, .bf16⟩ : BufTy).Contents (Elt Ideal)) (u : (⟨S4096x16384, .f32⟩ : BufTy).Contents (Elt Ideal)) : out a b u = grad a b u := by
  refine funext fun i => (congrArg (out a b u) (eq_ix2 i)).trans (Eq.trans ?_ (congrArg (grad a b u) (eq_ix2 i).symm))
  generalize i 0 = p, i 1 = q
  unfold out grad nt
  clean_types; pointwise
  exact selected _ _

end Reference

theorem agree : Cert.algebraic_Kernel7Ideal_Reference7Ideal := by
  intro m ρ m' ρ' _ hag
  refine ⟨fun c => grad (A m c) (B m c) (U m c), ?_, ?_⟩
  · refine (θ_run _ _ _).mono (fun _ h c => ?_) (Cert.Kernel7Ideal.Value.run_blocks m ρ)
    exact ⟨(h c).1.trans (arr m c), (h c).2⟩
  · refine (θ_run _ _ _).mono (fun _ h c => ?_) (Cert.Reference7Ideal.Value.run m' ρ')
    exact ⟨(h c).1.trans ((out_eq _ _ _).trans (by rw [(hag c).1, (hag c).2.1, (hag c).2.2]; rfl)), (h c).2⟩

theorem frame_ref : Cert.quiescent_Reference7Ideal := fun m ρ _ =>
  (θ_run _ _ _).mono (fun r h => ⟨fun c => (h c).2, sem_eq_zero_of_no_sems rfl r.2⟩) (Cert.Reference7Ideal.Value.run m ρ)

end Cert.Dff
-- ==== Proof.Dh2.lean ====
module

public import proofs.«01_k».proof.Defs
public import proofs.«01_k».proof.Proof.Gen.Kernel8Ideal.Value
public import proofs.«01_k».proof.Proof.Gen.Reference8Ideal.Run
public import proofs.«01_k».proof.Proof.Products
public import Idealize.ShloMosaic.Lib.Pipeline.ValueKit
public import Idealize.ShloMosaic.Lib.Pipeline.ReadBack
public import Idealize.ShloMosaic.Lib.Pointwise
public import Idealize.ShloMosaic.Lib.Tactic.CleanTypes

/-! The gradient of the channel mixer's input: four partial products, one for each block of the first weight's columns,
added up in a buffer, are the whole product. -/

@[expose] public section

set_option maxRecDepth 16384

noncomputable section

namespace Cert.Dh2

open Idealize.ShloMosaic Idealize.ShloMosaic.TcCoe Idealize.ShloMosaic.StableHlo Idealize.SL.Sem Cert.Products

section Kernel
open Cert.Kernel8Ideal Cert.Kernel8Ideal.Gen

/-- One partial product. -/
def part {F : FTy → Type} [FloatOps F] (x : Vec F S1024x4096 .bf16) (y : Vec F S1x1024x4096 .bf16) : FVec F S1024x1024 .f32 :=
  matmul dot_S1024x4096_S1024x4096_S1024x1024_1_1_0_0_n_n none x (shapeCast S1024x4096 y shapeCasts_S1x1024x4096_S1024x4096) (constant S1024x1024 .f32 0x00000000#32)

section Steps
variable {F : FTy → Type} [FloatOps F]
variable (m : (ℓ : Loc nD τ sig) → Buf (Elt F) ℓ) (c : Dev nD) (t : Fin cfg0.N)

abbrev before : t.val - 1 < cfg0.N := Nat.lt_of_le_of_lt (Nat.sub_le _ _) t.isLt

theorem first (h : t.val % 4 = 0) : (outsAt0 m c t.val t.isLt).2 = part (iblk m c 0 t) (iblk m c 1 t) := by
  rw [outsAt0_A m c t h (by omega) (by omega)]
  dsimp only
  frame_out
  unfold k0_pay2
  rw [shapeCast_self]
  rfl

theorem middle (h : 1 ≤ t.val % 4 ∧ t.val % 4 ≤ 2) :
    (outsAt0 m c t.val t.isLt).2 = addf (outsAt0 m c (t.val - 1) (before t)).2 (part (iblk m c 0 t) (iblk m c 1 t)) := by
  rw [outsAt0_B m c t (by omega) h (by omega)]
  dsimp only
  frame_out
  unfold k0_pay3
  dsimp only
  rw [shapeCast_self, read_unread_whole]
  rfl

theorem last (h : t.val % 4 = 3) :
    (outsAt0 m c t.val t.isLt).1 = addf (outsAt0 m c (t.val - 1) (before t)).2 (part (iblk m c 0 t) (iblk m c 1 t)) := by
  rw [outsAt0_C m c t (by omega) (by omega) h]
  dsimp only
  frame_out
  rw [read_unread_whole]
  rfl
end Steps

variable (m : (ℓ : Loc nD τ sig) → Buf (Elt Ideal) ℓ) (c : Dev nD)

def A : S4096x16384.Idx → EReal := m ((c.tc : Thread nD τ).loc main_arg0)
def B : S4x4096x4096.Idx → EReal := m ((c.tc : Thread nD τ).loc main_arg1)

theorem part_at (x : Vec Ideal S1024x4096 .bf16) (y : Vec Ideal S1x1024x4096 .bf16) (p q : Fin 1024) :
    (part x y : S1024x1024.Idx → EReal) (ix2 p q)
      = ∑ k : Fin 4096, (x : S1024x4096.Idx → EReal) (ix2 p k) * (y : S1x1024x4096.Idx → EReal) (ix3 0 q k) := by
  unfold part
  clean_types; pointwise

theorem ix : ∀ t : Fin cfg0.N, win0_0.index t = ![win0_2.index t 0, t.val % 4] ∧ win0_1.index t = ![t.val % 4, win0_2.index t 1, 0]
    ∧ win0_2.index t 0 < 4 ∧ win0_2.index t 1 < 4 :=
  (by decide +kernel : ∀ t : Fin grid0.N, win0_0.index t = ![win0_2.index t 0, t.val % 4] ∧ win0_1.index t = ![t.val % 4, win0_2.index t 1, 0]
    ∧ win0_2.index t 0 < 4 ∧ win0_2.index t 1 < 4)

theorem left_at (t : Fin cfg0.N) (k : Fin 4096) (p : Fin 1024) : (iblk m c 0 t : S1024x4096.Idx → EReal) (ix2 p k)
    = A m c (ix2 ⟨win0_2.index t 0 * 1024 + p.val, by have := ix t; omega⟩ ⟨t.val % 4 * 4096 + k.val, by omega⟩) := by
  blk_ext [iblk, V, (ix t).1, A]

theorem right_at (t : Fin cfg0.N) (k : Fin 4096) (q : Fin 1024) : (iblk m c 1 t : S1x1024x4096.Idx → EReal) (ix3 0 q k)
    = B m c (ix3 ⟨t.val % 4, by omega⟩ ⟨win0_2.index t 1 * 1024 + q.val, by have := ix t; omega⟩ k) := by
  blk_ext [iblk, V, (ix t).2.1, B]

theorem emb_at (t : Fin cfg0.N) (y : (win0_2.xblock (grid0.coords t)).Idx) (p q : Fin 1024) (hp : (y 0).val = p.val) (hq : (y 1).val = q.val) :
    (win0_2.blk t).view.emb y
      = (ix2 ⟨win0_2.index t 0 * 1024 + p.val, by have := ix t; omega⟩ ⟨win0_2.index t 1 * 1024 + q.val, by have := ix t; omega⟩ : S4096x4096.Idx) := by
  blk_ext

/-- The products of columns `4096 s … 4096 s + 4095`. -/
def slab (r j : Fin 4096) (s : ℕ) : EReal :=
  if h : s < 4 then ∑ k : Fin 4096, A m c (ix2 r ⟨s * 4096 + k.val, by omega⟩) * glued (B m c) (ix2 j ⟨s * 4096 + k.val, by omega⟩) else 0

theorem part_slab (t : Fin cfg0.N) (p q : Fin 1024) : (part (iblk m c 0 t) (iblk m c 1 t) : S1024x1024.Idx → EReal) (ix2 p q)
    = slab m c ⟨win0_2.index t 0 * 1024 + p.val, by have := ix t; omega⟩ ⟨win0_2.index t 1 * 1024 + q.val, by have := ix t; omega⟩ (t.val % 4) := by
  unfold slab
  rw [part_at, dif_pos (by omega)]
  exact Finset.sum_congr rfl fun k _ => congrArg₂ (· * ·) (left_at m c t k p) ((right_at m c t k q).trans (glued_at (B m c) _ _ _ _ rfl).symm)

theorem same_block : ∀ t : Fin cfg0.N, t.val % 4 ≠ 0 → ∀ t' : Fin cfg0.N, t'.val = t.val - 1 → win0_2.index t' = win0_2.index t :=
  (by decide +kernel : ∀ t : Fin grid0.N, t.val % 4 ≠ 0 → ∀ t' : Fin grid0.N, t'.val = t.val - 1 → win0_2.index t' = win0_2.index t)

/-- The buffer after a point that is not a block's last: the slabs so far. -/
theorem held (p q : Fin 1024) : ∀ (s : ℕ) (t : Fin cfg0.N), t.val % 4 = s → s < 3 →
    ((outsAt0 m c t.val t.isLt).2 : S1024x1024.Idx → EReal) (ix2 p q)
      = ∑ k ∈ Finset.range (s + 1), slab m c ⟨win0_2.index t 0 * 1024 + p.val, by have := ix t; omega⟩ ⟨win0_2.index t 1 * 1024 + q.val, by have := ix t; omega⟩ k := by
  intro s
  induction s with
  | zero =>
    intro t h _
    rw [first m c t h, part_slab, h, Finset.sum_range_one]
  | succ s ih =>
    intro t h hs
    have hb := same_block t (by omega) ⟨t.val - 1, before t⟩ rfl
    rw [middle m c t (by omega), Finset.sum_range_succ]
    have i := ih ⟨t.val - 1, before t⟩ (by show (t.val - 1) % 4 = s; omega) (by omega)
    have e := part_slab m c t p q
    simp only [hb] at i
    rw [h] at e
    exact congrArg₂ (· + ·) i e

theorem whole (r j : Fin 4096) : ∑ k ∈ Finset.range 4, slab m c r j k = nt (A m c) (glued (B m c)) (ix2 r j) := by
  rw [Finset.sum_range]
  unfold slab nt
  simp only [Fin.is_lt, dif_pos]
  exact Fin.sum_mul_add_congr (S := 4) (n := 4096) fun s k hl => rfl

theorem done (t : Fin cfg0.N) (h : t.val % 4 = 3) (p q : Fin 1024) : ((outsAt0 m c t.val t.isLt).1 : S1024x1024.Idx → EReal) (ix2 p q)
    = nt (A m c) (glued (B m c)) (ix2 ⟨win0_2.index t 0 * 1024 + p.val, by have := ix t; omega⟩ ⟨win0_2.index t 1 * 1024 + q.val, by have := ix t; omega⟩) := by
  have hb := same_block t (by omega) ⟨t.val - 1, before t⟩ rfl
  rw [last m c t h, ← whole, Finset.sum_range_succ]
  have i := held m c p q 2 ⟨t.val - 1, before t⟩ (by show (t.val - 1) % 4 = 2; omega) (by omega)
  have e := part_slab m c t p q
  simp only [hb] at i
  rw [h] at e
  exact congrArg₂ (· + ·) i e

theorem flushes : ∀ t : Fin cfg0.N, (cfg0.win 2).flush t = true → t.val % 4 = 3 := fun t h => (flush0_2 t).mp h

theorem arr : (dats m 0 c).arrAt 2 cfg0.N = nt (A m c) (glued (B m c)) := by
  refine (dats m 0 c).arrAt_eq_of_covers 2 (nt (A m c) (glued (B m c))) (by decide +kernel) fun t hf y => ?_
  blk_simp
  rw [after0_2]
  rw [emb_at t y ((cfg0.win 2).xinj (cfg0.grid.coords t) y 0) ((cfg0.win 2).xinj (cfg0.grid.coords t) y 1) rfl rfl]
  exact (congrArg (outsAt0 m c t.val t.isLt).1 (eq_ix2 _)).trans (done m c t (flushes t hf) _ _)

end Kernel

section Reference
open Cert.Reference8Ideal Cert.Reference8Ideal.Gen

/-- The reference's result, from the two arrays. -/
def out {F : FTy → Type} [FloatOps F] (a : (⟨S4096x16384, .bf16⟩ : BufTy).Contents (Elt F)) (b : (⟨S4x4096x4096, .bf16⟩ : BufTy).Contents (Elt F)) : (⟨S4096x4096, .f32⟩ : BufTy).Contents (Elt F) :=
  Host.dotGeneral dot_S4096x16384_S4096x16384_S4096x4096_1_1_0_0_n_n none (extf .f32 a bitsLt_bf16_f32) (shapeCast _ (transpose S4096x4x4096 [1, 0, 2] (extf .f32 b bitsLt_bf16_f32) transposes_S4x4096x4096_S4096x4x4096_1_0_2) shapeCasts_S4096x4x4096_S4096x16384)

theorem out_eq (a : (⟨S4096x16384, .bf16⟩ : BufTy).Contents (Elt Ideal)) (b : (⟨S4x4096x4096, .bf16⟩ : BufTy).Contents (Elt Ideal)) : out a b = nt a (glued b) := by
  refine funext fun i => (congrArg (out a b) (eq_ix2 i)).trans (Eq.trans ?_ (congrArg (nt a (glued b)) (eq_ix2 i).symm))
  generalize i 0 = p, i 1 = q
  unfold out nt glued
  clean_types; pointwise

end Reference

theorem agree : Cert.algebraic_Kernel8Ideal_Reference8Ideal := by
  intro m ρ m' ρ' _ hag
  refine ⟨fun c => nt (A m c) (glued (B m c)), ?_, ?_⟩
  · refine (θ_run _ _ _).mono (fun _ h c => ?_) (Cert.Kernel8Ideal.Value.run_blocks m ρ)
    exact ⟨(h c).1.trans (arr m c), (h c).2⟩
  · refine (θ_run _ _ _).mono (fun _ h c => ?_) (Cert.Reference8Ideal.Value.run m' ρ')
    exact ⟨(h c).1.trans ((out_eq _ _).trans (by rw [(hag c).1, (hag c).2]; rfl)), (h c).2⟩

theorem frame_ref : Cert.quiescent_Reference8Ideal := fun m ρ _ =>
  (θ_run _ _ _).mono (fun r h => ⟨fun c => (h c).2, sem_eq_zero_of_no_sems rfl r.2⟩) (Cert.Reference8Ideal.Value.run m ρ)

end Cert.Dh2
-- ==== Proof.Up.lean ====
module

public import proofs.«01_k».proof.Defs
public import proofs.«01_k».proof.Proof.Gen.Kernel9Ideal.Value
public import proofs.«01_k».proof.Proof.Gen.Reference9Ideal.Run
public import proofs.«01_k».proof.Proof.Products
public import Idealize.ShloMosaic.Lib.Pipeline.ValueKit
public import Idealize.ShloMosaic.Lib.Pointwise
public import Idealize.ShloMosaic.Lib.Tactic.CleanTypes

/-! The channel mixer's first product and its squared rectifier: the kernel's tiles are the whole product's, and their
squared rectified values the whole product's. -/

@[expose] public section

set_option maxRecDepth 16384

noncomputable section

namespace Cert.Up

open Idealize.ShloMosaic Idealize.ShloMosaic.TcCoe Idealize.ShloMosaic.StableHlo Idealize.SL.Sem Cert.Products

/-- The squared rectifier of the product. -/
def act (X : (⟨2, ![4096, 16384]⟩ : Shape).Idx → EReal) : (⟨2, ![4096, 16384]⟩ : Shape).Idx → EReal := fun i => max (X i) 0 * max (X i) 0

section Kernel
open Cert.Kernel9Ideal Cert.Kernel9Ideal.Gen

variable (m : (ℓ : Loc nD τ sig) → Buf (Elt Ideal) ℓ) (c : Dev nD)

def A : S4096x4096.Idx → EReal := m ((c.tc : Thread nD τ).loc main_arg0)
def B : S4x4096x4096.Idx → EReal := m ((c.tc : Thread nD τ).loc main_arg1)

theorem pay_at (x : Vec Ideal S1024x4096 .bf16) (y : Vec Ideal S1x4096x1024 .bf16) (p q : Fin 1024) :
    (k0_pay1 x y : S1024x1024.Idx → EReal) (ix2 p q)
      = ∑ k : Fin 4096, (x : S1024x4096.Idx → EReal) (ix2 p k) * (y : S1x4096x1024.Idx → EReal) (ix3 0 k q) := by
  unfold k0_pay1
  clean_types; pointwise

theorem point2_at (x : Vec Ideal S1024x4096 .bf16) (y : Vec Ideal S1x4096x1024 .bf16) (p q : Fin 1024) :
    (out0_2 x y : S1024x1024.Idx → EReal) (ix2 p q) = (k0_pay1 x y : S1024x1024.Idx → EReal) (ix2 p q) := by
  unfold out0_2
  frame_out

theorem point3_at (x : Vec Ideal S1024x4096 .bf16) (y : Vec Ideal S1x4096x1024 .bf16) (p q : Fin 1024) :
    (out0_3 x y : S1024x1024.Idx → EReal) (ix2 p q)
      = max ((k0_pay1 x y : S1024x1024.Idx → EReal) (ix2 p q)) 0 * max ((k0_pay1 x y : S1024x1024.Idx → EReal) (ix2 p q)) 0 := by
  unfold out0_3
  frame_out
  unfold k0_pay2
  generalize k0_pay1 x y = z
  clean_types; pointwise

theorem ix : ∀ t : Fin cfg0.N, win0_0.index t = ![win0_2.index t 0, 0] ∧ win0_1.index t = ![win0_2.index t 1 / 4, 0, win0_2.index t 1 % 4]
    ∧ win0_2.index t 0 < 4 ∧ win0_2.index t 1 < 16 ∧ win0_3.index t = ![win0_2.index t 0, win0_2.index t 1] :=
  (by decide +kernel : ∀ t : Fin grid0.N, win0_0.index t = ![win0_2.index t 0, 0] ∧ win0_1.index t = ![win0_2.index t 1 / 4, 0, win0_2.index t 1 % 4]
    ∧ win0_2.index t 0 < 4 ∧ win0_2.index t 1 < 16 ∧ win0_3.index t = ![win0_2.index t 0, win0_2.index t 1])

theorem left_at (t : Fin cfg0.N) (k : Fin 4096) (p : Fin 1024) : (iblk m c 0 t : S1024x4096.Idx → EReal) (ix2 p k)
    = A m c (ix2 ⟨win0_2.index t 0 * 1024 + p.val, by have := ix t; omega⟩ k) := by
  blk_ext [iblk, V, (ix t).1, A]

theorem right_at (t : Fin cfg0.N) (k : Fin 4096) (q : Fin 1024) : (iblk m c 1 t : S1x4096x1024.Idx → EReal) (ix3 0 k q)
    = B m c (ix3 ⟨win0_2.index t 1 / 4, by have := ix t; omega⟩ k ⟨win0_2.index t 1 % 4 * 1024 + q.val, by omega⟩) := by
  blk_ext [iblk, V, (ix t).2.1, B]

theorem emb2 (t : Fin cfg0.N) (y : (win0_2.xblock (grid0.coords t)).Idx) (p q : Fin 1024) (hp : (y 0).val = p.val) (hq : (y 1).val = q.val) :
    (win0_2.blk t).view.emb y
      = (ix2 ⟨win0_2.index t 0 * 1024 + p.val, by have := ix t; omega⟩ ⟨win0_2.index t 1 * 1024 + q.val, by have := ix t; omega⟩ : S4096x16384.Idx) := by
  blk_ext

theorem emb3 (t : Fin cfg0.N) (y : (win0_3.xblock (grid0.coords t)).Idx) (p q : Fin 1024) (hp : (y 0).val = p.val) (hq : (y 1).val = q.val) :
    (win0_3.blk t).view.emb y
      = (ix2 ⟨win0_2.index t 0 * 1024 + p.val, by have := ix t; omega⟩ ⟨win0_2.index t 1 * 1024 + q.val, by have := ix t; omega⟩ : S4096x16384.Idx) := by
  blk_ext [(ix t).2.2.2.2]

theorem tile_at (t : Fin cfg0.N) (p q : Fin 1024) : (k0_pay1 (iblk m c 0 t) (iblk m c 1 t) : S1024x1024.Idx → EReal) (ix2 p q)
    = nn (A m c) (glued (B m c)) (ix2 ⟨win0_2.index t 0 * 1024 + p.val, by have := ix t; omega⟩ ⟨win0_2.index t 1 * 1024 + q.val, by have := ix t; omega⟩) :=
  (pay_at _ _ _ _).trans (Finset.sum_congr rfl fun k _ => congrArg₂ (· * ·) (left_at m c t k _)
    ((right_at m c t k _).trans (glued_at (B m c) k _ _ _ (by
      show win0_2.index t 1 / 4 * 4096 + (win0_2.index t 1 % 4 * 1024 + q.val) = win0_2.index t 1 * 1024 + q.val
      omega)).symm))

theorem arr2 : (dats m 0 c).arrAt 2 cfg0.N = nn (A m c) (glued (B m c)) := by
  refine (dats m 0 c).arrAt_eq_of_covers 2 (nn (A m c) (glued (B m c))) (by decide +kernel) fun t hf y => ?_
  blk_simp
  rw [after0_2]
  rw [emb2 t y ((cfg0.win 2).xinj (cfg0.grid.coords t) y 0) ((cfg0.win 2).xinj (cfg0.grid.coords t) y 1) rfl rfl]
  refine (congrArg (out0_2 (iblk m c 0 t) (iblk m c 1 t)) (eq_ix2 _)).trans ((point2_at _ _ _ _).trans ?_)
  exact tile_at m c t _ _

theorem arr3 : (dats m 0 c).arrAt 3 cfg0.N = act (nn (A m c) (glued (B m c))) := by
  refine (dats m 0 c).arrAt_eq_of_covers 3 (act (nn (A m c) (glued (B m c)))) (by decide +kernel) fun t hf y => ?_
  blk_simp
  rw [after0_3]
  rw [emb3 t y ((cfg0.win 3).xinj (cfg0.grid.coords t) y 0) ((cfg0.win 3).xinj (cfg0.grid.coords t) y 1) rfl rfl]
  refine (congrArg (out0_3 (iblk m c 0 t) (iblk m c 1 t)) (eq_ix2 _)).trans ((point3_at _ _ _ _).trans ?_)
  exact congrArg (fun s => max s 0 * max s 0) (tile_at m c t _ _)

end Kernel

section Reference
open Cert.Reference9Ideal Cert.Reference9Ideal.Gen

/-- The reference's product, from the two arrays. -/
def up {F : FTy → Type} [FloatOps F] (a : (⟨S4096x4096, .bf16⟩ : BufTy).Contents (Elt F)) (b : (⟨S4x4096x4096, .bf16⟩ : BufTy).Contents (Elt F)) : (⟨S4096x16384, .f32⟩ : BufTy).Contents (Elt F) :=
  Host.dotGeneral dot_S4096x4096_S4096x16384_S4096x16384_1_0_0_1_n_n none (extf .f32 a bitsLt_bf16_f32) (shapeCast _ (transpose S4096x4x4096 [1, 0, 2] (extf .f32 b bitsLt_bf16_f32) transposes_S4x4096x4096_S4096x4x4096_1_0_2) shapeCasts_S4096x4x4096_S4096x16384)

/-- The reference's squared rectifier of it. -/
def ff {F : FTy → Type} [FloatOps F] (a : (⟨S4096x4096, .bf16⟩ : BufTy).Contents (Elt F)) (b : (⟨S4x4096x4096, .bf16⟩ : BufTy).Contents (Elt F)) : (⟨S4096x16384, .bf16⟩ : BufTy).Contents (Elt F) :=
  truncf .bf16 (mulf (maximumf (up a b) (broadcastInDim S4096x16384 ![] bcast_S_S4096x16384 (constant S_ .f32 0x00000000#32))) (maximumf (up a b) (broadcastInDim S4096x16384 ![] bcast_S_S4096x16384 (constant S_ .f32 0x00000000#32)))) bitsLt_bf16_f32

theorem up_eq (a : (⟨S4096x4096, .bf16⟩ : BufTy).Contents (Elt Ideal)) (b : (⟨S4x4096x4096, .bf16⟩ : BufTy).Contents (Elt Ideal)) : up a b = nn a (glued b) := by
  refine funext fun i => (congrArg (up a b) (eq_ix2 i)).trans (Eq.trans ?_ (congrArg (nn a (glued b)) (eq_ix2 i).symm))
  generalize i 0 = p, i 1 = q
  unfold up nn glued
  clean_types; pointwise

theorem ff_eq (a : (⟨S4096x4096, .bf16⟩ : BufTy).Contents (Elt Ideal)) (b : (⟨S4x4096x4096, .bf16⟩ : BufTy).Contents (Elt Ideal)) : ff a b = act (nn a (glued b)) := by
  rw [← up_eq]
  refine funext fun i => (congrArg (ff a b) (eq_ix2 i)).trans (Eq.trans ?_ (congrArg (act (up a b)) (eq_ix2 i).symm))
  generalize i 0 = p, i 1 = q
  unfold ff act
  generalize up a b = z
  clean_types; pointwise

end Reference

theorem agree : Cert.algebraic_Kernel9Ideal_Reference9Ideal := by
  intro m ρ m' ρ' _ hag
  refine ⟨fun c => nn (A m c) (glued (B m c)), fun c => act (nn (A m c) (glued (B m c))), ?_, ?_⟩
  · refine (θ_run _ _ _).mono (fun _ h c => ?_) (Cert.Kernel9Ideal.Value.run_blocks m ρ)
    exact ⟨(h c).1.trans (arr2 m c), (h c).2.1.trans (arr3 m c), (h c).2.2⟩
  · refine (θ_run _ _ _).mono (fun _ h c => ?_) (Cert.Reference9Ideal.Value.run m' ρ')
    exact ⟨(h c).1.trans ((up_eq _ _).trans (by rw [(hag c).1, (hag c).2]; rfl)), (h c).2.1.trans ((ff_eq _ _).trans (by rw [(hag c).1, (hag c).2]; rfl)), (h c).2.2⟩

theorem frame_ref : Cert.quiescent_Reference9Ideal := fun m ρ _ =>
  (θ_run _ _ _).mono (fun r h => ⟨fun c => (h c).2.2, sem_eq_zero_of_no_sems rfl r.2⟩) (Cert.Reference9Ideal.Value.run m ρ)

end Cert.Up
-- ==== Proof.Proj.lean ====
module

public import proofs.«01_k».proof.Defs
public import proofs.«01_k».proof.Proof.Gen.Kernel10Ideal.Value
public import proofs.«01_k».proof.Proof.Gen.Reference10Ideal.Run
public import proofs.«01_k».proof.Proof.Products
public import Idealize.ShloMosaic.Lib.Pipeline.ValueKit
public import Idealize.ShloMosaic.Lib.Pointwise
public import Idealize.ShloMosaic.Lib.Tactic.CleanTypes

/-! The token mixer's first product: the kernel's tiled product is the whole product. -/

@[expose] public section

set_option maxRecDepth 16384

noncomputable section

namespace Cert.Proj

open Idealize.ShloMosaic Idealize.ShloMosaic.TcCoe Idealize.ShloMosaic.StableHlo Idealize.SL.Sem Cert.Products

section Kernel
open Cert.Kernel10Ideal Cert.Kernel10Ideal.Gen

variable (m : (ℓ : Loc nD τ sig) → Buf (Elt Ideal) ℓ) (c : Dev nD)

def A : S4096x4096.Idx → EReal := m ((c.tc : Thread nD τ).loc main_arg0)
def B : S4096x12800.Idx → EReal := m ((c.tc : Thread nD τ).loc main_arg1)

theorem point_at (x : Vec Ideal S512x4096 .bf16) (y : Vec Ideal S4096x1280 .bf16) (p : Fin 512) (q : Fin 1280) :
    (out0_2 x y : S512x1280.Idx → EReal) (ix2 p q)
      = ∑ k : Fin 4096, (x : S512x4096.Idx → EReal) (ix2 p k) * (y : S4096x1280.Idx → EReal) (ix2 k q) := by
  unfold out0_2
  frame_out
  unfold k0_pay1
  clean_types; pointwise

theorem ix : ∀ t : Fin cfg0.N, win0_0.index t = ![win0_2.index t 0, 0] ∧ win0_1.index t = ![0, win0_2.index t 1]
    ∧ win0_2.index t 0 < 4096 / 512 ∧ win0_2.index t 1 < 12800 / 1280 :=
  (by decide +kernel : ∀ t : Fin grid0.N, win0_0.index t = ![win0_2.index t 0, 0] ∧ win0_1.index t = ![0, win0_2.index t 1]
    ∧ win0_2.index t 0 < 4096 / 512 ∧ win0_2.index t 1 < 12800 / 1280)

theorem left_at (t : Fin cfg0.N) (k : Fin 4096) (p : Fin 512) : (iblk m c 0 t : S512x4096.Idx → EReal) (ix2 p k)
    = A m c (ix2 ⟨win0_2.index t 0 * 512 + p.val, by have := ix t; omega⟩ k) := by
  blk_ext [iblk, V, (ix t).1, A]

theorem right_at (t : Fin cfg0.N) (k : Fin 4096) (q : Fin 1280) : (iblk m c 1 t : S4096x1280.Idx → EReal) (ix2 k q)
    = B m c (ix2 k ⟨win0_2.index t 1 * 1280 + q.val, by have := ix t; omega⟩) := by
  blk_ext [iblk, V, (ix t).2.1, B]

theorem emb_at (t : Fin cfg0.N) (y : (win0_2.xblock (grid0.coords t)).Idx) (p : Fin 512) (q : Fin 1280) (hp : (y 0).val = p.val) (hq : (y 1).val = q.val) :
    (win0_2.blk t).view.emb y
      = (ix2 ⟨win0_2.index t 0 * 512 + p.val, by have := ix t; omega⟩ ⟨win0_2.index t 1 * 1280 + q.val, by have := ix t; omega⟩ : S4096x12800.Idx) := by
  blk_ext

theorem arr : (dats m 0 c).arrAt 2 cfg0.N = nn (A m c) (B m c) := by
  refine (dats m 0 c).arrAt_eq_of_covers 2 (nn (A m c) (B m c)) (by decide +kernel) fun t hf y => ?_
  blk_simp
  rw [after0_2]
  rw [emb_at t y ((cfg0.win 2).xinj (cfg0.grid.coords t) y 0) ((cfg0.win 2).xinj (cfg0.grid.coords t) y 1) rfl rfl]
  refine (congrArg (out0_2 (iblk m c 0 t) (iblk m c 1 t)) (eq_ix2 _)).trans ((point_at _ _ _ _).trans ?_)
  exact Finset.sum_congr rfl fun k _ => congrArg₂ (· * ·) (left_at m c t k _) (right_at m c t k _)

end Kernel

section Reference
open Cert.Reference10Ideal Cert.Reference10Ideal.Gen

/-- The reference's result, from the two arrays. -/
def out {F : FTy → Type} [FloatOps F] (a : (⟨S4096x4096, .bf16⟩ : BufTy).Contents (Elt F)) (b : (⟨S4096x12800, .bf16⟩ : BufTy).Contents (Elt F)) :
    (⟨S4096x12800, .f32⟩ : BufTy).Contents (Elt F) :=
  Host.dotGeneral dot_S4096x4096_S4096x12800_S4096x12800_1_0_0_1_n_n none (extf .f32 a bitsLt_bf16_f32) (extf .f32 b bitsLt_bf16_f32)

theorem out_eq (a : (⟨S4096x4096, .bf16⟩ : BufTy).Contents (Elt Ideal)) (b : (⟨S4096x12800, .bf16⟩ : BufTy).Contents (Elt Ideal)) : out a b = nn a b := by
  refine funext fun i => (congrArg (out a b) (eq_ix2 i)).trans (Eq.trans ?_ (congrArg (nn a b) (eq_ix2 i).symm))
  generalize i 0 = p, i 1 = q
  unfold out nn
  clean_types; pointwise

end Reference

theorem agree : Cert.algebraic_Kernel10Ideal_Reference10Ideal := by
  intro m ρ m' ρ' _ hag
  refine ⟨fun c => nn (A m c) (B m c), ?_, ?_⟩
  · refine (θ_run _ _ _).mono (fun _ h c => ?_) (Cert.Kernel10Ideal.Value.run_blocks m ρ)
    exact ⟨(h c).1.trans (arr m c), (h c).2⟩
  · refine (θ_run _ _ _).mono (fun _ h c => ?_) (Cert.Reference10Ideal.Value.run m' ρ')
    exact ⟨(h c).1.trans ((out_eq _ _).trans (congrArg₂ nn (hag c).1 (hag c).2)), (h c).2⟩

theorem frame_ref : Cert.quiescent_Reference10Ideal := fun m ρ _ =>
  (θ_run _ _ _).mono (fun r h => ⟨fun c => (h c).2, sem_eq_zero_of_no_sems rfl r.2⟩) (Cert.Reference10Ideal.Value.run m ρ)

end Cert.Proj
-- ==== Proof.Dymix.lean ====
module

public import proofs.«01_k».proof.Defs
public import proofs.«01_k».proof.Proof.Gen.Kernel11Ideal.Value
public import proofs.«01_k».proof.Proof.Gen.Reference11Ideal.Run
public import proofs.«01_k».proof.Proof.Products
public import Idealize.ShloMosaic.Lib.Pipeline.ValueKit
public import Idealize.ShloMosaic.Lib.Pointwise
public import Idealize.ShloMosaic.Lib.Tactic.CleanTypes

/-! The gradient of the token mixer's output: the kernel's tiled product is the whole product. -/

@[expose] public section

set_option maxRecDepth 16384

noncomputable section

namespace Cert.Dymix

open Idealize.ShloMosaic Idealize.ShloMosaic.TcCoe Idealize.ShloMosaic.StableHlo Idealize.SL.Sem Cert.Products

section Kernel
open Cert.Kernel11Ideal Cert.Kernel11Ideal.Gen

variable (m : (ℓ : Loc nD τ sig) → Buf (Elt Ideal) ℓ) (c : Dev nD)

def A : S4096x4096.Idx → EReal := m ((c.tc : Thread nD τ).loc main_arg0)
def B : S4096x4096.Idx → EReal := m ((c.tc : Thread nD τ).loc main_arg1)

theorem point_at (x : Vec Ideal S1024x4096 .bf16) (y : Vec Ideal S1024x4096 .bf16) (p : Fin 1024) (q : Fin 1024) :
    (out0_2 x y : S1024x1024.Idx → EReal) (ix2 p q)
      = ∑ k : Fin 4096, (x : S1024x4096.Idx → EReal) (ix2 p k) * (y : S1024x4096.Idx → EReal) (ix2 q k) := by
  unfold out0_2
  frame_out
  unfold k0_pay1
  clean_types; pointwise

theorem ix : ∀ t : Fin cfg0.N, win0_0.index t = ![win0_2.index t 0, 0] ∧ win0_1.index t = ![win0_2.index t 1, 0]
    ∧ win0_2.index t 0 < 4096 / 1024 ∧ win0_2.index t 1 < 4096 / 1024 :=
  (by decide +kernel : ∀ t : Fin grid0.N, win0_0.index t = ![win0_2.index t 0, 0] ∧ win0_1.index t = ![win0_2.index t 1, 0]
    ∧ win0_2.index t 0 < 4096 / 1024 ∧ win0_2.index t 1 < 4096 / 1024)

theorem left_at (t : Fin cfg0.N) (k : Fin 4096) (p : Fin 1024) : (iblk m c 0 t : S1024x4096.Idx → EReal) (ix2 p k)
    = A m c (ix2 ⟨win0_2.index t 0 * 1024 + p.val, by have := ix t; omega⟩ k) := by
  blk_ext [iblk, V, (ix t).1, A]

theorem right_at (t : Fin cfg0.N) (k : Fin 4096) (q : Fin 1024) : (iblk m c 1 t : S1024x4096.Idx → EReal) (ix2 q k)
    = B m c (ix2 ⟨win0_2.index t 1 * 1024 + q.val, by have := ix t; omega⟩ k) := by
  blk_ext [iblk, V, (ix t).2.1, B]

theorem emb_at (t : Fin cfg0.N) (y : (win0_2.xblock (grid0.coords t)).Idx) (p : Fin 1024) (q : Fin 1024) (hp : (y 0).val = p.val) (hq : (y 1).val = q.val) :
    (win0_2.blk t).view.emb y
      = (ix2 ⟨win0_2.index t 0 * 1024 + p.val, by have := ix t; omega⟩ ⟨win0_2.index t 1 * 1024 + q.val, by have := ix t; omega⟩ : S4096x4096.Idx) := by
  blk_ext

theorem arr : (dats m 0 c).arrAt 2 cfg0.N = nt (A m c) (B m c) := by
  refine (dats m 0 c).arrAt_eq_of_covers 2 (nt (A m c) (B m c)) (by decide +kernel) fun t hf y => ?_
  blk_simp
  rw [after0_2]
  rw [emb_at t y ((cfg0.win 2).xinj (cfg0.grid.coords t) y 0) ((cfg0.win 2).xinj (cfg0.grid.coords t) y 1) rfl rfl]
  refine (congrArg (out0_2 (iblk m c 0 t) (iblk m c 1 t)) (eq_ix2 _)).trans ((point_at _ _ _ _).trans ?_)
  exact Finset.sum_congr rfl fun k _ => congrArg₂ (· * ·) (left_at m c t k _) (right_at m c t k _)

end Kernel

section Reference
open Cert.Reference11Ideal Cert.Reference11Ideal.Gen

/-- The reference's result, from the two arrays. -/
def out {F : FTy → Type} [FloatOps F] (a : (⟨S4096x4096, .bf16⟩ : BufTy).Contents (Elt F)) (b : (⟨S4096x4096, .bf16⟩ : BufTy).Contents (Elt F)) :
    (⟨S4096x4096, .f32⟩ : BufTy).Contents (Elt F) :=
  Host.dotGeneral dot_S4096x4096_S4096x4096_S4096x4096_1_1_0_0_n_n none (extf .f32 a bitsLt_bf16_f32) (extf .f32 b bitsLt_bf16_f32)

theorem out_eq (a : (⟨S4096x4096, .bf16⟩ : BufTy).Contents (Elt Ideal)) (b : (⟨S4096x4096, .bf16⟩ : BufTy).Contents (Elt Ideal)) : out a b = nt a b := by
  refine funext fun i => (congrArg (out a b) (eq_ix2 i)).trans (Eq.trans ?_ (congrArg (nt a b) (eq_ix2 i).symm))
  generalize i 0 = p, i 1 = q
  unfold out nt
  clean_types; pointwise

end Reference

theorem agree : Cert.algebraic_Kernel11Ideal_Reference11Ideal := by
  intro m ρ m' ρ' _ hag
  refine ⟨fun c => nt (A m c) (B m c), ?_, ?_⟩
  · refine (θ_run _ _ _).mono (fun _ h c => ?_) (Cert.Kernel11Ideal.Value.run_blocks m ρ)
    exact ⟨(h c).1.trans (arr m c), (h c).2⟩
  · refine (θ_run _ _ _).mono (fun _ h c => ?_) (Cert.Reference11Ideal.Value.run m' ρ')
    exact ⟨(h c).1.trans ((out_eq _ _).trans (congrArg₂ nt (hag c).1 (hag c).2)), (h c).2⟩

theorem frame_ref : Cert.quiescent_Reference11Ideal := fun m ρ _ =>
  (θ_run _ _ _).mono (fun r h => ⟨fun c => (h c).2, sem_eq_zero_of_no_sems rfl r.2⟩) (Cert.Reference11Ideal.Value.run m ρ)

end Cert.Dymix
-- ==== Proof.GwOut.lean ====
module

public import proofs.«01_k».proof.Defs
public import proofs.«01_k».proof.Proof.Gen.Kernel12Ideal.Value
public import proofs.«01_k».proof.Proof.Gen.Reference12Ideal.Run
public import proofs.«01_k».proof.Proof.Products
public import Idealize.ShloMosaic.Lib.Pipeline.ValueKit
public import Idealize.ShloMosaic.Lib.Pointwise
public import Idealize.ShloMosaic.Lib.Tactic.CleanTypes

/-! The gradient of the token mixer's second weight: the kernel's tiled product is the whole product. -/

@[expose] public section

set_option maxRecDepth 16384

noncomputable section

namespace Cert.GwOut

open Idealize.ShloMosaic Idealize.ShloMosaic.TcCoe Idealize.ShloMosaic.StableHlo Idealize.SL.Sem Cert.Products

section Kernel
open Cert.Kernel12Ideal Cert.Kernel12Ideal.Gen

variable (m : (ℓ : Loc nD τ sig) → Buf (Elt Ideal) ℓ) (c : Dev nD)

def A : S4096x4096.Idx → EReal := m ((c.tc : Thread nD τ).loc main_arg0)
def B : S4096x4096.Idx → EReal := m ((c.tc : Thread nD τ).loc main_arg1)

theorem point_at (x : Vec Ideal S4096x1024 .bf16) (y : Vec Ideal S4096x1024 .bf16) (p : Fin 1024) (q : Fin 1024) :
    (out0_2 x y : S1024x1024.Idx → EReal) (ix2 p q)
      = ∑ k : Fin 4096, (x : S4096x1024.Idx → EReal) (ix2 k p) * (y : S4096x1024.Idx → EReal) (ix2 k q) := by
  unfold out0_2
  frame_out
  unfold k0_pay1
  clean_types; pointwise

theorem ix : ∀ t : Fin cfg0.N, win0_0.index t = ![0, win0_2.index t 0] ∧ win0_1.index t = ![0, win0_2.index t 1]
    ∧ win0_2.index t 0 < 4096 / 1024 ∧ win0_2.index t 1 < 4096 / 1024 :=
  (by decide +kernel : ∀ t : Fin grid0.N, win0_0.index t = ![0, win0_2.index t 0] ∧ win0_1.index t = ![0, win0_2.index t 1]
    ∧ win0_2.index t 0 < 4096 / 1024 ∧ win0_2.index t 1 < 4096 / 1024)

theorem left_at (t : Fin cfg0.N) (k : Fin 4096) (p : Fin 1024) : (iblk m c 0 t : S4096x1024.Idx → EReal) (ix2 k p)
    = A m c (ix2 k ⟨win0_2.index t 0 * 1024 + p.val, by have := ix t; omega⟩) := by
  blk_ext [iblk, V, (ix t).1, A]

theorem right_at (t : Fin cfg0.N) (k : Fin 4096) (q : Fin 1024) : (iblk m c 1 t : S4096x1024.Idx → EReal) (ix2 k q)
    = B m c (ix2 k ⟨win0_2.index t 1 * 1024 + q.val, by have := ix t; omega⟩) := by
  blk_ext [iblk, V, (ix t).2.1, B]

theorem emb_at (t : Fin cfg0.N) (y : (win0_2.xblock (grid0.coords t)).Idx) (p : Fin 1024) (q : Fin 1024) (hp : (y 0).val = p.val) (hq : (y 1).val = q.val) :
    (win0_2.blk t).view.emb y
      = (ix2 ⟨win0_2.index t 0 * 1024 + p.val, by have := ix t; omega⟩ ⟨win0_2.index t 1 * 1024 + q.val, by have := ix t; omega⟩ : S4096x4096.Idx) := by
  blk_ext

theorem arr : (dats m 0 c).arrAt 2 cfg0.N = tn (A m c) (B m c) := by
  refine (dats m 0 c).arrAt_eq_of_covers 2 (tn (A m c) (B m c)) (by decide +kernel) fun t hf y => ?_
  blk_simp
  rw [after0_2]
  rw [emb_at t y ((cfg0.win 2).xinj (cfg0.grid.coords t) y 0) ((cfg0.win 2).xinj (cfg0.grid.coords t) y 1) rfl rfl]
  refine (congrArg (out0_2 (iblk m c 0 t) (iblk m c 1 t)) (eq_ix2 _)).trans ((point_at _ _ _ _).trans ?_)
  exact Finset.sum_congr rfl fun k _ => congrArg₂ (· * ·) (left_at m c t k _) (right_at m c t k _)

end Kernel

section Reference
open Cert.Reference12Ideal Cert.Reference12Ideal.Gen

/-- The reference's result, from the two arrays. -/
def out {F : FTy → Type} [FloatOps F] (a : (⟨S4096x4096, .bf16⟩ : BufTy).Contents (Elt F)) (b : (⟨S4096x4096, .bf16⟩ : BufTy).Contents (Elt F)) :
    (⟨S4096x4096, .bf16⟩ : BufTy).Contents (Elt F) :=
  truncf .bf16 (transpose S4096x4096 [1, 0] (Host.dotGeneral dot_S4096x4096_S4096x4096_S4096x4096_0_0_1_1_n_n none (extf .f32 b bitsLt_bf16_f32) (extf .f32 a bitsLt_bf16_f32)) transposes_S4096x4096_S4096x4096_1_0) bitsLt_bf16_f32

theorem out_eq (a : (⟨S4096x4096, .bf16⟩ : BufTy).Contents (Elt Ideal)) (b : (⟨S4096x4096, .bf16⟩ : BufTy).Contents (Elt Ideal)) : out a b = tn a b := by
  refine funext fun i => (congrArg (out a b) (eq_ix2 i)).trans (Eq.trans ?_ (congrArg (tn a b) (eq_ix2 i).symm))
  generalize i 0 = p, i 1 = q
  unfold out tn
  clean_types; pointwise
  exact Finset.sum_congr rfl fun k _ => mul_comm _ _

end Reference

theorem agree : Cert.algebraic_Kernel12Ideal_Reference12Ideal := by
  intro m ρ m' ρ' _ hag
  refine ⟨fun c => tn (A m c) (B m c), ?_, ?_⟩
  · refine (θ_run _ _ _).mono (fun _ h c => ?_) (Cert.Kernel12Ideal.Value.run_blocks m ρ)
    exact ⟨(h c).1.trans (arr m c), (h c).2⟩
  · refine (θ_run _ _ _).mono (fun _ h c => ?_) (Cert.Reference12Ideal.Value.run m' ρ')
    exact ⟨(h c).1.trans ((out_eq _ _).trans (congrArg₂ tn (hag c).1 (hag c).2)), (h c).2⟩

theorem frame_ref : Cert.quiescent_Reference12Ideal := fun m ρ _ =>
  (θ_run _ _ _).mono (fun r h => ⟨fun c => (h c).2, sem_eq_zero_of_no_sems rfl r.2⟩) (Cert.Reference12Ideal.Value.run m ρ)

end Cert.GwOut
-- ==== Proof.Mix.lean ====
module

public import proofs.«01_k».proof.Defs
public import proofs.«01_k».proof.Proof.Gen.Kernel13Ideal.Value
public import proofs.«01_k».proof.Proof.Gen.Reference13Ideal.Run
public import proofs.«01_k».proof.Proof.Products
public import Idealize.ShloMosaic.Lib.Pipeline.ValueKit
public import Idealize.ShloMosaic.Lib.Pointwise
public import Idealize.ShloMosaic.Lib.Tactic.CleanTypes

/-! The token mixer's second product: the kernel's tiled product is the whole product. -/

@[expose] public section

set_option maxRecDepth 16384

noncomputable section

namespace Cert.Mix

open Idealize.ShloMosaic Idealize.ShloMosaic.TcCoe Idealize.ShloMosaic.StableHlo Idealize.SL.Sem Cert.Products

section Kernel
open Cert.Kernel13Ideal Cert.Kernel13Ideal.Gen

variable (m : (ℓ : Loc nD τ sig) → Buf (Elt Ideal) ℓ) (c : Dev nD)

def A : S4096x4096.Idx → EReal := m ((c.tc : Thread nD τ).loc main_arg0)
def B : S4096x4096.Idx → EReal := m ((c.tc : Thread nD τ).loc main_arg1)

theorem point_at (x : Vec Ideal S1024x4096 .bf16) (y : Vec Ideal S4096x1024 .bf16) (p : Fin 1024) (q : Fin 1024) :
    (out0_2 x y : S1024x1024.Idx → EReal) (ix2 p q)
      = ∑ k : Fin 4096, (x : S1024x4096.Idx → EReal) (ix2 p k) * (y : S4096x1024.Idx → EReal) (ix2 k q) := by
  unfold out0_2
  frame_out
  unfold k0_pay1
  clean_types; pointwise

theorem ix : ∀ t : Fin cfg0.N, win0_0.index t = ![win0_2.index t 0, 0] ∧ win0_1.index t = ![0, win0_2.index t 1]
    ∧ win0_2.index t 0 < 4096 / 1024 ∧ win0_2.index t 1 < 4096 / 1024 :=
  (by decide +kernel : ∀ t : Fin grid0.N, win0_0.index t = ![win0_2.index t 0, 0] ∧ win0_1.index t = ![0, win0_2.index t 1]
    ∧ win0_2.index t 0 < 4096 / 1024 ∧ win0_2.index t 1 < 4096 / 1024)

theorem left_at (t : Fin cfg0.N) (k : Fin 4096) (p : Fin 1024) : (iblk m c 0 t : S1024x4096.Idx → EReal) (ix2 p k)
    = A m c (ix2 ⟨win0_2.index t 0 * 1024 + p.val, by have := ix t; omega⟩ k) := by
  blk_ext [iblk, V, (ix t).1, A]

theorem right_at (t : Fin cfg0.N) (k : Fin 4096) (q : Fin 1024) : (iblk m c 1 t : S4096x1024.Idx → EReal) (ix2 k q)
    = B m c (ix2 k ⟨win0_2.index t 1 * 1024 + q.val, by have := ix t; omega⟩) := by
  blk_ext [iblk, V, (ix t).2.1, B]

theorem emb_at (t : Fin cfg0.N) (y : (win0_2.xblock (grid0.coords t)).Idx) (p : Fin 1024) (q : Fin 1024) (hp : (y 0).val = p.val) (hq : (y 1).val = q.val) :
    (win0_2.blk t).view.emb y
      = (ix2 ⟨win0_2.index t 0 * 1024 + p.val, by have := ix t; omega⟩ ⟨win0_2.index t 1 * 1024 + q.val, by have := ix t; omega⟩ : S4096x4096.Idx) := by
  blk_ext

theorem arr : (dats m 0 c).arrAt 2 cfg0.N = nn (A m c) (B m c) := by
  refine (dats m 0 c).arrAt_eq_of_covers 2 (nn (A m c) (B m c)) (by decide +kernel) fun t hf y => ?_
  blk_simp
  rw [after0_2]
  rw [emb_at t y ((cfg0.win 2).xinj (cfg0.grid.coords t) y 0) ((cfg0.win 2).xinj (cfg0.grid.coords t) y 1) rfl rfl]
  refine (congrArg (out0_2 (iblk m c 0 t) (iblk m c 1 t)) (eq_ix2 _)).trans ((point_at _ _ _ _).trans ?_)
  exact Finset.sum_congr rfl fun k _ => congrArg₂ (· * ·) (left_at m c t k _) (right_at m c t k _)

end Kernel

section Reference
open Cert.Reference13Ideal Cert.Reference13Ideal.Gen

/-- The reference's result, from the two arrays. -/
def out {F : FTy → Type} [FloatOps F] (a : (⟨S4096x4096, .bf16⟩ : BufTy).Contents (Elt F)) (b : (⟨S4096x4096, .bf16⟩ : BufTy).Contents (Elt F)) :
    (⟨S4096x4096, .f32⟩ : BufTy).Contents (Elt F) :=
  Host.dotGeneral dot_S4096x4096_S4096x4096_S4096x4096_1_0_0_1_n_n none (extf .f32 a bitsLt_bf16_f32) (extf .f32 b bitsLt_bf16_f32)

theorem out_eq (a : (⟨S4096x4096, .bf16⟩ : BufTy).Contents (Elt Ideal)) (b : (⟨S4096x4096, .bf16⟩ : BufTy).Contents (Elt Ideal)) : out a b = nn a b := by
  refine funext fun i => (congrArg (out a b) (eq_ix2 i)).trans (Eq.trans ?_ (congrArg (nn a b) (eq_ix2 i).symm))
  generalize i 0 = p, i 1 = q
  unfold out nn
  clean_types; pointwise

end Reference

theorem agree : Cert.algebraic_Kernel13Ideal_Reference13Ideal := by
  intro m ρ m' ρ' _ hag
  refine ⟨fun c => nn (A m c) (B m c), ?_, ?_⟩
  · refine (θ_run _ _ _).mono (fun _ h c => ?_) (Cert.Kernel13Ideal.Value.run_blocks m ρ)
    exact ⟨(h c).1.trans (arr m c), (h c).2⟩
  · refine (θ_run _ _ _).mono (fun _ h c => ?_) (Cert.Reference13Ideal.Value.run m' ρ')
    exact ⟨(h c).1.trans ((out_eq _ _).trans (congrArg₂ nn (hag c).1 (hag c).2)), (h c).2⟩

theorem frame_ref : Cert.quiescent_Reference13Ideal := fun m ρ _ =>
  (θ_run _ _ _).mono (fun r h => ⟨fun c => (h c).2, sem_eq_zero_of_no_sems rfl r.2⟩) (Cert.Reference13Ideal.Value.run m ρ)

end Cert.Mix
-- ==== Proof.ScFwd.lean ====
module

public import proofs.«01_k».proof.Defs
public import proofs.«01_k».proof.Proof.Gen.Kernel15Ideal.Value
public import proofs.«01_k».proof.Proof.Gen.Reference15Ideal.Run
public import proofs.«01_k».proof.Proof.Reads
public import Idealize.ShloMosaic.Lib.Tactic.CleanTypes

/-! The short-convolution mixer forward, from the body and the formulas of its backward pass. -/

@[expose] public section

set_option maxRecDepth 16384

noncomputable section

namespace Cert.ScFwd

open Idealize.ShloMosaic Idealize.ShloMosaic.TcCoe Idealize.ShloMosaic.StableHlo Idealize.SL.Sem
open Cert.SC (In inOf rowed rowed_cast rowed_out lane grp off rms lane_grp_off)

/-- The mixer's arguments; the output's gradient is not read. -/
def inp (p : (⟨2, ![4096, 12800]⟩ : Shape).Idx → EReal) (w : (⟨2, ![3, 2048]⟩ : Shape).Idx → EReal) (nw : (⟨2, ![1, 2048]⟩ : Shape).Idx → EReal) : In :=
  inOf (fun _ => 0) p w nw

variable (p : (⟨2, ![4096, 12800]⟩ : Shape).Idx → EReal) (w : (⟨2, ![3, 2048]⟩ : Shape).Idx → EReal) (nw : (⟨2, ![1, 2048]⟩ : Shape).Idx → EReal)
  (r : Fin 4096) (j : Fin 2048)

theorem inp_h : (inp p w nw).h = rowed p 6144 (by omega) := rfl
theorem inp_b : (inp p w nw).b = rowed p 8192 (by omega) := rfl
theorem inp_c : (inp p w nw).c = rowed p 10240 (by omega) := rfl

theorem t_in : (inp p w nw).t r.val j = p (ix2 r ⟨6144 + j.val, by omega⟩) * p (ix2 r ⟨10240 + j.val, by omega⟩) := by
  rw [In.t, inp_h, inp_c, rowed_cast, rowed_cast]

theorem b_in : (inp p w nw).b r.val j = p (ix2 r ⟨8192 + j.val, by omega⟩) := by
  rw [inp_b, rowed_cast]

theorem t_out (z : ℤ) (hz : ¬(0 ≤ z ∧ z < 4096)) : (inp p w nw).t z j = 0 := by
  rw [In.t, inp_h, rowed_out _ _ (by omega) _ _ hz, zero_mul]

section Kernel
open Cert.Kernel15Ideal Cert.Kernel15Ideal.Gen

section Any
variable {F : FTy → Type} [FloatOps F]

theorem slices_group (k : Fin 16) : S256x2048.Slices ![0, 128 * k.val] S256x128 := by
  revert k; decide

/-- Lanes `128 k … 128 k + 127`. -/
def part (v : FVec F S256x2048 .f32) (k : Fin 16) : FVec F S256x128 .f32 :=
  extractStridedSlice S256x128 ![0, 128 * k.val] v (slices_group k)

/-- Sixteen groups side by side. -/
def glue (g : Fin 16 → FVec F S256x128 .f32) : FVec F S256x2048 .f32 :=
  concatenate S256x2048 1 [⟨S256x128, g 0⟩, ⟨S256x128, g 1⟩, ⟨S256x128, g 2⟩, ⟨S256x128, g 3⟩, ⟨S256x128, g 4⟩, ⟨S256x128, g 5⟩, ⟨S256x128, g 6⟩, ⟨S256x128, g 7⟩, ⟨S256x128, g 8⟩, ⟨S256x128, g 9⟩, ⟨S256x128, g 10⟩, ⟨S256x128, g 11⟩, ⟨S256x128, g 12⟩, ⟨S256x128, g 13⟩, ⟨S256x128, g 14⟩, ⟨S256x128, g 15⟩] concatenates_S256x128_S256x128_S256x128_S256x128_S256x128_S256x128_S256x128_S256x128_S256x128_S256x128_S256x128_S256x128_S256x128_S256x128_S256x128_S256x128_S256x2048_d1

/-- The reciprocal root mean square of each row of a group. -/
def recipRms (v : FVec F S256x128 .f32) : FVec F S256x1 .f32 :=
  rsqrt (addf (divf (shapeCast S256x1 (multiReduction .add [1] S256 (mulf v v) 0x00000000#32 reduces_S256x128_S256 (.inl rfl) rfl) shapeCasts_S256_S256x1)
    (broadcast S256x1 (Scalar.ofBits .f32 0x43000000#32))) (broadcast S256x1 (Scalar.ofBits .f32 0x3727C5AC#32)))

/-- The block that one grid point computes, from the rows before the normalization. -/
def body (u : FVec F S256x2048 .f32) (w : Vec F S1x2048 .f32) : FVec F S256x2048 .bf16 :=
  truncf .bf16 (mulf (glue fun k => mulf (part u k) (broadcastTo S256x128 (recipRms (part u k)) broadcasts_S256x1_S256x128))
    (broadcastTo S256x2048 w broadcasts_S1x2048_S256x2048)) bitsLt_bf16_f32

end Any

variable (m : (ℓ : Loc nD τ sig) → Buf (Elt Ideal) ℓ) (c : Dev nD) (t : Fin cfg0.N)

def P : S4096x12800.Idx → EReal := m ((c.tc : Thread nD τ).loc main_arg0)
def W : S3x2048.Idx → EReal := m ((c.tc : Thread nD τ).loc main_arg1)
def NW : S1x2048.Idx → EReal := m ((c.tc : Thread nD τ).loc main_arg2)
def X : In := inp (P m c) (W m c) (NW m c)

theorem part_at (v : FVec Ideal S256x2048 .f32) (k : Fin 16) (q : Fin 256) (l : Fin 128) : part v k (ix2 q l) = v (ix2 q (lane k l)) := by
  pointwise [part]
  rfl

theorem glue_at (g : Fin 16 → FVec Ideal S256x128 .f32) (q : Fin 256) (j : Fin 2048) : glue g (ix2 q j) = g (grp j) (ix2 q (off j)) := by
  refine concatenate_ofFn_apply (t := S256x2048) (s₁ := S256x128) 1 g _ rfl 128 rfl (ix2 q j) (grp j) rfl (ix2 q (off j)) rfl fun b hb => ?_
  match b, hb with
  | ⟨0, _⟩, _ => rfl
  | ⟨1, _⟩, hb => exact absurd rfl hb

theorem recipRms_at (v : FVec Ideal S256x128 .f32) (q : Fin 256) : recipRms v (ix2 q 0) = rms fun l => v (ix2 q l) := by
  pointwise [recipRms]
  rfl

theorem body_at (u : FVec Ideal S256x2048 .f32) (w : Vec Ideal S1x2048 .f32) (q : Fin 256) (j : Fin 2048) :
    (body u w : S256x2048.Idx → EReal) (ix2 q j) = u (ix2 q j) * rms (fun l => u (ix2 q (lane (grp j) l))) * w (ix2 0 j) := by
  unfold body
  pointwise [glue_at, recipRms_at, part_at, lane_grp_off]

theorem ix : ∀ t : Fin cfg0.N, win0_0.index t = ![t.val * 32 - 1, 3] ∧ win0_1.index t = ![t.val, 3] ∧ win0_2.index t = ![min (t.val * 32 + 32) 511, 3] ∧ win0_3.index t = ![t.val, 4] ∧ win0_4.index t = ![t.val * 32 - 1, 5] ∧ win0_5.index t = ![t.val, 5] ∧ win0_6.index t = ![min (t.val * 32 + 32) 511, 5] ∧ win0_7.index t = ![0, 0] ∧ win0_8.index t = ![0, 0] ∧ win0_9.index t = ![t.val, 0] :=
  (by decide +kernel : ∀ t : Fin grid0.N, win0_0.index t = ![t.val * 32 - 1, 3] ∧ win0_1.index t = ![t.val, 3] ∧ win0_2.index t = ![min (t.val * 32 + 32) 511, 3] ∧ win0_3.index t = ![t.val, 4] ∧ win0_4.index t = ![t.val * 32 - 1, 5] ∧ win0_5.index t = ![t.val, 5] ∧ win0_6.index t = ![min (t.val * 32 + 32) 511, 5] ∧ win0_7.index t = ![0, 0] ∧ win0_8.index t = ![0, 0] ∧ win0_9.index t = ![t.val, 0])

theorem coords_eq : ∀ t : Fin cfg0.N, (grid0.coords t 0).val = t.val := (by decide +kernel : ∀ t : Fin grid0.N, (grid0.coords t 0).val = t.val)

theorem lt (t : Fin cfg0.N) : t.val < 16 := t.isLt

/-- The array's row, of row `q` of the point's tile. -/
def row (t : Fin cfg0.N) (q : Fin 256) : Fin 4096 := ⟨t.val * 256 + q.val, by have := lt t; omega⟩

theorem h_prev (q : Fin 8) (j : Fin 2048) : (X0_0 m c t : S8x2048.Idx → EReal) (ix2 q j)
    = P m c (ix2 ⟨(t.val * 32 - 1) * 8 + q.val, by have := lt t; omega⟩ ⟨6144 + j.val, by omega⟩) := by
  unfold X0_0 Pipeline.Window.fill
  rw [dif_pos (moved0_0 t _)]
  blk_ext [iblk, V, (ix t).1, P]

theorem h_cur (q : Fin 256) (j : Fin 2048) : (X0_1 m c t : S256x2048.Idx → EReal) (ix2 q j)
    = P m c (ix2 ⟨t.val * 256 + q.val, by have := lt t; omega⟩ ⟨6144 + j.val, by omega⟩) := by
  unfold X0_1 Pipeline.Window.fill
  rw [dif_pos (moved0_1 t _)]
  blk_ext [iblk, V, (ix t).2.1, P]

theorem h_next (q : Fin 8) (j : Fin 2048) : (X0_2 m c t : S8x2048.Idx → EReal) (ix2 q j)
    = P m c (ix2 ⟨min (t.val * 32 + 32) 511 * 8 + q.val, by have := lt t; omega⟩ ⟨6144 + j.val, by omega⟩) := by
  unfold X0_2 Pipeline.Window.fill
  rw [dif_pos (moved0_2 t _)]
  blk_ext [iblk, V, (ix t).2.2.1, P]

theorem b_cur (q : Fin 256) (j : Fin 2048) : (X0_3 m c t : S256x2048.Idx → EReal) (ix2 q j)
    = P m c (ix2 ⟨t.val * 256 + q.val, by have := lt t; omega⟩ ⟨8192 + j.val, by omega⟩) := by
  unfold X0_3 Pipeline.Window.fill
  rw [dif_pos (moved0_3 t _)]
  blk_ext [iblk, V, (ix t).2.2.2.1, P]

theorem c_prev (q : Fin 8) (j : Fin 2048) : (X0_4 m c t : S8x2048.Idx → EReal) (ix2 q j)
    = P m c (ix2 ⟨(t.val * 32 - 1) * 8 + q.val, by have := lt t; omega⟩ ⟨10240 + j.val, by omega⟩) := by
  unfold X0_4 Pipeline.Window.fill
  rw [dif_pos (moved0_4 t _)]
  blk_ext [iblk, V, (ix t).2.2.2.2.1, P]

theorem c_cur (q : Fin 256) (j : Fin 2048) : (X0_5 m c t : S256x2048.Idx → EReal) (ix2 q j)
    = P m c (ix2 ⟨t.val * 256 + q.val, by have := lt t; omega⟩ ⟨10240 + j.val, by omega⟩) := by
  unfold X0_5 Pipeline.Window.fill
  rw [dif_pos (moved0_5 t _)]
  blk_ext [iblk, V, (ix t).2.2.2.2.2.1, P]

theorem c_next (q : Fin 8) (j : Fin 2048) : (X0_6 m c t : S8x2048.Idx → EReal) (ix2 q j)
    = P m c (ix2 ⟨min (t.val * 32 + 32) 511 * 8 + q.val, by have := lt t; omega⟩ ⟨10240 + j.val, by omega⟩) := by
  unfold X0_6 Pipeline.Window.fill
  rw [dif_pos (moved0_6 t _)]
  blk_ext [iblk, V, (ix t).2.2.2.2.2.2.1, P]

theorem w_at (k : Fin 3) (j : Fin 2048) : (iblk m c 7 t : S3x2048.Idx → EReal) (ix2 k j) = W m c (ix2 k j) := by
  blk_ext [iblk, V, (ix t).2.2.2.2.2.2.2.1, W]

theorem nw_at (j : Fin 2048) : (iblk m c 8 t : S1x2048.Idx → EReal) (ix2 0 j) = NW m c (ix2 0 j) := by
  blk_ext [iblk, V, (ix t).2.2.2.2.2.2.2.2.1, NW]

theorem emb9 (y : (win0_9.xblock (grid0.coords t)).Idx) (p : Fin 256) (q : Fin 2048) (hp : (y 0).val = p.val) (hq : (y 1).val = q.val) :
    (win0_9.blk t).view.emb y = (ix2 (row t p) q : S4096x2048.Idx) := by
  unfold row; blk_ext [(ix t).2.2.2.2.2.2.2.2.2]

/-- The gated product of a point's rows with its halo rows. -/
def gated : FVec Ideal S272x2048 .f32 :=
  mulf (SC.ext (BitVec.ofNat 32 (grid0.coords t 0).val) (X0_0 m c t) (X0_1 m c t) (X0_2 m c t))
    (SC.ext (BitVec.ofNat 32 (grid0.coords t 0).val) (X0_4 m c t) (X0_5 m c t) (X0_6 m c t))

theorem gated_at (q : Fin 272) (j : Fin 2048) : gated m c t (ix2 q j) = (X m c).t (256 * (t.val : ℤ) - 8 + q.val) j := by
  unfold gated
  rw [coords_eq t]
  exact congrArg₂ (fun a b : EReal => a * b)
    (SC.ext_rowed ⟨t.val, lt t⟩ (P m c) 6144 (by omega) _ _ _ (h_prev m c t) (h_cur m c t) (h_next m c t) q j)
    (SC.ext_rowed ⟨t.val, lt t⟩ (P m c) 10240 (by omega) _ _ _ (c_prev m c t) (c_cur m c t) (c_next m c t) q j)

/-- A point's rows before the normalization. -/
def pre : FVec Ideal S256x2048 .f32 := mulf (X0_3 m c t) (SC.own (SC.conv (gated m c t) (iblk m c 7 t)))

theorem acc_at (q : Fin 256) (j : Fin 2048) :
    SC.own (SC.conv (gated m c t) (iblk m c 7 t)) (ix2 q j) = (X m c).acc (row t q).val j := by
  have e0 : 256 * (t.val : ℤ) - 8 + ((q.val + 8 : ℕ) : ℤ) = ((row t q).val : ℤ) := by
    show _ = ((t.val * 256 + q.val : ℕ) : ℤ)
    push_cast; ring
  have e1 : 256 * (t.val : ℤ) - 8 + ((q.val + 8 - 1 : ℕ) : ℤ) = ((row t q).val : ℤ) - 1 := by rw [← e0]; omega
  have e2 : 256 * (t.val : ℤ) - 8 + ((q.val + 8 + 1 : ℕ) : ℤ) = ((row t q).val : ℤ) + 1 := by rw [← e0]; omega
  rw [SC.own_at, SC.conv_at _ _ _ _ (by show 1 ≤ q.val + 8; omega) (by show q.val + 8 < 271; omega), gated_at, gated_at, gated_at, w_at, w_at, w_at]
  dsimp only
  rw [e0, e1, e2]
  rfl

theorem pre_at (q : Fin 256) (j : Fin 2048) : pre m c t (ix2 q j) = (X m c).y (row t q).val j := by
  rw [In.y, show (X m c).b (row t q).val j = _ from b_in (P m c) (W m c) (NW m c) (row t q) j, ← acc_at m c t q j]
  exact congrArg (fun a : EReal => a * SC.own (SC.conv (gated m c t) (iblk m c 7 t)) (ix2 q j)) (b_cur m c t q j)

/-- The result. -/
def res : S4096x2048.Idx → EReal := fun i => (X m c).n (i 0).val (i 1) * (X m c).nw (i 1)

set_option maxHeartbeats 1600000 in
theorem point : outsAt0 m c t = (body (pre m c t) (iblk m c 8 t) : Vec Ideal S256x2048 .bf16) := by
  unfold outsAt0 out0_A_9
  frame_out
  rw [(hs0_0 t).read_unread, (hs0_1 t).read_unread, (hs0_2 t).read_unread, (hs0_3 t).read_unread, (hs0_4 t).read_unread, (hs0_5 t).read_unread, (hs0_6 t).read_unread, (hs0_7 t).read_unread]
  rw [View.ld_unit_lit (S := S8x2048) (off := ![0, 0]) _ (X0_0 m c t) (by decide),
    View.ld_unit_lit (S := S256x2048) (off := ![0, 0]) _ (X0_1 m c t) (by decide),
    View.ld_unit_lit (S := S8x2048) (off := ![0, 0]) _ (X0_2 m c t) (by decide),
    View.ld_unit_lit (S := S256x2048) (off := ![0, 0]) _ (X0_3 m c t) (by decide),
    View.ld_unit_lit (S := S8x2048) (off := ![0, 0]) _ (X0_4 m c t) (by decide),
    View.ld_unit_lit (S := S256x2048) (off := ![0, 0]) _ (X0_5 m c t) (by decide),
    View.ld_unit_lit (S := S8x2048) (off := ![0, 0]) _ (X0_6 m c t) (by decide),
    View.ld_unit_lit (S := S3x2048) (off := ![0, 0]) _ (iblk m c 7 t) (by decide)]
  rfl

theorem block_at (q : Fin 256) (j : Fin 2048) : (outsAt0 m c t : S256x2048.Idx → EReal) (ix2 q j) = res m c (ix2 (row t q) j) := by
  rw [point, body_at]
  simp only [pre_at, nw_at]
  rfl

theorem arr9 : (dats m 0 c).arrAt 9 cfg0.N = res m c := by
  refine (dats m 0 c).arrAt_eq_of_covers 9 (res m c) (by decide +kernel) fun t hf y => ?_
  blk_simp
  rw [after0_9]
  rw [emb9 t y ((cfg0.win 9).xinj (cfg0.grid.coords t) y 0) ((cfg0.win 9).xinj (cfg0.grid.coords t) y 1) rfl rfl]
  exact (congrArg (outsAt0 m c t) (eq_ix2 _)).trans (block_at m c t _ _)

end Kernel

section Reference
open Cert.Reference15Ideal Cert.Reference15Ideal.Gen

section Any
variable {F : FTy → Type} [FloatOps F] (p : (⟨S4096x12800, .f32⟩ : BufTy).Contents (Elt F)) (w : (⟨S3x2048, .f32⟩ : BufTy).Contents (Elt F))
  (nw : (⟨S1x2048, .f32⟩ : BufTy).Contents (Elt F)) (u : (⟨S4096x2048, .f32⟩ : BufTy).Contents (Elt F))

def rpadded : (⟨S4098x2048, .f32⟩ : BufTy).Contents (Elt F) := (concatenate S4098x2048 0 [⟨S1x2048, ((broadcastInDim S1x2048 ![] bcast_S_S1x2048 (constant S_ .f32 0x00000000#32)) : (⟨S1x2048, .f32⟩ : BufTy).Contents (Elt F))⟩, ⟨S4096x2048, ((mulf (extractStridedSlice S4096x2048 ![0, 10240] p slices_S4096x12800_S4096x2048_0_10240) (extractStridedSlice S4096x2048 ![0, 6144] p slices_S4096x12800_S4096x2048_0_6144)) : (⟨S4096x2048, .f32⟩ : BufTy).Contents (Elt F))⟩, ⟨S1x2048, ((broadcastInDim S1x2048 ![] bcast_S_S1x2048 (constant S_ .f32 0x00000000#32)) : (⟨S1x2048, .f32⟩ : BufTy).Contents (Elt F))⟩] concatenates_S1x2048_S4096x2048_S1x2048_S4098x2048_d0 : (⟨S4098x2048, .f32⟩ : BufTy).Contents (Elt F))
def racc : (⟨S4096x2048, .f32⟩ : BufTy).Contents (Elt F) := addf (addf (mulf (extractStridedSlice S4096x2048 ![0, 0] (rpadded p) slices_S4098x2048_S4096x2048_0_0) (broadcastInDim S4096x2048 ![0, 1] bcast_S1x2048_S4096x2048_0_1 (broadcastInDim S1x2048 ![1] bcast_S2048_S1x2048_1 (shapeCast _ (extractStridedSlice S1x2048 ![0, 0] w slices_S3x2048_S1x2048_0_0) shapeCasts_S1x2048_S2048)))) (mulf (extractStridedSlice S4096x2048 ![1, 0] (rpadded p) slices_S4098x2048_S4096x2048_1_0) (broadcastInDim S4096x2048 ![0, 1] bcast_S1x2048_S4096x2048_0_1 (broadcastInDim S1x2048 ![1] bcast_S2048_S1x2048_1 (shapeCast _ (extractStridedSlice S1x2048 ![1, 0] w slices_S3x2048_S1x2048_1_0) shapeCasts_S1x2048_S2048))))) (mulf (extractStridedSlice S4096x2048 ![2, 0] (rpadded p) slices_S4098x2048_S4096x2048_2_0) (broadcastInDim S4096x2048 ![0, 1] bcast_S1x2048_S4096x2048_0_1 (broadcastInDim S1x2048 ![1] bcast_S2048_S1x2048_1 (shapeCast _ (extractStridedSlice S1x2048 ![2, 0] w slices_S3x2048_S1x2048_2_0) shapeCasts_S1x2048_S2048))))
def rpre : (⟨S4096x2048, .f32⟩ : BufTy).Contents (Elt F) := mulf (extractStridedSlice S4096x2048 ![0, 8192] p slices_S4096x12800_S4096x2048_0_8192) (racc p w)
def rgroups : (⟨S4096x16x128, .f32⟩ : BufTy).Contents (Elt F) := shapeCast _ u shapeCasts_S4096x2048_S4096x16x128
def rrms : (⟨S4096x16x1, .f32⟩ : BufTy).Contents (Elt F) := Host.rsqrt (addf (Host.divf (broadcastInDim S4096x16x1 ![0, 1] bcast_S4096x16_S4096x16x1_0_1 (Host.reduceAdd (mulf (rgroups u) (rgroups u)) (constant S_ .f32 0x00000000#32) reducesTo_S4096x16x128_S4096x16_d2 h_S_)) (broadcastInDim S4096x16x1 ![] bcast_S_S4096x16x1 (constant S_ .f32 0x43000000#32))) (broadcastInDim S4096x16x1 ![] bcast_S_S4096x16x1 (constant S_ .f32 0x3727C5AC#32)))
def rnormed : (⟨S4096x2048, .f32⟩ : BufTy).Contents (Elt F) := shapeCast _ (mulf (rgroups u) (broadcastInDim S4096x16x128 ![0, 1, 2] bcast_S4096x16x1_S4096x16x128_0_1_2 (rrms u))) shapeCasts_S4096x16x128_S4096x2048
def rout : (⟨S4096x2048, .bf16⟩ : BufTy).Contents (Elt F) := truncf .bf16 (mulf (rnormed (rpre p w)) (broadcastInDim S4096x2048 ![0, 1] bcast_S1x2048_S4096x2048_0_1 (broadcastInDim S1x2048 ![1] bcast_S2048_S1x2048_1 (shapeCast _ nw shapeCasts_S1x2048_S2048)))) bitsLt_bf16_f32

end Any

variable (p : (⟨S4096x12800, .f32⟩ : BufTy).Contents (Elt Ideal)) (w : (⟨S3x2048, .f32⟩ : BufTy).Contents (Elt Ideal))
  (nw : (⟨S1x2048, .f32⟩ : BufTy).Contents (Elt Ideal)) (u : (⟨S4096x2048, .f32⟩ : BufTy).Contents (Elt Ideal))
  (r : Fin 4096) (j : Fin 2048) (g : Fin 16) (l : Fin 128)

theorem rpadded_at (q : Fin 4098) : (rpadded p : S4098x2048.Idx → EReal) (ix2 q j) = (inp p w nw).t (q.val - 1) j := by
  unfold rpadded
  clean_types; pointwise
  by_cases h0 : q.val < 1
  · rw [dif_pos h0, t_out p w nw j _ (by omega)]
  · rw [dif_neg h0]
    by_cases h1 : q.val - 1 < 4096
    · rw [dif_pos h1]
      have e : ((q.val : ℤ) - 1) = ((⟨q.val - 1, h1⟩ : Fin 4096).val : ℤ) := by simp only; omega
      rw [e, t_in, mul_comm]
    · rw [dif_neg h1, t_out p w nw j _ (by omega)]

theorem racc_at : (racc p w : S4096x2048.Idx → EReal) (ix2 r j) = (inp p w nw).acc r.val j := by
  have e0 : ((r.val : ℕ) : ℤ) - 1 = r.val - 1 := rfl
  have e1 : ((1 + r.val : ℕ) : ℤ) - 1 = r.val := by push_cast; ring
  have e2 : ((2 + r.val : ℕ) : ℤ) - 1 = r.val + 1 := by push_cast; ring
  unfold racc In.acc
  clean_types; pointwise [rpadded_at p w nw]
  rw [e1, e2]
  rfl

theorem rpre_at : (rpre p w : S4096x2048.Idx → EReal) (ix2 r j) = (inp p w nw).y r.val j := by
  unfold rpre In.y
  rw [b_in]
  clean_types; pointwise [racc_at p w nw]

theorem rgroups_at : (rgroups u : S4096x16x128.Idx → EReal) (ix3 r g l) = (u : S4096x2048.Idx → EReal) (ix2 r (lane g l)) := by
  have e : (⟨g.val * 128 + l.val, by omega⟩ : Fin 2048) = lane g l := Fin.ext (by simp only [lane]; omega)
  unfold rgroups
  clean_types; pointwise
  rw [e]

theorem rrms_at : (rrms u : S4096x16x1.Idx → EReal) (ix3 r g 0) = rms fun l => (u : S4096x2048.Idx → EReal) (ix2 r (lane g l)) := by
  unfold rrms rms
  clean_types; pointwise [rgroups_at]
  rfl

theorem rnormed_at : (rnormed u : S4096x2048.Idx → EReal) (ix2 r j)
    = (u : S4096x2048.Idx → EReal) (ix2 r j) * rms fun l => (u : S4096x2048.Idx → EReal) (ix2 r (lane (grp j) l)) := by
  unfold rnormed
  clean_types; pointwise [rgroups_at, rrms_at]
  show (u : S4096x2048.Idx → EReal) (ix2 r (lane (grp j) (off j))) * rms (fun l => (u : S4096x2048.Idx → EReal) (ix2 r (lane (grp j) l))) = _
  rw [lane_grp_off]

theorem rout_at : (rout p w nw : S4096x2048.Idx → EReal) (ix2 r j) = (inp p w nw).n r.val j * (inp p w nw).nw j := by
  have e : ∀ j, (rpre p w : S4096x2048.Idx → EReal) (ix2 r j) = (inp p w nw).y r.val j := rpre_at p w nw r
  unfold rout
  clean_types; pointwise [rnormed_at]
  simp only [e]
  rfl

end Reference

theorem agree : Cert.algebraic_Kernel15Ideal_Reference15Ideal := by
  intro m ρ m' ρ' _ hag
  refine ⟨fun c => res m c, ?_, ?_⟩
  · refine (θ_run _ _ _).mono (fun _ h c => ?_) (Cert.Kernel15Ideal.Value.run_blocks m ρ)
    exact ⟨(h c).1.trans (arr9 m c), (h c).2⟩
  · refine (θ_run _ _ _).mono (fun _ h c => ?_) (Cert.Reference15Ideal.Value.run m' ρ')
    obtain ⟨ep, ew, en⟩ := hag c
    refine ⟨(h c).1.trans (funext fun i => (congrArg (rout _ _ _) (eq_ix2 i)).trans ((rout_at _ _ _ _ _).trans ?_)), (h c).2⟩
    rw [ep, ew, en]; rfl

theorem frame_ref : Cert.quiescent_Reference15Ideal := fun m ρ _ =>
  (θ_run _ _ _).mono (fun r h => ⟨fun c => (h c).2, sem_eq_zero_of_no_sems rfl r.2⟩) (Cert.Reference15Ideal.Value.run m ρ)

end Cert.ScFwd
-- ==== Proof.Gate.lean ====
module

public import proofs.«01_k».proof.Defs
public import proofs.«01_k».proof.Proof.Gen.Kernel16Ideal.Value
public import proofs.«01_k».proof.Proof.Gen.Reference16Ideal.Run
public import Idealize.ShloMosaic.Lib.Pipeline.ValueKit
public import Idealize.ShloMosaic.Lib.Pointwise
public import Idealize.ShloMosaic.Lib.Tactic.CleanTypes

/-! The state-space mixer's result: its two directions added up with the skip, gated by the silu, and normalized by groups of
256. -/

@[expose] public section

set_option maxRecDepth 16384

noncomputable section

namespace Cert.Gate

open Idealize.ShloMosaic Idealize.ShloMosaic.TcCoe Idealize.ShloMosaic.StableHlo Idealize.SL.Sem

def lane (g : Fin 8) (l : Fin 256) : Fin 2048 := ⟨256 * g.val + l.val, by omega⟩
def grp (j : Fin 2048) : Fin 8 := ⟨j.val / 256, by omega⟩
def off (j : Fin 2048) : Fin 256 := ⟨j.val % 256, by omega⟩

theorem lane_grp_off (j : Fin 2048) : lane (grp j) (off j) = j := Fin.ext (by simp only [lane, grp, off]; omega)

/-- The silu. -/
def silu (z : EReal) : EReal :=
  z * Ideal.div (Ideal.ofBits FTy.f32 0x3F800000#32) (Ideal.ofBits FTy.f32 0x3F800000#32 + Ideal.exp (-z))

/-- A row before the normalization. -/
def pre (y₀ y₁ d x z : Fin 2048 → EReal) (j : Fin 2048) : EReal := (y₀ j + y₁ j + d j * x j) * silu (z j)

/-- The reciprocal root mean square of 256 values. -/
def rms (y : Fin 256 → EReal) : EReal :=
  Ideal.rsqrt (Ideal.div (∑ l, y l * y l) (Ideal.ofBits FTy.f32 0x43800000#32) + Ideal.ofBits FTy.f32 0x3727C5AC#32)

/-- A row of the result, from a row before the normalization. -/
def post (u w : Fin 2048 → EReal) (j : Fin 2048) : EReal := u j * rms (fun l => u (lane (grp j) l)) * w j

section Kernel
open Cert.Kernel16Ideal Cert.Kernel16Ideal.Gen

section Any
variable {F : FTy → Type} [FloatOps F]

theorem slices_group (k : Fin 8) : S256x2048.Slices ![0, 256 * k.val] S256x256 := by
  revert k; decide

/-- Lanes `256 k … 256 k + 255`. -/
def part (v : FVec F S256x2048 .f32) (k : Fin 8) : FVec F S256x256 .f32 :=
  extractStridedSlice S256x256 ![0, 256 * k.val] v (slices_group k)

/-- Eight groups side by side. -/
def glue (g : Fin 8 → FVec F S256x256 .f32) : FVec F S256x2048 .f32 :=
  concatenate S256x2048 1 [⟨S256x256, g 0⟩, ⟨S256x256, g 1⟩, ⟨S256x256, g 2⟩, ⟨S256x256, g 3⟩, ⟨S256x256, g 4⟩, ⟨S256x256, g 5⟩, ⟨S256x256, g 6⟩, ⟨S256x256, g 7⟩] concatenates_S256x256_S256x256_S256x256_S256x256_S256x256_S256x256_S256x256_S256x256_S256x2048_d1

/-- The reciprocal root mean square of each row of a group. -/
def recipRms (v : FVec F S256x256 .f32) : FVec F S256x1 .f32 :=
  rsqrt (addf (divf (shapeCast S256x1 (multiReduction .add [1] S256 (mulf v v) 0x00000000#32 reduces_S256x256_S256 (.inl rfl) rfl) shapeCasts_S256_S256x1)
    (broadcast S256x1 (Scalar.ofBits .f32 0x43800000#32))) (broadcast S256x1 (Scalar.ofBits .f32 0x3727C5AC#32)))

/-- The block that one grid point computes, from the rows before the normalization. -/
def body (u : FVec F S256x2048 .f32) (w : Vec F S1x2048 .f32) : FVec F S256x2048 .bf16 :=
  truncf .bf16 (mulf (glue fun k => mulf (part u k) (broadcastTo S256x256 (recipRms (part u k)) broadcasts_S256x1_S256x256))
    (broadcastTo S256x2048 w broadcasts_S1x2048_S256x2048)) bitsLt_bf16_f32

end Any

variable (m : (ℓ : Loc nD τ sig) → Buf (Elt Ideal) ℓ) (c : Dev nD)

def Y : S2x4096x2048.Idx → EReal := m ((c.tc : Thread nD τ).loc main_arg0)
def X : S4096x4096.Idx → EReal := m ((c.tc : Thread nD τ).loc main_arg1)
def Z : S4096x12800.Idx → EReal := m ((c.tc : Thread nD τ).loc main_arg2)
def D : S1x2048.Idx → EReal := m ((c.tc : Thread nD τ).loc main_arg3)
def W : S1x2048.Idx → EReal := m ((c.tc : Thread nD τ).loc main_arg4)

theorem part_at (v : FVec Ideal S256x2048 .f32) (k : Fin 8) (q l : Fin 256) : part v k (ix2 q l) = v (ix2 q (lane k l)) := by
  pointwise [part]
  rfl

theorem glue_at (g : Fin 8 → FVec Ideal S256x256 .f32) (q : Fin 256) (j : Fin 2048) : glue g (ix2 q j) = g (grp j) (ix2 q (off j)) := by
  refine concatenate_ofFn_apply (t := S256x2048) (s₁ := S256x256) 1 g _ rfl 256 rfl (ix2 q j) (grp j) rfl (ix2 q (off j)) rfl fun b hb => ?_
  match b, hb with
  | ⟨0, _⟩, _ => rfl
  | ⟨1, _⟩, hb => exact absurd rfl hb

theorem recipRms_at (v : FVec Ideal S256x256 .f32) (q : Fin 256) : recipRms v (ix2 q 0) = rms fun l => v (ix2 q l) := by
  pointwise [recipRms]
  rfl

theorem body_at (u : FVec Ideal S256x2048 .f32) (w : Vec Ideal S1x2048 .f32) (q : Fin 256) (j : Fin 2048) :
    (body u w : S256x2048.Idx → EReal) (ix2 q j) = post (fun j => u (ix2 q j)) (fun j => w (ix2 0 j)) j := by
  unfold body post
  pointwise [glue_at, recipRms_at, part_at, lane_grp_off]

theorem pay2_at (a b : Vec Ideal S1x256x2048 .f32) (d : Vec Ideal S1x2048 .f32) (x z : Vec Ideal S256x2048 .f32) (q : Fin 256) (j : Fin 2048) :
    (k0_pay2 a b d x z : S256x2048.Idx → EReal) (ix2 q j)
      = pre (fun j => a (ix3 0 q j)) (fun j => b (ix3 0 q j)) (fun j => d (ix2 0 j)) (fun j => x (ix2 q j)) (fun j => z (ix2 q j)) j := by
  unfold k0_pay2 pre silu
  pointwise
  rw [zero_sub]

theorem ix : ∀ t : Fin cfg0.N, win0_0.index t = ![0, t.val, 0] ∧ win0_1.index t = ![t.val, 0] ∧ win0_2.index t = ![t.val, 2] ∧ win0_3.index t = ![0, 0] ∧ win0_4.index t = ![0, 0] ∧ win0_5.index t = ![t.val, 0] :=
  (by decide +kernel : ∀ t : Fin grid0.N, win0_0.index t = ![0, t.val, 0] ∧ win0_1.index t = ![t.val, 0] ∧ win0_2.index t = ![t.val, 2] ∧ win0_3.index t = ![0, 0] ∧ win0_4.index t = ![0, 0] ∧ win0_5.index t = ![t.val, 0])

theorem lt (t : Fin cfg0.N) : t.val < 16 := t.isLt

/-- The array's row, of row `p` of the point's tile. -/
def row (t : Fin cfg0.N) (p : Fin 256) : Fin 4096 := ⟨t.val * 256 + p.val, by have := lt t; omega⟩

theorem y_at (t : Fin cfg0.N) (s : Fin 2) (p : Fin 256) (j : Fin 2048) :
    (iblk m c 0 t : S2x256x2048.Idx → EReal) (ix3 s p j) = Y m c (ix3 s (row t p) j) := by
  unfold row; blk_ext [iblk, V, (ix t).1, Y]

theorem x_at (t : Fin cfg0.N) (p : Fin 256) (j : Fin 2048) :
    (iblk m c 1 t : S256x2048.Idx → EReal) (ix2 p j) = X m c (ix2 (row t p) ⟨j.val, by omega⟩) := by
  unfold row; blk_ext [iblk, V, (ix t).2.1, X]

theorem z_at (t : Fin cfg0.N) (p : Fin 256) (j : Fin 2048) :
    (X0_2 m c t : S256x2048.Idx → EReal) (ix2 p j) = Z m c (ix2 (row t p) ⟨4096 + j.val, by omega⟩) := by
  unfold X0_2 Pipeline.Window.fill
  rw [dif_pos (moved0_2 t _)]
  unfold row; blk_ext [iblk, V, (ix t).2.2.1, Z]

theorem d_at (t : Fin cfg0.N) (j : Fin 2048) : (iblk m c 3 t : S1x2048.Idx → EReal) (ix2 0 j) = D m c (ix2 0 j) := by
  blk_ext [iblk, V, (ix t).2.2.2.1, D]

theorem w_at (t : Fin cfg0.N) (j : Fin 2048) : (iblk m c 4 t : S1x2048.Idx → EReal) (ix2 0 j) = W m c (ix2 0 j) := by
  blk_ext [iblk, V, (ix t).2.2.2.2.1, W]

theorem emb5 (t : Fin cfg0.N) (y : (win0_5.xblock (grid0.coords t)).Idx) (p : Fin 256) (q : Fin 2048) (hp : (y 0).val = p.val) (hq : (y 1).val = q.val) :
    (win0_5.blk t).view.emb y = (ix2 (row t p) q : S4096x2048.Idx) := by
  unfold row; blk_ext [(ix t).2.2.2.2.2]

/-- A row of the arguments before the normalization. -/
def preOf (y : (⟨3, ![2, 4096, 2048]⟩ : Shape).Idx → EReal) (x : (⟨2, ![4096, 4096]⟩ : Shape).Idx → EReal) (z : (⟨2, ![4096, 12800]⟩ : Shape).Idx → EReal)
    (d : (⟨2, ![1, 2048]⟩ : Shape).Idx → EReal) (r : Fin 4096) : Fin 2048 → EReal :=
  pre (fun j => y (ix3 0 r j)) (fun j => y (ix3 1 r j)) (fun j => d (ix2 0 j)) (fun j => x (ix2 r ⟨j.val, by omega⟩)) (fun j => z (ix2 r ⟨4096 + j.val, by omega⟩))

/-- The result. -/
def res : S4096x2048.Idx → EReal := fun i => post (preOf (Y m c) (X m c) (Z m c) (D m c) (i 0)) (fun j => W m c (ix2 0 j)) (i 1)

/-- One direction of a point's block. -/
def half0 (x : Vec Ideal S2x256x2048 .f32) : Vec Ideal S1x256x2048 .f32 :=
  View.ld x (Rect.unit ![0, 0, 0] ![1, 256, 2048] inb_S2x256x2048_S1x256x2048_0_0_0)
def half1 (x : Vec Ideal S2x256x2048 .f32) : Vec Ideal S1x256x2048 .f32 :=
  View.ld x (Rect.unit ![1, 0, 0] ![1, 256, 2048] inb_S2x256x2048_S1x256x2048_1_0_0)

theorem half0_at (x : Vec Ideal S2x256x2048 .f32) (p : Fin 256) (j : Fin 2048) : half0 x (ix3 0 p j) = x (ix3 0 p j) := by
  refine congrArg x (funext fun a => Fin.ext ?_)
  match a with
  | ⟨0, _⟩ => rfl
  | ⟨1, _⟩ => show 0 + 1 * p.val = p.val; omega
  | ⟨2, _⟩ => show 0 + 1 * j.val = j.val; omega

theorem half1_at (x : Vec Ideal S2x256x2048 .f32) (p : Fin 256) (j : Fin 2048) : half1 x (ix3 0 p j) = x (ix3 1 p j) := by
  refine congrArg x (funext fun a => Fin.ext ?_)
  match a with
  | ⟨0, _⟩ => rfl
  | ⟨1, _⟩ => show 0 + 1 * p.val = p.val; omega
  | ⟨2, _⟩ => show 0 + 1 * j.val = j.val; omega

theorem point (t : Fin cfg0.N) : outsAt0 m c t = (body (k0_pay2 (half0 (iblk m c 0 t)) (half1 (iblk m c 0 t)) (iblk m c 3 t) (iblk m c 1 t) (X0_2 m c t))
    (iblk m c 4 t) : Vec Ideal S256x2048 .bf16) := by
  unfold outsAt0 out0_A_5
  frame_out
  rfl

theorem block_at (t : Fin cfg0.N) (p : Fin 256) (q : Fin 2048) : (outsAt0 m c t : S256x2048.Idx → EReal) (ix2 p q) = res m c (ix2 (row t p) q) := by
  rw [point, body_at]
  have e : (fun j => (k0_pay2 (half0 (iblk m c 0 t)) (half1 (iblk m c 0 t)) (iblk m c 3 t) (iblk m c 1 t) (X0_2 m c t) : S256x2048.Idx → EReal) (ix2 p j))
      = preOf (Y m c) (X m c) (Z m c) (D m c) (row t p) := by
    funext j
    rw [pay2_at]
    unfold preOf pre
    simp only [half0_at, half1_at, y_at, x_at, z_at, d_at]
  have e' : (fun j => (iblk m c 4 t : S1x2048.Idx → EReal) (ix2 0 j)) = fun j => W m c (ix2 0 j) := funext fun j => w_at m c t j
  exact congrArg₂ (fun u w => post u w q) e e'

theorem arr5 : (dats m 0 c).arrAt 5 cfg0.N = res m c := by
  refine (dats m 0 c).arrAt_eq_of_covers 5 (res m c) (by decide +kernel) fun t hf y => ?_
  blk_simp
  rw [after0_5]
  rw [emb5 t y ((cfg0.win 5).xinj (cfg0.grid.coords t) y 0) ((cfg0.win 5).xinj (cfg0.grid.coords t) y 1) rfl rfl]
  exact (congrArg (outsAt0 m c t) (eq_ix2 _)).trans (block_at m c t _ _)

end Kernel

section Reference
open Cert.Reference16Ideal Cert.Reference16Ideal.Gen

section Any
variable {F : FTy → Type} [FloatOps F] (y : (⟨S2x4096x2048, .f32⟩ : BufTy).Contents (Elt F)) (x : (⟨S4096x4096, .f32⟩ : BufTy).Contents (Elt F))
  (z : (⟨S4096x12800, .f32⟩ : BufTy).Contents (Elt F)) (d w : (⟨S1x2048, .f32⟩ : BufTy).Contents (Elt F)) (u : (⟨S4096x2048, .f32⟩ : BufTy).Contents (Elt F))

def rgate : (⟨S4096x2048, .f32⟩ : BufTy).Contents (Elt F) := extractStridedSlice S4096x2048 ![0, 4096] z slices_S4096x12800_S4096x2048_0_4096
def rsilu : (⟨S4096x2048, .f32⟩ : BufTy).Contents (Elt F) := mulf (rgate z) (Host.divf (broadcastInDim S4096x2048 ![] bcast_S_S4096x2048 (constant S_ .f32 0x3F800000#32)) (addf (broadcastInDim S4096x2048 ![] bcast_S_S4096x2048 (constant S_ .f32 0x3F800000#32)) (Host.exp (Host.negf (rgate z)))))
def rpre : (⟨S4096x2048, .f32⟩ : BufTy).Contents (Elt F) := mulf (addf (addf (shapeCast _ (extractStridedSlice S1x4096x2048 ![0, 0, 0] y slices_S2x4096x2048_S1x4096x2048_0_0_0) shapeCasts_S1x4096x2048_S4096x2048) (shapeCast _ (extractStridedSlice S1x4096x2048 ![1, 0, 0] y slices_S2x4096x2048_S1x4096x2048_1_0_0) shapeCasts_S1x4096x2048_S4096x2048)) (mulf (broadcastInDim S4096x2048 ![0, 1] bcast_S1x2048_S4096x2048_0_1 d) (extractStridedSlice S4096x2048 ![0, 0] x slices_S4096x4096_S4096x2048_0_0))) (rsilu z)
def rgroups : (⟨S4096x8x256, .f32⟩ : BufTy).Contents (Elt F) := shapeCast _ u shapeCasts_S4096x2048_S4096x8x256
def rrms : (⟨S4096x8x1, .f32⟩ : BufTy).Contents (Elt F) := Host.rsqrt (addf (Host.divf (broadcastInDim S4096x8x1 ![0, 1] bcast_S4096x8_S4096x8x1_0_1 (Host.reduceAdd (mulf (rgroups u) (rgroups u)) (constant S_ .f32 0x00000000#32) reducesTo_S4096x8x256_S4096x8_d2 h_S_)) (broadcastInDim S4096x8x1 ![] bcast_S_S4096x8x1 (constant S_ .f32 0x43800000#32))) (broadcastInDim S4096x8x1 ![] bcast_S_S4096x8x1 (constant S_ .f32 0x3727C5AC#32)))
def rnormed : (⟨S4096x2048, .f32⟩ : BufTy).Contents (Elt F) := shapeCast _ (mulf (rgroups u) (broadcastInDim S4096x8x256 ![0, 1, 2] bcast_S4096x8x1_S4096x8x256_0_1_2 (rrms u))) shapeCasts_S4096x8x256_S4096x2048
def rout : (⟨S4096x2048, .bf16⟩ : BufTy).Contents (Elt F) := truncf .bf16 (mulf (rnormed (rpre y x z d)) (broadcastInDim S4096x2048 ![0, 1] bcast_S1x2048_S4096x2048_0_1 (broadcastInDim S1x2048 ![1] bcast_S2048_S1x2048_1 (shapeCast _ w shapeCasts_S1x2048_S2048)))) bitsLt_bf16_f32

end Any

variable (y : (⟨S2x4096x2048, .f32⟩ : BufTy).Contents (Elt Ideal)) (x : (⟨S4096x4096, .f32⟩ : BufTy).Contents (Elt Ideal))
  (z : (⟨S4096x12800, .f32⟩ : BufTy).Contents (Elt Ideal)) (d w : (⟨S1x2048, .f32⟩ : BufTy).Contents (Elt Ideal)) (u : (⟨S4096x2048, .f32⟩ : BufTy).Contents (Elt Ideal))
  (r : Fin 4096) (j : Fin 2048) (g : Fin 8) (l : Fin 256)

theorem rgate_at : (rgate z : S4096x2048.Idx → EReal) (ix2 r j) = (z : S4096x12800.Idx → EReal) (ix2 r ⟨4096 + j.val, by omega⟩) := by
  unfold rgate
  clean_types; pointwise

theorem rsilu_at : (rsilu z : S4096x2048.Idx → EReal) (ix2 r j) = silu ((z : S4096x12800.Idx → EReal) (ix2 r ⟨4096 + j.val, by omega⟩)) := by
  unfold rsilu silu
  clean_types; pointwise [rgate_at]

theorem rpre_at : (rpre y x z d : S4096x2048.Idx → EReal) (ix2 r j) = preOf y x z d r j := by
  unfold rpre preOf pre
  clean_types; pointwise [rsilu_at]

theorem rgroups_at : (rgroups u : S4096x8x256.Idx → EReal) (ix3 r g l) = (u : S4096x2048.Idx → EReal) (ix2 r (lane g l)) := by
  have e : (⟨g.val * 256 + l.val, by omega⟩ : Fin 2048) = lane g l := Fin.ext (by simp only [lane]; omega)
  unfold rgroups
  clean_types; pointwise
  rw [e]

theorem rrms_at : (rrms u : S4096x8x1.Idx → EReal) (ix3 r g 0) = rms fun l => (u : S4096x2048.Idx → EReal) (ix2 r (lane g l)) := by
  unfold rrms rms
  clean_types; pointwise [rgroups_at]

theorem rnormed_at : (rnormed u : S4096x2048.Idx → EReal) (ix2 r j)
    = (u : S4096x2048.Idx → EReal) (ix2 r j) * rms fun l => (u : S4096x2048.Idx → EReal) (ix2 r (lane (grp j) l)) := by
  unfold rnormed
  clean_types; pointwise [rgroups_at, rrms_at]
  show (u : S4096x2048.Idx → EReal) (ix2 r (lane (grp j) (off j))) * rms (fun l => (u : S4096x2048.Idx → EReal) (ix2 r (lane (grp j) l))) = _
  rw [lane_grp_off]

theorem rout_at : (rout y x z d w : S4096x2048.Idx → EReal) (ix2 r j)
    = post (preOf y x z d r) (fun j => (w : S1x2048.Idx → EReal) (ix2 0 j)) j := by
  have e : preOf y x z d r = fun j => (rpre y x z d : S4096x2048.Idx → EReal) (ix2 r j) := funext fun j => (rpre_at y x z d r j).symm
  unfold rout post
  rw [e]
  clean_types; pointwise [rnormed_at]

end Reference

theorem agree : Cert.algebraic_Kernel16Ideal_Reference16Ideal := by
  intro m ρ m' ρ' _ hag
  refine ⟨fun c => res m c, ?_, ?_⟩
  · refine (θ_run _ _ _).mono (fun _ h c => ?_) (Cert.Kernel16Ideal.Value.run_blocks m ρ)
    exact ⟨(h c).1.trans (arr5 m c), (h c).2⟩
  · refine (θ_run _ _ _).mono (fun _ h c => ?_) (Cert.Reference16Ideal.Value.run m' ρ')
    obtain ⟨ey, ex, ez, ed, ew⟩ := hag c
    refine ⟨(h c).1.trans (funext fun i => (congrArg (rout _ _ _ _ _) (eq_ix2 i)).trans ((rout_at _ _ _ _ _ _ _).trans ?_)), (h c).2⟩
    rw [ey, ex, ez, ed, ew]; rfl

theorem frame_ref : Cert.quiescent_Reference16Ideal := fun m ρ _ =>
  (θ_run _ _ _).mono (fun r h => ⟨fun c => (h c).2, sem_eq_zero_of_no_sems rfl r.2⟩) (Cert.Reference16Ideal.Value.run m ρ)

end Cert.Gate
-- ==== Proof.Norm.lean ====
module

public import Idealize.ShloMosaic.Lib.Pointwise

/-! A row's normalization: the mean taken off, over the square root of the mean square plus a small number. -/

@[expose] public section

noncomputable section

namespace Cert.Norm

open Idealize.ShloMosaic

/-- A row's mean. -/
def mean (f : Fin 4096 → EReal) : EReal := Ideal.div (∑ k : Fin 4096, f k) (Ideal.ofBits FTy.f32 0x45800000#32)

/-- A row's entry less the mean. -/
def centred (f : Fin 4096 → EReal) (q : Fin 4096) : EReal := f q - mean f

/-- A row's entry normalized. -/
def normed (f : Fin 4096 → EReal) (q : Fin 4096) : EReal :=
  centred f q * Ideal.rsqrt (mean (fun k => centred f k * centred f k) + Ideal.ofBits FTy.f32 0x3727C5AC#32)

end Cert.Norm

end
-- ==== Proof.Ln1.lean ====
module

public import proofs.«01_k».proof.Defs
public import proofs.«01_k».proof.Proof.Gen.Kernel17Ideal.Value
public import proofs.«01_k».proof.Proof.Gen.Reference17Ideal.Run
public import proofs.«01_k».proof.Proof.Norm
public import Idealize.ShloMosaic.Lib.Pipeline.ValueKit
public import Idealize.ShloMosaic.Lib.Pointwise
public import Idealize.ShloMosaic.Lib.Tactic.CleanTypes

/-! The first normalization: the scaled input plus the gated mixer's result, normalized by rows, and that scaled and shifted for
the channel mixer. -/

@[expose] public section

set_option maxRecDepth 16384

noncomputable section

namespace Cert.Ln1

open Idealize.ShloMosaic Idealize.ShloMosaic.TcCoe Idealize.ShloMosaic.StableHlo Idealize.SL.Sem Cert.Norm

/-- A row before the normalization. -/
def pre (x w : Fin 4096 → EReal) (t : Fin 4096 → EReal) (q : Fin 4096) : EReal :=
  Ideal.ofBits FTy.f32 0x3F9837F0#32 * x q + (Ideal.ofBits FTy.f32 0x3F800000#32 + t q) * w q

/-- A row of the first result. -/
def fst (x w t g b : Fin 4096 → EReal) (q : Fin 4096) : EReal := normed (pre x w t) q * g q + b q

/-- A row of the second result. -/
def snd (x w t g b s h : Fin 4096 → EReal) (q : Fin 4096) : EReal := fst x w t g b q * (Ideal.ofBits FTy.f32 0x3F800000#32 + s q) + h q

section Kernel
open Cert.Kernel17Ideal Cert.Kernel17Ideal.Gen

variable (m : (ℓ : Loc nD τ sig) → Buf (Elt Ideal) ℓ) (c : Dev nD)

def X : S4096x4096.Idx → EReal := m ((c.tc : Thread nD τ).loc main_arg0)
def W : S4096x4096.Idx → EReal := m ((c.tc : Thread nD τ).loc main_arg1)
def T : S1x4096.Idx → EReal := m ((c.tc : Thread nD τ).loc main_arg2)
def G : S1x4096.Idx → EReal := m ((c.tc : Thread nD τ).loc main_arg3)
def B : S1x4096.Idx → EReal := m ((c.tc : Thread nD τ).loc main_arg4)
def S : S1x4096.Idx → EReal := m ((c.tc : Thread nD τ).loc main_arg5)
def H : S1x4096.Idx → EReal := m ((c.tc : Thread nD τ).loc main_arg6)

/-! The payloads at an index. -/

/-- Row `p` of an array. -/
abbrev at_ {n : ℕ} (x : (⟨2, ![n, 4096]⟩ : Shape).Idx → EReal) (p : Fin n) (k : Fin 4096) : EReal := x (ix2 p k)

variable (x w : Vec Ideal S128x4096 .f32) (t g b s h : Vec Ideal S1x4096 .f32) (p : Fin 128) (q : Fin 4096)

theorem pay2_at : (k0_pay2 x t w g b : S128x4096.Idx → EReal) (ix2 p q) = fst (at_ x p) (at_ w p) (at_ t 0) (at_ g 0) (at_ b 0) q := by
  unfold k0_pay2 fst normed centred mean pre at_
  clean_types; pointwise

theorem pay1_at (v : FVec Ideal S128x4096 .f32) : (k0_pay1 v (k0_pay3 s) h : S128x4096.Idx → EReal) (ix2 p q)
    = (v : S128x4096.Idx → EReal) (ix2 p q) * (Ideal.ofBits FTy.f32 0x3F800000#32 + at_ s 0 q) + at_ h 0 q := by
  unfold k0_pay1 k0_pay3 at_
  clean_types; pointwise

/-! The blocks. -/

theorem ix : ∀ t : Fin cfg0.N, win0_0.index t = ![t.val, 0] ∧ win0_1.index t = ![t.val, 0] ∧ win0_2.index t = ![0, 0] ∧ win0_3.index t = ![0, 0] ∧ win0_4.index t = ![0, 0] ∧ win0_5.index t = ![0, 0] ∧ win0_6.index t = ![0, 0] ∧ win0_7.index t = ![t.val, 0] ∧ win0_8.index t = ![t.val, 0] :=
  (by decide +kernel : ∀ t : Fin grid0.N, win0_0.index t = ![t.val, 0] ∧ win0_1.index t = ![t.val, 0] ∧ win0_2.index t = ![0, 0] ∧ win0_3.index t = ![0, 0] ∧ win0_4.index t = ![0, 0] ∧ win0_5.index t = ![0, 0] ∧ win0_6.index t = ![0, 0] ∧ win0_7.index t = ![t.val, 0] ∧ win0_8.index t = ![t.val, 0])

theorem lt (t : Fin cfg0.N) : t.val < 32 := lt_of_lt_of_eq t.isLt (show cfg0.N = 32 from N_0)

/-- The array's row, of row `p` of the point's tile. -/
def row (t : Fin cfg0.N) (p : Fin 128) : Fin 4096 := ⟨t.val * 128 + p.val, by have := lt t; omega⟩

theorem x_at (t : Fin cfg0.N) (p : Fin 128) : at_ (iblk m c 0 t : S128x4096.Idx → EReal) p = at_ (X m c) (row t p) := by
  refine funext fun q => ?_
  unfold at_ row; blk_ext [iblk, V, (ix t).1, X]

theorem w_at (t : Fin cfg0.N) (p : Fin 128) : at_ (iblk m c 1 t : S128x4096.Idx → EReal) p = at_ (W m c) (row t p) := by
  refine funext fun q => ?_
  unfold at_ row; blk_ext [iblk, V, (ix t).2.1, W]

theorem t_at (t : Fin cfg0.N) : at_ (iblk m c 2 t : S1x4096.Idx → EReal) 0 = at_ (T m c) 0 := by
  refine funext fun q => ?_
  unfold at_; blk_ext [iblk, V, (ix t).2.2.1, T]

theorem g_at (t : Fin cfg0.N) : at_ (iblk m c 3 t : S1x4096.Idx → EReal) 0 = at_ (G m c) 0 := by
  refine funext fun q => ?_
  unfold at_; blk_ext [iblk, V, (ix t).2.2.2.1, G]

theorem b_at (t : Fin cfg0.N) : at_ (iblk m c 4 t : S1x4096.Idx → EReal) 0 = at_ (B m c) 0 := by
  refine funext fun q => ?_
  unfold at_; blk_ext [iblk, V, (ix t).2.2.2.2.1, B]

theorem s_at (t : Fin cfg0.N) : at_ (iblk m c 5 t : S1x4096.Idx → EReal) 0 = at_ (S m c) 0 := by
  refine funext fun q => ?_
  unfold at_; blk_ext [iblk, V, (ix t).2.2.2.2.2.1, S]

theorem h_at (t : Fin cfg0.N) : at_ (iblk m c 6 t : S1x4096.Idx → EReal) 0 = at_ (H m c) 0 := by
  refine funext fun q => ?_
  unfold at_; blk_ext [iblk, V, (ix t).2.2.2.2.2.2.1, H]

theorem emb7 (t : Fin cfg0.N) (y : (win0_7.xblock (grid0.coords t)).Idx) (p : Fin 128) (q : Fin 4096) (hp : (y 0).val = p.val) (hq : (y 1).val = q.val) :
    (win0_7.blk t).view.emb y = (ix2 (row t p) q : S4096x4096.Idx) := by
  unfold row; blk_ext [(ix t).2.2.2.2.2.2.2.1]

theorem emb8 (t : Fin cfg0.N) (y : (win0_8.xblock (grid0.coords t)).Idx) (p : Fin 128) (q : Fin 4096) (hp : (y 0).val = p.val) (hq : (y 1).val = q.val) :
    (win0_8.blk t).view.emb y = (ix2 (row t p) q : S4096x4096.Idx) := by
  unfold row; blk_ext [(ix t).2.2.2.2.2.2.2.2]

/-! The arrays after the run. -/

/-- The first result. -/
def res0 : S4096x4096.Idx → EReal := fun i => fst (at_ (X m c) (i 0)) (at_ (W m c) (i 0)) (at_ (T m c) 0) (at_ (G m c) 0) (at_ (B m c) 0) (i 1)

/-- The second result. -/
def res1 : S4096x4096.Idx → EReal := fun i => snd (at_ (X m c) (i 0)) (at_ (W m c) (i 0)) (at_ (T m c) 0) (at_ (G m c) 0) (at_ (B m c) 0) (at_ (S m c) 0) (at_ (H m c) 0) (i 1)

theorem block7_at (t : Fin cfg0.N) (p : Fin 128) (q : Fin 4096) : (out0_7 (iblk m c 0 t) (iblk m c 1 t) (iblk m c 2 t) (iblk m c 3 t) (iblk m c 4 t) (iblk m c 5 t) (iblk m c 6 t) : S128x4096.Idx → EReal) (ix2 p q) = res0 m c (ix2 (row t p) q) := by
  unfold out0_7
  frame_out
  rw [pay2_at, x_at, w_at, t_at, g_at, b_at]; rfl

theorem block8_at (t : Fin cfg0.N) (p : Fin 128) (q : Fin 4096) : (out0_8 (iblk m c 0 t) (iblk m c 1 t) (iblk m c 2 t) (iblk m c 3 t) (iblk m c 4 t) (iblk m c 5 t) (iblk m c 6 t) : S128x4096.Idx → EReal) (ix2 p q) = res1 m c (ix2 (row t p) q) := by
  unfold out0_8
  frame_out
  rw [pay1_at, pay2_at, x_at, w_at, t_at, g_at, b_at, s_at, h_at]; rfl

theorem arr7 : (dats m 0 c).arrAt 7 cfg0.N = res0 m c := by
  refine (dats m 0 c).arrAt_eq_of_covers 7 (res0 m c) (by decide +kernel) fun t hf y => ?_
  blk_simp
  rw [after0_7]
  rw [emb7 t y ((cfg0.win 7).xinj (cfg0.grid.coords t) y 0) ((cfg0.win 7).xinj (cfg0.grid.coords t) y 1) rfl rfl]
  exact (congrArg (out0_7 (iblk m c 0 t) (iblk m c 1 t) (iblk m c 2 t) (iblk m c 3 t) (iblk m c 4 t) (iblk m c 5 t) (iblk m c 6 t)) (eq_ix2 _)).trans (block7_at m c t _ _)

theorem arr8 : (dats m 0 c).arrAt 8 cfg0.N = res1 m c := by
  refine (dats m 0 c).arrAt_eq_of_covers 8 (res1 m c) (by decide +kernel) fun t hf y => ?_
  blk_simp
  rw [after0_8]
  rw [emb8 t y ((cfg0.win 8).xinj (cfg0.grid.coords t) y 0) ((cfg0.win 8).xinj (cfg0.grid.coords t) y 1) rfl rfl]
  exact (congrArg (out0_8 (iblk m c 0 t) (iblk m c 1 t) (iblk m c 2 t) (iblk m c 3 t) (iblk m c 4 t) (iblk m c 5 t) (iblk m c 6 t)) (eq_ix2 _)).trans (block8_at m c t _ _)

end Kernel

section Reference
open Cert.Reference17Ideal Cert.Reference17Ideal.Gen

section Any
variable {F : FTy → Type} [FloatOps F] (x w f : (⟨S4096x4096, .f32⟩ : BufTy).Contents (Elt F)) (t g b s h : (⟨S1x4096, .f32⟩ : BufTy).Contents (Elt F))

def rpre : (⟨S4096x4096, .f32⟩ : BufTy).Contents (Elt F) := addf (mulf (broadcastInDim S4096x4096 ![] bcast_S_S4096x4096 (constant S_ .f32 0x3F9837F0#32)) x) (mulf (broadcastInDim S4096x4096 ![0, 1] bcast_S1x4096_S4096x4096_0_1 (addf (broadcastInDim S1x4096 ![] bcast_S_S1x4096 (constant S_ .f32 0x3F800000#32)) t)) w)
def rmean : (⟨S4096x1, .f32⟩ : BufTy).Contents (Elt F) := Host.divf (broadcastInDim S4096x1 ![0] bcast_S4096_S4096x1_0 (Host.reduceAdd f (constant S_ .f32 0x00000000#32) reducesTo_S4096x4096_S4096_d1 h_S_)) (broadcastInDim S4096x1 ![] bcast_S_S4096x1 (constant S_ .f32 0x45800000#32))
def rcentred : (⟨S4096x4096, .f32⟩ : BufTy).Contents (Elt F) := subf f (broadcastInDim S4096x4096 ![0, 1] bcast_S4096x1_S4096x4096_0_1 (rmean f))
def rnormed : (⟨S4096x4096, .f32⟩ : BufTy).Contents (Elt F) := mulf (rcentred f) (broadcastInDim S4096x4096 ![0, 1] bcast_S4096x1_S4096x4096_0_1 (Host.rsqrt (addf (rmean (mulf (rcentred f) (rcentred f))) (broadcastInDim S4096x1 ![] bcast_S_S4096x1 (constant S_ .f32 0x3727C5AC#32)))))
def out0 : (⟨S4096x4096, .f32⟩ : BufTy).Contents (Elt F) := addf (mulf (rnormed (rpre x w t)) (broadcastInDim S4096x4096 ![0, 1] bcast_S1x4096_S4096x4096_0_1 (broadcastInDim S1x4096 ![1] bcast_S4096_S1x4096_1 (shapeCast _ g shapeCasts_S1x4096_S4096)))) (broadcastInDim S4096x4096 ![0, 1] bcast_S1x4096_S4096x4096_0_1 (broadcastInDim S1x4096 ![1] bcast_S4096_S1x4096_1 (shapeCast _ b shapeCasts_S1x4096_S4096)))
def out1 : (⟨S4096x4096, .bf16⟩ : BufTy).Contents (Elt F) := truncf .bf16 (addf (mulf (out0 x w t g b) (broadcastInDim S4096x4096 ![0, 1] bcast_S1x4096_S4096x4096_0_1 (addf (broadcastInDim S1x4096 ![] bcast_S_S1x4096 (constant S_ .f32 0x3F800000#32)) s))) (broadcastInDim S4096x4096 ![0, 1] bcast_S1x4096_S4096x4096_0_1 h)) bitsLt_bf16_f32

end Any

variable (x w f : (⟨S4096x4096, .f32⟩ : BufTy).Contents (Elt Ideal)) (t g b s h : (⟨S1x4096, .f32⟩ : BufTy).Contents (Elt Ideal)) (p q : Fin 4096)

theorem rpre_at : (rpre x w t : S4096x4096.Idx → EReal) (ix2 p q) = pre (at_ x p) (at_ w p) (at_ t 0) q := by
  unfold rpre pre at_
  clean_types; pointwise

theorem rmean_at : (rmean f : S4096x1.Idx → EReal) (ix2 p 0) = mean (at_ f p) := by
  unfold rmean mean at_
  clean_types; pointwise

theorem rcentred_at : (rcentred f : S4096x4096.Idx → EReal) (ix2 p q) = centred (at_ f p) q := by
  unfold rcentred centred
  clean_types; pointwise [rmean_at]

theorem rnormed_at : (rnormed f : S4096x4096.Idx → EReal) (ix2 p q) = normed (at_ f p) q := by
  unfold rnormed normed
  have e : at_ (mulf (rcentred f) (rcentred f)) p = fun k => centred (at_ f p) k * centred (at_ f p) k :=
    funext fun k => congrArg₂ (fun a b : EReal => a * b) (rcentred_at f p k) (rcentred_at f p k)
  rw [← e]
  clean_types; pointwise [rmean_at, rcentred_at]

theorem out0_at : (out0 x w t g b : S4096x4096.Idx → EReal) (ix2 p q) = fst (at_ x p) (at_ w p) (at_ t 0) (at_ g 0) (at_ b 0) q := by
  have e : at_ (rpre x w t) p = pre (at_ x p) (at_ w p) (at_ t 0) := funext fun k => rpre_at x w t p k
  unfold out0 fst
  rw [← e]
  clean_types; pointwise [rnormed_at]

theorem out1_at : (out1 x w t g b s h : S4096x4096.Idx → EReal) (ix2 p q) = snd (at_ x p) (at_ w p) (at_ t 0) (at_ g 0) (at_ b 0) (at_ s 0) (at_ h 0) q := by
  unfold out1 snd
  clean_types; pointwise [out0_at]

end Reference

theorem agree : Cert.algebraic_Kernel17Ideal_Reference17Ideal := by
  intro m ρ m' ρ' _ hag
  refine ⟨fun c => res0 m c, fun c => res1 m c, ?_, ?_⟩
  · refine (θ_run _ _ _).mono (fun _ h c => ?_) (Cert.Kernel17Ideal.Value.run_blocks m ρ)
    exact ⟨(h c).1.trans (arr7 m c), (h c).2.1.trans (arr8 m c), (h c).2.2⟩
  · refine (θ_run _ _ _).mono (fun _ h c => ?_) (Cert.Reference17Ideal.Value.run m' ρ')
    obtain ⟨ex, ew, et, eg, eb, es, eh⟩ := hag c
    refine ⟨(h c).1.trans (funext fun i => (congrArg (out0 _ _ _ _ _) (eq_ix2 i)).trans ((out0_at _ _ _ _ _ _ _).trans ?_)),
      (h c).2.1.trans (funext fun i => (congrArg (out1 _ _ _ _ _ _ _) (eq_ix2 i)).trans ((out1_at _ _ _ _ _ _ _ _ _).trans ?_)), (h c).2.2⟩
    · rw [ex, ew, et, eg, eb]; rfl
    · rw [ex, ew, et, eg, eb, es, eh]; rfl

theorem frame_ref : Cert.quiescent_Reference17Ideal := fun m ρ _ =>
  (θ_run _ _ _).mono (fun r h => ⟨fun c => (h c).2.2, sem_eq_zero_of_no_sems rfl r.2⟩) (Cert.Reference17Ideal.Value.run m ρ)

end Cert.Ln1
-- ==== Proof.Modulate.lean ====
module

public import proofs.«01_k».proof.Defs
public import proofs.«01_k».proof.Proof.Gen.Kernel18Ideal.Value
public import proofs.«01_k».proof.Proof.Gen.Reference18Ideal.Run
public import Idealize.ShloMosaic.Lib.Pipeline.ValueKit
public import Idealize.ShloMosaic.Lib.Pointwise
public import Idealize.ShloMosaic.Lib.Tactic.CleanTypes

/-! The sequence mixer's input, scaled and shifted by columns. -/

@[expose] public section

set_option maxRecDepth 16384

noncomputable section

namespace Cert.Modulate

open Idealize.ShloMosaic Idealize.ShloMosaic.TcCoe Idealize.ShloMosaic.StableHlo Idealize.SL.Sem

/-- The result, from the three arrays. -/
def spec (X : (⟨2, ![4096, 4096]⟩ : Shape).Idx → EReal) (s h : (⟨2, ![1, 4096]⟩ : Shape).Idx → EReal) : (⟨2, ![4096, 4096]⟩ : Shape).Idx → EReal :=
  fun i => X i * (Ideal.ofBits FTy.f32 0x3F800000#32 + s (ix2 0 (i 1))) + h (ix2 0 (i 1))

section Kernel
open Cert.Kernel18Ideal Cert.Kernel18Ideal.Gen

variable (m : (ℓ : Loc nD τ sig) → Buf (Elt Ideal) ℓ) (c : Dev nD)

def X : S4096x4096.Idx → EReal := m ((c.tc : Thread nD τ).loc main_arg0)
def S : S1x4096.Idx → EReal := m ((c.tc : Thread nD τ).loc main_arg1)
def H : S1x4096.Idx → EReal := m ((c.tc : Thread nD τ).loc main_arg2)

theorem point_at (x : Vec Ideal S128x4096 .f32) (s h : Vec Ideal S1x4096 .f32) (p : Fin 128) (q : Fin 4096) :
    (out0_3 x s h : S128x4096.Idx → EReal) (ix2 p q)
      = (x : S128x4096.Idx → EReal) (ix2 p q) * (Ideal.ofBits FTy.f32 0x3F800000#32 + (s : S1x4096.Idx → EReal) (ix2 0 q)) + (h : S1x4096.Idx → EReal) (ix2 0 q) := by
  unfold out0_3
  frame_out
  unfold k0_pay1
  clean_types; pointwise

theorem ix : ∀ t : Fin cfg0.N, win0_0.index t = ![t.val, 0] ∧ win0_1.index t = ![0, 0] ∧ win0_2.index t = ![0, 0] ∧ win0_3.index t = ![t.val, 0] :=
  (by decide +kernel : ∀ t : Fin grid0.N, win0_0.index t = ![t.val, 0] ∧ win0_1.index t = ![0, 0] ∧ win0_2.index t = ![0, 0] ∧ win0_3.index t = ![t.val, 0])

theorem lt (t : Fin cfg0.N) : t.val < 32 := lt_of_lt_of_eq t.isLt (show cfg0.N = 32 from N_0)

/-- The array's row, of row `p` of the point's tile. -/
def row (t : Fin cfg0.N) (p : Fin 128) : Fin 4096 := ⟨t.val * 128 + p.val, by have := lt t; omega⟩

theorem x_at (t : Fin cfg0.N) (p : Fin 128) (q : Fin 4096) : (iblk m c 0 t : S128x4096.Idx → EReal) (ix2 p q) = X m c (ix2 (row t p) q) := by
  unfold row; blk_ext [iblk, V, (ix t).1, X]

theorem s_at (t : Fin cfg0.N) (q : Fin 4096) : (iblk m c 1 t : S1x4096.Idx → EReal) (ix2 0 q) = S m c (ix2 0 q) := by
  blk_ext [iblk, V, (ix t).2.1, S]

theorem h_at (t : Fin cfg0.N) (q : Fin 4096) : (iblk m c 2 t : S1x4096.Idx → EReal) (ix2 0 q) = H m c (ix2 0 q) := by
  blk_ext [iblk, V, (ix t).2.2.1, H]

theorem emb_at (t : Fin cfg0.N) (y : (win0_3.xblock (grid0.coords t)).Idx) (p : Fin 128) (q : Fin 4096) (hp : (y 0).val = p.val) (hq : (y 1).val = q.val) :
    (win0_3.blk t).view.emb y = (ix2 (row t p) q : S4096x4096.Idx) := by
  unfold row; blk_ext [(ix t).2.2.2]

theorem block_at (t : Fin cfg0.N) (p : Fin 128) (q : Fin 4096) :
    (out0_3 (iblk m c 0 t) (iblk m c 1 t) (iblk m c 2 t) : S128x4096.Idx → EReal) (ix2 p q) = spec (X m c) (S m c) (H m c) (ix2 (row t p) q) := by
  rw [point_at, x_at, s_at, h_at]; rfl

theorem arr : (dats m 0 c).arrAt 3 cfg0.N = spec (X m c) (S m c) (H m c) := by
  refine (dats m 0 c).arrAt_eq_of_covers 3 (spec (X m c) (S m c) (H m c)) (by decide +kernel) fun t hf y => ?_
  blk_simp
  rw [after0_3]
  rw [emb_at t y ((cfg0.win 3).xinj (cfg0.grid.coords t) y 0) ((cfg0.win 3).xinj (cfg0.grid.coords t) y 1) rfl rfl]
  exact (congrArg (out0_3 (iblk m c 0 t) (iblk m c 1 t) (iblk m c 2 t)) (eq_ix2 _)).trans (block_at m c t _ _)

end Kernel

section Reference
open Cert.Reference18Ideal Cert.Reference18Ideal.Gen

/-- The reference's result, from the three arrays. -/
def out {F : FTy → Type} [FloatOps F] (x : (⟨S4096x4096, .f32⟩ : BufTy).Contents (Elt F)) (s h : (⟨S1x4096, .f32⟩ : BufTy).Contents (Elt F)) : (⟨S4096x4096, .bf16⟩ : BufTy).Contents (Elt F) :=
  truncf .bf16 (addf (mulf x (broadcastInDim S4096x4096 ![0, 1] bcast_S1x4096_S4096x4096_0_1 (addf (broadcastInDim S1x4096 ![] bcast_S_S1x4096 (constant S_ .f32 0x3F800000#32)) s))) (broadcastInDim S4096x4096 ![0, 1] bcast_S1x4096_S4096x4096_0_1 h)) bitsLt_bf16_f32

theorem out_eq (x : (⟨S4096x4096, .f32⟩ : BufTy).Contents (Elt Ideal)) (s h : (⟨S1x4096, .f32⟩ : BufTy).Contents (Elt Ideal)) : out x s h = spec x s h := by
  refine funext fun i => (congrArg (out x s h) (eq_ix2 i)).trans (Eq.trans ?_ (congrArg (spec x s h) (eq_ix2 i).symm))
  generalize i 0 = p, i 1 = q
  unfold out spec
  clean_types; pointwise

end Reference

theorem agree : Cert.algebraic_Kernel18Ideal_Reference18Ideal := by
  intro m ρ m' ρ' _ hag
  refine ⟨fun c => spec (X m c) (S m c) (H m c), ?_, ?_⟩
  · refine (θ_run _ _ _).mono (fun _ h c => ?_) (Cert.Kernel18Ideal.Value.run_blocks m ρ)
    exact ⟨(h c).1.trans (arr m c), (h c).2⟩
  · refine (θ_run _ _ _).mono (fun _ h c => ?_) (Cert.Reference18Ideal.Value.run m' ρ')
    obtain ⟨ex, es, eh⟩ := hag c
    refine ⟨(h c).1.trans ((out_eq _ _ _).trans ?_), (h c).2⟩
    rw [ex, es, eh]; rfl

theorem frame_ref : Cert.quiescent_Reference18Ideal := fun m ρ _ =>
  (θ_run _ _ _).mono (fun r h => ⟨fun c => (h c).2, sem_eq_zero_of_no_sems rfl r.2⟩) (Cert.Reference18Ideal.Value.run m ρ)

end Cert.Modulate
-- ==== Proof.Conv.lean ====
module

public import proofs.«01_k».proof.Defs
public import proofs.«01_k».proof.Proof.Gen.Kernel19Ideal.Value
public import proofs.«01_k».proof.Proof.Gen.Reference19Ideal.Run
public import proofs.«01_k».proof.Proof.Reads
public import proofs.«01_k».proof.Proof.Gate
public import Idealize.ShloMosaic.Lib.Tactic.CleanTypes

/-! The convolution of five taps before the state-space mixer, its bias and its silu. -/

@[expose] public section

set_option maxRecDepth 16384

noncomputable section

namespace Cert.Conv

open Idealize.ShloMosaic Idealize.ShloMosaic.TcCoe Idealize.ShloMosaic.StableHlo Idealize.SL.Sem
open Cert.SC (rowed)
open Cert.Gate (silu)

/-- A row of the projection, zero outside the sequence. -/
def cell (A : (⟨2, ![4096, 12800]⟩ : Shape).Idx → EReal) (z : ℤ) (k : Fin 4096) : EReal :=
  if h : 0 ≤ z ∧ z < 4096 then A (ix2 ⟨z.toNat, by omega⟩ ⟨k.val, by omega⟩) else 0

theorem cell_in (A : (⟨2, ![4096, 12800]⟩ : Shape).Idx → EReal) (r : Fin 4096) (k : Fin 4096) : cell A r.val k = A (ix2 r ⟨k.val, by omega⟩) :=
  dif_pos ⟨by omega, by omega⟩

theorem cell_out (A : (⟨2, ![4096, 12800]⟩ : Shape).Idx → EReal) (z : ℤ) (k : Fin 4096) (h : ¬(0 ≤ z ∧ z < 4096)) : cell A z k = 0 := dif_neg h

/-- The result at a row and a column. -/
def out (A : (⟨2, ![4096, 12800]⟩ : Shape).Idx → EReal) (w : (⟨2, ![5, 4096]⟩ : Shape).Idx → EReal) (b : (⟨2, ![1, 4096]⟩ : Shape).Idx → EReal)
    (r : ℤ) (k : Fin 4096) : EReal :=
  silu (cell A (r - 2) k * w (ix2 0 k) + cell A (r - 1) k * w (ix2 1 k) + cell A r k * w (ix2 2 k) + cell A (r + 1) k * w (ix2 3 k)
    + cell A (r + 2) k * w (ix2 4 k) + b (ix2 0 k))

section Kernel
open Cert.Kernel19Ideal Cert.Kernel19Ideal.Gen

section Any
variable {F : FTy → Type} [FloatOps F]

/-- A tap of the weight, for every row. -/
def tap0 (w : Vec F S5x2048 .f32) : FVec F S272x2048 .f32 :=
  broadcastTo S272x2048 (extractStridedSlice S1x2048 ![0, 0] w slices_S5x2048_o0_0_S1x2048) broadcasts_S1x2048_S272x2048
def tap1 (w : Vec F S5x2048 .f32) : FVec F S272x2048 .f32 :=
  broadcastTo S272x2048 (extractStridedSlice S1x2048 ![1, 0] w slices_S5x2048_o1_0_S1x2048) broadcasts_S1x2048_S272x2048
def tap2 (w : Vec F S5x2048 .f32) : FVec F S272x2048 .f32 :=
  broadcastTo S272x2048 (extractStridedSlice S1x2048 ![2, 0] w slices_S5x2048_o2_0_S1x2048) broadcasts_S1x2048_S272x2048
def tap3 (w : Vec F S5x2048 .f32) : FVec F S272x2048 .f32 :=
  broadcastTo S272x2048 (extractStridedSlice S1x2048 ![3, 0] w slices_S5x2048_o3_0_S1x2048) broadcasts_S1x2048_S272x2048
def tap4 (w : Vec F S5x2048 .f32) : FVec F S272x2048 .f32 :=
  broadcastTo S272x2048 (extractStridedSlice S1x2048 ![4, 0] w slices_S5x2048_o4_0_S1x2048) broadcasts_S1x2048_S272x2048

/-- Each row reads the row two above it. -/
def down2 (v : FVec F S272x2048 .f32) : FVec F S272x2048 .f32 := dynamicRotate 0 2#32 none v rotates_S272x2048_d0
/-- Each row reads the row two below it. -/
def up2 (v : FVec F S272x2048 .f32) : FVec F S272x2048 .f32 := dynamicRotate 0 270#32 none v rotates_S272x2048_d0

def conv (t : FVec F S272x2048 .f32) (w : Vec F S5x2048 .f32) : FVec F S272x2048 .f32 :=
  addf (addf (addf (addf (addf SC.zeros (mulf (down2 t) (tap0 w))) (mulf (SC.down t) (tap1 w))) (mulf t (tap2 w))) (mulf (SC.up t) (tap3 w)))
    (mulf (up2 t) (tap4 w))

/-- The silu as the kernel computes it. -/
def act (u : FVec F S256x2048 .f32) : FVec F S256x2048 .f32 :=
  mulf u (divf (broadcast S256x2048 (Scalar.ofBits .f32 0x3F800000#32)) (addf (broadcast S256x2048 (Scalar.ofBits .f32 0x3F800000#32))
    (exp (subf (broadcast S256x2048 (Scalar.ofBits .f32 0x00000000#32)) u))))

/-- One half of the columns of a point's block. -/
def half (t : FVec F S272x2048 .f32) (w : Vec F S5x2048 .f32) (b : Vec F S1x2048 .f32) : FVec F S256x2048 .f32 :=
  act (addf (SC.own (conv t w)) (broadcastTo S256x2048 b broadcasts_S1x2048_S256x2048))

/-- Both halves, as the point stores them. -/
def pair (l r : FVec F S256x2048 .f32) : FVec F S256x4096 .f32 :=
  View.canon (Val := Elt F) (s := S256x4096) (e := .f32) [⟨Rect.unit (s := S256x4096) ![0, 2048] S256x2048.size inb_S256x4096_S256x2048_0_2048, r⟩,
    ⟨Rect.unit (s := S256x4096) ![0, 0] S256x2048.size inb_S256x4096_S256x2048_0_0, l⟩]

end Any

theorem tap0_at (w : Vec Ideal S5x2048 .f32) (q : Fin 272) (j : Fin 2048) : tap0 w (ix2 q j) = w (ix2 0 j) := by pointwise [tap0]
theorem tap1_at (w : Vec Ideal S5x2048 .f32) (q : Fin 272) (j : Fin 2048) : tap1 w (ix2 q j) = w (ix2 1 j) := by pointwise [tap1]
theorem tap2_at (w : Vec Ideal S5x2048 .f32) (q : Fin 272) (j : Fin 2048) : tap2 w (ix2 q j) = w (ix2 2 j) := by pointwise [tap2]
theorem tap3_at (w : Vec Ideal S5x2048 .f32) (q : Fin 272) (j : Fin 2048) : tap3 w (ix2 q j) = w (ix2 3 j) := by pointwise [tap3]
theorem tap4_at (w : Vec Ideal S5x2048 .f32) (q : Fin 272) (j : Fin 2048) : tap4 w (ix2 q j) = w (ix2 4 j) := by pointwise [tap4]

theorem down2_at (v : FVec Ideal S272x2048 .f32) (q : Fin 272) (j : Fin 2048) (h : 2 ≤ q.val) : down2 v (ix2 q j) = v (ix2 ⟨q.val - 2, by omega⟩ j) := by
  pointwise [down2]
  congr 2
  apply Fin.ext
  simp only
  omega

theorem up2_at (v : FVec Ideal S272x2048 .f32) (q : Fin 272) (j : Fin 2048) (h : q.val < 270) : up2 v (ix2 q j) = v (ix2 ⟨q.val + 2, by omega⟩ j) := by
  pointwise [up2]
  congr 2
  apply Fin.ext
  simp only
  omega

theorem conv_at (t : FVec Ideal S272x2048 .f32) (w : Vec Ideal S5x2048 .f32) (q : Fin 272) (j : Fin 2048) (h : 2 ≤ q.val) (h' : q.val < 270) :
    conv t w (ix2 q j) = t (ix2 ⟨q.val - 2, by omega⟩ j) * w (ix2 0 j) + t (ix2 ⟨q.val - 1, by omega⟩ j) * w (ix2 1 j) + t (ix2 q j) * w (ix2 2 j)
      + t (ix2 ⟨q.val + 1, by omega⟩ j) * w (ix2 3 j) + t (ix2 ⟨q.val + 2, by omega⟩ j) * w (ix2 4 j) := by
  pointwise [conv, SC.zeros, tap0_at, tap1_at, tap2_at, tap3_at, tap4_at]
  rw [down2_at t q j h, SC.down_at t q j (by omega), SC.up_at t q j (by omega), up2_at t q j h']

theorem act_at (u : FVec Ideal S256x2048 .f32) (q : Fin 256) (j : Fin 2048) : act u (ix2 q j) = silu (u (ix2 q j)) := by
  unfold act silu
  pointwise
  rw [zero_sub]

variable (m : (ℓ : Loc nD τ sig) → Buf (Elt Ideal) ℓ) (c : Dev nD) (t : Fin cfg0.N)

def P : S4096x12800.Idx → EReal := m ((c.tc : Thread nD τ).loc main_arg0)
def W : S5x4096.Idx → EReal := m ((c.tc : Thread nD τ).loc main_arg1)
def B : S1x4096.Idx → EReal := m ((c.tc : Thread nD τ).loc main_arg2)

theorem ix : ∀ t : Fin cfg0.N, win0_0.index t = ![t.val * 32 - 1, 0] ∧ win0_1.index t = ![t.val, 0] ∧ win0_2.index t = ![min (t.val * 32 + 32) 511, 0] ∧ win0_3.index t = ![t.val * 32 - 1, 1] ∧ win0_4.index t = ![t.val, 1] ∧ win0_5.index t = ![min (t.val * 32 + 32) 511, 1] ∧ win0_6.index t = ![0, 0] ∧ win0_7.index t = ![0, 0] ∧ win0_8.index t = ![t.val, 0] :=
  (by decide +kernel : ∀ t : Fin grid0.N, win0_0.index t = ![t.val * 32 - 1, 0] ∧ win0_1.index t = ![t.val, 0] ∧ win0_2.index t = ![min (t.val * 32 + 32) 511, 0] ∧ win0_3.index t = ![t.val * 32 - 1, 1] ∧ win0_4.index t = ![t.val, 1] ∧ win0_5.index t = ![min (t.val * 32 + 32) 511, 1] ∧ win0_6.index t = ![0, 0] ∧ win0_7.index t = ![0, 0] ∧ win0_8.index t = ![t.val, 0])

theorem coords_eq : ∀ t : Fin cfg0.N, (grid0.coords t 0).val = t.val := (by decide +kernel : ∀ t : Fin grid0.N, (grid0.coords t 0).val = t.val)

theorem lt (t : Fin cfg0.N) : t.val < 16 := t.isLt

/-- The array's row, of row `q` of the point's tile. -/
def row (t : Fin cfg0.N) (q : Fin 256) : Fin 4096 := ⟨t.val * 256 + q.val, by have := lt t; omega⟩

theorem l_prev (q : Fin 8) (j : Fin 2048) : (X0_0 m c t : S8x2048.Idx → EReal) (ix2 q j)
    = P m c (ix2 ⟨(t.val * 32 - 1) * 8 + q.val, by have := lt t; omega⟩ ⟨0 + j.val, by omega⟩) := by
  unfold X0_0 Pipeline.Window.fill
  rw [dif_pos (moved0_0 t _)]
  blk_ext [iblk, V, (ix t).1, P]

theorem l_cur (q : Fin 256) (j : Fin 2048) : (X0_1 m c t : S256x2048.Idx → EReal) (ix2 q j)
    = P m c (ix2 ⟨t.val * 256 + q.val, by have := lt t; omega⟩ ⟨0 + j.val, by omega⟩) := by
  unfold X0_1 Pipeline.Window.fill
  rw [dif_pos (moved0_1 t _)]
  blk_ext [iblk, V, (ix t).2.1, P]

theorem l_next (q : Fin 8) (j : Fin 2048) : (X0_2 m c t : S8x2048.Idx → EReal) (ix2 q j)
    = P m c (ix2 ⟨min (t.val * 32 + 32) 511 * 8 + q.val, by have := lt t; omega⟩ ⟨0 + j.val, by omega⟩) := by
  unfold X0_2 Pipeline.Window.fill
  rw [dif_pos (moved0_2 t _)]
  blk_ext [iblk, V, (ix t).2.2.1, P]

theorem r_prev (q : Fin 8) (j : Fin 2048) : (X0_3 m c t : S8x2048.Idx → EReal) (ix2 q j)
    = P m c (ix2 ⟨(t.val * 32 - 1) * 8 + q.val, by have := lt t; omega⟩ ⟨2048 + j.val, by omega⟩) := by
  unfold X0_3 Pipeline.Window.fill
  rw [dif_pos (moved0_3 t _)]
  blk_ext [iblk, V, (ix t).2.2.2.1, P]

theorem r_cur (q : Fin 256) (j : Fin 2048) : (X0_4 m c t : S256x2048.Idx → EReal) (ix2 q j)
    = P m c (ix2 ⟨t.val * 256 + q.val, by have := lt t; omega⟩ ⟨2048 + j.val, by omega⟩) := by
  unfold X0_4 Pipeline.Window.fill
  rw [dif_pos (moved0_4 t _)]
  blk_ext [iblk, V, (ix t).2.2.2.2.1, P]

theorem r_next (q : Fin 8) (j : Fin 2048) : (X0_5 m c t : S8x2048.Idx → EReal) (ix2 q j)
    = P m c (ix2 ⟨min (t.val * 32 + 32) 511 * 8 + q.val, by have := lt t; omega⟩ ⟨2048 + j.val, by omega⟩) := by
  unfold X0_5 Pipeline.Window.fill
  rw [dif_pos (moved0_5 t _)]
  blk_ext [iblk, V, (ix t).2.2.2.2.2.1, P]

theorem w_at (k : Fin 5) (j : Fin 4096) : (iblk m c 6 t : S5x4096.Idx → EReal) (ix2 k j) = W m c (ix2 k j) := by
  blk_ext [iblk, V, (ix t).2.2.2.2.2.2.1, W]

theorem b_at (j : Fin 4096) : (iblk m c 7 t : S1x4096.Idx → EReal) (ix2 0 j) = B m c (ix2 0 j) := by
  blk_ext [iblk, V, (ix t).2.2.2.2.2.2.2.1, B]

theorem emb8 (y : (win0_8.xblock (grid0.coords t)).Idx) (p : Fin 256) (q : Fin 4096) (hp : (y 0).val = p.val) (hq : (y 1).val = q.val) :
    (win0_8.blk t).view.emb y = (ix2 (row t p) q : S4096x4096.Idx) := by
  unfold row; blk_ext [(ix t).2.2.2.2.2.2.2.2]

/-- One half of the columns of a weight. -/
def w0 (x : Vec Ideal S5x4096 .f32) : Vec Ideal S5x2048 .f32 :=
  View.ld x (Rect.unit ![0, 0] ![5, 2048] inb_S5x4096_S5x2048_0_0)

theorem w0_at (x : Vec Ideal S5x4096 .f32) (k : Fin 5) (j : Fin 2048) : w0 x (ix2 k j) = x (ix2 k ⟨0 + j.val, by omega⟩) := by
  refine congrArg x (funext fun a => Fin.ext ?_)
  match a with
  | ⟨0, _⟩ => show 0 + 1 * k.val = k.val; omega
  | ⟨1, _⟩ => show 0 + 1 * j.val = 0 + j.val; omega

def w1 (x : Vec Ideal S5x4096 .f32) : Vec Ideal S5x2048 .f32 :=
  View.ld x (Rect.unit ![0, 2048] ![5, 2048] inb_S5x4096_S5x2048_0_2048)

theorem w1_at (x : Vec Ideal S5x4096 .f32) (k : Fin 5) (j : Fin 2048) : w1 x (ix2 k j) = x (ix2 k ⟨2048 + j.val, by omega⟩) := by
  refine congrArg x (funext fun a => Fin.ext ?_)
  match a with
  | ⟨0, _⟩ => show 0 + 1 * k.val = k.val; omega
  | ⟨1, _⟩ => show 2048 + 1 * j.val = 2048 + j.val; omega

def b0 (x : Vec Ideal S1x4096 .f32) : Vec Ideal S1x2048 .f32 :=
  View.ld x (Rect.unit ![0, 0] ![1, 2048] inb_S1x4096_S1x2048_0_0)

theorem b0_at (x : Vec Ideal S1x4096 .f32) (k : Fin 1) (j : Fin 2048) : b0 x (ix2 k j) = x (ix2 k ⟨0 + j.val, by omega⟩) := by
  refine congrArg x (funext fun a => Fin.ext ?_)
  match a with
  | ⟨0, _⟩ => show 0 + 1 * k.val = k.val; omega
  | ⟨1, _⟩ => show 0 + 1 * j.val = 0 + j.val; omega

def b1 (x : Vec Ideal S1x4096 .f32) : Vec Ideal S1x2048 .f32 :=
  View.ld x (Rect.unit ![0, 2048] ![1, 2048] inb_S1x4096_S1x2048_0_2048)

theorem b1_at (x : Vec Ideal S1x4096 .f32) (k : Fin 1) (j : Fin 2048) : b1 x (ix2 k j) = x (ix2 k ⟨2048 + j.val, by omega⟩) := by
  refine congrArg x (funext fun a => Fin.ext ?_)
  match a with
  | ⟨0, _⟩ => show 0 + 1 * k.val = k.val; omega
  | ⟨1, _⟩ => show 2048 + 1 * j.val = 2048 + j.val; omega

/-- One half, at an index, from the half's reads. -/
theorem half_at (o : ℕ) (ho : o + 2048 ≤ 4096) (x : FVec Ideal S272x2048 .f32) (w : Vec Ideal S5x2048 .f32) (b : Vec Ideal S1x2048 .f32)
    (hx : ∀ (q : Fin 272) (j : Fin 2048), x (ix2 q j) = cell (P m c) (256 * (t.val : ℤ) - 8 + q.val) ⟨o + j.val, by omega⟩)
    (hw : ∀ (k : Fin 5) (j : Fin 2048), w (ix2 k j) = W m c (ix2 k ⟨o + j.val, by omega⟩))
    (hb : ∀ j : Fin 2048, b (ix2 0 j) = B m c (ix2 0 ⟨o + j.val, by omega⟩)) (q : Fin 256) (j : Fin 2048) :
    half x w b (ix2 q j) = out (P m c) (W m c) (B m c) (row t q).val ⟨o + j.val, by omega⟩ := by
  have e0 : 256 * (t.val : ℤ) - 8 + ((q.val + 8 : ℕ) : ℤ) = ((row t q).val : ℤ) := by
    show _ = ((t.val * 256 + q.val : ℕ) : ℤ)
    push_cast; ring
  have e1 : 256 * (t.val : ℤ) - 8 + ((q.val + 8 - 1 : ℕ) : ℤ) = ((row t q).val : ℤ) - 1 := by rw [← e0]; omega
  have e2 : 256 * (t.val : ℤ) - 8 + ((q.val + 8 - 2 : ℕ) : ℤ) = ((row t q).val : ℤ) - 2 := by rw [← e0]; omega
  have e3 : 256 * (t.val : ℤ) - 8 + ((q.val + 8 + 1 : ℕ) : ℤ) = ((row t q).val : ℤ) + 1 := by rw [← e0]; omega
  have e4 : 256 * (t.val : ℤ) - 8 + ((q.val + 8 + 2 : ℕ) : ℤ) = ((row t q).val : ℤ) + 2 := by rw [← e0]; omega
  have eb : (broadcastTo S256x2048 b broadcasts_S1x2048_S256x2048 : FVec Ideal S256x2048 .f32) (ix2 q j) = b (ix2 0 j) := by pointwise
  have ec : SC.own (conv x w) (ix2 q j) = _ :=
    (SC.own_at _ q j).trans (conv_at x w _ j (by show 2 ≤ q.val + 8; omega) (by show q.val + 8 < 270; omega))
  unfold half out
  rw [act_at]
  refine congrArg silu ((congrArg₂ (fun a b : EReal => a + b) ec eb).trans ?_)
  simp only [hx, hw, hb, e0, e1, e2, e3, e4]

/-- The rows of a point's tile and its halo, of one half of the columns. -/
def left : FVec Ideal S272x2048 .f32 := SC.ext (BitVec.ofNat 32 (grid0.coords t 0).val) (X0_0 m c t) (X0_1 m c t) (X0_2 m c t)
def right : FVec Ideal S272x2048 .f32 := SC.ext (BitVec.ofNat 32 (grid0.coords t 0).val) (X0_3 m c t) (X0_4 m c t) (X0_5 m c t)

theorem left_at (q : Fin 272) (j : Fin 2048) : left m c t (ix2 q j) = cell (P m c) (256 * (t.val : ℤ) - 8 + q.val) ⟨0 + j.val, by omega⟩ := by
  unfold left
  rw [coords_eq t]
  exact SC.ext_rowed ⟨t.val, lt t⟩ (P m c) 0 (by omega) _ _ _ (l_prev m c t) (l_cur m c t) (l_next m c t) q j

theorem right_at (q : Fin 272) (j : Fin 2048) : right m c t (ix2 q j) = cell (P m c) (256 * (t.val : ℤ) - 8 + q.val) ⟨2048 + j.val, by omega⟩ := by
  unfold right
  rw [coords_eq t]
  exact SC.ext_rowed ⟨t.val, lt t⟩ (P m c) 2048 (by omega) _ _ _ (r_prev m c t) (r_cur m c t) (r_next m c t) q j

set_option maxHeartbeats 1600000 in
theorem point : outsAt0 m c t = (pair (half (left m c t) (w0 (iblk m c 6 t)) (b0 (iblk m c 7 t))) (half (right m c t) (w1 (iblk m c 6 t)) (b1 (iblk m c 7 t))) : Vec Ideal S256x4096 .f32) := by
  unfold outsAt0 out0_A_8
  frame_out
  rfl

/-- The result. -/
def res : S4096x4096.Idx → EReal := fun i => out (P m c) (W m c) (B m c) (i 0).val (i 1)

theorem block_at (q : Fin 256) (k : Fin 4096) : (outsAt0 m c t : S256x4096.Idx → EReal) (ix2 q k) = res m c (ix2 (row t q) k) := by
  have hl := half_at m c t 0 (by omega) (left m c t) (w0 (iblk m c 6 t)) (b0 (iblk m c 7 t)) (left_at m c t)
    (fun k j => (w0_at _ k j).trans (w_at m c t k _)) (fun j => (b0_at _ 0 j).trans (b_at m c t _))
  have hr := half_at m c t 2048 (by omega) (right m c t) (w1 (iblk m c 6 t)) (b1 (iblk m c 7 t)) (right_at m c t)
    (fun k j => (w1_at _ k j).trans (w_at m c t k _)) (fun j => (b1_at _ 0 j).trans (b_at m c t _))
  rw [point]
  generalize half (left m c t) (w0 (iblk m c 6 t)) (b0 (iblk m c 7 t)) = l at hl
  generalize half (right m c t) (w1 (iblk m c 6 t)) (b1 (iblk m c 7 t)) = r at hr
  unfold pair
  canon_tiles x h
  · have hk : (⟨2048 + (x 1).val, by have := (x 1).isLt; simp only [S256x2048, Matrix.cons_val_one, Matrix.cons_val_zero] at this; omega⟩ : Fin 4096) = k := Fin.ext h1.symm
    have hq : (x 0 : Fin 256) = q := Fin.ext h0.symm
    exact (congrArg r (eq_ix2 x)).trans ((hr (x 0) (x 1)).trans (congrArg₂ (fun (q : Fin 256) k => out (P m c) (W m c) (B m c) (row t q).val k) hq hk))
  · have hk : (⟨0 + (x 1).val, by have := (x 1).isLt; simp only [S256x2048, Matrix.cons_val_one, Matrix.cons_val_zero] at this; omega⟩ : Fin 4096) = k := Fin.ext ((Nat.zero_add _).trans h1.symm)
    have hq : (x 0 : Fin 256) = q := Fin.ext h0.symm
    exact (congrArg l (eq_ix2 x)).trans ((hl (x 0) (x 1)).trans (congrArg₂ (fun (q : Fin 256) k => out (P m c) (W m c) (B m c) (row t q).val k) hq hk))

theorem arr8 : (dats m 0 c).arrAt 8 cfg0.N = res m c := by
  refine (dats m 0 c).arrAt_eq_of_covers 8 (res m c) (by decide +kernel) fun t hf y => ?_
  blk_simp
  rw [after0_8]
  rw [emb8 t y ((cfg0.win 8).xinj (cfg0.grid.coords t) y 0) ((cfg0.win 8).xinj (cfg0.grid.coords t) y 1) rfl rfl]
  exact (congrArg (outsAt0 m c t) (eq_ix2 _)).trans (block_at m c t _ _)

end Kernel

section Reference
open Cert.Reference19Ideal Cert.Reference19Ideal.Gen

section Any
variable {F : FTy → Type} [FloatOps F] (p : (⟨S4096x12800, .f32⟩ : BufTy).Contents (Elt F)) (w : (⟨S5x4096, .f32⟩ : BufTy).Contents (Elt F))
  (b : (⟨S1x4096, .f32⟩ : BufTy).Contents (Elt F)) (u : (⟨S4096x4096, .f32⟩ : BufTy).Contents (Elt F))

def rpadded : (⟨S4100x4096, .f32⟩ : BufTy).Contents (Elt F) := (concatenate S4100x4096 0 [⟨S2x4096, ((broadcastInDim S2x4096 ![] bcast_S_S2x4096 (constant S_ .f32 0x00000000#32)) : (⟨S2x4096, .f32⟩ : BufTy).Contents (Elt F))⟩, ⟨S4096x4096, ((extractStridedSlice S4096x4096 ![0, 0] p slices_S4096x12800_S4096x4096_0_0) : (⟨S4096x4096, .f32⟩ : BufTy).Contents (Elt F))⟩, ⟨S2x4096, ((broadcastInDim S2x4096 ![] bcast_S_S2x4096 (constant S_ .f32 0x00000000#32)) : (⟨S2x4096, .f32⟩ : BufTy).Contents (Elt F))⟩] concatenates_S2x4096_S4096x4096_S2x4096_S4100x4096_d0 : (⟨S4100x4096, .f32⟩ : BufTy).Contents (Elt F))
def racc : (⟨S4096x4096, .f32⟩ : BufTy).Contents (Elt F) := addf (addf (addf (addf (addf (mulf (extractStridedSlice S4096x4096 ![0, 0] (rpadded p) slices_S4100x4096_S4096x4096_0_0) (broadcastInDim S4096x4096 ![0, 1] bcast_S1x4096_S4096x4096_0_1 (broadcastInDim S1x4096 ![1] bcast_S4096_S1x4096_1 (shapeCast _ (extractStridedSlice S1x4096 ![0, 0] w slices_S5x4096_S1x4096_0_0) shapeCasts_S1x4096_S4096)))) (mulf (extractStridedSlice S4096x4096 ![1, 0] (rpadded p) slices_S4100x4096_S4096x4096_1_0) (broadcastInDim S4096x4096 ![0, 1] bcast_S1x4096_S4096x4096_0_1 (broadcastInDim S1x4096 ![1] bcast_S4096_S1x4096_1 (shapeCast _ (extractStridedSlice S1x4096 ![1, 0] w slices_S5x4096_S1x4096_1_0) shapeCasts_S1x4096_S4096))))) (mulf (extractStridedSlice S4096x4096 ![2, 0] (rpadded p) slices_S4100x4096_S4096x4096_2_0) (broadcastInDim S4096x4096 ![0, 1] bcast_S1x4096_S4096x4096_0_1 (broadcastInDim S1x4096 ![1] bcast_S4096_S1x4096_1 (shapeCast _ (extractStridedSlice S1x4096 ![2, 0] w slices_S5x4096_S1x4096_2_0) shapeCasts_S1x4096_S4096))))) (mulf (extractStridedSlice S4096x4096 ![3, 0] (rpadded p) slices_S4100x4096_S4096x4096_3_0) (broadcastInDim S4096x4096 ![0, 1] bcast_S1x4096_S4096x4096_0_1 (broadcastInDim S1x4096 ![1] bcast_S4096_S1x4096_1 (shapeCast _ (extractStridedSlice S1x4096 ![3, 0] w slices_S5x4096_S1x4096_3_0) shapeCasts_S1x4096_S4096))))) (mulf (extractStridedSlice S4096x4096 ![4, 0] (rpadded p) slices_S4100x4096_S4096x4096_4_0) (broadcastInDim S4096x4096 ![0, 1] bcast_S1x4096_S4096x4096_0_1 (broadcastInDim S1x4096 ![1] bcast_S4096_S1x4096_1 (shapeCast _ (extractStridedSlice S1x4096 ![4, 0] w slices_S5x4096_S1x4096_4_0) shapeCasts_S1x4096_S4096))))) (broadcastInDim S4096x4096 ![0, 1] bcast_S1x4096_S4096x4096_0_1 b)
def rsilu : (⟨S4096x4096, .f32⟩ : BufTy).Contents (Elt F) := mulf u (Host.divf (broadcastInDim S4096x4096 ![] bcast_S_S4096x4096 (constant S_ .f32 0x3F800000#32)) (addf (broadcastInDim S4096x4096 ![] bcast_S_S4096x4096 (constant S_ .f32 0x3F800000#32)) (Host.exp (Host.negf u))))
def rout : (⟨S4096x4096, .f32⟩ : BufTy).Contents (Elt F) := rsilu (racc p w b)

end Any

variable (p : (⟨S4096x12800, .f32⟩ : BufTy).Contents (Elt Ideal)) (w : (⟨S5x4096, .f32⟩ : BufTy).Contents (Elt Ideal))
  (b : (⟨S1x4096, .f32⟩ : BufTy).Contents (Elt Ideal)) (u : (⟨S4096x4096, .f32⟩ : BufTy).Contents (Elt Ideal))
  (r : Fin 4096) (j : Fin 4096)

theorem rpadded_at (q : Fin 4100) : (rpadded p : S4100x4096.Idx → EReal) (ix2 q j) = cell (p : S4096x12800.Idx → EReal) (q.val - 2) j := by
  unfold rpadded
  clean_types; pointwise
  by_cases h0 : q.val < 2
  · rw [dif_pos h0, cell_out _ _ _ (by omega)]
  · rw [dif_neg h0]
    by_cases h1 : q.val - 2 < 4096
    · rw [dif_pos h1]
      have e : ((q.val : ℤ) - 2) = ((⟨q.val - 2, h1⟩ : Fin 4096).val : ℤ) := by simp only; omega
      rw [e, cell_in]
    · rw [dif_neg h1, cell_out _ _ _ (by omega)]

theorem rsilu_at : (rsilu u : S4096x4096.Idx → EReal) (ix2 r j) = silu ((u : S4096x4096.Idx → EReal) (ix2 r j)) := by
  unfold rsilu silu
  clean_types; pointwise

theorem rout_at : (rout p w b : S4096x4096.Idx → EReal) (ix2 r j) = out p w b r.val j := by
  have e1 : ((1 + r.val : ℕ) : ℤ) - 2 = r.val - 1 := by push_cast; ring
  have e2 : ((2 + r.val : ℕ) : ℤ) - 2 = r.val := by push_cast; ring
  have e3 : ((3 + r.val : ℕ) : ℤ) - 2 = r.val + 1 := by push_cast; ring
  have e4 : ((4 + r.val : ℕ) : ℤ) - 2 = r.val + 2 := by push_cast; ring
  unfold rout out
  rw [rsilu_at]
  refine congrArg silu ?_
  unfold racc
  clean_types; pointwise [rpadded_at]
  rw [e1, e2, e3, e4]

end Reference

theorem agree : Cert.algebraic_Kernel19Ideal_Reference19Ideal := by
  intro m ρ m' ρ' _ hag
  refine ⟨fun c => res m c, ?_, ?_⟩
  · refine (θ_run _ _ _).mono (fun _ h c => ?_) (Cert.Kernel19Ideal.Value.run_blocks m ρ)
    exact ⟨(h c).1.trans (arr8 m c), (h c).2⟩
  · refine (θ_run _ _ _).mono (fun _ h c => ?_) (Cert.Reference19Ideal.Value.run m' ρ')
    obtain ⟨ep, ew, en⟩ := hag c
    refine ⟨(h c).1.trans (funext fun i => (congrArg (rout _ _ _) (eq_ix2 i)).trans ((rout_at _ _ _ _ _).trans ?_)), (h c).2⟩
    rw [ep, ew, en]; rfl

theorem frame_ref : Cert.quiescent_Reference19Ideal := fun m ρ _ =>
  (θ_run _ _ _).mono (fun r h => ⟨fun c => (h c).2, sem_eq_zero_of_no_sems rfl r.2⟩) (Cert.Reference19Ideal.Value.run m ρ)

end Cert.Conv
-- ==== Proof.Update.lean ====
module

public import Idealize.ShloMosaic.Lib.Pointwise

/-! The optimiser's step of one entry: the two running means, and the entry's change. -/

@[expose] public section

noncomputable section

namespace Cert.Update

open Idealize.ShloMosaic

/-- The new running mean of the gradient. -/
def mean (g m : EReal) : EReal := Ideal.ofBits FTy.f32 0x3F666666#32 * m + Ideal.ofBits FTy.f32 0x3DCCCCCD#32 * g

/-- The new running mean of the gradient's square. -/
def square (g v : EReal) : EReal := Ideal.ofBits FTy.f32 0x3F7FBE77#32 * v + Ideal.ofBits FTy.f32 0x3A83126F#32 * (g * g)

/-- The change. -/
def change (w g m v : EReal) : EReal := Ideal.ofBits FTy.f32 0xBA83126F#32
  * (Ideal.div (Ideal.div (mean g m) (Ideal.ofBits FTy.f32 0x3F26BD02#32))
      (Ideal.sqrt (Ideal.div (square g v) (Ideal.ofBits FTy.f32 0x3C231ACC#32)) + Ideal.ofBits FTy.f32 0x322BCC77#32)
    + Ideal.ofBits FTy.f32 0x3C23D70A#32 * w)

end Cert.Update

end
-- ==== Proof.AdamIn.lean ====
module

public import proofs.«01_k».proof.Defs
public import proofs.«01_k».proof.Proof.Gen.Kernel20Ideal.Value
public import proofs.«01_k».proof.Proof.Gen.Reference20Ideal.Run
public import proofs.«01_k».proof.Proof.Update
public import Idealize.ShloMosaic.Lib.Pipeline.ValueKit
public import Idealize.ShloMosaic.Lib.Pointwise
public import Idealize.ShloMosaic.Lib.Tactic.CleanTypes

/-! The optimiser's step of the first projection's weight. -/

@[expose] public section

set_option maxRecDepth 16384

noncomputable section

namespace Cert.AdamIn

open Idealize.ShloMosaic Idealize.ShloMosaic.TcCoe Idealize.ShloMosaic.StableHlo Idealize.SL.Sem Cert.Update

section Kernel
open Cert.Kernel20Ideal Cert.Kernel20Ideal.Gen

variable (m : (ℓ : Loc nD τ sig) → Buf (Elt Ideal) ℓ) (c : Dev nD)

def W : S4096x3088.Idx → EReal := m ((c.tc : Thread nD τ).loc main_arg0)
def G : S4096x3088.Idx → EReal := m ((c.tc : Thread nD τ).loc main_arg1)
def M : S4096x3088.Idx → EReal := m ((c.tc : Thread nD τ).loc main_arg2)
def V2 : S4096x3088.Idx → EReal := m ((c.tc : Thread nD τ).loc main_arg3)

/-! The payloads at an index. -/

variable (w g a b : Vec Ideal S64x3088 .f32) (p : Fin 64) (q : Fin 3088)

theorem copy_at : (out0_4 w g a b : S64x3088.Idx → EReal) (ix2 p q) = (g : S64x3088.Idx → EReal) (ix2 p q) := by
  unfold out0_4
  frame_out

theorem mean_at : (k0_pay1 g a : S64x3088.Idx → EReal) (ix2 p q)
    = mean ((g : S64x3088.Idx → EReal) (ix2 p q)) ((a : S64x3088.Idx → EReal) (ix2 p q)) := by
  unfold k0_pay1 mean
  clean_types; pointwise

theorem square_at : (k0_pay2 g b : S64x3088.Idx → EReal) (ix2 p q)
    = square ((g : S64x3088.Idx → EReal) (ix2 p q)) ((b : S64x3088.Idx → EReal) (ix2 p q)) := by
  unfold k0_pay2 square
  clean_types; pointwise

theorem change_at : (k0_pay3 g w a b : S64x3088.Idx → EReal) (ix2 p q)
    = change ((w : S64x3088.Idx → EReal) (ix2 p q)) ((g : S64x3088.Idx → EReal) (ix2 p q)) ((a : S64x3088.Idx → EReal) (ix2 p q)) ((b : S64x3088.Idx → EReal) (ix2 p q)) := by
  unfold k0_pay3 change
  clean_types; pointwise [mean_at, square_at]

/-! The blocks. -/

theorem ix : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0])

theorem lt (t : Fin cfg0.N) : t.val < 64 := lt_of_lt_of_eq t.isLt (show cfg0.N = 64 from N_0)

/-- The array's row, of row `p` of the point's tile. -/
def row (t : Fin cfg0.N) (p : Fin 64) : Fin 4096 := ⟨t.val * 64 + p.val, by have := lt t; omega⟩

theorem w_at (t : Fin cfg0.N) (p : Fin 64) (q : Fin 3088) : (iblk m c 0 t : S64x3088.Idx → EReal) (ix2 p q) = W m c (ix2 (row t p) q) := by
  unfold row; blk_ext [iblk, V, (ix t).1, W]

theorem g_at (t : Fin cfg0.N) (p : Fin 64) (q : Fin 3088) : (iblk m c 1 t : S64x3088.Idx → EReal) (ix2 p q) = G m c (ix2 (row t p) q) := by
  unfold row; blk_ext [iblk, V, (ix t).2.1, G]

theorem a_at (t : Fin cfg0.N) (p : Fin 64) (q : Fin 3088) : (iblk m c 2 t : S64x3088.Idx → EReal) (ix2 p q) = M m c (ix2 (row t p) q) := by
  unfold row; blk_ext [iblk, V, (ix t).2.2.1, M]

theorem b_at (t : Fin cfg0.N) (p : Fin 64) (q : Fin 3088) : (iblk m c 3 t : S64x3088.Idx → EReal) (ix2 p q) = V2 m c (ix2 (row t p) q) := by
  unfold row; blk_ext [iblk, V, (ix t).2.2.2.1, V2]

theorem emb4 (t : Fin cfg0.N) (y : (win0_4.xblock (grid0.coords t)).Idx) (p : Fin 64) (q : Fin 3088) (hp : (y 0).val = p.val) (hq : (y 1).val = q.val) :
    (win0_4.blk t).view.emb y = (ix2 (row t p) q : S4096x3088.Idx) := by
  unfold row; blk_ext [(ix t).2.2.2.2.1]

theorem emb5 (t : Fin cfg0.N) (y : (win0_5.xblock (grid0.coords t)).Idx) (p : Fin 64) (q : Fin 3088) (hp : (y 0).val = p.val) (hq : (y 1).val = q.val) :
    (win0_5.blk t).view.emb y = (ix2 (row t p) q : S4096x3088.Idx) := by
  unfold row; blk_ext [(ix t).2.2.2.2.2.1]

theorem emb6 (t : Fin cfg0.N) (y : (win0_6.xblock (grid0.coords t)).Idx) (p : Fin 64) (q : Fin 3088) (hp : (y 0).val = p.val) (hq : (y 1).val = q.val) :
    (win0_6.blk t).view.emb y = (ix2 (row t p) q : S4096x3088.Idx) := by
  unfold row; blk_ext [(ix t).2.2.2.2.2.2.1]

theorem emb7 (t : Fin cfg0.N) (y : (win0_7.xblock (grid0.coords t)).Idx) (p : Fin 64) (q : Fin 3088) (hp : (y 0).val = p.val) (hq : (y 1).val = q.val) :
    (win0_7.blk t).view.emb y = (ix2 (row t p) q : S4096x3088.Idx) := by
  unfold row; blk_ext [(ix t).2.2.2.2.2.2.2]

/-! The arrays after the run. -/

theorem block4_at (t : Fin cfg0.N) (p : Fin 64) (q : Fin 3088) :
    (out0_4 (iblk m c 0 t) (iblk m c 1 t) (iblk m c 2 t) (iblk m c 3 t) : S64x3088.Idx → EReal) (ix2 p q) = (G m c : S4096x3088.Idx → EReal) (ix2 (row t p) q) := by
  rw [copy_at, g_at]

theorem arr4 : (dats m 0 c).arrAt 4 cfg0.N = G m c := by
  refine (dats m 0 c).arrAt_eq_of_covers 4 (G m c) (by decide +kernel) fun t hf y => ?_
  blk_simp
  rw [after0_4]
  rw [emb4 t y ((cfg0.win 4).xinj (cfg0.grid.coords t) y 0) ((cfg0.win 4).xinj (cfg0.grid.coords t) y 1) rfl rfl]
  exact (congrArg (out0_4 (iblk m c 0 t) (iblk m c 1 t) (iblk m c 2 t) (iblk m c 3 t)) (eq_ix2 _)).trans (block4_at m c t _ _)

theorem block5_at (t : Fin cfg0.N) (p : Fin 64) (q : Fin 3088) :
    (out0_5 (iblk m c 0 t) (iblk m c 1 t) (iblk m c 2 t) (iblk m c 3 t) : S64x3088.Idx → EReal) (ix2 p q) = (fun i => change (W m c i) (G m c i) (M m c i) (V2 m c i) : S4096x3088.Idx → EReal) (ix2 (row t p) q) := by
  unfold out0_5
  frame_out
  rw [change_at, w_at, g_at, a_at, b_at]

theorem arr5 : (dats m 0 c).arrAt 5 cfg0.N = fun i => change (W m c i) (G m c i) (M m c i) (V2 m c i) := by
  refine (dats m 0 c).arrAt_eq_of_covers 5 (fun i => change (W m c i) (G m c i) (M m c i) (V2 m c i)) (by decide +kernel) fun t hf y => ?_
  blk_simp
  rw [after0_5]
  rw [emb5 t y ((cfg0.win 5).xinj (cfg0.grid.coords t) y 0) ((cfg0.win 5).xinj (cfg0.grid.coords t) y 1) rfl rfl]
  exact (congrArg (out0_5 (iblk m c 0 t) (iblk m c 1 t) (iblk m c 2 t) (iblk m c 3 t)) (eq_ix2 _)).trans (block5_at m c t _ _)

theorem block6_at (t : Fin cfg0.N) (p : Fin 64) (q : Fin 3088) :
    (out0_6 (iblk m c 0 t) (iblk m c 1 t) (iblk m c 2 t) (iblk m c 3 t) : S64x3088.Idx → EReal) (ix2 p q) = (fun i => mean (G m c i) (M m c i) : S4096x3088.Idx → EReal) (ix2 (row t p) q) := by
  unfold out0_6
  frame_out
  rw [mean_at, g_at, a_at]

theorem arr6 : (dats m 0 c).arrAt 6 cfg0.N = fun i => mean (G m c i) (M m c i) := by
  refine (dats m 0 c).arrAt_eq_of_covers 6 (fun i => mean (G m c i) (M m c i)) (by decide +kernel) fun t hf y => ?_
  blk_simp
  rw [after0_6]
  rw [emb6 t y ((cfg0.win 6).xinj (cfg0.grid.coords t) y 0) ((cfg0.win 6).xinj (cfg0.grid.coords t) y 1) rfl rfl]
  exact (congrArg (out0_6 (iblk m c 0 t) (iblk m c 1 t) (iblk m c 2 t) (iblk m c 3 t)) (eq_ix2 _)).trans (block6_at m c t _ _)

theorem block7_at (t : Fin cfg0.N) (p : Fin 64) (q : Fin 3088) :
    (out0_7 (iblk m c 0 t) (iblk m c 1 t) (iblk m c 2 t) (iblk m c 3 t) : S64x3088.Idx → EReal) (ix2 p q) = (fun i => square (G m c i) (V2 m c i) : S4096x3088.Idx → EReal) (ix2 (row t p) q) := by
  unfold out0_7
  frame_out
  rw [square_at, g_at, b_at]

theorem arr7 : (dats m 0 c).arrAt 7 cfg0.N = fun i => square (G m c i) (V2 m c i) := by
  refine (dats m 0 c).arrAt_eq_of_covers 7 (fun i => square (G m c i) (V2 m c i)) (by decide +kernel) fun t hf y => ?_
  blk_simp
  rw [after0_7]
  rw [emb7 t y ((cfg0.win 7).xinj (cfg0.grid.coords t) y 0) ((cfg0.win 7).xinj (cfg0.grid.coords t) y 1) rfl rfl]
  exact (congrArg (out0_7 (iblk m c 0 t) (iblk m c 1 t) (iblk m c 2 t) (iblk m c 3 t)) (eq_ix2 _)).trans (block7_at m c t _ _)

end Kernel

section Reference
open Cert.Reference20Ideal Cert.Reference20Ideal.Gen

section Any
variable {F : FTy → Type} [FloatOps F] (w g a b : (⟨S4096x3088, .f32⟩ : BufTy).Contents (Elt F))

def rmean : (⟨S4096x3088, .f32⟩ : BufTy).Contents (Elt F) := addf (mulf (broadcastInDim S4096x3088 ![] bcast_S_S4096x3088 (constant S_ .f32 0x3F666666#32)) a) (mulf (broadcastInDim S4096x3088 ![] bcast_S_S4096x3088 (constant S_ .f32 0x3DCCCCCD#32)) g)
def rsquare : (⟨S4096x3088, .f32⟩ : BufTy).Contents (Elt F) := addf (mulf (broadcastInDim S4096x3088 ![] bcast_S_S4096x3088 (constant S_ .f32 0x3F7FBE77#32)) b) (mulf (broadcastInDim S4096x3088 ![] bcast_S_S4096x3088 (constant S_ .f32 0x3A83126F#32)) (mulf g g))
def rchange : (⟨S4096x3088, .f32⟩ : BufTy).Contents (Elt F) := mulf (broadcastInDim S4096x3088 ![] bcast_S_S4096x3088 (constant S_ .f32 0xBA83126F#32)) (addf (Host.divf (Host.divf (rmean g a) (broadcastInDim S4096x3088 ![] bcast_S_S4096x3088 (constant S_ .f32 0x3F26BD02#32))) (addf (Host.sqrt (Host.divf (rsquare g b) (broadcastInDim S4096x3088 ![] bcast_S_S4096x3088 (constant S_ .f32 0x3C231ACC#32)))) (broadcastInDim S4096x3088 ![] bcast_S_S4096x3088 (constant S_ .f32 0x322BCC77#32)))) (mulf (broadcastInDim S4096x3088 ![] bcast_S_S4096x3088 (constant S_ .f32 0x3C23D70A#32)) w))

end Any

variable (w g a b : (⟨S4096x3088, .f32⟩ : BufTy).Contents (Elt Ideal))

theorem rmean_eq : rmean g a = fun i => mean (g i) (a i) := by
  funext i
  unfold rmean mean
  clean_types; pointwise

theorem rsquare_eq : rsquare g b = fun i => square (g i) (b i) := by
  funext i
  unfold rsquare square
  clean_types; pointwise

theorem rchange_eq : rchange w g a b = fun i => change (w i) (g i) (a i) (b i) := by
  funext i
  unfold rchange change
  rw [rmean_eq, rsquare_eq]
  clean_types; pointwise

end Reference

theorem agree : Cert.algebraic_Kernel20Ideal_Reference20Ideal := by
  intro m ρ m' ρ' _ hag
  refine ⟨fun c => G m c, fun c i => change (W m c i) (G m c i) (M m c i) (V2 m c i), fun c i => mean (G m c i) (M m c i), fun c i => square (G m c i) (V2 m c i), ?_, ?_⟩
  · refine (θ_run _ _ _).mono (fun _ h c => ?_) (Cert.Kernel20Ideal.Value.run_blocks m ρ)
    exact ⟨(h c).1.trans (arr4 m c), (h c).2.1.trans (arr5 m c), (h c).2.2.1.trans (arr6 m c), (h c).2.2.2.1.trans (arr7 m c), (h c).2.2.2.2⟩
  · refine (θ_run _ _ _).mono (fun _ h c => ?_) (Cert.Reference20Ideal.Value.run m' ρ')
    obtain ⟨ew, eg, ea, eb⟩ := hag c
    refine ⟨(h c).1.trans eg, (h c).2.1.trans ((rchange_eq _ _ _ _).trans ?_), (h c).2.2.1.trans ((rmean_eq _ _).trans ?_), (h c).2.2.2.1.trans ((rsquare_eq _ _).trans ?_), (h c).2.2.2.2⟩
    · rw [ew, eg, ea, eb]; rfl
    · rw [eg, ea]; rfl
    · rw [eg, eb]; rfl

theorem frame_ref : Cert.quiescent_Reference20Ideal := fun m ρ _ =>
  (θ_run _ _ _).mono (fun r h => ⟨fun c => (h c).2.2.2.2, sem_eq_zero_of_no_sems rfl r.2⟩) (Cert.Reference20Ideal.Value.run m ρ)

end Cert.AdamIn
-- ==== Proof.AdamOut.lean ====
module

public import proofs.«01_k».proof.Defs
public import proofs.«01_k».proof.Proof.Gen.Kernel21Ideal.Value
public import proofs.«01_k».proof.Proof.Gen.Reference21Ideal.Run
public import proofs.«01_k».proof.Proof.Update
public import Idealize.ShloMosaic.Lib.Pipeline.ValueKit
public import Idealize.ShloMosaic.Lib.Pointwise
public import Idealize.ShloMosaic.Lib.Tactic.CleanTypes

/-! The optimiser's step of the last projection's weight. -/

@[expose] public section

set_option maxRecDepth 16384

noncomputable section

namespace Cert.AdamOut

open Idealize.ShloMosaic Idealize.ShloMosaic.TcCoe Idealize.ShloMosaic.StableHlo Idealize.SL.Sem Cert.Update

section Kernel
open Cert.Kernel21Ideal Cert.Kernel21Ideal.Gen

variable (m : (ℓ : Loc nD τ sig) → Buf (Elt Ideal) ℓ) (c : Dev nD)

def W : S1024x4096.Idx → EReal := m ((c.tc : Thread nD τ).loc main_arg0)
def G : S1024x4096.Idx → EReal := m ((c.tc : Thread nD τ).loc main_arg1)
def M : S1024x4096.Idx → EReal := m ((c.tc : Thread nD τ).loc main_arg2)
def V2 : S1024x4096.Idx → EReal := m ((c.tc : Thread nD τ).loc main_arg3)

/-! The payloads at an index. -/

variable (w g a b : Vec Ideal S64x4096 .f32) (p : Fin 64) (q : Fin 4096)

theorem copy_at : (out0_4 w g a b : S64x4096.Idx → EReal) (ix2 p q) = (g : S64x4096.Idx → EReal) (ix2 p q) := by
  unfold out0_4
  frame_out

theorem mean_at : (k0_pay1 g a : S64x4096.Idx → EReal) (ix2 p q)
    = mean ((g : S64x4096.Idx → EReal) (ix2 p q)) ((a : S64x4096.Idx → EReal) (ix2 p q)) := by
  unfold k0_pay1 mean
  clean_types; pointwise

theorem square_at : (k0_pay2 g b : S64x4096.Idx → EReal) (ix2 p q)
    = square ((g : S64x4096.Idx → EReal) (ix2 p q)) ((b : S64x4096.Idx → EReal) (ix2 p q)) := by
  unfold k0_pay2 square
  clean_types; pointwise

theorem change_at : (k0_pay3 g w a b : S64x4096.Idx → EReal) (ix2 p q)
    = change ((w : S64x4096.Idx → EReal) (ix2 p q)) ((g : S64x4096.Idx → EReal) (ix2 p q)) ((a : S64x4096.Idx → EReal) (ix2 p q)) ((b : S64x4096.Idx → EReal) (ix2 p q)) := by
  unfold k0_pay3 change
  clean_types; pointwise [mean_at, square_at]

/-! The blocks. -/

theorem ix : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0])

theorem lt (t : Fin cfg0.N) : t.val < 16 := lt_of_lt_of_eq t.isLt (show cfg0.N = 16 from N_0)

/-- The array's row, of row `p` of the point's tile. -/
def row (t : Fin cfg0.N) (p : Fin 64) : Fin 1024 := ⟨t.val * 64 + p.val, by have := lt t; omega⟩

theorem w_at (t : Fin cfg0.N) (p : Fin 64) (q : Fin 4096) : (iblk m c 0 t : S64x4096.Idx → EReal) (ix2 p q) = W m c (ix2 (row t p) q) := by
  unfold row; blk_ext [iblk, V, (ix t).1, W]

theorem g_at (t : Fin cfg0.N) (p : Fin 64) (q : Fin 4096) : (iblk m c 1 t : S64x4096.Idx → EReal) (ix2 p q) = G m c (ix2 (row t p) q) := by
  unfold row; blk_ext [iblk, V, (ix t).2.1, G]

theorem a_at (t : Fin cfg0.N) (p : Fin 64) (q : Fin 4096) : (iblk m c 2 t : S64x4096.Idx → EReal) (ix2 p q) = M m c (ix2 (row t p) q) := by
  unfold row; blk_ext [iblk, V, (ix t).2.2.1, M]

theorem b_at (t : Fin cfg0.N) (p : Fin 64) (q : Fin 4096) : (iblk m c 3 t : S64x4096.Idx → EReal) (ix2 p q) = V2 m c (ix2 (row t p) q) := by
  unfold row; blk_ext [iblk, V, (ix t).2.2.2.1, V2]

theorem emb4 (t : Fin cfg0.N) (y : (win0_4.xblock (grid0.coords t)).Idx) (p : Fin 64) (q : Fin 4096) (hp : (y 0).val = p.val) (hq : (y 1).val = q.val) :
    (win0_4.blk t).view.emb y = (ix2 (row t p) q : S1024x4096.Idx) := by
  unfold row; blk_ext [(ix t).2.2.2.2.1]

theorem emb5 (t : Fin cfg0.N) (y : (win0_5.xblock (grid0.coords t)).Idx) (p : Fin 64) (q : Fin 4096) (hp : (y 0).val = p.val) (hq : (y 1).val = q.val) :
    (win0_5.blk t).view.emb y = (ix2 (row t p) q : S1024x4096.Idx) := by
  unfold row; blk_ext [(ix t).2.2.2.2.2.1]

theorem emb6 (t : Fin cfg0.N) (y : (win0_6.xblock (grid0.coords t)).Idx) (p : Fin 64) (q : Fin 4096) (hp : (y 0).val = p.val) (hq : (y 1).val = q.val) :
    (win0_6.blk t).view.emb y = (ix2 (row t p) q : S1024x4096.Idx) := by
  unfold row; blk_ext [(ix t).2.2.2.2.2.2.1]

theorem emb7 (t : Fin cfg0.N) (y : (win0_7.xblock (grid0.coords t)).Idx) (p : Fin 64) (q : Fin 4096) (hp : (y 0).val = p.val) (hq : (y 1).val = q.val) :
    (win0_7.blk t).view.emb y = (ix2 (row t p) q : S1024x4096.Idx) := by
  unfold row; blk_ext [(ix t).2.2.2.2.2.2.2]

/-! The arrays after the run. -/

theorem block4_at (t : Fin cfg0.N) (p : Fin 64) (q : Fin 4096) :
    (out0_4 (iblk m c 0 t) (iblk m c 1 t) (iblk m c 2 t) (iblk m c 3 t) : S64x4096.Idx → EReal) (ix2 p q) = (G m c : S1024x4096.Idx → EReal) (ix2 (row t p) q) := by
  rw [copy_at, g_at]

theorem arr4 : (dats m 0 c).arrAt 4 cfg0.N = G m c := by
  refine (dats m 0 c).arrAt_eq_of_covers 4 (G m c) (by decide +kernel) fun t hf y => ?_
  blk_simp
  rw [after0_4]
  rw [emb4 t y ((cfg0.win 4).xinj (cfg0.grid.coords t) y 0) ((cfg0.win 4).xinj (cfg0.grid.coords t) y 1) rfl rfl]
  exact (congrArg (out0_4 (iblk m c 0 t) (iblk m c 1 t) (iblk m c 2 t) (iblk m c 3 t)) (eq_ix2 _)).trans (block4_at m c t _ _)

theorem block5_at (t : Fin cfg0.N) (p : Fin 64) (q : Fin 4096) :
    (out0_5 (iblk m c 0 t) (iblk m c 1 t) (iblk m c 2 t) (iblk m c 3 t) : S64x4096.Idx → EReal) (ix2 p q) = (fun i => change (W m c i) (G m c i) (M m c i) (V2 m c i) : S1024x4096.Idx → EReal) (ix2 (row t p) q) := by
  unfold out0_5
  frame_out
  rw [change_at, w_at, g_at, a_at, b_at]

theorem arr5 : (dats m 0 c).arrAt 5 cfg0.N = fun i => change (W m c i) (G m c i) (M m c i) (V2 m c i) := by
  refine (dats m 0 c).arrAt_eq_of_covers 5 (fun i => change (W m c i) (G m c i) (M m c i) (V2 m c i)) (by decide +kernel) fun t hf y => ?_
  blk_simp
  rw [after0_5]
  rw [emb5 t y ((cfg0.win 5).xinj (cfg0.grid.coords t) y 0) ((cfg0.win 5).xinj (cfg0.grid.coords t) y 1) rfl rfl]
  exact (congrArg (out0_5 (iblk m c 0 t) (iblk m c 1 t) (iblk m c 2 t) (iblk m c 3 t)) (eq_ix2 _)).trans (block5_at m c t _ _)

theorem block6_at (t : Fin cfg0.N) (p : Fin 64) (q : Fin 4096) :
    (out0_6 (iblk m c 0 t) (iblk m c 1 t) (iblk m c 2 t) (iblk m c 3 t) : S64x4096.Idx → EReal) (ix2 p q) = (fun i => mean (G m c i) (M m c i) : S1024x4096.Idx → EReal) (ix2 (row t p) q) := by
  unfold out0_6
  frame_out
  rw [mean_at, g_at, a_at]

theorem arr6 : (dats m 0 c).arrAt 6 cfg0.N = fun i => mean (G m c i) (M m c i) := by
  refine (dats m 0 c).arrAt_eq_of_covers 6 (fun i => mean (G m c i) (M m c i)) (by decide +kernel) fun t hf y => ?_
  blk_simp
  rw [after0_6]
  rw [emb6 t y ((cfg0.win 6).xinj (cfg0.grid.coords t) y 0) ((cfg0.win 6).xinj (cfg0.grid.coords t) y 1) rfl rfl]
  exact (congrArg (out0_6 (iblk m c 0 t) (iblk m c 1 t) (iblk m c 2 t) (iblk m c 3 t)) (eq_ix2 _)).trans (block6_at m c t _ _)

theorem block7_at (t : Fin cfg0.N) (p : Fin 64) (q : Fin 4096) :
    (out0_7 (iblk m c 0 t) (iblk m c 1 t) (iblk m c 2 t) (iblk m c 3 t) : S64x4096.Idx → EReal) (ix2 p q) = (fun i => square (G m c i) (V2 m c i) : S1024x4096.Idx → EReal) (ix2 (row t p) q) := by
  unfold out0_7
  frame_out
  rw [square_at, g_at, b_at]

theorem arr7 : (dats m 0 c).arrAt 7 cfg0.N = fun i => square (G m c i) (V2 m c i) := by
  refine (dats m 0 c).arrAt_eq_of_covers 7 (fun i => square (G m c i) (V2 m c i)) (by decide +kernel) fun t hf y => ?_
  blk_simp
  rw [after0_7]
  rw [emb7 t y ((cfg0.win 7).xinj (cfg0.grid.coords t) y 0) ((cfg0.win 7).xinj (cfg0.grid.coords t) y 1) rfl rfl]
  exact (congrArg (out0_7 (iblk m c 0 t) (iblk m c 1 t) (iblk m c 2 t) (iblk m c 3 t)) (eq_ix2 _)).trans (block7_at m c t _ _)

end Kernel

section Reference
open Cert.Reference21Ideal Cert.Reference21Ideal.Gen

section Any
variable {F : FTy → Type} [FloatOps F] (w g a b : (⟨S1024x4096, .f32⟩ : BufTy).Contents (Elt F))

def rmean : (⟨S1024x4096, .f32⟩ : BufTy).Contents (Elt F) := addf (mulf (broadcastInDim S1024x4096 ![] bcast_S_S1024x4096 (constant S_ .f32 0x3F666666#32)) a) (mulf (broadcastInDim S1024x4096 ![] bcast_S_S1024x4096 (constant S_ .f32 0x3DCCCCCD#32)) g)
def rsquare : (⟨S1024x4096, .f32⟩ : BufTy).Contents (Elt F) := addf (mulf (broadcastInDim S1024x4096 ![] bcast_S_S1024x4096 (constant S_ .f32 0x3F7FBE77#32)) b) (mulf (broadcastInDim S1024x4096 ![] bcast_S_S1024x4096 (constant S_ .f32 0x3A83126F#32)) (mulf g g))
def rchange : (⟨S1024x4096, .f32⟩ : BufTy).Contents (Elt F) := mulf (broadcastInDim S1024x4096 ![] bcast_S_S1024x4096 (constant S_ .f32 0xBA83126F#32)) (addf (Host.divf (Host.divf (rmean g a) (broadcastInDim S1024x4096 ![] bcast_S_S1024x4096 (constant S_ .f32 0x3F26BD02#32))) (addf (Host.sqrt (Host.divf (rsquare g b) (broadcastInDim S1024x4096 ![] bcast_S_S1024x4096 (constant S_ .f32 0x3C231ACC#32)))) (broadcastInDim S1024x4096 ![] bcast_S_S1024x4096 (constant S_ .f32 0x322BCC77#32)))) (mulf (broadcastInDim S1024x4096 ![] bcast_S_S1024x4096 (constant S_ .f32 0x3C23D70A#32)) w))

end Any

variable (w g a b : (⟨S1024x4096, .f32⟩ : BufTy).Contents (Elt Ideal))

theorem rmean_eq : rmean g a = fun i => mean (g i) (a i) := by
  funext i
  unfold rmean mean
  clean_types; pointwise

theorem rsquare_eq : rsquare g b = fun i => square (g i) (b i) := by
  funext i
  unfold rsquare square
  clean_types; pointwise

theorem rchange_eq : rchange w g a b = fun i => change (w i) (g i) (a i) (b i) := by
  funext i
  unfold rchange change
  rw [rmean_eq, rsquare_eq]
  clean_types; pointwise

end Reference

theorem agree : Cert.algebraic_Kernel21Ideal_Reference21Ideal := by
  intro m ρ m' ρ' _ hag
  refine ⟨fun c => G m c, fun c i => change (W m c i) (G m c i) (M m c i) (V2 m c i), fun c i => mean (G m c i) (M m c i), fun c i => square (G m c i) (V2 m c i), ?_, ?_⟩
  · refine (θ_run _ _ _).mono (fun _ h c => ?_) (Cert.Kernel21Ideal.Value.run_blocks m ρ)
    exact ⟨(h c).1.trans (arr4 m c), (h c).2.1.trans (arr5 m c), (h c).2.2.1.trans (arr6 m c), (h c).2.2.2.1.trans (arr7 m c), (h c).2.2.2.2⟩
  · refine (θ_run _ _ _).mono (fun _ h c => ?_) (Cert.Reference21Ideal.Value.run m' ρ')
    obtain ⟨ew, eg, ea, eb⟩ := hag c
    refine ⟨(h c).1.trans eg, (h c).2.1.trans ((rchange_eq _ _ _ _).trans ?_), (h c).2.2.1.trans ((rmean_eq _ _).trans ?_), (h c).2.2.2.1.trans ((rsquare_eq _ _).trans ?_), (h c).2.2.2.2⟩
    · rw [ew, eg, ea, eb]; rfl
    · rw [eg, ea]; rfl
    · rw [eg, eb]; rfl

theorem frame_ref : Cert.quiescent_Reference21Ideal := fun m ρ _ =>
  (θ_run _ _ _).mono (fun r h => ⟨fun c => (h c).2.2.2.2, sem_eq_zero_of_no_sems rfl r.2⟩) (Cert.Reference21Ideal.Value.run m ρ)

end Cert.AdamOut
-- ==== Proof.AdamFf.lean ====
module

public import proofs.«01_k».proof.Defs
public import proofs.«01_k».proof.Proof.Gen.Kernel22Ideal.Value
public import proofs.«01_k».proof.Proof.Gen.Reference22Ideal.Run
public import proofs.«01_k».proof.Proof.Update
public import Idealize.ShloMosaic.Lib.Pipeline.ValueKit
public import Idealize.ShloMosaic.Lib.Pointwise
public import Idealize.ShloMosaic.Lib.Tactic.CleanTypes

/-! The optimiser's step of either weight of the channel mixer. -/

@[expose] public section

set_option maxRecDepth 16384

noncomputable section

namespace Cert.AdamFf

open Idealize.ShloMosaic Idealize.ShloMosaic.TcCoe Idealize.ShloMosaic.StableHlo Idealize.SL.Sem Cert.Update

section Kernel
open Cert.Kernel22Ideal Cert.Kernel22Ideal.Gen

variable (m : (ℓ : Loc nD τ sig) → Buf (Elt Ideal) ℓ) (c : Dev nD)

def W : S4096x4096.Idx → EReal := m ((c.tc : Thread nD τ).loc main_arg0)
def G : S4096x4096.Idx → EReal := m ((c.tc : Thread nD τ).loc main_arg1)
def M : S4096x4096.Idx → EReal := m ((c.tc : Thread nD τ).loc main_arg2)
def V2 : S4096x4096.Idx → EReal := m ((c.tc : Thread nD τ).loc main_arg3)

/-! The payloads at an index. -/

variable (w g a b : Vec Ideal S64x4096 .f32) (p : Fin 64) (q : Fin 4096)

theorem copy_at : (out0_4 w g a b : S64x4096.Idx → EReal) (ix2 p q) = (g : S64x4096.Idx → EReal) (ix2 p q) := by
  unfold out0_4
  frame_out

theorem mean_at : (k0_pay1 g a : S64x4096.Idx → EReal) (ix2 p q)
    = mean ((g : S64x4096.Idx → EReal) (ix2 p q)) ((a : S64x4096.Idx → EReal) (ix2 p q)) := by
  unfold k0_pay1 mean
  clean_types; pointwise

theorem square_at : (k0_pay2 g b : S64x4096.Idx → EReal) (ix2 p q)
    = square ((g : S64x4096.Idx → EReal) (ix2 p q)) ((b : S64x4096.Idx → EReal) (ix2 p q)) := by
  unfold k0_pay2 square
  clean_types; pointwise

theorem change_at : (k0_pay3 g w a b : S64x4096.Idx → EReal) (ix2 p q)
    = change ((w : S64x4096.Idx → EReal) (ix2 p q)) ((g : S64x4096.Idx → EReal) (ix2 p q)) ((a : S64x4096.Idx → EReal) (ix2 p q)) ((b : S64x4096.Idx → EReal) (ix2 p q)) := by
  unfold k0_pay3 change
  clean_types; pointwise [mean_at, square_at]

/-! The blocks. -/

theorem ix : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0])

theorem lt (t : Fin cfg0.N) : t.val < 64 := lt_of_lt_of_eq t.isLt (show cfg0.N = 64 from N_0)

/-- The array's row, of row `p` of the point's tile. -/
def row (t : Fin cfg0.N) (p : Fin 64) : Fin 4096 := ⟨t.val * 64 + p.val, by have := lt t; omega⟩

theorem w_at (t : Fin cfg0.N) (p : Fin 64) (q : Fin 4096) : (iblk m c 0 t : S64x4096.Idx → EReal) (ix2 p q) = W m c (ix2 (row t p) q) := by
  unfold row; blk_ext [iblk, V, (ix t).1, W]

theorem g_at (t : Fin cfg0.N) (p : Fin 64) (q : Fin 4096) : (iblk m c 1 t : S64x4096.Idx → EReal) (ix2 p q) = G m c (ix2 (row t p) q) := by
  unfold row; blk_ext [iblk, V, (ix t).2.1, G]

theorem a_at (t : Fin cfg0.N) (p : Fin 64) (q : Fin 4096) : (iblk m c 2 t : S64x4096.Idx → EReal) (ix2 p q) = M m c (ix2 (row t p) q) := by
  unfold row; blk_ext [iblk, V, (ix t).2.2.1, M]

theorem b_at (t : Fin cfg0.N) (p : Fin 64) (q : Fin 4096) : (iblk m c 3 t : S64x4096.Idx → EReal) (ix2 p q) = V2 m c (ix2 (row t p) q) := by
  unfold row; blk_ext [iblk, V, (ix t).2.2.2.1, V2]

theorem emb4 (t : Fin cfg0.N) (y : (win0_4.xblock (grid0.coords t)).Idx) (p : Fin 64) (q : Fin 4096) (hp : (y 0).val = p.val) (hq : (y 1).val = q.val) :
    (win0_4.blk t).view.emb y = (ix2 (row t p) q : S4096x4096.Idx) := by
  unfold row; blk_ext [(ix t).2.2.2.2.1]

theorem emb5 (t : Fin cfg0.N) (y : (win0_5.xblock (grid0.coords t)).Idx) (p : Fin 64) (q : Fin 4096) (hp : (y 0).val = p.val) (hq : (y 1).val = q.val) :
    (win0_5.blk t).view.emb y = (ix2 (row t p) q : S4096x4096.Idx) := by
  unfold row; blk_ext [(ix t).2.2.2.2.2.1]

theorem emb6 (t : Fin cfg0.N) (y : (win0_6.xblock (grid0.coords t)).Idx) (p : Fin 64) (q : Fin 4096) (hp : (y 0).val = p.val) (hq : (y 1).val = q.val) :
    (win0_6.blk t).view.emb y = (ix2 (row t p) q : S4096x4096.Idx) := by
  unfold row; blk_ext [(ix t).2.2.2.2.2.2.1]

theorem emb7 (t : Fin cfg0.N) (y : (win0_7.xblock (grid0.coords t)).Idx) (p : Fin 64) (q : Fin 4096) (hp : (y 0).val = p.val) (hq : (y 1).val = q.val) :
    (win0_7.blk t).view.emb y = (ix2 (row t p) q : S4096x4096.Idx) := by
  unfold row; blk_ext [(ix t).2.2.2.2.2.2.2]

/-! The arrays after the run. -/

theorem block4_at (t : Fin cfg0.N) (p : Fin 64) (q : Fin 4096) :
    (out0_4 (iblk m c 0 t) (iblk m c 1 t) (iblk m c 2 t) (iblk m c 3 t) : S64x4096.Idx → EReal) (ix2 p q) = (G m c : S4096x4096.Idx → EReal) (ix2 (row t p) q) := by
  rw [copy_at, g_at]

theorem arr4 : (dats m 0 c).arrAt 4 cfg0.N = G m c := by
  refine (dats m 0 c).arrAt_eq_of_covers 4 (G m c) (by decide +kernel) fun t hf y => ?_
  blk_simp
  rw [after0_4]
  rw [emb4 t y ((cfg0.win 4).xinj (cfg0.grid.coords t) y 0) ((cfg0.win 4).xinj (cfg0.grid.coords t) y 1) rfl rfl]
  exact (congrArg (out0_4 (iblk m c 0 t) (iblk m c 1 t) (iblk m c 2 t) (iblk m c 3 t)) (eq_ix2 _)).trans (block4_at m c t _ _)

theorem block5_at (t : Fin cfg0.N) (p : Fin 64) (q : Fin 4096) :
    (out0_5 (iblk m c 0 t) (iblk m c 1 t) (iblk m c 2 t) (iblk m c 3 t) : S64x4096.Idx → EReal) (ix2 p q) = (fun i => change (W m c i) (G m c i) (M m c i) (V2 m c i) : S4096x4096.Idx → EReal) (ix2 (row t p) q) := by
  unfold out0_5
  frame_out
  rw [change_at, w_at, g_at, a_at, b_at]

theorem arr5 : (dats m 0 c).arrAt 5 cfg0.N = fun i => change (W m c i) (G m c i) (M m c i) (V2 m c i) := by
  refine (dats m 0 c).arrAt_eq_of_covers 5 (fun i => change (W m c i) (G m c i) (M m c i) (V2 m c i)) (by decide +kernel) fun t hf y => ?_
  blk_simp
  rw [after0_5]
  rw [emb5 t y ((cfg0.win 5).xinj (cfg0.grid.coords t) y 0) ((cfg0.win 5).xinj (cfg0.grid.coords t) y 1) rfl rfl]
  exact (congrArg (out0_5 (iblk m c 0 t) (iblk m c 1 t) (iblk m c 2 t) (iblk m c 3 t)) (eq_ix2 _)).trans (block5_at m c t _ _)

theorem block6_at (t : Fin cfg0.N) (p : Fin 64) (q : Fin 4096) :
    (out0_6 (iblk m c 0 t) (iblk m c 1 t) (iblk m c 2 t) (iblk m c 3 t) : S64x4096.Idx → EReal) (ix2 p q) = (fun i => mean (G m c i) (M m c i) : S4096x4096.Idx → EReal) (ix2 (row t p) q) := by
  unfold out0_6
  frame_out
  rw [mean_at, g_at, a_at]

theorem arr6 : (dats m 0 c).arrAt 6 cfg0.N = fun i => mean (G m c i) (M m c i) := by
  refine (dats m 0 c).arrAt_eq_of_covers 6 (fun i => mean (G m c i) (M m c i)) (by decide +kernel) fun t hf y => ?_
  blk_simp
  rw [after0_6]
  rw [emb6 t y ((cfg0.win 6).xinj (cfg0.grid.coords t) y 0) ((cfg0.win 6).xinj (cfg0.grid.coords t) y 1) rfl rfl]
  exact (congrArg (out0_6 (iblk m c 0 t) (iblk m c 1 t) (iblk m c 2 t) (iblk m c 3 t)) (eq_ix2 _)).trans (block6_at m c t _ _)

theorem block7_at (t : Fin cfg0.N) (p : Fin 64) (q : Fin 4096) :
    (out0_7 (iblk m c 0 t) (iblk m c 1 t) (iblk m c 2 t) (iblk m c 3 t) : S64x4096.Idx → EReal) (ix2 p q) = (fun i => square (G m c i) (V2 m c i) : S4096x4096.Idx → EReal) (ix2 (row t p) q) := by
  unfold out0_7
  frame_out
  rw [square_at, g_at, b_at]

theorem arr7 : (dats m 0 c).arrAt 7 cfg0.N = fun i => square (G m c i) (V2 m c i) := by
  refine (dats m 0 c).arrAt_eq_of_covers 7 (fun i => square (G m c i) (V2 m c i)) (by decide +kernel) fun t hf y => ?_
  blk_simp
  rw [after0_7]
  rw [emb7 t y ((cfg0.win 7).xinj (cfg0.grid.coords t) y 0) ((cfg0.win 7).xinj (cfg0.grid.coords t) y 1) rfl rfl]
  exact (congrArg (out0_7 (iblk m c 0 t) (iblk m c 1 t) (iblk m c 2 t) (iblk m c 3 t)) (eq_ix2 _)).trans (block7_at m c t _ _)

end Kernel

section Reference
open Cert.Reference22Ideal Cert.Reference22Ideal.Gen

section Any
variable {F : FTy → Type} [FloatOps F] (w g a b : (⟨S4096x4096, .f32⟩ : BufTy).Contents (Elt F))

def rmean : (⟨S4096x4096, .f32⟩ : BufTy).Contents (Elt F) := addf (mulf (broadcastInDim S4096x4096 ![] bcast_S_S4096x4096 (constant S_ .f32 0x3F666666#32)) a) (mulf (broadcastInDim S4096x4096 ![] bcast_S_S4096x4096 (constant S_ .f32 0x3DCCCCCD#32)) g)
def rsquare : (⟨S4096x4096, .f32⟩ : BufTy).Contents (Elt F) := addf (mulf (broadcastInDim S4096x4096 ![] bcast_S_S4096x4096 (constant S_ .f32 0x3F7FBE77#32)) b) (mulf (broadcastInDim S4096x4096 ![] bcast_S_S4096x4096 (constant S_ .f32 0x3A83126F#32)) (mulf g g))
def rchange : (⟨S4096x4096, .f32⟩ : BufTy).Contents (Elt F) := mulf (broadcastInDim S4096x4096 ![] bcast_S_S4096x4096 (constant S_ .f32 0xBA83126F#32)) (addf (Host.divf (Host.divf (rmean g a) (broadcastInDim S4096x4096 ![] bcast_S_S4096x4096 (constant S_ .f32 0x3F26BD02#32))) (addf (Host.sqrt (Host.divf (rsquare g b) (broadcastInDim S4096x4096 ![] bcast_S_S4096x4096 (constant S_ .f32 0x3C231ACC#32)))) (broadcastInDim S4096x4096 ![] bcast_S_S4096x4096 (constant S_ .f32 0x322BCC77#32)))) (mulf (broadcastInDim S4096x4096 ![] bcast_S_S4096x4096 (constant S_ .f32 0x3C23D70A#32)) w))

end Any

variable (w g a b : (⟨S4096x4096, .f32⟩ : BufTy).Contents (Elt Ideal))

theorem rmean_eq : rmean g a = fun i => mean (g i) (a i) := by
  funext i
  unfold rmean mean
  clean_types; pointwise

theorem rsquare_eq : rsquare g b = fun i => square (g i) (b i) := by
  funext i
  unfold rsquare square
  clean_types; pointwise

theorem rchange_eq : rchange w g a b = fun i => change (w i) (g i) (a i) (b i) := by
  funext i
  unfold rchange change
  rw [rmean_eq, rsquare_eq]
  clean_types; pointwise

end Reference

theorem agree : Cert.algebraic_Kernel22Ideal_Reference22Ideal := by
  intro m ρ m' ρ' _ hag
  refine ⟨fun c => G m c, fun c i => change (W m c i) (G m c i) (M m c i) (V2 m c i), fun c i => mean (G m c i) (M m c i), fun c i => square (G m c i) (V2 m c i), ?_, ?_⟩
  · refine (θ_run _ _ _).mono (fun _ h c => ?_) (Cert.Kernel22Ideal.Value.run_blocks m ρ)
    exact ⟨(h c).1.trans (arr4 m c), (h c).2.1.trans (arr5 m c), (h c).2.2.1.trans (arr6 m c), (h c).2.2.2.1.trans (arr7 m c), (h c).2.2.2.2⟩
  · refine (θ_run _ _ _).mono (fun _ h c => ?_) (Cert.Reference22Ideal.Value.run m' ρ')
    obtain ⟨ew, eg, ea, eb⟩ := hag c
    refine ⟨(h c).1.trans eg, (h c).2.1.trans ((rchange_eq _ _ _ _).trans ?_), (h c).2.2.1.trans ((rmean_eq _ _).trans ?_), (h c).2.2.2.1.trans ((rsquare_eq _ _).trans ?_), (h c).2.2.2.2⟩
    · rw [ew, eg, ea, eb]; rfl
    · rw [eg, ea]; rfl
    · rw [eg, eb]; rfl

theorem frame_ref : Cert.quiescent_Reference22Ideal := fun m ρ _ =>
  (θ_run _ _ _).mono (fun r h => ⟨fun c => (h c).2.2.2.2, sem_eq_zero_of_no_sems rfl r.2⟩) (Cert.Reference22Ideal.Value.run m ρ)

end Cert.AdamFf
-- ==== Proof.AdamSmall.lean ====
module

public import proofs.«01_k».proof.Defs
public import proofs.«01_k».proof.Proof.Gen.Kernel23Ideal.Value
public import proofs.«01_k».proof.Proof.Gen.Reference23Ideal.Run
public import proofs.«01_k».proof.Proof.Update
public import Idealize.ShloMosaic.Lib.Pipeline.ValueKit
public import Idealize.ShloMosaic.Lib.Pointwise
public import Idealize.ShloMosaic.Lib.Tactic.CleanTypes

/-! The optimiser's step of the packed small weights. -/

@[expose] public section

set_option maxRecDepth 16384

noncomputable section

namespace Cert.AdamSmall

open Idealize.ShloMosaic Idealize.ShloMosaic.TcCoe Idealize.ShloMosaic.StableHlo Idealize.SL.Sem Cert.Update

section Kernel
open Cert.Kernel23Ideal Cert.Kernel23Ideal.Gen

variable (m : (ℓ : Loc nD τ sig) → Buf (Elt Ideal) ℓ) (c : Dev nD)

def W : S448x128.Idx → EReal := m ((c.tc : Thread nD τ).loc main_arg0)
def G : S448x128.Idx → EReal := m ((c.tc : Thread nD τ).loc main_arg1)
def M : S448x128.Idx → EReal := m ((c.tc : Thread nD τ).loc main_arg2)
def V2 : S448x128.Idx → EReal := m ((c.tc : Thread nD τ).loc main_arg3)

/-! The payloads at an index. -/

variable (w g a b : Vec Ideal S448x128 .f32) (p : Fin 448) (q : Fin 128)

theorem mean_at : (k0_pay1 g a : S448x128.Idx → EReal) (ix2 p q)
    = mean ((g : S448x128.Idx → EReal) (ix2 p q)) ((a : S448x128.Idx → EReal) (ix2 p q)) := by
  unfold k0_pay1 mean
  clean_types; pointwise

theorem square_at : (k0_pay2 g b : S448x128.Idx → EReal) (ix2 p q)
    = square ((g : S448x128.Idx → EReal) (ix2 p q)) ((b : S448x128.Idx → EReal) (ix2 p q)) := by
  unfold k0_pay2 square
  clean_types; pointwise

theorem change_at : (k0_pay3 g w a b : S448x128.Idx → EReal) (ix2 p q)
    = change ((w : S448x128.Idx → EReal) (ix2 p q)) ((g : S448x128.Idx → EReal) (ix2 p q)) ((a : S448x128.Idx → EReal) (ix2 p q)) ((b : S448x128.Idx → EReal) (ix2 p q)) := by
  unfold k0_pay3 change
  clean_types; pointwise [mean_at, square_at]

/-! The blocks. -/

theorem ix : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0])

theorem lt (t : Fin cfg0.N) : t.val < 1 := lt_of_lt_of_eq t.isLt (show cfg0.N = 1 from N_0)

/-- The array's row, of row `p` of the point's tile. -/
def row (t : Fin cfg0.N) (p : Fin 448) : Fin 448 := ⟨t.val * 448 + p.val, by have := lt t; omega⟩

theorem w_at (t : Fin cfg0.N) (p : Fin 448) (q : Fin 128) : (iblk m c 0 t : S448x128.Idx → EReal) (ix2 p q) = W m c (ix2 (row t p) q) := by
  unfold row; blk_ext [iblk, V, (ix t).1, W]

theorem g_at (t : Fin cfg0.N) (p : Fin 448) (q : Fin 128) : (iblk m c 1 t : S448x128.Idx → EReal) (ix2 p q) = G m c (ix2 (row t p) q) := by
  unfold row; blk_ext [iblk, V, (ix t).2.1, G]

theorem a_at (t : Fin cfg0.N) (p : Fin 448) (q : Fin 128) : (iblk m c 2 t : S448x128.Idx → EReal) (ix2 p q) = M m c (ix2 (row t p) q) := by
  unfold row; blk_ext [iblk, V, (ix t).2.2.1, M]

theorem b_at (t : Fin cfg0.N) (p : Fin 448) (q : Fin 128) : (iblk m c 3 t : S448x128.Idx → EReal) (ix2 p q) = V2 m c (ix2 (row t p) q) := by
  unfold row; blk_ext [iblk, V, (ix t).2.2.2.1, V2]

theorem emb4 (t : Fin cfg0.N) (y : (win0_4.xblock (grid0.coords t)).Idx) (p : Fin 448) (q : Fin 128) (hp : (y 0).val = p.val) (hq : (y 1).val = q.val) :
    (win0_4.blk t).view.emb y = (ix2 (row t p) q : S448x128.Idx) := by
  unfold row; blk_ext [(ix t).2.2.2.2.1]

theorem emb5 (t : Fin cfg0.N) (y : (win0_5.xblock (grid0.coords t)).Idx) (p : Fin 448) (q : Fin 128) (hp : (y 0).val = p.val) (hq : (y 1).val = q.val) :
    (win0_5.blk t).view.emb y = (ix2 (row t p) q : S448x128.Idx) := by
  unfold row; blk_ext [(ix t).2.2.2.2.2.1]

theorem emb6 (t : Fin cfg0.N) (y : (win0_6.xblock (grid0.coords t)).Idx) (p : Fin 448) (q : Fin 128) (hp : (y 0).val = p.val) (hq : (y 1).val = q.val) :
    (win0_6.blk t).view.emb y = (ix2 (row t p) q : S448x128.Idx) := by
  unfold row; blk_ext [(ix t).2.2.2.2.2.2]

/-! The arrays after the run. -/

theorem block4_at (t : Fin cfg0.N) (p : Fin 448) (q : Fin 128) :
    (out0_4 (iblk m c 0 t) (iblk m c 1 t) (iblk m c 2 t) (iblk m c 3 t) : S448x128.Idx → EReal) (ix2 p q) = (fun i => change (W m c i) (G m c i) (M m c i) (V2 m c i) : S448x128.Idx → EReal) (ix2 (row t p) q) := by
  unfold out0_4
  frame_out
  rw [change_at, w_at, g_at, a_at, b_at]

theorem arr4 : (dats m 0 c).arrAt 4 cfg0.N = fun i => change (W m c i) (G m c i) (M m c i) (V2 m c i) := by
  refine (dats m 0 c).arrAt_eq_of_covers 4 (fun i => change (W m c i) (G m c i) (M m c i) (V2 m c i)) (by decide +kernel) fun t hf y => ?_
  blk_simp
  rw [after0_4]
  rw [emb4 t y ((cfg0.win 4).xinj (cfg0.grid.coords t) y 0) ((cfg0.win 4).xinj (cfg0.grid.coords t) y 1) rfl rfl]
  exact (congrArg (out0_4 (iblk m c 0 t) (iblk m c 1 t) (iblk m c 2 t) (iblk m c 3 t)) (eq_ix2 _)).trans (block4_at m c t _ _)

theorem block5_at (t : Fin cfg0.N) (p : Fin 448) (q : Fin 128) :
    (out0_5 (iblk m c 0 t) (iblk m c 1 t) (iblk m c 2 t) (iblk m c 3 t) : S448x128.Idx → EReal) (ix2 p q) = (fun i => mean (G m c i) (M m c i) : S448x128.Idx → EReal) (ix2 (row t p) q) := by
  unfold out0_5
  frame_out
  rw [mean_at, g_at, a_at]

theorem arr5 : (dats m 0 c).arrAt 5 cfg0.N = fun i => mean (G m c i) (M m c i) := by
  refine (dats m 0 c).arrAt_eq_of_covers 5 (fun i => mean (G m c i) (M m c i)) (by decide +kernel) fun t hf y => ?_
  blk_simp
  rw [after0_5]
  rw [emb5 t y ((cfg0.win 5).xinj (cfg0.grid.coords t) y 0) ((cfg0.win 5).xinj (cfg0.grid.coords t) y 1) rfl rfl]
  exact (congrArg (out0_5 (iblk m c 0 t) (iblk m c 1 t) (iblk m c 2 t) (iblk m c 3 t)) (eq_ix2 _)).trans (block5_at m c t _ _)

theorem block6_at (t : Fin cfg0.N) (p : Fin 448) (q : Fin 128) :
    (out0_6 (iblk m c 0 t) (iblk m c 1 t) (iblk m c 2 t) (iblk m c 3 t) : S448x128.Idx → EReal) (ix2 p q) = (fun i => square (G m c i) (V2 m c i) : S448x128.Idx → EReal) (ix2 (row t p) q) := by
  unfold out0_6
  frame_out
  rw [square_at, g_at, b_at]

theorem arr6 : (dats m 0 c).arrAt 6 cfg0.N = fun i => square (G m c i) (V2 m c i) := by
  refine (dats m 0 c).arrAt_eq_of_covers 6 (fun i => square (G m c i) (V2 m c i)) (by decide +kernel) fun t hf y => ?_
  blk_simp
  rw [after0_6]
  rw [emb6 t y ((cfg0.win 6).xinj (cfg0.grid.coords t) y 0) ((cfg0.win 6).xinj (cfg0.grid.coords t) y 1) rfl rfl]
  exact (congrArg (out0_6 (iblk m c 0 t) (iblk m c 1 t) (iblk m c 2 t) (iblk m c 3 t)) (eq_ix2 _)).trans (block6_at m c t _ _)

end Kernel

section Reference
open Cert.Reference23Ideal Cert.Reference23Ideal.Gen

section Any
variable {F : FTy → Type} [FloatOps F] (w g a b : (⟨S448x128, .f32⟩ : BufTy).Contents (Elt F))

def rmean : (⟨S448x128, .f32⟩ : BufTy).Contents (Elt F) := addf (mulf (broadcastInDim S448x128 ![] bcast_S_S448x128 (constant S_ .f32 0x3F666666#32)) a) (mulf (broadcastInDim S448x128 ![] bcast_S_S448x128 (constant S_ .f32 0x3DCCCCCD#32)) g)
def rsquare : (⟨S448x128, .f32⟩ : BufTy).Contents (Elt F) := addf (mulf (broadcastInDim S448x128 ![] bcast_S_S448x128 (constant S_ .f32 0x3F7FBE77#32)) b) (mulf (broadcastInDim S448x128 ![] bcast_S_S448x128 (constant S_ .f32 0x3A83126F#32)) (mulf g g))
def rchange : (⟨S448x128, .f32⟩ : BufTy).Contents (Elt F) := mulf (broadcastInDim S448x128 ![] bcast_S_S448x128 (constant S_ .f32 0xBA83126F#32)) (addf (Host.divf (Host.divf (rmean g a) (broadcastInDim S448x128 ![] bcast_S_S448x128 (constant S_ .f32 0x3F26BD02#32))) (addf (Host.sqrt (Host.divf (rsquare g b) (broadcastInDim S448x128 ![] bcast_S_S448x128 (constant S_ .f32 0x3C231ACC#32)))) (broadcastInDim S448x128 ![] bcast_S_S448x128 (constant S_ .f32 0x322BCC77#32)))) (mulf (broadcastInDim S448x128 ![] bcast_S_S448x128 (constant S_ .f32 0x3C23D70A#32)) w))

end Any

variable (w g a b : (⟨S448x128, .f32⟩ : BufTy).Contents (Elt Ideal))

theorem rmean_eq : rmean g a = fun i => mean (g i) (a i) := by
  funext i
  unfold rmean mean
  clean_types; pointwise

theorem rsquare_eq : rsquare g b = fun i => square (g i) (b i) := by
  funext i
  unfold rsquare square
  clean_types; pointwise

theorem rchange_eq : rchange w g a b = fun i => change (w i) (g i) (a i) (b i) := by
  funext i
  unfold rchange change
  rw [rmean_eq, rsquare_eq]
  clean_types; pointwise

end Reference

theorem agree : Cert.algebraic_Kernel23Ideal_Reference23Ideal := by
  intro m ρ m' ρ' _ hag
  refine ⟨fun c i => change (W m c i) (G m c i) (M m c i) (V2 m c i), fun c i => mean (G m c i) (M m c i), fun c i => square (G m c i) (V2 m c i), ?_, ?_⟩
  · refine (θ_run _ _ _).mono (fun _ h c => ?_) (Cert.Kernel23Ideal.Value.run_blocks m ρ)
    exact ⟨(h c).1.trans (arr4 m c), (h c).2.1.trans (arr5 m c), (h c).2.2.1.trans (arr6 m c), (h c).2.2.2⟩
  · refine (θ_run _ _ _).mono (fun _ h c => ?_) (Cert.Reference23Ideal.Value.run m' ρ')
    obtain ⟨ew, eg, ea, eb⟩ := hag c
    refine ⟨(h c).1.trans ((rchange_eq _ _ _ _).trans ?_), (h c).2.1.trans ((rmean_eq _ _).trans ?_), (h c).2.2.1.trans ((rsquare_eq _ _).trans ?_), (h c).2.2.2⟩
    · rw [ew, eg, ea, eb]; rfl
    · rw [eg, ea]; rfl
    · rw [eg, eb]; rfl

theorem frame_ref : Cert.quiescent_Reference23Ideal := fun m ρ _ =>
  (θ_run _ _ _).mono (fun r h => ⟨fun c => (h c).2.2.2, sem_eq_zero_of_no_sems rfl r.2⟩) (Cert.Reference23Ideal.Value.run m ρ)

end Cert.AdamSmall
-- ==== Proof.AdamAda.lean ====
module

public import proofs.«01_k».proof.Defs
public import proofs.«01_k».proof.Proof.Gen.Kernel24Ideal.Value
public import proofs.«01_k».proof.Proof.Gen.Reference24Ideal.Run
public import proofs.«01_k».proof.Proof.Update
public import proofs.«01_k».proof.Proof.Products
public import Idealize.ShloMosaic.Lib.Pipeline.ValueKit
public import Idealize.ShloMosaic.Lib.Pointwise
public import Idealize.ShloMosaic.Lib.Tactic.CleanTypes

/-! The modulation weight's gradient, a product of sixteen terms, and the optimiser's step of that weight. -/

@[expose] public section

set_option maxRecDepth 16384

noncomputable section

namespace Cert.AdamAda

open Idealize.ShloMosaic Idealize.ShloMosaic.TcCoe Idealize.ShloMosaic.StableHlo Idealize.SL.Sem Cert.Update Cert.Products

section Kernel
open Cert.Kernel24Ideal Cert.Kernel24Ideal.Gen

variable (m : (ℓ : Loc nD τ sig) → Buf (Elt Ideal) ℓ) (c : Dev nD)

def W : S4096x6144.Idx → EReal := m ((c.tc : Thread nD τ).loc main_arg0)
def A : S4096x16.Idx → EReal := m ((c.tc : Thread nD τ).loc main_arg1)
def B : S16x6144.Idx → EReal := m ((c.tc : Thread nD τ).loc main_arg2)
def M : S4096x6144.Idx → EReal := m ((c.tc : Thread nD τ).loc main_arg3)
def V2 : S4096x6144.Idx → EReal := m ((c.tc : Thread nD τ).loc main_arg4)

/-! The payloads at an index. -/

variable (x : Vec Ideal S32x16 .f32) (y : Vec Ideal S16x6144 .f32) (w a b : Vec Ideal S32x6144 .f32) (p : Fin 32) (q : Fin 6144)

theorem grad_at : (k0_pay1 x y : S32x6144.Idx → EReal) (ix2 p q) = ∑ k : Fin 16, (x : S32x16.Idx → EReal) (ix2 p k) * (y : S16x6144.Idx → EReal) (ix2 k q) := by
  unfold k0_pay1
  clean_types; pointwise

theorem mean_at : (k0_pay2 x y a : S32x6144.Idx → EReal) (ix2 p q) = mean ((k0_pay1 x y : S32x6144.Idx → EReal) (ix2 p q)) ((a : S32x6144.Idx → EReal) (ix2 p q)) := rfl

theorem square_at : (k0_pay3 x y b : S32x6144.Idx → EReal) (ix2 p q) = square ((k0_pay1 x y : S32x6144.Idx → EReal) (ix2 p q)) ((b : S32x6144.Idx → EReal) (ix2 p q)) := rfl

theorem change_at : (k0_pay4 x y w a b : S32x6144.Idx → EReal) (ix2 p q)
    = change ((w : S32x6144.Idx → EReal) (ix2 p q)) ((k0_pay1 x y : S32x6144.Idx → EReal) (ix2 p q)) ((a : S32x6144.Idx → EReal) (ix2 p q)) ((b : S32x6144.Idx → EReal) (ix2 p q)) := rfl

/-! The blocks. -/

theorem ix : ∀ t : Fin cfg0.N, win0_0.index t = ![t.val, 0] ∧ win0_1.index t = ![t.val, 0] ∧ win0_2.index t = ![0, 0] ∧ win0_3.index t = ![t.val, 0] ∧ win0_4.index t = ![t.val, 0] ∧ win0_5.index t = ![t.val, 0] ∧ win0_6.index t = ![t.val, 0] ∧ win0_7.index t = ![t.val, 0] ∧ win0_8.index t = ![t.val, 0] :=
  (by decide +kernel : ∀ t : Fin grid0.N, win0_0.index t = ![t.val, 0] ∧ win0_1.index t = ![t.val, 0] ∧ win0_2.index t = ![0, 0] ∧ win0_3.index t = ![t.val, 0] ∧ win0_4.index t = ![t.val, 0] ∧ win0_5.index t = ![t.val, 0] ∧ win0_6.index t = ![t.val, 0] ∧ win0_7.index t = ![t.val, 0] ∧ win0_8.index t = ![t.val, 0])

theorem lt (t : Fin cfg0.N) : t.val < 128 := lt_of_lt_of_eq t.isLt (show cfg0.N = 128 from N_0)

/-- The array's row, of row `p` of the point's tile. -/
def row (t : Fin cfg0.N) (p : Fin 32) : Fin 4096 := ⟨t.val * 32 + p.val, by have := lt t; omega⟩

theorem x_at (t : Fin cfg0.N) (p : Fin 32) (k : Fin 16) : (iblk m c 1 t : S32x16.Idx → EReal) (ix2 p k) = A m c (ix2 (row t p) k) := by
  unfold row; blk_ext [iblk, V, (ix t).2.1, A]

theorem y_at (t : Fin cfg0.N) (k : Fin 16) (q : Fin 6144) : (iblk m c 2 t : S16x6144.Idx → EReal) (ix2 k q) = B m c (ix2 k q) := by
  blk_ext [iblk, V, (ix t).2.2.1, B]

theorem g_at (t : Fin cfg0.N) (p : Fin 32) (q : Fin 6144) :
    (k0_pay1 (iblk m c 1 t) (iblk m c 2 t) : S32x6144.Idx → EReal) (ix2 p q) = nn (A m c) (B m c) (ix2 (row t p) q) :=
  (grad_at _ _ _ _).trans (Finset.sum_congr rfl fun k _ => congrArg₂ (fun a b : EReal => a * b) (x_at m c t p k) (y_at m c t k q))

theorem w_at (t : Fin cfg0.N) (p : Fin 32) (q : Fin 6144) : (iblk m c 0 t : S32x6144.Idx → EReal) (ix2 p q) = W m c (ix2 (row t p) q) := by
  unfold row; blk_ext [iblk, V, (ix t).1, W]

theorem a_at (t : Fin cfg0.N) (p : Fin 32) (q : Fin 6144) : (iblk m c 3 t : S32x6144.Idx → EReal) (ix2 p q) = M m c (ix2 (row t p) q) := by
  unfold row; blk_ext [iblk, V, (ix t).2.2.2.1, M]

theorem b_at (t : Fin cfg0.N) (p : Fin 32) (q : Fin 6144) : (iblk m c 4 t : S32x6144.Idx → EReal) (ix2 p q) = V2 m c (ix2 (row t p) q) := by
  unfold row; blk_ext [iblk, V, (ix t).2.2.2.2.1, V2]

theorem emb5 (t : Fin cfg0.N) (y : (win0_5.xblock (grid0.coords t)).Idx) (p : Fin 32) (q : Fin 6144) (hp : (y 0).val = p.val) (hq : (y 1).val = q.val) :
    (win0_5.blk t).view.emb y = (ix2 (row t p) q : S4096x6144.Idx) := by
  unfold row; blk_ext [(ix t).2.2.2.2.2.1]

theorem emb6 (t : Fin cfg0.N) (y : (win0_6.xblock (grid0.coords t)).Idx) (p : Fin 32) (q : Fin 6144) (hp : (y 0).val = p.val) (hq : (y 1).val = q.val) :
    (win0_6.blk t).view.emb y = (ix2 (row t p) q : S4096x6144.Idx) := by
  unfold row; blk_ext [(ix t).2.2.2.2.2.2.1]

theorem emb7 (t : Fin cfg0.N) (y : (win0_7.xblock (grid0.coords t)).Idx) (p : Fin 32) (q : Fin 6144) (hp : (y 0).val = p.val) (hq : (y 1).val = q.val) :
    (win0_7.blk t).view.emb y = (ix2 (row t p) q : S4096x6144.Idx) := by
  unfold row; blk_ext [(ix t).2.2.2.2.2.2.2.1]

theorem emb8 (t : Fin cfg0.N) (y : (win0_8.xblock (grid0.coords t)).Idx) (p : Fin 32) (q : Fin 6144) (hp : (y 0).val = p.val) (hq : (y 1).val = q.val) :
    (win0_8.blk t).view.emb y = (ix2 (row t p) q : S4096x6144.Idx) := by
  unfold row; blk_ext [(ix t).2.2.2.2.2.2.2.2]

/-! The arrays after the run. -/

/-- The gradient. -/
def G : S4096x6144.Idx → EReal := nn (A m c) (B m c)

theorem block5_at (t : Fin cfg0.N) (p : Fin 32) (q : Fin 6144) :
    (out0_5 (iblk m c 0 t) (iblk m c 1 t) (iblk m c 2 t) (iblk m c 3 t) (iblk m c 4 t) : S32x6144.Idx → EReal) (ix2 p q) = (G m c : S4096x6144.Idx → EReal) (ix2 (row t p) q) := by
  unfold out0_5
  frame_out
  rw [g_at]; rfl

theorem arr5 : (dats m 0 c).arrAt 5 cfg0.N = G m c := by
  refine (dats m 0 c).arrAt_eq_of_covers 5 (G m c) (by decide +kernel) fun t hf y => ?_
  blk_simp
  rw [after0_5]
  rw [emb5 t y ((cfg0.win 5).xinj (cfg0.grid.coords t) y 0) ((cfg0.win 5).xinj (cfg0.grid.coords t) y 1) rfl rfl]
  exact (congrArg (out0_5 (iblk m c 0 t) (iblk m c 1 t) (iblk m c 2 t) (iblk m c 3 t) (iblk m c 4 t)) (eq_ix2 _)).trans (block5_at m c t _ _)

theorem block6_at (t : Fin cfg0.N) (p : Fin 32) (q : Fin 6144) :
    (out0_6 (iblk m c 0 t) (iblk m c 1 t) (iblk m c 2 t) (iblk m c 3 t) (iblk m c 4 t) : S32x6144.Idx → EReal) (ix2 p q) = (fun i => change (W m c i) (G m c i) (M m c i) (V2 m c i) : S4096x6144.Idx → EReal) (ix2 (row t p) q) := by
  unfold out0_6
  frame_out
  rw [change_at, w_at, g_at, a_at, b_at]; rfl

theorem arr6 : (dats m 0 c).arrAt 6 cfg0.N = fun i => change (W m c i) (G m c i) (M m c i) (V2 m c i) := by
  refine (dats m 0 c).arrAt_eq_of_covers 6 (fun i => change (W m c i) (G m c i) (M m c i) (V2 m c i)) (by decide +kernel) fun t hf y => ?_
  blk_simp
  rw [after0_6]
  rw [emb6 t y ((cfg0.win 6).xinj (cfg0.grid.coords t) y 0) ((cfg0.win 6).xinj (cfg0.grid.coords t) y 1) rfl rfl]
  exact (congrArg (out0_6 (iblk m c 0 t) (iblk m c 1 t) (iblk m c 2 t) (iblk m c 3 t) (iblk m c 4 t)) (eq_ix2 _)).trans (block6_at m c t _ _)

theorem block7_at (t : Fin cfg0.N) (p : Fin 32) (q : Fin 6144) :
    (out0_7 (iblk m c 0 t) (iblk m c 1 t) (iblk m c 2 t) (iblk m c 3 t) (iblk m c 4 t) : S32x6144.Idx → EReal) (ix2 p q) = (fun i => mean (G m c i) (M m c i) : S4096x6144.Idx → EReal) (ix2 (row t p) q) := by
  unfold out0_7
  frame_out
  rw [mean_at, g_at, a_at]; rfl

theorem arr7 : (dats m 0 c).arrAt 7 cfg0.N = fun i => mean (G m c i) (M m c i) := by
  refine (dats m 0 c).arrAt_eq_of_covers 7 (fun i => mean (G m c i) (M m c i)) (by decide +kernel) fun t hf y => ?_
  blk_simp
  rw [after0_7]
  rw [emb7 t y ((cfg0.win 7).xinj (cfg0.grid.coords t) y 0) ((cfg0.win 7).xinj (cfg0.grid.coords t) y 1) rfl rfl]
  exact (congrArg (out0_7 (iblk m c 0 t) (iblk m c 1 t) (iblk m c 2 t) (iblk m c 3 t) (iblk m c 4 t)) (eq_ix2 _)).trans (block7_at m c t _ _)

theorem block8_at (t : Fin cfg0.N) (p : Fin 32) (q : Fin 6144) :
    (out0_8 (iblk m c 0 t) (iblk m c 1 t) (iblk m c 2 t) (iblk m c 3 t) (iblk m c 4 t) : S32x6144.Idx → EReal) (ix2 p q) = (fun i => square (G m c i) (V2 m c i) : S4096x6144.Idx → EReal) (ix2 (row t p) q) := by
  unfold out0_8
  frame_out
  rw [square_at, g_at, b_at]; rfl

theorem arr8 : (dats m 0 c).arrAt 8 cfg0.N = fun i => square (G m c i) (V2 m c i) := by
  refine (dats m 0 c).arrAt_eq_of_covers 8 (fun i => square (G m c i) (V2 m c i)) (by decide +kernel) fun t hf y => ?_
  blk_simp
  rw [after0_8]
  rw [emb8 t y ((cfg0.win 8).xinj (cfg0.grid.coords t) y 0) ((cfg0.win 8).xinj (cfg0.grid.coords t) y 1) rfl rfl]
  exact (congrArg (out0_8 (iblk m c 0 t) (iblk m c 1 t) (iblk m c 2 t) (iblk m c 3 t) (iblk m c 4 t)) (eq_ix2 _)).trans (block8_at m c t _ _)

end Kernel

section Reference
open Cert.Reference24Ideal Cert.Reference24Ideal.Gen

section Any
variable {F : FTy → Type} [FloatOps F] (x : (⟨S4096x16, .f32⟩ : BufTy).Contents (Elt F)) (y : (⟨S16x6144, .f32⟩ : BufTy).Contents (Elt F)) (w g a b : (⟨S4096x6144, .f32⟩ : BufTy).Contents (Elt F))

def rgrad : (⟨S4096x6144, .f32⟩ : BufTy).Contents (Elt F) := transpose S4096x6144 [1, 0] (Host.dotGeneral dot_S16x6144_S16x4096_S6144x4096_0_0_1_1_n_n none y (transpose S16x4096 [1, 0] x transposes_S4096x16_S16x4096_1_0)) transposes_S6144x4096_S4096x6144_1_0
def rmean : (⟨S4096x6144, .f32⟩ : BufTy).Contents (Elt F) := addf (mulf (broadcastInDim S4096x6144 ![] bcast_S_S4096x6144 (constant S_ .f32 0x3F666666#32)) a) (mulf (broadcastInDim S4096x6144 ![] bcast_S_S4096x6144 (constant S_ .f32 0x3DCCCCCD#32)) g)
def rsquare : (⟨S4096x6144, .f32⟩ : BufTy).Contents (Elt F) := addf (mulf (broadcastInDim S4096x6144 ![] bcast_S_S4096x6144 (constant S_ .f32 0x3F7FBE77#32)) b) (mulf (broadcastInDim S4096x6144 ![] bcast_S_S4096x6144 (constant S_ .f32 0x3A83126F#32)) (mulf g g))
def rchange : (⟨S4096x6144, .f32⟩ : BufTy).Contents (Elt F) := mulf (broadcastInDim S4096x6144 ![] bcast_S_S4096x6144 (constant S_ .f32 0xBA83126F#32)) (addf (Host.divf (Host.divf (rmean g a) (broadcastInDim S4096x6144 ![] bcast_S_S4096x6144 (constant S_ .f32 0x3F26BD02#32))) (addf (Host.sqrt (Host.divf (rsquare g b) (broadcastInDim S4096x6144 ![] bcast_S_S4096x6144 (constant S_ .f32 0x3C231ACC#32)))) (broadcastInDim S4096x6144 ![] bcast_S_S4096x6144 (constant S_ .f32 0x322BCC77#32)))) (mulf (broadcastInDim S4096x6144 ![] bcast_S_S4096x6144 (constant S_ .f32 0x3C23D70A#32)) w))

end Any

variable (x : (⟨S4096x16, .f32⟩ : BufTy).Contents (Elt Ideal)) (y : (⟨S16x6144, .f32⟩ : BufTy).Contents (Elt Ideal)) (w g a b : (⟨S4096x6144, .f32⟩ : BufTy).Contents (Elt Ideal))

theorem rgrad_eq : rgrad x y = nn x y := by
  refine funext fun i => (congrArg (rgrad x y) (eq_ix2 i)).trans (Eq.trans ?_ (congrArg (nn x y) (eq_ix2 i).symm))
  generalize i 0 = p, i 1 = q
  unfold rgrad nn
  clean_types; pointwise
  exact Finset.sum_congr rfl fun k _ => mul_comm _ _

theorem rmean_eq : rmean (rgrad x y) a = fun i => mean (nn x y i) (a i) := by
  rw [rgrad_eq]
  funext i
  unfold rmean mean
  clean_types; pointwise

theorem rsquare_eq : rsquare (rgrad x y) b = fun i => square (nn x y i) (b i) := by
  rw [rgrad_eq]
  funext i
  unfold rsquare square
  clean_types; pointwise

theorem rchange_eq : rchange w (rgrad x y) a b = fun i => change (w i) (nn x y i) (a i) (b i) := by
  unfold rchange
  rw [rmean_eq, rsquare_eq]
  funext i
  unfold change
  clean_types; pointwise

end Reference

theorem agree : Cert.algebraic_Kernel24Ideal_Reference24Ideal := by
  intro m ρ m' ρ' _ hag
  refine ⟨fun c => G m c, fun c i => change (W m c i) (G m c i) (M m c i) (V2 m c i), fun c i => mean (G m c i) (M m c i), fun c i => square (G m c i) (V2 m c i), ?_, ?_⟩
  · refine (θ_run _ _ _).mono (fun _ h c => ?_) (Cert.Kernel24Ideal.Value.run_blocks m ρ)
    exact ⟨(h c).1.trans (arr5 m c), (h c).2.1.trans (arr6 m c), (h c).2.2.1.trans (arr7 m c), (h c).2.2.2.1.trans (arr8 m c), (h c).2.2.2.2⟩
  · refine (θ_run _ _ _).mono (fun _ h c => ?_) (Cert.Reference24Ideal.Value.run m' ρ')
    obtain ⟨ew, ex, ey, ea, eb⟩ := hag c
    refine ⟨(h c).1.trans ((rgrad_eq _ _).trans ?_), (h c).2.1.trans ((rchange_eq _ _ _ _ _).trans ?_), (h c).2.2.1.trans ((rmean_eq _ _ _).trans ?_),
      (h c).2.2.2.1.trans ((rsquare_eq _ _ _).trans ?_), (h c).2.2.2.2⟩
    · rw [ex, ey]; rfl
    · rw [ew, ex, ey, ea, eb]; rfl
    · rw [ex, ey, ea]; rfl
    · rw [ex, ey, eb]; rfl

theorem frame_ref : Cert.quiescent_Reference24Ideal := fun m ρ _ =>
  (θ_run _ _ _).mono (fun r h => ⟨fun c => (h c).2.2.2.2, sem_eq_zero_of_no_sems rfl r.2⟩) (Cert.Reference24Ideal.Value.run m ρ)

end Cert.AdamAda
-- ==== Proof.Mod.lean ====
module

public import proofs.«01_k».proof.Defs
public import proofs.«01_k».proof.Proof.Gen.Kernel25Ideal.Value
public import proofs.«01_k».proof.Proof.Gen.Reference25Ideal.Run
public import proofs.«01_k».proof.Proof.Products
public import Idealize.ShloMosaic.Lib.Pipeline.ValueKit
public import Idealize.ShloMosaic.Lib.Pointwise
public import Idealize.ShloMosaic.Lib.Tactic.CleanTypes

/-! The modulation's product: the kernel's product, tiled by columns, is the whole product. -/

@[expose] public section

set_option maxRecDepth 16384

noncomputable section

namespace Cert.Mod

open Idealize.ShloMosaic Idealize.ShloMosaic.TcCoe Idealize.ShloMosaic.StableHlo Idealize.SL.Sem Cert.Products

section Kernel
open Cert.Kernel25Ideal Cert.Kernel25Ideal.Gen

variable (m : (ℓ : Loc nD τ sig) → Buf (Elt Ideal) ℓ) (c : Dev nD)

def A : S16x4096.Idx → EReal := m ((c.tc : Thread nD τ).loc main_arg0)
def B : S4096x6144.Idx → EReal := m ((c.tc : Thread nD τ).loc main_arg1)

theorem point_at (x : Vec Ideal S16x4096 .f32) (y : Vec Ideal S4096x1024 .f32) (p : Fin 16) (q : Fin 1024) :
    (out0_2 x y : S16x1024.Idx → EReal) (ix2 p q)
      = ∑ k : Fin 4096, (x : S16x4096.Idx → EReal) (ix2 p k) * (y : S4096x1024.Idx → EReal) (ix2 k q) := by
  unfold out0_2
  frame_out
  unfold k0_pay1
  clean_types; pointwise

theorem ix : ∀ t : Fin cfg0.N, win0_0.index t = ![0, 0] ∧ win0_1.index t = ![0, t.val] ∧ win0_2.index t = ![0, t.val] :=
  (by decide +kernel : ∀ t : Fin grid0.N, win0_0.index t = ![0, 0] ∧ win0_1.index t = ![0, t.val] ∧ win0_2.index t = ![0, t.val])

theorem lt (t : Fin cfg0.N) : t.val < 6 := lt_of_lt_of_eq t.isLt (show cfg0.N = 6 from N_0)

/-- The array's column, of column `q` of the point's tile. -/
def col (t : Fin cfg0.N) (q : Fin 1024) : Fin 6144 := ⟨t.val * 1024 + q.val, by have := lt t; omega⟩

theorem left_at (t : Fin cfg0.N) (p : Fin 16) (k : Fin 4096) : (iblk m c 0 t : S16x4096.Idx → EReal) (ix2 p k) = A m c (ix2 p k) := by
  blk_ext [iblk, V, (ix t).1, A]

theorem right_at (t : Fin cfg0.N) (k : Fin 4096) (q : Fin 1024) : (iblk m c 1 t : S4096x1024.Idx → EReal) (ix2 k q) = B m c (ix2 k (col t q)) := by
  unfold col; blk_ext [iblk, V, (ix t).2.1, B]

theorem emb_at (t : Fin cfg0.N) (y : (win0_2.xblock (grid0.coords t)).Idx) (p : Fin 16) (q : Fin 1024) (hp : (y 0).val = p.val) (hq : (y 1).val = q.val) :
    (win0_2.blk t).view.emb y = (ix2 p (col t q) : S16x6144.Idx) := by
  unfold col; blk_ext [(ix t).2.2]

theorem arr : (dats m 0 c).arrAt 2 cfg0.N = nn (A m c) (B m c) := by
  refine (dats m 0 c).arrAt_eq_of_covers 2 (nn (A m c) (B m c)) (by decide +kernel) fun t hf y => ?_
  blk_simp
  rw [after0_2]
  rw [emb_at t y ((cfg0.win 2).xinj (cfg0.grid.coords t) y 0) ((cfg0.win 2).xinj (cfg0.grid.coords t) y 1) rfl rfl]
  refine (congrArg (out0_2 (iblk m c 0 t) (iblk m c 1 t)) (eq_ix2 _)).trans ((point_at _ _ _ _).trans ?_)
  exact Finset.sum_congr rfl fun k _ => congrArg₂ (fun a b : EReal => a * b) (left_at m c t _ k) (right_at m c t k _)

end Kernel

section Reference
open Cert.Reference25Ideal Cert.Reference25Ideal.Gen

/-- The reference's result, from the two arrays. -/
def out {F : FTy → Type} [FloatOps F] (a : (⟨S16x4096, .f32⟩ : BufTy).Contents (Elt F)) (b : (⟨S4096x6144, .f32⟩ : BufTy).Contents (Elt F)) : (⟨S16x6144, .f32⟩ : BufTy).Contents (Elt F) :=
  Host.dotGeneral dot_S16x4096_S4096x6144_S16x6144_1_0_0_1_n_n none a b

theorem out_eq (a : (⟨S16x4096, .f32⟩ : BufTy).Contents (Elt Ideal)) (b : (⟨S4096x6144, .f32⟩ : BufTy).Contents (Elt Ideal)) : out a b = nn a b := by
  refine funext fun i => (congrArg (out a b) (eq_ix2 i)).trans (Eq.trans ?_ (congrArg (nn a b) (eq_ix2 i).symm))
  generalize i 0 = p, i 1 = q
  unfold out nn
  clean_types; pointwise

end Reference

theorem agree : Cert.algebraic_Kernel25Ideal_Reference25Ideal := by
  intro m ρ m' ρ' _ hag
  refine ⟨fun c => nn (A m c) (B m c), ?_, ?_⟩
  · refine (θ_run _ _ _).mono (fun _ h c => ?_) (Cert.Kernel25Ideal.Value.run_blocks m ρ)
    exact ⟨(h c).1.trans (arr m c), (h c).2⟩
  · refine (θ_run _ _ _).mono (fun _ h c => ?_) (Cert.Reference25Ideal.Value.run m' ρ')
    exact ⟨(h c).1.trans ((out_eq _ _).trans (congrArg₂ nn (hag c).1 (hag c).2)), (h c).2⟩

theorem frame_ref : Cert.quiescent_Reference25Ideal := fun m ρ _ =>
  (θ_run _ _ _).mono (fun r h => ⟨fun c => (h c).2, sem_eq_zero_of_no_sems rfl r.2⟩) (Cert.Reference25Ideal.Value.run m ρ)

end Cert.Mod
-- ==== Proof.DtBwd.lean ====
module

public import proofs.«01_k».proof.Defs
public import proofs.«01_k».proof.Proof.Gen.Kernel26Ideal.Value
public import proofs.«01_k».proof.Proof.Gen.Reference26Ideal.Run
public import proofs.«01_k».proof.Proof.Reads
public import Idealize.ShloMosaic.Lib.Tactic.CleanTypes

/-! The gradient through the softplus of the state-space mixer's step sizes: of the projection's columns and of the bias. -/

@[expose] public section

set_option maxRecDepth 16384

noncomputable section

namespace Cert.DtBwd

open Idealize.ShloMosaic Idealize.ShloMosaic.TcCoe Idealize.ShloMosaic.StableHlo Idealize.SL.Sem

/-- The logistic function. -/
def logistic (z : EReal) : EReal :=
  Ideal.div (Ideal.ofBits FTy.f32 0x3F800000#32) (Ideal.ofBits FTy.f32 0x3F800000#32 + Ideal.exp (-z))

section Math
variable (D : (⟨2, ![4096, 128]⟩ : Shape).Idx → EReal) (P : (⟨2, ![4096, 12800]⟩ : Shape).Idx → EReal) (B : (⟨2, ![1, 128]⟩ : Shape).Idx → EReal)
  (A : (⟨2, ![4096, 12800]⟩ : Shape).Idx → EReal)

/-- The gradient at a row and a lane; the lanes past the heads hold nothing. -/
def grad (r : Fin 4096) (j : Fin 128) : EReal :=
  if j.val < 64 then D (ix2 r j) * logistic (P (ix2 r ⟨12288 + j.val, by omega⟩) + B (ix2 0 j)) else 0

/-- The last columns of the projection's gradient. -/
def tail (r : Fin 4096) (k : Fin 512) : EReal := if h : k.val < 128 then grad D P B r ⟨k.val, h⟩ else 0

/-- The first result. -/
def out0 (r : Fin 4096) (k : Fin 12800) : EReal :=
  if h : k.val < 12288 then A (ix2 r k) else tail D P B r ⟨k.val - 12288, by omega⟩

/-- The second result. -/
def out1 (j : Fin 128) : EReal := ∑ r : Fin 4096, grad D P B r j

end Math

section Kernel
open Cert.Kernel26Ideal Cert.Kernel26Ideal.Gen

section Any
variable {F : FTy → Type} [FloatOps F]

/-- A point's block: the gradient, and zeros beside it. -/
def big (x y : Vec F S1024x128 .f32) (b : Vec F S1x128 .f32) : FVec F S1024x512 .bf16 :=
  View.canon (Val := Elt F) (s := S1024x512) (e := .bf16) [⟨Rect.unit (s := S1024x512) ![0, 128] S1024x384.size inb_S1024x512_S1024x384_0_128, k0_pay3⟩,
    ⟨Rect.unit (s := S1024x512) ![0, 0] S1024x128.size inb_S1024x512_S1024x128_0_0, k0_pay2 x y b⟩]

variable (m : (ℓ : Loc nD τ sig) → Buf (Elt F) ℓ) (c : Dev nD) (t : Fin cfg0.N)

abbrev before : t.val - 1 < cfg0.N := Nat.lt_of_le_of_lt (Nat.sub_le _ _) t.isLt

theorem first_or (t : Fin cfg0.N) : (t.val % 4 = 0 ∧ ¬1 ≤ t.val) ∨ (¬t.val % 4 = 0 ∧ 1 ≤ t.val) := by
  have : t.val < 4 := t.isLt
  omega

theorem big_eq : (outsAt0 m c t.val t.isLt).1 = big (iblk m c 0 t) (iblk m c 1 t) (iblk m c 2 t) := by
  rcases first_or t with ⟨h0, h1⟩ | ⟨h0, h1⟩
  · rw [outsAt0_A m c t h0 h1]
    dsimp only
    frame_out
  · rw [outsAt0_B m c t h0 h1]
    dsimp only
    frame_out

theorem sum_A (h0 : t.val % 4 = 0) (h1 : ¬1 ≤ t.val) : (outsAt0 m c t.val t.isLt).2 = k0_pay4 (iblk m c 0 t) (iblk m c 1 t) (iblk m c 2 t) := by
  rw [outsAt0_A m c t h0 h1]
  dsimp only
  frame_out

theorem sum_B (h0 : ¬t.val % 4 = 0) (h1 : 1 ≤ t.val) : (outsAt0 m c t.val t.isLt).2
    = addf (shapeCast S1x128 (outsAt0 m c (t.val - 1) (before t)).2 shapeCasts_S1x128_S1x128) (k0_pay4 (iblk m c 0 t) (iblk m c 1 t) (iblk m c 2 t)) := by
  rw [outsAt0_B m c t h0 h1]
  dsimp only
  frame_out
  rfl

end Any

theorem lane_bit : ∀ j : Fin 128, IntOp.cmpi CmpIPredicate.slt (BitVec.ofNat 32 j.val) 64#32 = BitVec.ofBool (decide (j.val < 64)) := by decide +kernel

theorem pay1_at (x y : Vec Ideal S1024x128 .f32) (b : Vec Ideal S1x128 .f32) (q : Fin 1024) (j : Fin 128) :
    (k0_pay1 x y b : S1024x128.Idx → EReal) (ix2 q j) = if j.val < 64 then x (ix2 q j) * logistic (y (ix2 q j) + b (ix2 0 j)) else 0 := by
  unfold k0_pay1 logistic
  pointwise
  rw [lane_bit, zero_sub]
  exact SC.select_mask _ _ _ _ Iff.rfl rfl

theorem pay2_at (x y : Vec Ideal S1024x128 .f32) (b : Vec Ideal S1x128 .f32) (q : Fin 1024) (j : Fin 128) :
    (k0_pay2 x y b : S1024x128.Idx → EReal) (ix2 q j) = (k0_pay1 x y b : S1024x128.Idx → EReal) (ix2 q j) := by
  unfold k0_pay2
  pointwise

theorem pay3_at (q : Fin 1024) (j : Fin 384) : (k0_pay3 (F := Ideal) : S1024x384.Idx → EReal) (ix2 q j) = 0 := by
  unfold k0_pay3
  pointwise

theorem pay4_at (x y : Vec Ideal S1024x128 .f32) (b : Vec Ideal S1x128 .f32) (j : Fin 128) :
    (k0_pay4 x y b : S1x128.Idx → EReal) (ix2 0 j) = ∑ q : Fin 1024, (k0_pay1 x y b : S1024x128.Idx → EReal) (ix2 q j) := by
  unfold k0_pay4
  pointwise

theorem big_at (x y : Vec Ideal S1024x128 .f32) (b : Vec Ideal S1x128 .f32) (q : Fin 1024) (k : Fin 512) :
    (big x y b : S1024x512.Idx → EReal) (ix2 q k) = if h : k.val < 128 then (k0_pay1 x y b : S1024x128.Idx → EReal) (ix2 q ⟨k.val, h⟩) else 0 := by
  unfold big
  canon_tiles z h using View.cover_of_tiledBy _ ![1024, 128] (by sl_kernel_rfl) _
  · have hk : k.val = 128 + (z 1).val := h1
    rw [dif_neg (by omega)]
    exact (congrArg (k0_pay3 (F := Ideal) : S1024x384.Idx → EReal) (eq_ix2 z)).trans (pay3_at _ _)
  · have hk : k.val = (z 1).val := h1
    have hz : (z 1).val < 128 := (z 1).isLt
    have hq : (z 0 : Fin 1024) = q := Fin.ext h0.symm
    have hj : (z 1 : Fin 128) = ⟨k.val, by omega⟩ := Fin.ext hk.symm
    rw [dif_pos (by omega)]
    refine (congrArg (k0_pay2 x y b : S1024x128.Idx → EReal) (eq_ix2 z)).trans ((pay2_at x y b (z 0) (z 1)).trans ?_)
    rw [hq, hj]
    rfl

variable (m : (ℓ : Loc nD τ sig) → Buf (Elt Ideal) ℓ) (c : Dev nD) (t : Fin cfg0.N)

def D : S4096x128.Idx → EReal := m ((c.tc : Thread nD τ).loc main_arg0)
def P : S4096x12800.Idx → EReal := m ((c.tc : Thread nD τ).loc main_arg1)
def B : S1x128.Idx → EReal := m ((c.tc : Thread nD τ).loc main_arg2)
def A : S4096x12800.Idx → EReal := m ((c.tc : Thread nD τ).loc main_arg3)

theorem ix : ∀ t : Fin cfg0.N, win0_0.index t = ![t.val, 0] ∧ win0_1.index t = ![t.val, 96] ∧ win0_2.index t = ![0, 0] ∧ win0_3.index t = ![t.val, 24] ∧ win0_4.index t = ![0, 0] :=
  (by decide +kernel : ∀ t : Fin grid0.N, win0_0.index t = ![t.val, 0] ∧ win0_1.index t = ![t.val, 96] ∧ win0_2.index t = ![0, 0] ∧ win0_3.index t = ![t.val, 24] ∧ win0_4.index t = ![0, 0])

theorem lt (t : Fin cfg0.N) : t.val < 4 := t.isLt

/-- The array's row, of row `q` of the point's tile. -/
def row (t : Fin cfg0.N) (q : Fin 1024) : Fin 4096 := ⟨t.val * 1024 + q.val, by have := lt t; omega⟩

theorem d_at (q : Fin 1024) (j : Fin 128) : (iblk m c 0 t : S1024x128.Idx → EReal) (ix2 q j) = D m c (ix2 (row t q) j) := by
  unfold row; blk_ext [iblk, V, (ix t).1, D]

theorem p_at (q : Fin 1024) (j : Fin 128) : (iblk m c 1 t : S1024x128.Idx → EReal) (ix2 q j) = P m c (ix2 (row t q) ⟨12288 + j.val, by omega⟩) := by
  unfold row; blk_ext [iblk, V, (ix t).2.1, P]

theorem b_at (j : Fin 128) : (iblk m c 2 t : S1x128.Idx → EReal) (ix2 0 j) = B m c (ix2 0 j) := by
  blk_ext [iblk, V, (ix t).2.2.1, B]

theorem emb3 (y : (win0_3.xblock (grid0.coords t)).Idx) (p : Fin 1024) (q : Fin 512) (hp : (y 0).val = p.val) (hq : (y 1).val = q.val) :
    (win0_3.blk t).view.emb y = (ix2 (row t p) ⟨12288 + q.val, by omega⟩ : S4096x12800.Idx) := by
  unfold row; blk_ext [(ix t).2.2.2.1]

theorem grad_at (q : Fin 1024) (j : Fin 128) :
    (k0_pay1 (iblk m c 0 t) (iblk m c 1 t) (iblk m c 2 t) : S1024x128.Idx → EReal) (ix2 q j) = grad (D m c) (P m c) (B m c) (row t q) j := by
  rw [pay1_at, d_at, p_at, b_at]
  rfl

/-- The first result. -/
def res0 : S4096x12800.Idx → EReal := fun i => out0 (D m c) (P m c) (B m c) (A m c) (i 0) (i 1)

theorem point3 (q : Fin 1024) (k : Fin 512) : (big (iblk m c 0 t) (iblk m c 1 t) (iblk m c 2 t) : S1024x512.Idx → EReal) (ix2 q k)
    = res0 m c (ix2 (row t q) ⟨12288 + k.val, by omega⟩) := by
  have e : k = ⟨12288 + k.val - 12288, by omega⟩ := Fin.ext (by show k.val = 12288 + k.val - 12288; omega)
  have h : res0 m c (ix2 (row t q) ⟨12288 + k.val, by omega⟩) = tail (D m c) (P m c) (B m c) (row t q) ⟨12288 + k.val - 12288, by omega⟩ :=
    dif_neg (by show ¬12288 + k.val < 12288; omega)
  rw [h, ← e, big_at]
  unfold tail
  simp only [grad_at]

theorem arr3 : (dats m 0 c).arrAt 3 cfg0.N = res0 m c := by
  have key : (dats m 0 c).arrAt 3 cfg0.N
      = fun i : S4096x12800.Idx => if 12288 ≤ (i 1).val ∧ (i 1).val < 12800 then res0 m c i else (dats m 0 c).A 3 i := by
    refine (dats m 0 c).arrAt_eq_of_coversWhere 3 (res0 m c) (fun β => β (1 : Fin 2) = 24) (by decide +kernel) (fun t hf y => ?_)
      (fun j => ?_)
    · blk_simp
      rw [after0_3, big_eq]
      rw [emb3 t y ((cfg0.win 3).xinj (cfg0.grid.coords t) y 0) ((cfg0.win 3).xinj (cfg0.grid.coords t) y 1) rfl rfl]
      exact (congrArg (big (iblk m c 0 t) (iblk m c 1 t) (iblk m c 2 t)) (eq_ix2 _)).trans (point3 m c t _ _)
    · blk_simp [Pipeline.Window.cell_apply]
      generalize (j 1).val = z
      omega
  rw [key]
  funext i
  have hi : (i 1).val < 12800 := (i 1).isLt
  split_ifs with h
  · rfl
  · have e : res0 m c i = A m c (ix2 (i 0) (i 1)) := dif_pos (by show (i 1).val < 12288; omega)
    rw [A_eq, e]
    exact congrArg (A m c) (eq_ix2 i)

theorem sum_at (t : Fin cfg0.N) (j : Fin 128) (ht : t.val + 1 = cfg0.N) :
    ((outsAt0 m c t.val t.isLt).2 : S1x128.Idx → EReal) (ix2 0 j) = out1 (D m c) (P m c) (B m c) j := by
  have := Pipeline.eq_sum_fin_of_reset_step_apply_last
    (fun n h (j : Fin 128) => ((outsAt0 m c n h).2 : S1x128.Idx → EReal) (ix2 0 j)) 4 (fun _ => 0)
    (fun t j => (k0_pay4 (iblk m c 0 t) (iblk m c 1 t) (iblk m c 2 t) : S1x128.Idx → EReal) (ix2 0 j))
    (fun t h0 j => by
      rw [zero_add, sum_A m c t h0 (by have : t.val < 4 := t.isLt; omega)])
    (fun t h0 j => by
      show ((outsAt0 m c t.val t.isLt).2 : S1x128.Idx → EReal) (ix2 0 j) = _
      rw [sum_B m c t h0 (by omega)]
      pointwise) (by decide) t ht j
  rw [this, zero_add]
  unfold out1
  refine (Finset.sum_congr rfl fun p _ => (pay4_at _ _ _ j).trans (Finset.sum_congr rfl fun q _ => grad_at m c p q j)).trans ?_
  exact Fin.sum_mul_add_congr (S := 4) (n := 1024) fun s k hl => rfl

/-- The second result. -/
def res1 : S1x128.Idx → EReal := fun i => out1 (D m c) (P m c) (B m c) (i 1)

theorem arr4 : (dats m 0 c).arrAt 4 cfg0.N = res1 m c := by
  refine (dats m 0 c).arrAt_eq_of_after_last 4 t0_3 (by decide +kernel) (res1 m c) fun i => ?_
  blk_simp
  rw [after0_4]
  have ei : i = ix2 (0 : Fin 1) (i 1) := (eq_ix2 i).trans (congrArg (fun z => ix2 z (i 1)) (Subsingleton.elim (α := Fin 1) (i 0) 0))
  exact (congrArg _ ei).trans (sum_at m c t0_3 (i 1) (by decide))

end Kernel

section Reference
open Cert.Reference26Ideal Cert.Reference26Ideal.Gen

section Any
variable {F : FTy → Type} [FloatOps F] (d : (⟨S4096x128, .f32⟩ : BufTy).Contents (Elt F)) (p : (⟨S4096x12800, .f32⟩ : BufTy).Contents (Elt F))
  (b : (⟨S1x128, .f32⟩ : BufTy).Contents (Elt F)) (a : (⟨S4096x12800, .bf16⟩ : BufTy).Contents (Elt F))

def rgrad : (⟨S4096x64, .f32⟩ : BufTy).Contents (Elt F) := mulf (extractStridedSlice S4096x64 ![0, 0] d slices_S4096x128_S4096x64_0_0) (Host.divf (broadcastInDim S4096x64 ![] bcast_S_S4096x64 (constant S_ .f32 0x3F800000#32)) (addf (broadcastInDim S4096x64 ![] bcast_S_S4096x64 (constant S_ .f32 0x3F800000#32)) (Host.exp (Host.negf (addf (extractStridedSlice S4096x64 ![0, 12288] p slices_S4096x12800_S4096x64_0_12288) (broadcastInDim S4096x64 ![0, 1] bcast_S1x64_S4096x64_0_1 (extractStridedSlice S1x64 ![0, 0] b slices_S1x128_S1x64_0_0)))))))

def rout0 : (⟨S4096x12800, .bf16⟩ : BufTy).Contents (Elt F) := (concatenate S4096x12800 1 [⟨S4096x12288, ((extractStridedSlice S4096x12288 ![0, 0] a slices_S4096x12800_S4096x12288_0_0) : (⟨S4096x12288, .bf16⟩ : BufTy).Contents (Elt F))⟩, ⟨S4096x64, ((truncf .bf16 (rgrad d p b) bitsLt_bf16_f32) : (⟨S4096x64, .bf16⟩ : BufTy).Contents (Elt F))⟩, ⟨S4096x448, ((broadcastInDim S4096x448 ![] bcast_S_S4096x448 (constant S_ .bf16 0x0000#16)) : (⟨S4096x448, .bf16⟩ : BufTy).Contents (Elt F))⟩] concatenates_S4096x12288_S4096x64_S4096x448_S4096x12800_d1 : (⟨S4096x12800, .bf16⟩ : BufTy).Contents (Elt F))

def rout1 : (⟨S1x128, .f32⟩ : BufTy).Contents (Elt F) := pad S1x128 ![0, 0] ![0, 64] ![0, 0] (shapeCast _ (Host.reduceAdd (rgrad d p b) (constant S_ .f32 0x00000000#32) reducesTo_S4096x64_S64_d0 h_S_) shapeCasts_S64_S1x64) (sitofp .f32 (constantI S_ 32 0#32)) pads_S1x64_S1x128_000_0640 h_S_

end Any

variable (d : (⟨S4096x128, .f32⟩ : BufTy).Contents (Elt Ideal)) (p : (⟨S4096x12800, .f32⟩ : BufTy).Contents (Elt Ideal))
  (b : (⟨S1x128, .f32⟩ : BufTy).Contents (Elt Ideal)) (a : (⟨S4096x12800, .bf16⟩ : BufTy).Contents (Elt Ideal))

theorem rgrad_at (r : Fin 4096) (j : Fin 64) : (rgrad d p b : S4096x64.Idx → EReal) (ix2 r j) = grad d p b r ⟨j.val, by omega⟩ := by
  unfold rgrad grad logistic
  rw [if_pos (show (⟨j.val, by omega⟩ : Fin 128).val < 64 from j.isLt)]
  clean_types; pointwise

theorem rout0_at (r : Fin 4096) (k : Fin 12800) : (rout0 d p b a : S4096x12800.Idx → EReal) (ix2 r k) = out0 d p b a r k := by
  unfold rout0 out0 tail
  clean_types; pointwise [rgrad_at]
  by_cases h0 : k.val < 12288
  · rw [dif_pos h0, dif_pos h0]
  · rw [dif_neg h0, dif_neg h0]
    by_cases h1 : k.val - 12288 < 64
    · rw [dif_pos h1, dif_pos (show k.val - 12288 < 128 by omega)]
    · rw [dif_neg h1]
      by_cases h2 : k.val - 12288 < 128
      · rw [dif_pos h2]
        exact (if_neg h1).symm
      · rw [dif_neg h2]

theorem rout1_at (j : Fin 128) : (rout1 d p b : S1x128.Idx → EReal) (ix2 0 j) = out1 d p b j := by
  have z : (FloatOps.sitofp FTy.f32 0#32 : Ideal FTy.f32) = (0 : EReal) := by
    show (((0#32).toInt : ℝ) : EReal) = 0
    norm_num
  unfold rout1 out1
  clean_types; pointwise [rgrad_at]
  rw [z]
  by_cases h : j.val < 64
  · rw [dif_pos h]
  · rw [dif_neg h]
    exact (Finset.sum_eq_zero fun r _ => if_neg h).symm

end Reference

theorem agree : Cert.algebraic_Kernel26Ideal_Reference26Ideal := by
  intro m ρ m' ρ' _ hag
  refine ⟨fun c => res0 m c, fun c => res1 m c, ?_, ?_⟩
  · refine (θ_run _ _ _).mono (fun _ h c => ?_) (Cert.Kernel26Ideal.Value.run_blocks m ρ)
    exact ⟨(h c).1.trans (arr3 m c), (h c).2.1.trans (arr4 m c), (h c).2.2⟩
  · refine (θ_run _ _ _).mono (fun _ h c => ?_) (Cert.Reference26Ideal.Value.run m' ρ')
    obtain ⟨ed, ep, eb, ea⟩ := hag c
    refine ⟨(h c).1.trans (funext fun i => (congrArg (rout0 _ _ _ _) (eq_ix2 i)).trans ((rout0_at _ _ _ _ _ _).trans ?_)),
      (h c).2.1.trans (funext fun i => ?_), (h c).2.2⟩
    · rw [ed, ep, eb, ea]; rfl
    · have ei : i = ix2 (0 : Fin 1) (i 1) := (eq_ix2 i).trans (congrArg (fun z => ix2 z (i 1)) (Subsingleton.elim (α := Fin 1) (i 0) 0))
      refine (congrArg (rout1 _ _ _) ei).trans ((rout1_at _ _ _ _).trans ?_)
      rw [ed, ep, eb]; rfl

theorem frame_ref : Cert.quiescent_Reference26Ideal := fun m ρ _ =>
  (θ_run _ _ _).mono (fun r h => ⟨fun c => (h c).2.2, sem_eq_zero_of_no_sems rfl r.2⟩) (Cert.Reference26Ideal.Value.run m ρ)

end Cert.DtBwd
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Reference4Ideal
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Reference5Ideal
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Reference6Ideal
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Reference7Ideal
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal.Run
public import proofs.«01_k».proof.Proof.Gen.Reference8Ideal
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal.Run
public import proofs.«01_k».proof.Proof.Gen.Reference9Ideal
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal.Run
public import proofs.«01_k».proof.Proof.Gen.Reference10Ideal
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal.Run
public import proofs.«01_k».proof.Proof.Gen.Reference11Ideal
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal.Run
public import proofs.«01_k».proof.Proof.Gen.Reference12Ideal
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal.Run
public import proofs.«01_k».proof.Proof.Gen.Reference13Ideal
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel15Ideal.Value
public import proofs.«01_k».proof.Proof.Gen.Reference15Ideal.Run
public import proofs.«01_k».proof.Proof.Gen.Reference15Ideal
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Kernel16Ideal.Value
public import proofs.«01_k».proof.Proof.Gen.Reference16Ideal.Run
public import proofs.«01_k».proof.Proof.Gen.Reference16Ideal
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Kernel17Ideal.Value
public import proofs.«01_k».proof.Proof.Gen.Reference17Ideal.Run
public import proofs.«01_k».proof.Proof.Gen.Reference17Ideal
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Kernel18Ideal.Value
public import proofs.«01_k».proof.Proof.Gen.Reference18Ideal.Run
public import proofs.«01_k».proof.Proof.Gen.Reference18Ideal
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Kernel19Ideal.Value
public import proofs.«01_k».proof.Proof.Gen.Reference19Ideal.Run
public import proofs.«01_k».proof.Proof.Gen.Reference19Ideal
public import proofs.«01_k».proof.Proof.Gen.Kernel20
public import proofs.«01_k».proof.Proof.Gen.Kernel20.Skeleton
public import proofs.«01_k».proof.Proof.Gen.Kernel20.Launch
public import proofs.«01_k».proof.Proof.Gen.Kernel20.Points
public import proofs.«01_k».proof.Proof.Gen.Kernel20.Frame
public import proofs.«01_k».proof.Proof.Gen.Kernel20Ideal
public import proofs.«01_k».proof.Proof.Gen.Kernel20Ideal.Skeleton
public import proofs.«01_k».proof.Proof.Gen.Kernel20Ideal.Launch
public import proofs.«01_k».proof.Proof.Gen.Kernel20Ideal.Points
public import proofs.«01_k».proof.Proof.Gen.Kernel20Ideal.Frame
public import proofs.«01_k».proof.Proof.Gen.Kernel20Ideal.Value
public import proofs.«01_k».proof.Proof.Gen.Reference20Ideal.Run
public import proofs.«01_k».proof.Proof.Gen.Reference20Ideal
public import proofs.«01_k».proof.Proof.Gen.Kernel21
public import proofs.«01_k».proof.Proof.Gen.Kernel21.Skeleton
public import proofs.«01_k».proof.Proof.Gen.Kernel21.Launch
public import proofs.«01_k».proof.Proof.Gen.Kernel21.Points
public import proofs.«01_k».proof.Proof.Gen.Kernel21.Frame
public import proofs.«01_k».proof.Proof.Gen.Kernel21Ideal
public import proofs.«01_k».proof.Proof.Gen.Kernel21Ideal.Skeleton
public import proofs.«01_k».proof.Proof.Gen.Kernel21Ideal.Launch
public import proofs.«01_k».proof.Proof.Gen.Kernel21Ideal.Points
public import proofs.«01_k».proof.Proof.Gen.Kernel21Ideal.Frame
public import proofs.«01_k».proof.Proof.Gen.Kernel21Ideal.Value
public import proofs.«01_k».proof.Proof.Gen.Reference21Ideal.Run
public import proofs.«01_k».proof.Proof.Gen.Reference21Ideal
public import proofs.«01_k».proof.Proof.Gen.Kernel22
public import proofs.«01_k».proof.Proof.Gen.Kernel22.Skeleton
public import proofs.«01_k».proof.Proof.Gen.Kernel22.Launch
public import proofs.«01_k».proof.Proof.Gen.Kernel22.Points
public import proofs.«01_k».proof.Proof.Gen.Kernel22.Frame
public import proofs.«01_k».proof.Proof.Gen.Kernel22Ideal
public import proofs.«01_k».proof.Proof.Gen.Kernel22Ideal.Skeleton
public import proofs.«01_k».proof.Proof.Gen.Kernel22Ideal.Launch
public import proofs.«01_k».proof.Proof.Gen.Kernel22Ideal.Points
public import proofs.«01_k».proof.Proof.Gen.Kernel22Ideal.Frame
public import proofs.«01_k».proof.Proof.Gen.Kernel22Ideal.Value
public import proofs.«01_k».proof.Proof.Gen.Reference22Ideal.Run
public import proofs.«01_k».proof.Proof.Gen.Reference22Ideal
public import proofs.«01_k».proof.Proof.Gen.Kernel23
public import proofs.«01_k».proof.Proof.Gen.Kernel23.Skeleton
public import proofs.«01_k».proof.Proof.Gen.Kernel23.Launch
public import proofs.«01_k».proof.Proof.Gen.Kernel23.Points
public import proofs.«01_k».proof.Proof.Gen.Kernel23.Frame
public import proofs.«01_k».proof.Proof.Gen.Kernel23Ideal
public import proofs.«01_k».proof.Proof.Gen.Kernel23Ideal.Skeleton
public import proofs.«01_k».proof.Proof.Gen.Kernel23Ideal.Launch
public import proofs.«01_k».proof.Proof.Gen.Kernel23Ideal.Points
public import proofs.«01_k».proof.Proof.Gen.Kernel23Ideal.Frame
public import proofs.«01_k».proof.Proof.Gen.Kernel23Ideal.Value
public import proofs.«01_k».proof.Proof.Gen.Reference23Ideal.Run
public import proofs.«01_k».proof.Proof.Gen.Reference23Ideal
public import proofs.«01_k».proof.Proof.Gen.Kernel24
public import proofs.«01_k».proof.Proof.Gen.Kernel24.Skeleton
public import proofs.«01_k».proof.Proof.Gen.Kernel24.Launch
public import proofs.«01_k».proof.Proof.Gen.Kernel24.Points
public import proofs.«01_k».proof.Proof.Gen.Kernel24.Frame
public import proofs.«01_k».proof.Proof.Gen.Kernel24Ideal
public import proofs.«01_k».proof.Proof.Gen.Kernel24Ideal.Skeleton
public import proofs.«01_k».proof.Proof.Gen.Kernel24Ideal.Launch
public import proofs.«01_k».proof.Proof.Gen.Kernel24Ideal.Points
public import proofs.«01_k».proof.Proof.Gen.Kernel24Ideal.Frame
public import proofs.«01_k».proof.Proof.Gen.Kernel24Ideal.Value
public import proofs.«01_k».proof.Proof.Gen.Reference24Ideal.Run
public import proofs.«01_k».proof.Proof.Gen.Reference24Ideal
public import proofs.«01_k».proof.Proof.Gen.Kernel25
public import proofs.«01_k».proof.Proof.Gen.Kernel25.Skeleton
public import proofs.«01_k».proof.Proof.Gen.Kernel25.Launch
public import proofs.«01_k».proof.Proof.Gen.Kernel25.Points
public import proofs.«01_k».proof.Proof.Gen.Kernel25.Frame
public import proofs.«01_k».proof.Proof.Gen.Kernel25Ideal
public import proofs.«01_k».proof.Proof.Gen.Kernel25Ideal.Skeleton
public import proofs.«01_k».proof.Proof.Gen.Kernel25Ideal.Launch
public import proofs.«01_k».proof.Proof.Gen.Kernel25Ideal.Points
public import proofs.«01_k».proof.Proof.Gen.Kernel25Ideal.Frame
public import proofs.«01_k».proof.Proof.Gen.Kernel25Ideal.Value
public import proofs.«01_k».proof.Proof.Gen.Reference25Ideal.Run
public import proofs.«01_k».proof.Proof.Gen.Reference25Ideal
public import proofs.«01_k».proof.Proof.Gen.Kernel26
public import proofs.«01_k».proof.Proof.Gen.Kernel26.Skeleton
public import proofs.«01_k».proof.Proof.Gen.Kernel26.Launch
public import proofs.«01_k».proof.Proof.Gen.Kernel26.Points
public import proofs.«01_k».proof.Proof.Gen.Kernel26.Frame
public import proofs.«01_k».proof.Proof.Gen.Kernel26Ideal
public import proofs.«01_k».proof.Proof.Gen.Kernel26Ideal.Skeleton
public import proofs.«01_k».proof.Proof.Gen.Kernel26Ideal.Launch
public import proofs.«01_k».proof.Proof.Gen.Kernel26Ideal.Points
public import proofs.«01_k».proof.Proof.Gen.Kernel26Ideal.Frame
public import proofs.«01_k».proof.Proof.Gen.Kernel26Ideal.Value
public import proofs.«01_k».proof.Proof.Gen.Reference26Ideal.Run
public import proofs.«01_k».proof.Proof.Gen.Reference26Ideal
public import proofs.«01_k».proof.Proof.Agree
public import proofs.«01_k».proof.Proof.Down
public import proofs.«01_k».proof.Proof.InProj
public import proofs.«01_k».proof.Proof.Ff
public import proofs.«01_k».proof.Proof.Dh1
public import proofs.«01_k».proof.Proof.GwUp
public import proofs.«01_k».proof.Proof.Dff
public import proofs.«01_k».proof.Proof.Dh2
public import proofs.«01_k».proof.Proof.Up
public import proofs.«01_k».proof.Proof.Proj
public import proofs.«01_k».proof.Proof.Dymix
public import proofs.«01_k».proof.Proof.GwOut
public import proofs.«01_k».proof.Proof.Mix
public import proofs.«01_k».proof.Proof.ScFwd
public import proofs.«01_k».proof.Proof.Gate
public import proofs.«01_k».proof.Proof.Ln1
public import proofs.«01_k».proof.Proof.Modulate
public import proofs.«01_k».proof.Proof.Conv
public import proofs.«01_k».proof.Proof.AdamIn
public import proofs.«01_k».proof.Proof.AdamOut
public import proofs.«01_k».proof.Proof.AdamFf
public import proofs.«01_k».proof.Proof.AdamSmall
public import proofs.«01_k».proof.Proof.AdamAda
public import proofs.«01_k».proof.Proof.Mod
public import proofs.«01_k».proof.Proof.DtBwd
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Kernel17.Gen.facts, Cert.Kernel17Ideal.Gen.facts, Cert.Reference17Ideal.Gen.facts, Cert.Kernel18.Gen.facts, Cert.Kernel18Ideal.Gen.facts, Cert.Reference18Ideal.Gen.facts, Cert.Kernel19.Gen.facts, Cert.Kernel19Ideal.Gen.facts, Cert.Reference19Ideal.Gen.facts, Cert.Kernel20.Gen.facts, Cert.Kernel20Ideal.Gen.facts, Cert.Reference20Ideal.Gen.facts, Cert.Kernel21.Gen.facts, Cert.Kernel21Ideal.Gen.facts, Cert.Reference21Ideal.Gen.facts, Cert.Kernel22.Gen.facts, Cert.Kernel22Ideal.Gen.facts, Cert.Reference22Ideal.Gen.facts, Cert.Kernel23.Gen.facts, Cert.Kernel23Ideal.Gen.facts, Cert.Reference23Ideal.Gen.facts, Cert.Kernel24.Gen.facts, Cert.Kernel24Ideal.Gen.facts, Cert.Reference24Ideal.Gen.facts, Cert.Kernel25.Gen.facts, Cert.Kernel25Ideal.Gen.facts, Cert.Reference25Ideal.Gen.facts, Cert.Kernel26.Gen.facts, Cert.Kernel26Ideal.Gen.facts, Cert.Reference26Ideal.Gen.facts, by
  exact ⟨fun m ρ _ => Cert.Kernel.Gen.frame m ρ,
    fun m ρ _ => Cert.KernelIdeal.Gen.frame m ρ,
    Cert.SC.frame_ref,
    fun m ρ _ => Cert.Kernel2.Gen.frame m ρ,
    fun m ρ _ => Cert.Kernel2Ideal.Gen.frame m ρ,
    Cert.Down.frame_ref,
    fun m ρ _ => Cert.Kernel3.Gen.frame m ρ,
    fun m ρ _ => Cert.Kernel3Ideal.Gen.frame m ρ,
    Cert.InProj.frame_ref,
    fun m ρ _ => Cert.Kernel4.Gen.frame m ρ,
    fun m ρ _ => Cert.Kernel4Ideal.Gen.frame m ρ,
    Cert.Ff.frame_ref,
    fun m ρ _ => Cert.Kernel5.Gen.frame m ρ,
    fun m ρ _ => Cert.Kernel5Ideal.Gen.frame m ρ,
    Cert.Dh1.frame_ref,
    fun m ρ _ => Cert.Kernel6.Gen.frame m ρ,
    fun m ρ _ => Cert.Kernel6Ideal.Gen.frame m ρ,
    Cert.GwUp.frame_ref,
    fun m ρ _ => Cert.Kernel7.Gen.frame m ρ,
    fun m ρ _ => Cert.Kernel7Ideal.Gen.frame m ρ,
    Cert.Dff.frame_ref,
    fun m ρ _ => Cert.Kernel8.Gen.frame m ρ,
    fun m ρ _ => Cert.Kernel8Ideal.Gen.frame m ρ,
    Cert.Dh2.frame_ref,
    fun m ρ _ => Cert.Kernel9.Gen.frame m ρ,
    fun m ρ _ => Cert.Kernel9Ideal.Gen.frame m ρ,
    Cert.Up.frame_ref,
    fun m ρ _ => Cert.Kernel10.Gen.frame m ρ,
    fun m ρ _ => Cert.Kernel10Ideal.Gen.frame m ρ,
    Cert.Proj.frame_ref,
    fun m ρ _ => Cert.Kernel11.Gen.frame m ρ,
    fun m ρ _ => Cert.Kernel11Ideal.Gen.frame m ρ,
    Cert.Dymix.frame_ref,
    fun m ρ _ => Cert.Kernel12.Gen.frame m ρ,
    fun m ρ _ => Cert.Kernel12Ideal.Gen.frame m ρ,
    Cert.GwOut.frame_ref,
    fun m ρ _ => Cert.Kernel13.Gen.frame m ρ,
    fun m ρ _ => Cert.Kernel13Ideal.Gen.frame m ρ,
    Cert.Mix.frame_ref,
    fun m ρ _ => Cert.Kernel15.Gen.frame m ρ,
    fun m ρ _ => Cert.Kernel15Ideal.Gen.frame m ρ,
    Cert.ScFwd.frame_ref,
    fun m ρ _ => Cert.Kernel16.Gen.frame m ρ,
    fun m ρ _ => Cert.Kernel16Ideal.Gen.frame m ρ,
    Cert.Gate.frame_ref,
    fun m ρ _ => Cert.Kernel17.Gen.frame m ρ,
    fun m ρ _ => Cert.Kernel17Ideal.Gen.frame m ρ,
    Cert.Ln1.frame_ref,
    fun m ρ _ => Cert.Kernel18.Gen.frame m ρ,
    fun m ρ _ => Cert.Kernel18Ideal.Gen.frame m ρ,
    Cert.Modulate.frame_ref,
    fun m ρ _ => Cert.Kernel19.Gen.frame m ρ,
    fun m ρ _ => Cert.Kernel19Ideal.Gen.frame m ρ,
    Cert.Conv.frame_ref,
    fun m ρ _ => Cert.Kernel20.Gen.frame m ρ,
    fun m ρ _ => Cert.Kernel20Ideal.Gen.frame m ρ,
    Cert.AdamIn.frame_ref,
    fun m ρ _ => Cert.Kernel21.Gen.frame m ρ,
    fun m ρ _ => Cert.Kernel21Ideal.Gen.frame m ρ,
    Cert.AdamOut.frame_ref,
    fun m ρ _ => Cert.Kernel22.Gen.frame m ρ,
    fun m ρ _ => Cert.Kernel22Ideal.Gen.frame m ρ,
    Cert.AdamFf.frame_ref,
    fun m ρ _ => Cert.Kernel23.Gen.frame m ρ,
    fun m ρ _ => Cert.Kernel23Ideal.Gen.frame m ρ,
    Cert.AdamSmall.frame_ref,
    fun m ρ _ => Cert.Kernel24.Gen.frame m ρ,
    fun m ρ _ => Cert.Kernel24Ideal.Gen.frame m ρ,
    Cert.AdamAda.frame_ref,
    fun m ρ _ => Cert.Kernel25.Gen.frame m ρ,
    fun m ρ _ => Cert.Kernel25Ideal.Gen.frame m ρ,
    Cert.Mod.frame_ref,
    fun m ρ _ => Cert.Kernel26.Gen.frame m ρ,
    fun m ρ _ => Cert.Kernel26Ideal.Gen.frame m ρ,
    Cert.DtBwd.frame_ref,
    trivial,
    Cert.SC.agree,
    trivial,
    Cert.Down.agree,
    trivial,
    Cert.InProj.agree,
    trivial,
    Cert.Ff.agree,
    trivial,
    Cert.Dh1.agree,
    trivial,
    Cert.GwUp.agree,
    trivial,
    Cert.Dff.agree,
    trivial,
    Cert.Dh2.agree,
    trivial,
    Cert.Up.agree,
    trivial,
    Cert.Proj.agree,
    trivial,
    Cert.Dymix.agree,
    trivial,
    Cert.GwOut.agree,
    trivial,
    Cert.Mix.agree,
    trivial,
    Cert.ScFwd.agree,
    trivial,
    Cert.Gate.agree,
    trivial,
    Cert.Ln1.agree,
    trivial,
    Cert.Modulate.agree,
    trivial,
    Cert.Conv.agree,
    trivial,
    Cert.AdamIn.agree,
    trivial,
    Cert.AdamOut.agree,
    trivial,
    Cert.AdamFf.agree,
    trivial,
    Cert.AdamSmall.agree,
    trivial,
    Cert.AdamAda.agree,
    trivial,
    Cert.Mod.agree,
    trivial,
    Cert.DtBwd.agree⟩⟩

end Cert.Proof

end
